-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Kernel4Ideal_finite_act [hPre_finite_act : Cert.Pre_finite_act.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_finite_act.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3))).1 = (fun _ => 1#1)
    ∧ (Cert.Pre_finite_act.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3))).2.1 = (fun _ => 1#1)
    ∧ (Cert.Pre_finite_act.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3))).2.2 = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_finite_act [hPre_finite_act : Cert.Pre_finite_act.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_finite_act.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3))).1 = (fun _ => 1#1)
    ∧ (Cert.Pre_finite_act.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3))).2.1 = (fun _ => 1#1)
    ∧ (Cert.Pre_finite_act.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3))).2.2 = (fun _ => 1#1)

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Kernel4Ideal_pre_finite_act [hKernel4Ideal : Cert.Kernel4Ideal.Facts] [hPre_finite_act : Cert.Pre_finite_act.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal_finite_act m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def quiescent_Reference4Ideal_pre_finite_act [hReference4Ideal : Cert.Reference4Ideal.Facts] [hPre_finite_act : Cert.Pre_finite_act.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_finite_act m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v43_0)) (v1 : (c : Dev Cert.KernelIdeal.nD) → Buf (Elt Ideal) ((c.tc : Thread Cert.KernelIdeal.nD Cert.KernelIdeal.τ).loc Cert.KernelIdeal.main_v43_1)) (v2 : (c : Dev Cert.KernelIdeal.nD) → Buf (Elt Ideal) ((c.tc : Thread Cert.KernelIdeal.nD Cert.KernelIdeal.τ).loc Cert.KernelIdeal.main_v43_2)) (v3 : (c : Dev Cert.KernelIdeal.nD) → Buf (Elt Ideal) ((c.tc : Thread Cert.KernelIdeal.nD Cert.KernelIdeal.τ).loc Cert.KernelIdeal.main_v47)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v43_0) = v0 c
          ∧ r.2.mem ((c.tc : Thread Cert.KernelIdeal.nD Cert.KernelIdeal.τ).loc Cert.KernelIdeal.main_v43_1) = v1 c
          ∧ r.2.mem ((c.tc : Thread Cert.KernelIdeal.nD Cert.KernelIdeal.τ).loc Cert.KernelIdeal.main_v43_2) = v2 c
          ∧ r.2.mem ((c.tc : Thread Cert.KernelIdeal.nD Cert.KernelIdeal.τ).loc Cert.KernelIdeal.main_v47) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v87) = v0 c
          ∧ r.2.mem ((c.tc : Thread Cert.ReferenceIdeal.nD Cert.ReferenceIdeal.τ).loc Cert.ReferenceIdeal.main_v86) = v1 c
          ∧ r.2.mem ((c.tc : Thread Cert.ReferenceIdeal.nD Cert.ReferenceIdeal.τ).loc Cert.ReferenceIdeal.main_v85) = v2 c
          ∧ r.2.mem ((c.tc : Thread Cert.ReferenceIdeal.nD Cert.ReferenceIdeal.τ).loc Cert.ReferenceIdeal.main_v78) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v13) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v10) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal_pre_finite_act [hKernel4Ideal : Cert.Kernel4Ideal.Facts] [hReference4Ideal : Cert.Reference4Ideal.Facts] [hPre_finite_act : Cert.Pre_finite_act.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal_finite_act m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)) →
    ∃ (v0 : (c : Dev Cert.Kernel4Ideal.nD) → Buf (Elt Ideal) ((c.tc : Thread Cert.Kernel4Ideal.nD Cert.Kernel4Ideal.τ).loc Cert.Kernel4Ideal.main_v0_0)) (v1 : (c : Dev Cert.Kernel4Ideal.nD) → Buf (Elt Ideal) ((c.tc : Thread Cert.Kernel4Ideal.nD Cert.Kernel4Ideal.τ).loc Cert.Kernel4Ideal.main_v0_1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0_0) = v0 c
          ∧ r.2.mem ((c.tc : Thread Cert.Kernel4Ideal.nD Cert.Kernel4Ideal.τ).loc Cert.Kernel4Ideal.main_v0_1) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v14) = v0 c
          ∧ r.2.mem ((c.tc : Thread Cert.Reference4Ideal.nD Cert.Reference4Ideal.τ).loc Cert.Reference4Ideal.main_v15) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)) →
    ∃ (v0 : (c : Dev Cert.Kernel5Ideal.nD) → Buf (Elt Ideal) ((c.tc : Thread Cert.Kernel5Ideal.nD Cert.Kernel5Ideal.τ).loc Cert.Kernel5Ideal.main_v1_0)) (v1 : (c : Dev Cert.Kernel5Ideal.nD) → Buf (Elt Ideal) ((c.tc : Thread Cert.Kernel5Ideal.nD Cert.Kernel5Ideal.τ).loc Cert.Kernel5Ideal.main_v1_1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v1_0) = v0 c
          ∧ r.2.mem ((c.tc : Thread Cert.Kernel5Ideal.nD Cert.Kernel5Ideal.τ).loc Cert.Kernel5Ideal.main_v1_1) = v1 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v46) = v0 c
          ∧ r.2.mem ((c.tc : Thread Cert.Reference5Ideal.nD Cert.Reference5Ideal.τ).loc Cert.Reference5Ideal.main_v47) = v1 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v0_0)) (v1 : (c : Dev Cert.Kernel6Ideal.nD) → Buf (Elt Ideal) ((c.tc : Thread Cert.Kernel6Ideal.nD Cert.Kernel6Ideal.τ).loc Cert.Kernel6Ideal.main_v0_1)) (v2 : (c : Dev Cert.Kernel6Ideal.nD) → Buf (Elt Ideal) ((c.tc : Thread Cert.Kernel6Ideal.nD Cert.Kernel6Ideal.τ).loc Cert.Kernel6Ideal.main_v0_2)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0_0) = v0 c
          ∧ r.2.mem ((c.tc : Thread Cert.Kernel6Ideal.nD Cert.Kernel6Ideal.τ).loc Cert.Kernel6Ideal.main_v0_1) = v1 c
          ∧ r.2.mem ((c.tc : Thread Cert.Kernel6Ideal.nD Cert.Kernel6Ideal.τ).loc Cert.Kernel6Ideal.main_v0_2) = v2 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v7) = v0 c
          ∧ r.2.mem ((c.tc : Thread Cert.Reference6Ideal.nD Cert.Reference6Ideal.τ).loc Cert.Reference6Ideal.main_v8) = v1 c
          ∧ r.2.mem ((c.tc : Thread Cert.Reference6Ideal.nD Cert.Reference6Ideal.τ).loc Cert.Reference6Ideal.main_v11) = v2 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hPre_finite : Cert.Pre_finite.Facts) (hPre_finite_act : Cert.Pre_finite_act.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Kernel4Ideal_pre_finite_act (hKernel4Ideal := hKernel4Ideal) (hPre_finite_act := hPre_finite_act)
    ∧ quiescent_Reference4Ideal (hReference4Ideal := hReference4Ideal)
    ∧ quiescent_Reference4Ideal_pre_finite_act (hReference4Ideal := hReference4Ideal) (hPre_finite_act := hPre_finite_act)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal_pre_finite_act (hKernel4Ideal := hKernel4Ideal) (hReference4Ideal := hReference4Ideal) (hPre_finite_act := hPre_finite_act)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
-- ==== Pre_finite.lean ====
abbrev S8192x768 : Shape := ⟨2, ![8192, 768]⟩
abbrev S8192x2688 : Shape := ⟨2, ![8192, 2688]⟩
abbrev S12x8192 : Shape := ⟨2, ![12, 8192]⟩
abbrev S8192x1024 : Shape := ⟨2, ![8192, 1024]⟩
abbrev S_ : Shape := ⟨0, ![]⟩

class Facts : Prop where
  slices_S8192x2688_S8192x768_0_1536 : S8192x2688.Slices ![0, 1536] S8192x768
  slices_S8192x1024_S8192x768_0_0 : S8192x1024.Slices ![0, 0] S8192x768
  bcast_S_S8192x768 : S_.BroadcastsInDim S8192x768 (![] : Fin 0 → Fin S8192x768.rank)
  bcast_S_S12x8192 : S_.BroadcastsInDim S12x8192 (![] : Fin 0 → Fin S12x8192.rank)

variable [Facts]

def fn {F : FTy → Type} [FloatOps F] (main_arg0 : FVec F S8192x768 .f32) (main_arg1 : FVec F S8192x768 .f32) (main_arg2 : FVec F S8192x2688 .f32) (main_arg3 : FVec F S12x8192 .f32) (main_arg4 : FVec F S8192x1024 .f32) : IVec S8192x768 1 × IVec S8192x768 1 × IVec S8192x768 1 × IVec S12x8192 1 × IVec S8192x768 1 :=
  let main_v0 : FVec F S8192x768 .f32 := (extractStridedSlice S8192x768 ![0, 1536] · slices_S8192x2688_S8192x768_0_1536) main_arg2
  let main_v1 : FVec F S8192x768 .f32 := (extractStridedSlice S8192x768 ![0, 0] · slices_S8192x1024_S8192x768_0_0) main_arg4
  let main_v2 : FVec F S8192x768 .f32 := Host.absf main_arg0
  let main_cst : FVec F S_ .f32 := constant S_ .f32 0x7F800000#32
  let main_v3 : FVec F S8192x768 .f32 := broadcastInDim S8192x768 ![] bcast_S_S8192x768 main_cst
  let main_v4 : IVec S8192x768 1 := cmpf .olt main_v2 main_v3
  let main_v5 : FVec F S8192x768 .f32 := Host.absf main_arg1
  let main_cst_0 : FVec F S_ .f32 := constant S_ .f32 0x7F800000#32
  let main_v6 : FVec F S8192x768 .f32 := broadcastInDim S8192x768 ![] bcast_S_S8192x768 main_cst_0
  let main_v7 : IVec S8192x768 1 := cmpf .olt main_v5 main_v6
  let main_v8 : FVec F S8192x768 .f32 := Host.absf main_v0
  let main_cst_1 : FVec F S_ .f32 := constant S_ .f32 0x7F800000#32
  let main_v9 : FVec F S8192x768 .f32 := broadcastInDim S8192x768 ![] bcast_S_S8192x768 main_cst_1
  let main_v10 : IVec S8192x768 1 := cmpf .olt main_v8 main_v9
  let main_v11 : FVec F S12x8192 .f32 := Host.absf main_arg3
  let main_cst_2 : FVec F S_ .f32 := constant S_ .f32 0x7F800000#32
  let main_v12 : FVec F S12x8192 .f32 := broadcastInDim S12x8192 ![] bcast_S_S12x8192 main_cst_2
  let main_v13 : IVec S12x8192 1 := cmpf .olt main_v11 main_v12
  let main_v14 : FVec F S8192x768 .f32 := Host.absf main_v1
  let main_cst_3 : FVec F S_ .f32 := constant S_ .f32 0x7F800000#32
  let main_v15 : FVec F S8192x768 .f32 := broadcastInDim S8192x768 ![] bcast_S_S8192x768 main_cst_3
  let main_v16 : IVec S8192x768 1 := cmpf .olt main_v14 main_v15
  (main_v4, main_v7, main_v10, main_v13, main_v16)
-- ==== Pre_finite_act.lean ====
abbrev S8192x1024 : Shape := ⟨2, ![8192, 1024]⟩
abbrev S2816x1024 : Shape := ⟨2, ![2816, 1024]⟩
abbrev S8192x2816 : Shape := ⟨2, ![8192, 2816]⟩
abbrev S_ : Shape := ⟨0, ![]⟩

class Facts : Prop where
  bcast_S_S8192x1024 : S_.BroadcastsInDim S8192x1024 (![] : Fin 0 → Fin S8192x1024.rank)
  bitsLt_bf16_f32 : FTy.bits .bf16 < FTy.bits .f32
  bcast_S_S2816x1024 : S_.BroadcastsInDim S2816x1024 (![] : Fin 0 → Fin S2816x1024.rank)
  bcast_S_S8192x2816 : S_.BroadcastsInDim S8192x2816 (![] : Fin 0 → Fin S8192x2816.rank)

variable [Facts]

def fn {F : FTy → Type} [FloatOps F] (main_arg0 : FVec F S8192x1024 .f32) (main_arg1 : FVec F S2816x1024 .bf16) (main_arg2 : FVec F S8192x2816 .bf16) (main_arg3 : FVec F S8192x2816 .bf16) : IVec S8192x1024 1 × IVec S2816x1024 1 × IVec S8192x2816 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_v3 : FVec F S2816x1024 .f32 := (extf .f32 · bitsLt_bf16_f32) main_arg1
  let main_v4 : FVec F S2816x1024 .f32 := Host.absf main_v3
  let main_cst_0 : FVec F S_ .f32 := constant S_ .f32 0x7F800000#32
  let main_v5 : FVec F S2816x1024 .f32 := broadcastInDim S2816x1024 ![] bcast_S_S2816x1024 main_cst_0
  let main_v6 : IVec S2816x1024 1 := cmpf .olt main_v4 main_v5
  let main_v7 : FVec F S8192x2816 .f32 := (extf .f32 · bitsLt_bf16_f32) main_arg3
  let main_v8 : FVec F S8192x2816 .f32 := Host.absf main_v7
  let main_cst_1 : FVec F S_ .f32 := constant S_ .f32 0x7F800000#32
  let main_v9 : FVec F S8192x2816 .f32 := broadcastInDim S8192x2816 ![] bcast_S_S8192x2816 main_cst_1
  let main_v10 : IVec S8192x2816 1 := cmpf .olt main_v8 main_v9
  (main_v2, main_v6, main_v10)
-- ==== Kernel.lean ====
abbrev S8192x768 : Shape := ⟨2, ![8192, 768]⟩
abbrev S8192x2688 : Shape := ⟨2, ![8192, 2688]⟩
abbrev S12x8192 : Shape := ⟨2, ![12, 8192]⟩
abbrev S8192x1024 : Shape := ⟨2, ![8192, 1024]⟩
abbrev S36 : Shape := ⟨1, ![36]⟩
abbrev S8192x12x64 : Shape := ⟨3, ![8192, 12, 64]⟩
abbrev S12x8192x8192 : Shape := ⟨3, ![12, 8192, 8192]⟩
abbrev S_ : Shape := ⟨0, ![]⟩
abbrev S12x1x8192 : Shape := ⟨3, ![12, 1, 8192]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S1x8192x8192 : Shape := ⟨3, ![1, 8192, 8192]⟩
abbrev S12x8192x1 : Shape := ⟨3, ![12, 8192, 1]⟩
abbrev S12x64x8192 : Shape := ⟨3, ![12, 64, 8192]⟩
abbrev S8192x12 : Shape := ⟨2, ![8192, 12]⟩
abbrev S6x2x1x8192 : Shape := ⟨4, ![6, 2, 1, 8192]⟩
abbrev S6x2x8192x1 : Shape := ⟨4, ![6, 2, 8192, 1]⟩
abbrev S6x2x8192x128 : Shape := ⟨4, ![6, 2, 8192, 128]⟩
abbrev S1024x128 : Shape := ⟨2, ![1024, 128]⟩
abbrev S1 : Shape := ⟨1, ![1]⟩
abbrev S1x2x1024x1 : Shape := ⟨4, ![1, 2, 1024, 1]⟩
abbrev S1x2x1x1024 : Shape := ⟨4, ![1, 2, 1, 1024]⟩
abbrev S8192x128 : Shape := ⟨2, ![8192, 128]⟩
abbrev S1x2x8192x128 : Shape := ⟨4, ![1, 2, 8192, 128]⟩
abbrev S2x1x1024 : Shape := ⟨3, ![2, 1, 1024]⟩
abbrev S1024x1024 : Shape := ⟨2, ![1024, 1024]⟩
abbrev S1x1x1x1024 : Shape := ⟨4, ![1, 1, 1, 1024]⟩
abbrev S1x1024 : Shape := ⟨2, ![1, 1024]⟩
abbrev S1x1x1024x1 : Shape := ⟨4, ![1, 1, 1024, 1]⟩
abbrev S1024x1 : Shape := ⟨2, ![1024, 1]⟩
abbrev S1024 : Shape := ⟨1, ![1024]⟩
abbrev S1x1x1024x128 : Shape := ⟨4, ![1, 1, 1024, 128]⟩
abbrev S6x2x8192 : Shape := ⟨3, ![6, 2, 8192]⟩

abbrev nBuf : Space → Nat
  | .hbm => 67
  | .vmem => 24
  | .smem => 2
  | _ => 0

abbrev bufTy : (tb : Table) → Fin (tcTables nBuf tb) → BufTy
  | .hbm, ⟨0, _⟩ => ⟨S8192x768, .f32⟩
  | .hbm, ⟨1, _⟩ => ⟨S8192x768, .f32⟩
  | .hbm, ⟨2, _⟩ => ⟨S8192x2688, .f32⟩
  | .hbm, ⟨3, _⟩ => ⟨S12x8192, .f32⟩
  | .hbm, ⟨4, _⟩ => ⟨S8192x1024, .f32⟩
  | .hbm, ⟨5, _⟩ => ⟨S8192x768, .f32⟩
  | .hbm, ⟨6, _⟩ => ⟨S8192x768, .f32⟩
  | .hbm, ⟨7, _⟩ => ⟨S8192x12x64, .f32⟩
  | .hbm, ⟨8, _⟩ => ⟨S8192x12x64, .f32⟩
  | .hbm, ⟨9, _⟩ => ⟨S8192x12x64, .f32⟩
  | .hbm, ⟨10, _⟩ => ⟨S8192x12x64, .f32⟩
  | .hbm, ⟨11, _⟩ => ⟨S12x8192x8192, .f32⟩
  | .hbm, ⟨12, _⟩ => ⟨S_, .f32⟩
  | .hbm, ⟨13, _⟩ => ⟨S12x8192x8192, .f32⟩
  | .hbm, ⟨14, _⟩ => ⟨S12x8192x8192, .f32⟩
  | .hbm, ⟨15, _⟩ => ⟨S12x1x8192, .f32⟩
  | .hbm, ⟨16, _⟩ => ⟨S12x8192x8192, .f32⟩
  | .hbm, ⟨17, _⟩ => ⟨S12x8192x8192, .f32⟩
  | .hbm, ⟨18, _⟩ => ⟨S8192, .i32⟩
  | .hbm, ⟨19, _⟩ => ⟨S1x8192, .i32⟩
  | .hbm, ⟨20, _⟩ => ⟨S8192x1, .i32⟩
  | .hbm, ⟨21, _⟩ => ⟨S8192x8192, .i32⟩
  | .hbm, ⟨22, _⟩ => ⟨S8192x8192, .i32⟩
  | .hbm, ⟨23, _⟩ => ⟨S8192x8192, .i1⟩
  | .hbm, ⟨24, _⟩ => ⟨S1x8192x8192, .i1⟩
  | .hbm, ⟨25, _⟩ => ⟨S_, .f32⟩
  | .hbm, ⟨26, _⟩ => ⟨S_, .f32⟩
  | .hbm, ⟨27, _⟩ => ⟨S12x8192x8192, .i1⟩
  | .hbm, ⟨28, _⟩ => ⟨S12x8192x8192, .f32⟩
  | .hbm, ⟨29, _⟩ => ⟨S12x8192x8192, .f32⟩
  | .hbm, ⟨30, _⟩ => ⟨S_, .f32⟩
  | .hbm, ⟨31, _⟩ => ⟨S12x8192, .f32⟩
  | .hbm, ⟨32, _⟩ => ⟨S12x8192x1, .f32⟩
  | .hbm, ⟨33, _⟩ => ⟨S12x8192x8192, .f32⟩
  | .hbm, ⟨34, _⟩ => ⟨S12x8192x8192, .f32⟩
  | .hbm, ⟨35, _⟩ => ⟨S12x8192x8192, .f32⟩
  | .hbm, ⟨36, _⟩ => ⟨S_, .f32⟩
  | .hbm, ⟨37, _⟩ => ⟨S12x8192, .f32⟩
  | .hbm, ⟨38, _⟩ => ⟨S12x8192x1, .f32⟩
  | .hbm, ⟨39, _⟩ => ⟨S12x8192x8192, .f32⟩
  | .hbm, ⟨40, _⟩ => ⟨S12x8192x8192, .f32⟩
  | .hbm, ⟨41, _⟩ => ⟨S12x64x8192, .f32⟩
  | .hbm, ⟨42, _⟩ => ⟨S8192x12x64, .f32⟩
  | .hbm, ⟨43, _⟩ => ⟨S12x8192, .f32⟩
  | .hbm, ⟨44, _⟩ => ⟨S12x8192, .f32⟩
  | .hbm, ⟨45, _⟩ => ⟨S8192x12x64, .f32⟩
  | .hbm, ⟨46, _⟩ => ⟨S_, .f32⟩
  | .hbm, ⟨47, _⟩ => ⟨S8192x12, .f32⟩
  | .hbm, ⟨48, _⟩ => ⟨S12x8192, .f32⟩
  | .hbm, ⟨49, _⟩ => ⟨S_, .f32⟩
  | .hbm, ⟨50, _⟩ => ⟨S8192x768, .f32⟩
  | .hbm, ⟨51, _⟩ => ⟨S8192x768, .f32⟩
  | .hbm, ⟨52, _⟩ => ⟨S8192x768, .bf16⟩
  | .hbm, ⟨53, _⟩ => ⟨S8192x768, .bf16⟩
  | .hbm, ⟨54, _⟩ => ⟨S6x2x1x8192, .f32⟩
  | .hbm, ⟨55, _⟩ => ⟨S6x2x8192x1, .f32⟩
  | .hbm, ⟨56, _⟩ => ⟨S6x2x8192x1, .f32⟩
  | .hbm, ⟨57, _⟩ => ⟨S8192x768, .f32⟩
  | .hbm, ⟨58, _⟩ => ⟨S8192x768, .f32⟩
  | .hbm, ⟨59, _⟩ => ⟨S8192x768, .f32⟩
  | .hbm, ⟨60, _⟩ => ⟨S6x2x1x8192, .f32⟩
  | .hbm, ⟨61, _⟩ => ⟨S6x2x8192x128, .f32⟩
  | .hbm, ⟨62, _⟩ => ⟨S_, .f32⟩
  | .hbm, ⟨63, _⟩ => ⟨S6x2x8192, .f32⟩
  | .hbm, ⟨64, _⟩ => ⟨S6x2x8192, .f32⟩
  | .hbm, ⟨65, _⟩ => ⟨S6x2x8192, .f32⟩
  | .hbm, ⟨66, _⟩ => ⟨S12x8192, .f32⟩
  | .local _ .vmem, ⟨0, _⟩ => ⟨S1024x128, .bf16⟩
  | .local _ .vmem, ⟨1, _⟩ => ⟨S1024x128, .bf16⟩
  | .local _ .vmem, ⟨2, _⟩ => ⟨S1024x128, .bf16⟩
  | .local _ .vmem, ⟨3, _⟩ => ⟨S1024x128, .bf16⟩
  | .local _ .vmem, ⟨4, _⟩ => ⟨S1024x128, .f32⟩
  | .local _ .vmem, ⟨5, _⟩ => ⟨S1024x128, .f32⟩
  | .local _ .vmem, ⟨6, _⟩ => ⟨S1024x128, .f32⟩
  | .local _ .vmem, ⟨7, _⟩ => ⟨S1024x128, .f32⟩
  | .local _ .vmem, ⟨8, _⟩ => ⟨S1x2x1024x1, .f32⟩
  | .local _ .vmem, ⟨9, _⟩ => ⟨S1x2x1024x1, .f32⟩
  | .local _ .vmem, ⟨10, _⟩ => ⟨S1x2x1024x1, .f32⟩
  | .local _ .vmem, ⟨11, _⟩ => ⟨S1x2x1024x1, .f32⟩
  | .local _ .vmem, ⟨12, _⟩ => ⟨S1x2x1x1024, .f32⟩
  | .local _ .vmem, ⟨13, _⟩ => ⟨S1x2x1x1024, .f32⟩
  | .local _ .vmem, ⟨14, _⟩ => ⟨S8192x128, .f32⟩
  | .local _ .vmem, ⟨15, _⟩ => ⟨S8192x128, .f32⟩
  | .local _ .vmem, ⟨16, _⟩ => ⟨S1024x128, .f32⟩
  | .local _ .vmem, ⟨17, _⟩ => ⟨S1024x128, .f32⟩
  | .local _ .vmem, ⟨18, _⟩ => ⟨S1024x128, .f32⟩
  | .local _ .vmem, ⟨19, _⟩ => ⟨S1024x128, .f32⟩
  | .local _ .vmem, ⟨20, _⟩ => ⟨S1x2x1x1024, .f32⟩
  | .local _ .vmem, ⟨21, _⟩ => ⟨S1x2x1x1024, .f32⟩
  | .local _ .vmem, ⟨22, _⟩ => ⟨S1x2x8192x128, .f32⟩
  | .local _ .vmem, ⟨23, _⟩ => ⟨S1x2x8192x128, .f32⟩
  | .local _ .smem, ⟨0, _⟩ => ⟨S36, .i32⟩
  | .local _ .smem, ⟨1, _⟩ => ⟨S36, .i32⟩
  | _, _ => ⟨S8192x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_cst_1 : Ref sig .tc := ⟨.hbm, 25, rfl⟩
abbrev main_call0_v0 : Ref sig .tc := ⟨.hbm, 26, rfl⟩
abbrev main_call0_v1 : Ref sig .tc := ⟨.hbm, 27, rfl⟩
abbrev main_call0_v2 : Ref sig .tc := ⟨.hbm, 28, rfl⟩
abbrev main_v19 : Ref sig .tc := ⟨.hbm, 29, rfl⟩
abbrev main_cst_2 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_3 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_cst_4 : Ref sig .tc := ⟨.hbm, 46, rfl⟩
abbrev main_v34 : Ref sig .tc := ⟨.hbm, 47, rfl⟩
abbrev main_v35 : Ref sig .tc := ⟨.hbm, 48, rfl⟩
abbrev main_cst_5 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43_0 : Ref sig .tc := ⟨.hbm, 57, rfl⟩
abbrev main_v43_1 : Ref sig .tc := ⟨.hbm, 58, rfl⟩
abbrev main_v43_2 : Ref sig .tc := ⟨.hbm, 59, rfl⟩
abbrev main_v43_3 : Ref sig .tc := ⟨.hbm, 60, rfl⟩
abbrev main_v43_4 : Ref sig .tc := ⟨.hbm, 61, rfl⟩
abbrev main_cst_6 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_c : Ref sig .tc := ⟨.smem, 0, rfl⟩
abbrev main_c_0 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23

abbrev nD : Nat := 1
abbrev τ : Topo := Topo.v7x

variable {F : FTy → Type} [FloatOps F]

abbrev grid0 : Pipeline.Grid := ⟨2, ![6, 36], ![false, false]⟩

abbrev pre0 : Pipeline.Prefetch sig := ⟨2, ![main_c.idx, main_c_0.idx], fun | 0 => main_c.names | 1 => main_c_0.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg1 : BitVec 32 := BitVec.ofNat 32 (i 1).val
  let v0 : Index := Scalar.indexCast arg1
  ![v0.toNat]
def k0_mult1 (v1 : BitVec 32) : BitVec 32 :=
  let c1024_i32_15 : BitVec 32 := 1024#32
  let v46 : BitVec 32 := Scalar.muli v1 c1024_i32_15
  let c0_i32_16 : BitVec 32 := 0#32
  let v47 : BitVec 32 := Scalar.addi v46 c0_i32_16
  v47
def k0_cond2 (v1 : BitVec 32) (v3 : BitVec 32) : BitVec 1 :=
  let c1024_i32_6 : BitVec 32 := 1024#32
  let v25 : BitVec 32 := Scalar.muli v3 c1024_i32_6
  let c1023_i32 : BitVec 32 := 1023#32
  let v26 : BitVec 32 := Scalar.addi v25 c1023_i32
  let c1024_i32_7 : BitVec 32 := 1024#32
  let v27 : BitVec 32 := Scalar.muli v1 c1024_i32_7
  let v28 : BitVec 1 := Scalar.cmpi .sgt v26 v27
  let v29 : BitVec 32 := Scalar.extui v28
  let c0_i32_8 : BitVec 32 := 0#32
  let v30 : BitVec 1 := Scalar.cmpi .ne v29 c0_i32_8
  v30

def k0_off2 (v1 : BitVec 32) : Fin 2 → Nat :=
  let c1024_i32_15 : BitVec 32 := 1024#32
  let v46 : BitVec 32 := Scalar.muli v1 c1024_i32_15
  let c0_i32_16 : BitVec 32 := 0#32
  let v47 : BitVec 32 := Scalar.addi v46 c0_i32_16
  let v48 : BitVec 32 := v47
  let v199 : Index := Scalar.indexCast v48
  let c0_101 : Index := 0#32
  ![v199.toNat, 0]
def k0_cond3 (v3 : BitVec 32) : BitVec 1 :=
  let c0_i32_97 : BitVec 32 := 0#32
  let v193 : BitVec 1 := Scalar.cmpi .eq v3 c0_i32_97
  let v194 : BitVec 32 := Scalar.extui v193
  let c0_i32_98 : BitVec 32 := 0#32
  let v195 : BitVec 1 := Scalar.cmpi .ne v194 c0_i32_98
  v195

def k0_off3 (v1 : BitVec 32) : Fin 4 → Nat :=
  let c0_102 : Index := 0#32
  let c0_103 : Index := 0#32
  let c1024_i32_15 : BitVec 32 := 1024#32
  let v46 : BitVec 32 := Scalar.muli v1 c1024_i32_15
  let c0_i32_16 : BitVec 32 := 0#32
  let v47 : BitVec 32 := Scalar.addi v46 c0_i32_16
  let v48 : BitVec 32 := v47
  let v201 : Index := Scalar.indexCast v48
  let c0_104 : Index := 0#32
  ![0, 0, v201.toNat, 0]
def k0_off4 (v1 : BitVec 32) : Fin 4 → Nat :=
  let c0_105 : Index := 0#32
  let c1_106 : Index := 1#32
  let c1024_i32_15 : BitVec 32 := 1024#32
  let v46 : BitVec 32 := Scalar.muli v1 c1024_i32_15
  let c0_i32_16 : BitVec 32 := 0#32
  let v47 : BitVec 32 := Scalar.addi v46 c0_i32_16
  let v48 : BitVec 32 := v47
  let v205 : Index := Scalar.indexCast v48
  let c0_107 : Index := 0#32
  ![0, 1, v205.toNat, 0]
def k0_off5 (v1 : BitVec 32) : Fin 2 → Nat :=
  let c1024_i32_15 : BitVec 32 := 1024#32
  let v46 : BitVec 32 := Scalar.muli v1 c1024_i32_15
  let c0_i32_16 : BitVec 32 := 0#32
  let v47 : BitVec 32 := Scalar.addi v46 c0_i32_16
  let v48 : BitVec 32 := v47
  let v199 : Index := Scalar.indexCast v48
  let c0_101 : Index := 0#32
  ![v199.toNat, 0]
def k0_cond4 (v3 : BitVec 32) : BitVec 1 :=
  let c0_i32_99 : BitVec 32 := 0#32
  let v196 : BitVec 1 := Scalar.cmpi .sgt v3 c0_i32_99
  let v197 : BitVec 32 := Scalar.extui v196
  let c0_i32_100 : BitVec 32 := 0#32
  let v198 : BitVec 1 := Scalar.cmpi .ne v197 c0_i32_100
  v198

def k0_off6 (v1 : BitVec 32) : Fin 4 → Nat :=
  let c0_103 : Index := 0#32
  let c0_104 : Index := 0#32
  let c1024_i32_15 : BitVec 32 := 1024#32
  let v46 : BitVec 32 := Scalar.muli v1 c1024_i32_15
  let c0_i32_16 : BitVec 32 := 0#32
  let v47 : BitVec 32 := Scalar.addi v46 c0_i32_16
  let v48 : BitVec 32 := v47
  let v205 : Index := Scalar.indexCast v48
  let c0_105 : Index := 0#32
  ![0, 0, v205.toNat, 0]
def k0_off7 (v1 : BitVec 32) : Fin 4 → Nat :=
  let c0_109 : Index := 0#32
  let c1_110 : Index := 1#32
  let c1024_i32_15 : BitVec 32 := 1024#32
  let v46 : BitVec 32 := Scalar.muli v1 c1024_i32_15
  let c0_i32_16 : BitVec 32 := 0#32
  let v47 : BitVec 32 := Scalar.addi v46 c0_i32_16
  let v48 : BitVec 32 := v47
  let v213 : Index := Scalar.indexCast v48
  let c0_111 : Index := 0#32
  ![0, 1, v213.toNat, 0]
def k0_mult2 (v1 : BitVec 32) : BitVec 32 :=
  let c1024_i32_15 : BitVec 32 := 1024#32
  let v46 : BitVec 32 := Scalar.muli v1 c1024_i32_15
  let c0_i32_16 : BitVec 32 := 0#32
  let v47 : BitVec 32 := Scalar.addi v46 c0_i32_16
  v47
def k0_cond5 (v1 : BitVec 32) (v3 : BitVec 32) : BitVec 1 :=
  let c1024_i32_6 : BitVec 32 := 1024#32
  let v25 : BitVec 32 := Scalar.muli v3 c1024_i32_6
  let c1023_i32 : BitVec 32 := 1023#32
  let v26 : BitVec 32 := Scalar.addi v25 c1023_i32
  let c1024_i32_7 : BitVec 32 := 1024#32
  let v27 : BitVec 32 := Scalar.muli v1 c1024_i32_7
  let v28 : BitVec 1 := Scalar.cmpi .sgt v26 v27
  let v_true : BitVec 1 := 1#1
  let v31 : BitVec 1 := Scalar.xori v28 v_true
  let v32 : BitVec 32 := Scalar.extui v31
  let c0_i32_9 : BitVec 32 := 0#32
  let v33 : BitVec 1 := Scalar.cmpi .ne v32 c0_i32_9
  v33

def k0_off8 (v1 : BitVec 32) : Fin 2 → Nat :=
  let c1024_i32_15 : BitVec 32 := 1024#32
  let v46 : BitVec 32 := Scalar.muli v1 c1024_i32_15
  let c0_i32_16 : BitVec 32 := 0#32
  let v47 : BitVec 32 := Scalar.addi v46 c0_i32_16
  let v48 : BitVec 32 := v47
  let v175 : Index := Scalar.indexCast v48
  let c0_93 : Index := 0#32
  ![v175.toNat, 0]
def k0_cond6 (v3 : BitVec 32) : BitVec 1 :=
  let c0_i32_89 : BitVec 32 := 0#32
  let v169 : BitVec 1 := Scalar.cmpi .eq v3 c0_i32_89
  let v170 : BitVec 32 := Scalar.extui v169
  let c0_i32_90 : BitVec 32 := 0#32
  let v171 : BitVec 1 := Scalar.cmpi .ne v170 c0_i32_90
  v171

def k0_off9 (v1 : BitVec 32) : Fin 4 → Nat :=
  let c0_94 : Index := 0#32
  let c0_95 : Index := 0#32
  let c1024_i32_15 : BitVec 32 := 1024#32
  let v46 : BitVec 32 := Scalar.muli v1 c1024_i32_15
  let c0_i32_16 : BitVec 32 := 0#32
  let v47 : BitVec 32 := Scalar.addi v46 c0_i32_16
  let v48 : BitVec 32 := v47
  let v177 : Index := Scalar.indexCast v48
  let c0_96 : Index := 0#32
  ![0, 0, v177.toNat, 0]
def k0_off10 (v1 : BitVec 32) : Fin 4 → Nat :=
  let c0_97 : Index := 0#32
  let c1_98 : Index := 1#32
  let c1024_i32_15 : BitVec 32 := 1024#32
  let v46 : BitVec 32 := Scalar.muli v1 c1024_i32_15
  let c0_i32_16 : BitVec 32 := 0#32
  let v47 : BitVec 32 := Scalar.addi v46 c0_i32_16
  let v48 : BitVec 32 := v47
  let v181 : Index := Scalar.indexCast v48
  let c0_99 : Index := 0#32
  ![0, 1, v181.toNat, 0]
def k0_off11 (v1 : BitVec 32) : Fin 2 → Nat :=
  let c1024_i32_15 : BitVec 32 := 1024#32
  let v46 : BitVec 32 := Scalar.muli v1 c1024_i32_15
  let c0_i32_16 : BitVec 32 := 0#32
  let v47 : BitVec 32 := Scalar.addi v46 c0_i32_16
  let v48 : BitVec 32 := v47
  let v175 : Index := Scalar.indexCast v48
  let c0_93 : Index := 0#32
  ![v175.toNat, 0]
def k0_cond7 (v3 : BitVec 32) : BitVec 1 :=
  let c0_i32_91 : BitVec 32 := 0#32
  let v172 : BitVec 1 := Scalar.cmpi .sgt v3 c0_i32_91
  let v173 : BitVec 32 := Scalar.extui v172
  let c0_i32_92 : BitVec 32 := 0#32
  let v174 : BitVec 1 := Scalar.cmpi .ne v173 c0_i32_92
  v174

def k0_off12 (v1 : BitVec 32) : Fin 4 → Nat :=
  let c0_95 : Index := 0#32
  let c0_96 : Index := 0#32
  let c1024_i32_15 : BitVec 32 := 1024#32
  let v46 : BitVec 32 := Scalar.muli v1 c1024_i32_15
  let c0_i32_16 : BitVec 32 := 0#32
  let v47 : BitVec 32 := Scalar.addi v46 c0_i32_16
  let v48 : BitVec 32 := v47
  let v181 : Index := Scalar.indexCast v48
  let c0_97 : Index := 0#32
  ![0, 0, v181.toNat, 0]
def k0_off13 (v1 : BitVec 32) : Fin 4 → Nat :=
  let c0_101 : Index := 0#32
  let c1_102 : Index := 1#32
  let c1024_i32_15 : BitVec 32 := 1024#32
  let v46 : BitVec 32 := Scalar.muli v1 c1024_i32_15
  let c0_i32_16 : BitVec 32 := 0#32
  let v47 : BitVec 32 := Scalar.addi v46 c0_i32_16
  let v48 : BitVec 32 := v47
  let v189 : Index := Scalar.indexCast v48
  let c0_103 : Index := 0#32
  ![0, 1, v189.toNat, 0]

def k0_chk1 (v1 : BitVec 32) (v3 : BitVec 32) : Prop :=
  (∀ (k0_h2 : k0_cond2 v1 v3 = 1#1), 1024 ∣ (k0_mult1 v1).toNat) ∧
  (∀ (k0_h2 : k0_cond2 v1 v3 = 1#1), ∀ (k0_h3 : k0_cond3 v3 = 1#1), ∀ a, (k0_off2 v1) a + S1024x128.size a ≤ S8192x128.size a) ∧
  (∀ (k0_h2 : k0_cond2 v1 v3 = 1#1), ∀ (k0_h3 : k0_cond3 v3 = 1#1), ∀ a, (k0_off3 v1) a + S1x1x1024x128.size a ≤ S1x2x8192x128.size a) ∧
  (∀ (k0_h2 : k0_cond2 v1 v3 = 1#1), ∀ (k0_h3 : k0_cond3 v3 = 1#1), ∀ a, (k0_off4 v1) a + S1x1x1024x128.size a ≤ S1x2x8192x128.size a) ∧
  (∀ (k0_h2 : k0_cond2 v1 v3 = 1#1), ∀ (k0_h4 : k0_cond4 v3 = 1#1), ∀ a, (k0_off5 v1) a + S1024x128.size a ≤ S8192x128.size a) ∧
  (∀ (k0_h2 : k0_cond2 v1 v3 = 1#1), ∀ (k0_h4 : k0_cond4 v3 = 1#1), ∀ a, (k0_off6 v1) a + S1x1x1024x128.size a ≤ S1x2x8192x128.size a) ∧
  (∀ (k0_h2 : k0_cond2 v1 v3 = 1#1), ∀ (k0_h4 : k0_cond4 v3 = 1#1), ∀ a, (k0_off7 v1) a + S1x1x1024x128.size a ≤ S1x2x8192x128.size a) ∧
  (∀ (k0_h5 : k0_cond5 v1 v3 = 1#1), 1024 ∣ (k0_mult2 v1).toNat) ∧
  (∀ (k0_h5 : k0_cond5 v1 v3 = 1#1), ∀ (k0_h6 : k0_cond6 v3 = 1#1), ∀ a, (k0_off8 v1) a + S1024x128.size a ≤ S8192x128.size a) ∧
  (∀ (k0_h5 : k0_cond5 v1 v3 = 1#1), ∀ (k0_h6 : k0_cond6 v3 = 1#1), ∀ a, (k0_off9 v1) a + S1x1x1024x128.size a ≤ S1x2x8192x128.size a) ∧
  (∀ (k0_h5 : k0_cond5 v1 v3 = 1#1), ∀ (k0_h6 : k0_cond6 v3 = 1#1), ∀ a, (k0_off10 v1) a + S1x1x1024x128.size a ≤ S1x2x8192x128.size a) ∧
  (∀ (k0_h5 : k0_cond5 v1 v3 = 1#1), ∀ (k0_h7 : k0_cond7 v3 = 1#1), ∀ a, (k0_off11 v1) a + S1024x128.size a ≤ S8192x128.size a) ∧
  (∀ (k0_h5 : k0_cond5 v1 v3 = 1#1), ∀ (k0_h7 : k0_cond7 v3 = 1#1), ∀ a, (k0_off12 v1) a + S1x1x1024x128.size a ≤ S1x2x8192x128.size a) ∧
  (∀ (k0_h5 : k0_cond5 v1 v3 = 1#1), ∀ (k0_h7 : k0_cond7 v3 = 1#1), ∀ a, (k0_off13 v1) a + S1x1x1024x128.size a ≤ S1x2x8192x128.size a)
theorem k0_mult1_dvd : ∀ (v1 : BitVec 32) (v3 : BitVec 32) (k0_hw1 : k0_chk1 v1 v3), ∀ (k0_h2 : k0_cond2 v1 v3 = 1#1), 1024 ∣ (k0_mult1 v1).toNat := fun v1 v3 k0_hw1 k0_h2 => k0_hw1.1 k0_h2
theorem k0_off2_inb : ∀ (v1 : BitVec 32) (v3 : BitVec 32) (k0_hw1 : k0_chk1 v1 v3), ∀ (k0_h2 : k0_cond2 v1 v3 = 1#1), ∀ (k0_h3 : k0_cond3 v3 = 1#1), ∀ a, (k0_off2 v1) a + S1024x128.size a ≤ S8192x128.size a := fun v1 v3 k0_hw1 k0_h2 k0_h3 => k0_hw1.2.1 k0_h2 k0_h3
theorem k0_off3_inb : ∀ (v1 : BitVec 32) (v3 : BitVec 32) (k0_hw1 : k0_chk1 v1 v3), ∀ (k0_h2 : k0_cond2 v1 v3 = 1#1), ∀ (k0_h3 : k0_cond3 v3 = 1#1), ∀ a, (k0_off3 v1) a + S1x1x1024x128.size a ≤ S1x2x8192x128.size a := fun v1 v3 k0_hw1 k0_h2 k0_h3 => k0_hw1.2.2.1 k0_h2 k0_h3
theorem k0_off4_inb : ∀ (v1 : BitVec 32) (v3 : BitVec 32) (k0_hw1 : k0_chk1 v1 v3), ∀ (k0_h2 : k0_cond2 v1 v3 = 1#1), ∀ (k0_h3 : k0_cond3 v3 = 1#1), ∀ a, (k0_off4 v1) a + S1x1x1024x128.size a ≤ S1x2x8192x128.size a := fun v1 v3 k0_hw1 k0_h2 k0_h3 => k0_hw1.2.2.2.1 k0_h2 k0_h3
theorem k0_off5_inb : ∀ (v1 : BitVec 32) (v3 : BitVec 32) (k0_hw1 : k0_chk1 v1 v3), ∀ (k0_h2 : k0_cond2 v1 v3 = 1#1), ∀ (k0_h4 : k0_cond4 v3 = 1#1), ∀ a, (k0_off5 v1) a + S1024x128.size a ≤ S8192x128.size a := fun v1 v3 k0_hw1 k0_h2 k0_h4 => k0_hw1.2.2.2.2.1 k0_h2 k0_h4
theorem k0_off6_inb : ∀ (v1 : BitVec 32) (v3 : BitVec 32) (k0_hw1 : k0_chk1 v1 v3), ∀ (k0_h2 : k0_cond2 v1 v3 = 1#1), ∀ (k0_h4 : k0_cond4 v3 = 1#1), ∀ a, (k0_off6 v1) a + S1x1x1024x128.size a ≤ S1x2x8192x128.size a := fun v1 v3 k0_hw1 k0_h2 k0_h4 => k0_hw1.2.2.2.2.2.1 k0_h2 k0_h4
theorem k0_off7_inb : ∀ (v1 : BitVec 32) (v3 : BitVec 32) (k0_hw1 : k0_chk1 v1 v3), ∀ (k0_h2 : k0_cond2 v1 v3 = 1#1), ∀ (k0_h4 : k0_cond4 v3 = 1#1), ∀ a, (k0_off7 v1) a + S1x1x1024x128.size a ≤ S1x2x8192x128.size a := fun v1 v3 k0_hw1 k0_h2 k0_h4 => k0_hw1.2.2.2.2.2.2.1 k0_h2 k0_h4
theorem k0_mult2_dvd : ∀ (v1 : BitVec 32) (v3 : BitVec 32) (k0_hw1 : k0_chk1 v1 v3), ∀ (k0_h5 : k0_cond5 v1 v3 = 1#1), 1024 ∣ (k0_mult2 v1).toNat := fun v1 v3 k0_hw1 k0_h5 => k0_hw1.2.2.2.2.2.2.2.1 k0_h5
theorem k0_off8_inb : ∀ (v1 : BitVec 32) (v3 : BitVec 32) (k0_hw1 : k0_chk1 v1 v3), ∀ (k0_h5 : k0_cond5 v1 v3 = 1#1), ∀ (k0_h6 : k0_cond6 v3 = 1#1), ∀ a, (k0_off8 v1) a + S1024x128.size a ≤ S8192x128.size a := fun v1 v3 k0_hw1 k0_h5 k0_h6 => k0_hw1.2.2.2.2.2.2.2.2.1 k0_h5 k0_h6
theorem k0_off9_inb : ∀ (v1 : BitVec 32) (v3 : BitVec 32) (k0_hw1 : k0_chk1 v1 v3), ∀ (k0_h5 : k0_cond5 v1 v3 = 1#1), ∀ (k0_h6 : k0_cond6 v3 = 1#1), ∀ a, (k0_off9 v1) a + S1x1x1024x128.size a ≤ S1x2x8192x128.size a := fun v1 v3 k0_hw1 k0_h5 k0_h6 => k0_hw1.2.2.2.2.2.2.2.2.2.1 k0_h5 k0_h6
theorem k0_off10_inb : ∀ (v1 : BitVec 32) (v3 : BitVec 32) (k0_hw1 : k0_chk1 v1 v3), ∀ (k0_h5 : k0_cond5 v1 v3 = 1#1), ∀ (k0_h6 : k0_cond6 v3 = 1#1), ∀ a, (k0_off10 v1) a + S1x1x1024x128.size a ≤ S1x2x8192x128.size a := fun v1 v3 k0_hw1 k0_h5 k0_h6 => k0_hw1.2.2.2.2.2.2.2.2.2.2.1 k0_h5 k0_h6
theorem k0_off11_inb : ∀ (v1 : BitVec 32) (v3 : BitVec 32) (k0_hw1 : k0_chk1 v1 v3), ∀ (k0_h5 : k0_cond5 v1 v3 = 1#1), ∀ (k0_h7 : k0_cond7 v3 = 1#1), ∀ a, (k0_off11 v1) a + S1024x128.size a ≤ S8192x128.size a := fun v1 v3 k0_hw1 k0_h5 k0_h7 => k0_hw1.2.2.2.2.2.2.2.2.2.2.2.1 k0_h5 k0_h7
theorem k0_off12_inb : ∀ (v1 : BitVec 32) (v3 : BitVec 32) (k0_hw1 : k0_chk1 v1 v3), ∀ (k0_h5 : k0_cond5 v1 v3 = 1#1), ∀ (k0_h7 : k0_cond7 v3 = 1#1), ∀ a, (k0_off12 v1) a + S1x1x1024x128.size a ≤ S1x2x8192x128.size a := fun v1 v3 k0_hw1 k0_h5 k0_h7 => k0_hw1.2.2.2.2.2.2.2.2.2.2.2.2.1 k0_h5 k0_h7
theorem k0_off13_inb : ∀ (v1 : BitVec 32) (v3 : BitVec 32) (k0_hw1 : k0_chk1 v1 v3), ∀ (k0_h5 : k0_cond5 v1 v3 = 1#1), ∀ (k0_h7 : k0_cond7 v3 = 1#1), ∀ a, (k0_off13 v1) a + S1x1x1024x128.size a ≤ S1x2x8192x128.size a := fun v1 v3 k0_hw1 k0_h5 k0_h7 => k0_hw1.2.2.2.2.2.2.2.2.2.2.2.2.2 k0_h5 k0_h7

def k0_cond1 (v1 : BitVec 32) (v3 : BitVec 32) : BitVec 1 :=
  let c1024_i32 : BitVec 32 := 1024#32
  let v4 : BitVec 32 := Scalar.muli v3 c1024_i32
  let c0_i32 : BitVec 32 := 0#32
  let v6 : BitVec 1 := Scalar.cmpi .sgt v4 c0_i32
  let v7 : BitVec 32 := Scalar.extui v6
  let c0_i32_1 : BitVec 32 := 0#32
  let v8 : BitVec 1 := Scalar.cmpi .slt v4 c0_i32_1
  let v9 : BitVec 32 := Scalar.extui v8
  let v10 : BitVec 32 := Scalar.subi v7 v9
  let c1024_i32_0 : BitVec 32 := 1024#32
  let c0_i32_2 : BitVec 32 := 0#32
  let v11 : BitVec 1 := Scalar.cmpi .sgt c1024_i32_0 c0_i32_2
  let v12 : BitVec 32 := Scalar.extui v11
  let c0_i32_3 : BitVec 32 := 0#32
  let v13 : BitVec 1 := Scalar.cmpi .slt c1024_i32_0 c0_i32_3
  let v14 : BitVec 32 := Scalar.extui v13
  let v15 : BitVec 32 := Scalar.subi v12 v14
  let v16 : BitVec 1 := Scalar.cmpi .ne v10 v15
  let v17 : BitVec 32 := Scalar.remsi v4 c1024_i32_0
  let c0_i32_4 : BitVec 32 := 0#32
  let v18 : BitVec 1 := Scalar.cmpi .ne v17 c0_i32_4
  let v19 : BitVec 1 := Scalar.andi v16 v18
  let v5 : BitVec 32 := Scalar.divsi v4 c1024_i32_0
  let c1_i32 : BitVec 32 := 1#32
  let v20 : BitVec 32 := Scalar.subi v5 c1_i32
  let v21 : BitVec 32 := Scalar.select v19 v20 v5
  let v22 : BitVec 1 := Scalar.cmpi .eq v1 v21
  let v23 : BitVec 32 := Scalar.extui v22
  let c0_i32_5 : BitVec 32 := 0#32
  let v24 : BitVec 1 := Scalar.cmpi .ne v23 c0_i32_5
  v24

def cc0_transform_0 (k0_off1_inb : ∀ i : grid0.Coords, ∀ a, (k0_off1 i) a + S1.size a ≤ S36.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S36) ![v0.toNat] S1.size (k0_off1_inb i)) numel1_S1
  let c0_i32 : BitVec 32 := 0#32
  let v2 : BitVec 32 := Scalar.addi c0_i32 arg0
  let c0_i32_0 : BitVec 32 := 0#32
  ![v1.toNat, v2.toNat]

def cc0_transform_1 (k0_off1_inb : ∀ i : grid0.Coords, ∀ a, (k0_off1 i) a + S1.size a ≤ S36.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 1 (Rect.unit (s := S36) ![v0.toNat] S1.size (k0_off1_inb i)) numel1_S1
  let c0_i32 : BitVec 32 := 0#32
  let v2 : BitVec 32 := Scalar.addi c0_i32 arg0
  let c0_i32_0 : BitVec 32 := 0#32
  ![v1.toNat, v2.toNat]

def cc0_transform_2 (k0_off1_inb : ∀ i : grid0.Coords, ∀ a, (k0_off1 i) a + S1.size a ≤ S36.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 1 (Rect.unit (s := S36) ![v0.toNat] S1.size (k0_off1_inb i)) numel1_S1
  let c12_i32 : BitVec 32 := 12#32
  let v2 : BitVec 32 := Scalar.addi c12_i32 arg0
  let c0_i32 : BitVec 32 := 0#32
  ![v1.toNat, v2.toNat]

def cc0_transform_3 (k0_off1_inb : ∀ i : grid0.Coords, ∀ a, (k0_off1 i) a + S1.size a ≤ S36.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S36) ![v0.toNat] S1.size (k0_off1_inb i)) numel1_S1
  let c0_i32 : BitVec 32 := 0#32
  let v2 : BitVec 32 := Scalar.addi c0_i32 arg0
  let c0_i32_0 : BitVec 32 := 0#32
  ![v1.toNat, v2.toNat]

def cc0_transform_4 (k0_off1_inb : ∀ i : grid0.Coords, ∀ a, (k0_off1 i) a + S1.size a ≤ S36.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S36) ![v0.toNat] S1.size (k0_off1_inb i)) numel1_S1
  let c0_i32 : BitVec 32 := 0#32
  let c0_i32_0 : BitVec 32 := 0#32
  let c0_i32_1 : BitVec 32 := 0#32
  ![arg0.toNat, c0_i32.toNat, v1.toNat, c0_i32_0.toNat]

def cc0_transform_5 (k0_off1_inb : ∀ i : grid0.Coords, ∀ a, (k0_off1 i) a + S1.size a ≤ S36.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S36) ![v0.toNat] S1.size (k0_off1_inb i)) numel1_S1
  let c0_i32 : BitVec 32 := 0#32
  let c0_i32_0 : BitVec 32 := 0#32
  let c0_i32_1 : BitVec 32 := 0#32
  ![arg0.toNat, c0_i32.toNat, v1.toNat, c0_i32_0.toNat]

def cc0_transform_6 (k0_off1_inb : ∀ i : grid0.Coords, ∀ a, (k0_off1 i) a + S1.size a ≤ S36.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let v0 : Index := Scalar.indexCast arg1
  let v1 : BitVec 32 := pf.at 1 (Rect.unit (s := S36) ![v0.toNat] S1.size (k0_off1_inb i)) numel1_S1
  let c0_i32 : BitVec 32 := 0#32
  let c0_i32_0 : BitVec 32 := 0#32
  let c0_i32_1 : BitVec 32 := 0#32
  ![arg0.toNat, c0_i32.toNat, c0_i32_0.toNat, v1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_8 (k0_off1_inb : ∀ i : grid0.Coords, ∀ a, (k0_off1 i) a + S1.size a ≤ S36.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 1 (Rect.unit (s := S36) ![v0.toNat] S1.size (k0_off1_inb i)) numel1_S1
  let c0_i32 : BitVec 32 := 0#32
  ![v1.toNat, arg0.toNat]

def cc0_transform_9 (k0_off1_inb : ∀ i : grid0.Coords, ∀ a, (k0_off1 i) a + S1.size a ≤ S36.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 1 (Rect.unit (s := S36) ![v0.toNat] S1.size (k0_off1_inb i)) numel1_S1
  let c0_i32 : BitVec 32 := 0#32
  ![v1.toNat, arg0.toNat]

def cc0_transform_10 (k0_off1_inb : ∀ i : grid0.Coords, ∀ a, (k0_off1 i) a + S1.size a ≤ S36.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let v0 : Index := Scalar.indexCast arg1
  let v1 : BitVec 32 := pf.at 1 (Rect.unit (s := S36) ![v0.toNat] S1.size (k0_off1_inb i)) numel1_S1
  let c0_i32 : BitVec 32 := 0#32
  let c0_i32_0 : BitVec 32 := 0#32
  let c0_i32_1 : BitVec 32 := 0#32
  ![arg0.toNat, c0_i32.toNat, c0_i32_0.toNat, v1.toNat]

def cc0_transform_11 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1024x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x2x1024x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x2x1024x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x2x1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S8192x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1024x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1024x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x2x1x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x2x8192x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]
-- ==== ReferenceIdeal.lean ====
abbrev S8192x768 : Shape := ⟨2, ![8192, 768]⟩
abbrev S8192x2688 : Shape := ⟨2, ![8192, 2688]⟩
abbrev S12x8192 : Shape := ⟨2, ![12, 8192]⟩
abbrev S8192x1024 : Shape := ⟨2, ![8192, 1024]⟩
abbrev S8192x12x64 : Shape := ⟨3, ![8192, 12, 64]⟩
abbrev S12x8192x8192 : Shape := ⟨3, ![12, 8192, 8192]⟩
abbrev S_ : Shape := ⟨0, ![]⟩
abbrev S12x8192x1 : Shape := ⟨3, ![12, 8192, 1]⟩
abbrev S12x1x8192 : Shape := ⟨3, ![12, 1, 8192]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S1x8192x8192 : Shape := ⟨3, ![1, 8192, 8192]⟩
abbrev S12x64x8192 : Shape := ⟨3, ![12, 64, 8192]⟩
abbrev S12x8192x64 : Shape := ⟨3, ![12, 8192, 64]⟩

abbrev nBuf : Space → Nat
  | .hbm => 119
  | .vmem => 0
  | .smem => 0
  | _ => 0

abbrev bufTy : (tb : Table) → Fin (tcTables nBuf tb) → BufTy
  | .hbm, ⟨0, _⟩ => ⟨S8192x768, .f32⟩
  | .hbm, ⟨1, _⟩ => ⟨S8192x768, .f32⟩
  | .hbm, ⟨2, _⟩ => ⟨S8192x2688, .f32⟩
  | .hbm, ⟨3, _⟩ => ⟨S12x8192, .f32⟩
  | .hbm, ⟨4, _⟩ => ⟨S8192x1024, .f32⟩
  | .hbm, ⟨5, _⟩ => ⟨S8192x768, .f32⟩
  | .hbm, ⟨6, _⟩ => ⟨S8192x12x64, .f32⟩
  | .hbm, ⟨7, _⟩ => ⟨S8192x12x64, .f32⟩
  | .hbm, ⟨8, _⟩ => ⟨S8192x12x64, .f32⟩
  | .hbm, ⟨9, _⟩ => ⟨S12x8192x8192, .f32⟩
  | .hbm, ⟨10, _⟩ => ⟨S_, .f32⟩
  | .hbm, ⟨11, _⟩ => ⟨S12x8192x8192, .f32⟩
  | .hbm, ⟨12, _⟩ => ⟨S12x8192x8192, .f32⟩
  | .hbm, ⟨13, _⟩ => ⟨S12x8192x1, .f32⟩
  | .hbm, ⟨14, _⟩ => ⟨S12x8192x8192, .f32⟩
  | .hbm, ⟨15, _⟩ => ⟨S12x8192x8192, .f32⟩
  | .hbm, ⟨16, _⟩ => ⟨S12x1x8192, .f32⟩
  | .hbm, ⟨17, _⟩ => ⟨S12x8192x8192, .f32⟩
  | .hbm, ⟨18, _⟩ => ⟨S12x8192x8192, .f32⟩
  | .hbm, ⟨19, _⟩ => ⟨S8192, .i32⟩
  | .hbm, ⟨20, _⟩ => ⟨S1x8192, .i32⟩
  | .hbm, ⟨21, _⟩ => ⟨S8192x1, .i32⟩
  | .hbm, ⟨22, _⟩ => ⟨S8192x8192, .i32⟩
  | .hbm, ⟨23, _⟩ => ⟨S8192x8192, .i32⟩
  | .hbm, ⟨24, _⟩ => ⟨S8192x8192, .i1⟩
  | .hbm, ⟨25, _⟩ => ⟨S1x8192x8192, .i1⟩
  | .hbm, ⟨26, _⟩ => ⟨S_, .f32⟩
  | .hbm, ⟨27, _⟩ => ⟨S_, .f32⟩
  | .hbm, ⟨28, _⟩ => ⟨S12x8192x8192, .i1⟩
  | .hbm, ⟨29, _⟩ => ⟨S12x8192x8192, .f32⟩
  | .hbm, ⟨30, _⟩ => ⟨S12x8192x8192, .f32⟩
  | .hbm, ⟨31, _⟩ => ⟨S_, .f32⟩
  | .hbm, ⟨32, _⟩ => ⟨S12x8192x8192, .f32⟩
  | .hbm, ⟨33, _⟩ => ⟨S_, .f32⟩
  | .hbm, ⟨34, _⟩ => ⟨S12x8192, .f32⟩
  | .hbm, ⟨35, _⟩ => ⟨S12x8192x1, .f32⟩
  | .hbm, ⟨36, _⟩ => ⟨S12x8192x8192, .f32⟩
  | .hbm, ⟨37, _⟩ => ⟨S12x8192x8192, .i1⟩
  | .hbm, ⟨38, _⟩ => ⟨S12x8192x8192, .f32⟩
  | .hbm, ⟨39, _⟩ => ⟨S_, .f32⟩
  | .hbm, ⟨40, _⟩ => ⟨S12x8192, .f32⟩
  | .hbm, ⟨41, _⟩ => ⟨S_, .f32⟩
  | .hbm, ⟨42, _⟩ => ⟨S12x8192, .f32⟩
  | .hbm, ⟨43, _⟩ => ⟨S12x8192, .f32⟩
  | .hbm, ⟨44, _⟩ => ⟨S_, .f32⟩
  | .hbm, ⟨45, _⟩ => ⟨S12x8192, .f32⟩
  | .hbm, ⟨46, _⟩ => ⟨S12x8192, .i1⟩
  | .hbm, ⟨47, _⟩ => ⟨S_, .f32⟩
  | .hbm, ⟨48, _⟩ => ⟨S12x8192, .f32⟩
  | .hbm, ⟨49, _⟩ => ⟨S12x8192, .i1⟩
  | .hbm, ⟨50, _⟩ => ⟨S_, .f32⟩
  | .hbm, ⟨51, _⟩ => ⟨S12x8192, .f32⟩
  | .hbm, ⟨52, _⟩ => ⟨S_, .f32⟩
  | .hbm, ⟨53, _⟩ => ⟨S12x8192, .f32⟩
  | .hbm, ⟨54, _⟩ => ⟨S_, .f32⟩
  | .hbm, ⟨55, _⟩ => ⟨S12x8192, .f32⟩
  | .hbm, ⟨56, _⟩ => ⟨S12x8192, .f32⟩
  | .hbm, ⟨57, _⟩ => ⟨S12x8192, .f32⟩
  | .hbm, ⟨58, _⟩ => ⟨S12x8192x1, .f32⟩
  | .hbm, ⟨59, _⟩ => ⟨S12x8192x8192, .f32⟩
  | .hbm, ⟨60, _⟩ => ⟨S12x8192x8192, .f32⟩
  | .hbm, ⟨61, _⟩ => ⟨S12x8192x8192, .f32⟩
  | .hbm, ⟨62, _⟩ => ⟨S_, .f32⟩
  | .hbm, ⟨63, _⟩ => ⟨S12x8192, .f32⟩
  | .hbm, ⟨64, _⟩ => ⟨S12x8192x1, .f32⟩
  | .hbm, ⟨65, _⟩ => ⟨S12x8192x8192, .f32⟩
  | .hbm, ⟨66, _⟩ => ⟨S12x8192x8192, .f32⟩
  | .hbm, ⟨67, _⟩ => ⟨S12x8192x1, .f32⟩
  | .hbm, ⟨68, _⟩ => ⟨S_, .f32⟩
  | .hbm, ⟨69, _⟩ => ⟨S12x8192x1, .f32⟩
  | .hbm, ⟨70, _⟩ => ⟨S12x8192x1, .f32⟩
  | .hbm, ⟨71, _⟩ => ⟨S12x64x8192, .f32⟩
  | .hbm, ⟨72, _⟩ => ⟨S8192x12x64, .f32⟩
  | .hbm, ⟨73, _⟩ => ⟨S8192x768, .f32⟩
  | .hbm, ⟨74, _⟩ => ⟨S8192x768, .f32⟩
  | .hbm, ⟨75, _⟩ => ⟨S8192x12x64, .f32⟩
  | .hbm, ⟨76, _⟩ => ⟨S12x64x8192, .f32⟩
  | .hbm, ⟨77, _⟩ => ⟨S12x8192x8192, .f32⟩
  | .hbm, ⟨78, _⟩ => ⟨S12x64x8192, .f32⟩
  | .hbm, ⟨79, _⟩ => ⟨S8192x12x64, .f32⟩
  | .hbm, ⟨80, _⟩ => ⟨S12x8192x8192, .f32⟩
  | .hbm, ⟨81, _⟩ => ⟨S12x8192x8192, .f32⟩
  | .hbm, ⟨82, _⟩ => ⟨S12x8192x8192, .f32⟩
  | .hbm, ⟨83, _⟩ => ⟨S_, .f32⟩
  | .hbm, ⟨84, _⟩ => ⟨S12x8192, .f32⟩
  | .hbm, ⟨85, _⟩ => ⟨S12x8192x1, .f32⟩
  | .hbm, ⟨86, _⟩ => ⟨S12x8192x1, .f32⟩
  | .hbm, ⟨87, _⟩ => ⟨S12x8192x8192, .f32⟩
  | .hbm, ⟨88, _⟩ => ⟨S12x8192x8192, .f32⟩
  | .hbm, ⟨89, _⟩ => ⟨S_, .f32⟩
  | .hbm, ⟨90, _⟩ => ⟨S12x8192, .f32⟩
  | .hbm, ⟨91, _⟩ => ⟨S12x8192x8192, .f32⟩
  | .hbm, ⟨92, _⟩ => ⟨S12x8192x8192, .f32⟩
  | .hbm, ⟨93, _⟩ => ⟨S12x8192x8192, .f32⟩
  | .hbm, ⟨94, _⟩ => ⟨S_, .f32⟩
  | .hbm, ⟨95, _⟩ => ⟨S12x8192x8192, .f32⟩
  | .hbm, ⟨96, _⟩ => ⟨S12x8192x8192, .f32⟩
  | .hbm, ⟨97, _⟩ => ⟨S12x8192x8192, .f32⟩
  | .hbm, ⟨98, _⟩ => ⟨S_, .f32⟩
  | .hbm, ⟨99, _⟩ => ⟨S12x8192, .f32⟩
  | .hbm, ⟨100, _⟩ => ⟨S12x1x8192, .f32⟩
  | .hbm, ⟨101, _⟩ => ⟨S_, .f32⟩
  | .hbm, ⟨102, _⟩ => ⟨S12x8192, .f32⟩
  | .hbm, ⟨103, _⟩ => ⟨S_, .f32⟩
  | .hbm, ⟨104, _⟩ => ⟨S12x8192, .f32⟩
  | .hbm, ⟨105, _⟩ => ⟨S12x8192x1, .f32⟩
  | .hbm, ⟨106, _⟩ => ⟨S_, .f32⟩
  | .hbm, ⟨107, _⟩ => ⟨S12x8192, .f32⟩
  | .hbm, ⟨108, _⟩ => ⟨S12x8192, .f32⟩
  | .hbm, ⟨109, _⟩ => ⟨S_, .f32⟩
  | .hbm, ⟨110, _⟩ => ⟨S12x8192x8192, .f32⟩
  | .hbm, ⟨111, _⟩ => ⟨S12x8192x8192, .f32⟩
  | .hbm, ⟨112, _⟩ => ⟨S12x8192x64, .f32⟩
  | .hbm, ⟨113, _⟩ => ⟨S8192x12x64, .f32⟩
  | .hbm, ⟨114, _⟩ => ⟨S12x8192x64, .f32⟩
  | .hbm, ⟨115, _⟩ => ⟨S8192x12x64, .f32⟩
  | .hbm, ⟨116, _⟩ => ⟨S8192x768, .f32⟩
  | .hbm, ⟨117, _⟩ => ⟨S8192x768, .f32⟩
  | .hbm, ⟨118, _⟩ => ⟨S8192x768, .f32⟩
  | _, _ => ⟨S8192x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_cst_0 : Ref sig .tc := ⟨.hbm, 26, rfl⟩
abbrev main_call0_v0 : Ref sig .tc := ⟨.hbm, 27, rfl⟩
abbrev main_v20_1 : Ref sig .tc := ⟨.hbm, 28, rfl⟩
abbrev main_call0_v2 : Ref sig .tc := ⟨.hbm, 29, rfl⟩
abbrev main_v20_0 : Ref sig .tc := ⟨.hbm, 30, rfl⟩
abbrev main_call0_cst : Ref sig .tc := ⟨.hbm, 31, rfl⟩
abbrev main_v20_2 : Ref sig .tc := ⟨.hbm, 32, rfl⟩
abbrev main_cst_1 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_2 : Ref sig .tc := ⟨.hbm, 39, rfl⟩
abbrev main_v26 : Ref sig .tc := ⟨.hbm, 40, rfl⟩
abbrev main_cst_3 : Ref sig .tc := ⟨.hbm, 41, rfl⟩
abbrev main_v27 : Ref sig .tc := ⟨.hbm, 42, rfl⟩
abbrev main_v28 : Ref sig .tc := ⟨.hbm, 43, rfl⟩
abbrev main_cst_4 : Ref sig .tc := ⟨.hbm, 44, rfl⟩
abbrev main_v29 : Ref sig .tc := ⟨.hbm, 45, rfl⟩
abbrev main_v30 : Ref sig .tc := ⟨.hbm, 46, rfl⟩
abbrev main_cst_5 : Ref sig .tc := ⟨.hbm, 47, rfl⟩
abbrev main_v31 : Ref sig .tc := ⟨.hbm, 48, rfl⟩
abbrev main_v32 : Ref sig .tc := ⟨.hbm, 49, rfl⟩
abbrev main_cst_6 : Ref sig .tc := ⟨.hbm, 50, rfl⟩
abbrev main_v33 : Ref sig .tc := ⟨.hbm, 51, rfl⟩
abbrev main_cst_7 : Ref sig .tc := ⟨.hbm, 52, rfl⟩
abbrev main_v34 : Ref sig .tc := ⟨.hbm, 53, rfl⟩
abbrev main_cst_8 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_cst_9 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_cst_10 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_cst_11 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_cst_12 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_call1_cst : Ref sig .tc := ⟨.hbm, 94, rfl⟩
abbrev main_call1_v0 : Ref sig .tc := ⟨.hbm, 95, rfl⟩
abbrev main_v70 : Ref sig .tc := ⟨.hbm, 96, rfl⟩
abbrev main_v71 : Ref sig .tc := ⟨.hbm, 97, rfl⟩
abbrev main_cst_13 : Ref sig .tc := ⟨.hbm, 98, rfl⟩
abbrev main_v72 : Ref sig .tc := ⟨.hbm, 99, rfl⟩
abbrev main_v73 : Ref sig .tc := ⟨.hbm, 100, rfl⟩
abbrev main_cst_14 : Ref sig .tc := ⟨.hbm, 101, rfl⟩
abbrev main_v74 : Ref sig .tc := ⟨.hbm, 102, rfl⟩
abbrev main_cst_15 : Ref sig .tc := ⟨.hbm, 103, rfl⟩
abbrev main_v75 : Ref sig .tc := ⟨.hbm, 104, rfl⟩
abbrev main_v76 : Ref sig .tc := ⟨.hbm, 105, rfl⟩
abbrev main_cst_16 : Ref sig .tc := ⟨.hbm, 106, rfl⟩
abbrev main_v77 : Ref sig .tc := ⟨.hbm, 107, rfl⟩
abbrev main_v78 : Ref sig .tc := ⟨.hbm, 108, rfl⟩
abbrev main_cst_17 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩

abbrev nD : Nat := 1
abbrev τ : Topo := Topo.v7x

variable {F : FTy → Type} [FloatOps F]
-- ==== Kernel2.lean ====
abbrev S8192x1024 : Shape := ⟨2, ![8192, 1024]⟩
abbrev S8192x2816 : Shape := ⟨2, ![8192, 2816]⟩
abbrev S4x1024x1408 : Shape := ⟨3, ![4, 1024, 1408]⟩
abbrev S1024x1024 : Shape := ⟨2, ![1024, 1024]⟩
abbrev S1024x1408 : Shape := ⟨2, ![1024, 1408]⟩
abbrev S1x1024x1408 : Shape := ⟨3, ![1, 1024, 1408]⟩

abbrev nBuf : Space → Nat
  | .hbm => 4
  | .vmem => 9
  | .smem => 0
  | _ => 0

abbrev bufTy : (tb : Table) → Fin (tcTables nBuf tb) → BufTy
  | .hbm, ⟨0, _⟩ => ⟨S8192x1024, .bf16⟩
  | .hbm, ⟨1, _⟩ => ⟨S8192x2816, .bf16⟩
  | .hbm, ⟨2, _⟩ => ⟨S8192x2816, .bf16⟩
  | .hbm, ⟨3, _⟩ => ⟨S4x1024x1408, .f32⟩
  | .local _ .vmem, ⟨0, _⟩ => ⟨S1024x1024, .bf16⟩
  | .local _ .vmem, ⟨1, _⟩ => ⟨S1024x1024, .bf16⟩
  | .local _ .vmem, ⟨2, _⟩ => ⟨S1024x1408, .bf16⟩
  | .local _ .vmem, ⟨3, _⟩ => ⟨S1024x1408, .bf16⟩
  | .local _ .vmem, ⟨4, _⟩ => ⟨S1024x1408, .bf16⟩
  | .local _ .vmem, ⟨5, _⟩ => ⟨S1024x1408, .bf16⟩
  | .local _ .vmem, ⟨6, _⟩ => ⟨S1x1024x1408, .f32⟩
  | .local _ .vmem, ⟨7, _⟩ => ⟨S1x1024x1408, .f32⟩
  | .local _ .vmem, ⟨8, _⟩ => ⟨S1024x1408, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 8], ![false, false]⟩

def k0_cond4 (i : grid0.Coords) : BitVec 1 :=
  let arg1 : BitVec 32 := BitVec.ofNat 32 (i 1).val
  let c7_i32 : BitVec 32 := 7#32
  let v9 : BitVec 1 := Scalar.cmpi .eq arg1 c7_i32
  let v10 : BitVec 32 := Scalar.extui v9
  let c0_i32_4 : BitVec 32 := 0#32
  let v11 : BitVec 1 := Scalar.cmpi .ne v10 c0_i32_4
  v11

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 1 := Scalar.cmpi .slt arg0 c2_i32
  let c0_i32 : BitVec 32 := 0#32
  let v1 : BitVec 32 := Scalar.select v0 arg1 c0_i32
  let c1_i32 : BitVec 32 := 1#32
  let v2 : BitVec 32 := Scalar.minsi arg0 c1_i32
  let c0_i32_0 : BitVec 32 := 0#32
  ![v1.toNat, v2.toNat]

def cc0_transform_2 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 1 := Scalar.cmpi .sge arg0 c2_i32
  let c0_i32 : BitVec 32 := 0#32
  let v1 : BitVec 32 := Scalar.select v0 arg1 c0_i32
  let c2_i32_0 : BitVec 32 := 2#32
  let v2 : BitVec 32 := Scalar.subi arg0 c2_i32_0
  let c0_i32_1 : BitVec 32 := 0#32
  let v3 : BitVec 32 := Scalar.maxsi v2 c0_i32_1
  let c0_i32_2 : BitVec 32 := 0#32
  ![v1.toNat, v3.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1024x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]
-- ==== Reference2Ideal.lean ====
abbrev S8192x1024 : Shape := ⟨2, ![8192, 1024]⟩
abbrev S8192x2816 : Shape := ⟨2, ![8192, 2816]⟩
abbrev S_ : Shape := ⟨0, ![]⟩
abbrev S4x1024x1408 : Shape := ⟨3, ![4, 1024, 1408]⟩
abbrev S1024x4x1408 : Shape := ⟨3, ![1024, 4, 1408]⟩
abbrev S1024x5632 : Shape := ⟨2, ![1024, 5632]⟩
abbrev S8192x5632 : Shape := ⟨2, ![8192, 5632]⟩
abbrev S5632x1024 : Shape := ⟨2, ![5632, 1024]⟩

abbrev nBuf : Space → Nat
  | .hbm => 18
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x2816, .bf16⟩
  | .hbm, ⟨2, _⟩ => ⟨S8192x2816, .bf16⟩
  | .hbm, ⟨3, _⟩ => ⟨S_, .f32⟩
  | .hbm, ⟨4, _⟩ => ⟨S4x1024x1408, .f32⟩
  | .hbm, ⟨5, _⟩ => ⟨S1024x4x1408, .f32⟩
  | .hbm, ⟨6, _⟩ => ⟨S1024x5632, .f32⟩
  | .hbm, ⟨7, _⟩ => ⟨S8192x1024, .f32⟩
  | .hbm, ⟨8, _⟩ => ⟨S8192x5632, .f32⟩
  | .hbm, ⟨9, _⟩ => ⟨S8192x2816, .f32⟩
  | .hbm, ⟨10, _⟩ => ⟨S8192x2816, .f32⟩
  | .hbm, ⟨11, _⟩ => ⟨S8192x2816, .f32⟩
  | .hbm, ⟨12, _⟩ => ⟨S8192x2816, .f32⟩
  | .hbm, ⟨13, _⟩ => ⟨S8192x5632, .f32⟩
  | .hbm, ⟨14, _⟩ => ⟨S5632x1024, .f32⟩
  | .hbm, ⟨15, _⟩ => ⟨S1024x5632, .f32⟩
  | .hbm, ⟨16, _⟩ => ⟨S1024x4x1408, .f32⟩
  | .hbm, ⟨17, _⟩ => ⟨S4x1024x1408, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩

abbrev nD : Nat := 1
abbrev τ : Topo := Topo.v7x

variable {F : FTy → Type} [FloatOps F]
-- ==== Kernel3.lean ====
abbrev S8192x2816 : Shape := ⟨2, ![8192, 2816]⟩
abbrev S8192x1024 : Shape := ⟨2, ![8192, 1024]⟩
abbrev S4x704x1024 : Shape := ⟨3, ![4, 704, 1024]⟩
abbrev S1024x2816 : Shape := ⟨2, ![1024, 2816]⟩
abbrev S1024x512 : Shape := ⟨2, ![1024, 512]⟩
abbrev S4x704x512 : Shape := ⟨3, ![4, 704, 512]⟩
abbrev S2816x512 : Shape := ⟨2, ![2816, 512]⟩
abbrev S704x512 : Shape := ⟨2, ![704, 512]⟩
abbrev S1x704x512 : Shape := ⟨3, ![1, 704, 512]⟩

abbrev nBuf : Space → Nat
  | .hbm => 3
  | .vmem => 7
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .f32⟩
  | .hbm, ⟨2, _⟩ => ⟨S4x704x1024, .f32⟩
  | .local _ .vmem, ⟨0, _⟩ => ⟨S1024x2816, .bf16⟩
  | .local _ .vmem, ⟨1, _⟩ => ⟨S1024x2816, .bf16⟩
  | .local _ .vmem, ⟨2, _⟩ => ⟨S1024x512, .f32⟩
  | .local _ .vmem, ⟨3, _⟩ => ⟨S1024x512, .f32⟩
  | .local _ .vmem, ⟨4, _⟩ => ⟨S4x704x512, .f32⟩
  | .local _ .vmem, ⟨5, _⟩ => ⟨S4x704x512, .f32⟩
  | .local _ .vmem, ⟨6, _⟩ => ⟨S2816x512, .f32⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 8], ![false, false]⟩

def k0_cond2 (i : grid0.Coords) : BitVec 1 :=
  let arg1 : BitVec 32 := BitVec.ofNat 32 (i 1).val
  let c7_i32 : BitVec 32 := 7#32
  let v12 : BitVec 1 := Scalar.cmpi .eq arg1 c7_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S4x704x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference3Ideal.lean ====
abbrev S8192x2816 : Shape := ⟨2, ![8192, 2816]⟩
abbrev S8192x1024 : Shape := ⟨2, ![8192, 1024]⟩
abbrev S_ : Shape := ⟨0, ![]⟩
abbrev S4x704x1024 : Shape := ⟨3, ![4, 704, 1024]⟩
abbrev S2816x1024 : Shape := ⟨2, ![2816, 1024]⟩
abbrev S1024x2816 : Shape := ⟨2, ![1024, 2816]⟩

abbrev nBuf : Space → Nat
  | .hbm => 16
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .f32⟩
  | .hbm, ⟨2, _⟩ => ⟨S_, .f32⟩
  | .hbm, ⟨3, _⟩ => ⟨S4x704x1024, .f32⟩
  | .hbm, ⟨4, _⟩ => ⟨S8192x2816, .f32⟩
  | .hbm, ⟨5, _⟩ => ⟨S2816x1024, .f32⟩
  | .hbm, ⟨6, _⟩ => ⟨S8192x1024, .f32⟩
  | .hbm, ⟨7, _⟩ => ⟨S_, .f32⟩
  | .hbm, ⟨8, _⟩ => ⟨S8192x1024, .f32⟩
  | .hbm, ⟨9, _⟩ => ⟨S8192x1024, .f32⟩
  | .hbm, ⟨10, _⟩ => ⟨S_, .f32⟩
  | .hbm, ⟨11, _⟩ => ⟨S8192x1024, .f32⟩
  | .hbm, ⟨12, _⟩ => ⟨S8192x1024, .f32⟩
  | .hbm, ⟨13, _⟩ => ⟨S1024x2816, .f32⟩
  | .hbm, ⟨14, _⟩ => ⟨S2816x1024, .f32⟩
  | .hbm, ⟨15, _⟩ => ⟨S4x704x1024, .f32⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩

abbrev nD : Nat := 1
abbrev τ : Topo := Topo.v7x

variable {F : FTy → Type} [FloatOps F]
-- ==== Kernel4.lean ====
abbrev S8192x1024 : Shape := ⟨2, ![8192, 1024]⟩
abbrev S2816x1024 : Shape := ⟨2, ![2816, 1024]⟩
abbrev S8192x2816 : Shape := ⟨2, ![8192, 2816]⟩
abbrev S512x1024 : Shape := ⟨2, ![512, 1024]⟩
abbrev S1408x1024 : Shape := ⟨2, ![1408, 1024]⟩
abbrev S512x1408 : Shape := ⟨2, ![512, 1408]⟩

abbrev nBuf : Space → Nat
  | .hbm => 6
  | .vmem => 12
  | .smem => 0
  | _ => 0

abbrev bufTy : (tb : Table) → Fin (tcTables nBuf tb) → BufTy
  | .hbm, ⟨0, _⟩ => ⟨S8192x1024, .f32⟩
  | .hbm, ⟨1, _⟩ => ⟨S2816x1024, .bf16⟩
  | .hbm, ⟨2, _⟩ => ⟨S8192x2816, .bf16⟩
  | .hbm, ⟨3, _⟩ => ⟨S8192x2816, .bf16⟩
  | .hbm, ⟨4, _⟩ => ⟨S8192x2816, .bf16⟩
  | .hbm, ⟨5, _⟩ => ⟨S8192x2816, .bf16⟩
  | .local _ .vmem, ⟨0, _⟩ => ⟨S512x1024, .f32⟩
  | .local _ .vmem, ⟨1, _⟩ => ⟨S512x1024, .f32⟩
  | .local _ .vmem, ⟨2, _⟩ => ⟨S1408x1024, .bf16⟩
  | .local _ .vmem, ⟨3, _⟩ => ⟨S1408x1024, .bf16⟩
  | .local _ .vmem, ⟨4, _⟩ => ⟨S512x1408, .bf16⟩
  | .local _ .vmem, ⟨5, _⟩ => ⟨S512x1408, .bf16⟩
  | .local _ .vmem, ⟨6, _⟩ => ⟨S512x1408, .bf16⟩
  | .local _ .vmem, ⟨7, _⟩ => ⟨S512x1408, .bf16⟩
  | .local _ .vmem, ⟨8, _⟩ => ⟨S512x1408, .bf16⟩
  | .local _ .vmem, ⟨9, _⟩ => ⟨S512x1408, .bf16⟩
  | .local _ .vmem, ⟨10, _⟩ => ⟨S512x1408, .bf16⟩
  | .local _ .vmem, ⟨11, _⟩ => ⟨S512x1408, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![2, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x1408 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference4Ideal.lean ====
abbrev S8192x1024 : Shape := ⟨2, ![8192, 1024]⟩
abbrev S2816x1024 : Shape := ⟨2, ![2816, 1024]⟩
abbrev S8192x2816 : Shape := ⟨2, ![8192, 2816]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S2816x1024, .bf16⟩
  | .hbm, ⟨2, _⟩ => ⟨S8192x2816, .bf16⟩
  | .hbm, ⟨3, _⟩ => ⟨S8192x2816, .bf16⟩
  | .hbm, ⟨4, _⟩ => ⟨S2816x1024, .f32⟩
  | .hbm, ⟨5, _⟩ => ⟨S8192x2816, .f32⟩
  | .hbm, ⟨6, _⟩ => ⟨S8192x2816, .f32⟩
  | .hbm, ⟨7, _⟩ => ⟨S8192x2816, .f32⟩
  | .hbm, ⟨8, _⟩ => ⟨S8192x2816, .f32⟩
  | .hbm, ⟨9, _⟩ => ⟨S_, .f32⟩
  | .hbm, ⟨10, _⟩ => ⟨S8192x2816, .f32⟩
  | .hbm, ⟨11, _⟩ => ⟨S8192x2816, .f32⟩
  | .hbm, ⟨12, _⟩ => ⟨S_, .f32⟩
  | .hbm, ⟨13, _⟩ => ⟨S8192x2816, .f32⟩
  | .hbm, ⟨14, _⟩ => ⟨S8192x2816, .f32⟩
  | .hbm, ⟨15, _⟩ => ⟨S_, .f32⟩
  | .hbm, ⟨16, _⟩ => ⟨S8192x2816, .f32⟩
  | .hbm, ⟨17, _⟩ => ⟨S8192x2816, .f32⟩
  | .hbm, ⟨18, _⟩ => ⟨S8192x2816, .f32⟩
  | .hbm, ⟨19, _⟩ => ⟨S8192x2816, .f32⟩
  | .hbm, ⟨20, _⟩ => ⟨S8192x2816, .f32⟩
  | .hbm, ⟨21, _⟩ => ⟨S8192x1024, .f32⟩
  | .hbm, ⟨22, _⟩ => ⟨S_, .f32⟩
  | .hbm, ⟨23, _⟩ => ⟨S8192x1024, .f32⟩
  | .hbm, ⟨24, _⟩ => ⟨S8192x1024, .f32⟩
  | .hbm, ⟨25, _⟩ => ⟨S_, .f32⟩
  | .hbm, ⟨26, _⟩ => ⟨S8192x1024, .f32⟩
  | .hbm, ⟨27, _⟩ => ⟨S8192x1024, .f32⟩
  | .hbm, ⟨28, _⟩ => ⟨S8192x2816, .f32⟩
  | .hbm, ⟨29, _⟩ => ⟨S8192x2816, .f32⟩
  | .hbm, ⟨30, _⟩ => ⟨S8192x2816, .f32⟩
  | .hbm, ⟨31, _⟩ => ⟨S8192x2816, .f32⟩
  | .hbm, ⟨32, _⟩ => ⟨S8192x2816, .f32⟩
  | .hbm, ⟨33, _⟩ => ⟨S8192x2816, .f32⟩
  | .hbm, ⟨34, _⟩ => ⟨S8192x2816, .f32⟩
  | .hbm, ⟨35, _⟩ => ⟨S8192x2816, .bf16⟩
  | .hbm, ⟨36, _⟩ => ⟨S8192x2816, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_v3_2 : Ref sig .tc := ⟨.hbm, 14, rfl⟩
abbrev main_call0_cst_1 : Ref sig .tc := ⟨.hbm, 15, rfl⟩
abbrev main_call0_v6 : Ref sig .tc := ⟨.hbm, 16, rfl⟩
abbrev main_call0_v7 : Ref sig .tc := ⟨.hbm, 17, rfl⟩
abbrev main_v3_1 : Ref sig .tc := ⟨.hbm, 18, rfl⟩
abbrev main_v3_0 : Ref sig .tc := ⟨.hbm, 19, rfl⟩
abbrev main_v4 : Ref sig .tc := ⟨.hbm, 20, rfl⟩
abbrev main_v5 : Ref sig .tc := ⟨.hbm, 21, rfl⟩
abbrev main_cst : Ref sig .tc := ⟨.hbm, 22, rfl⟩
abbrev main_v6 : Ref sig .tc := ⟨.hbm, 23, rfl⟩
abbrev main_v7 : Ref sig .tc := ⟨.hbm, 24, rfl⟩
abbrev main_cst_0 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_call1_v0 : Ref sig .tc := ⟨.hbm, 31, rfl⟩
abbrev main_call1_v1 : Ref sig .tc := ⟨.hbm, 32, rfl⟩
abbrev main_call1_v2 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩

abbrev nD : Nat := 1
abbrev τ : Topo := Topo.v7x

variable {F : FTy → Type} [FloatOps F]
-- ==== Kernel5.lean ====
abbrev S8192x2816 : Shape := ⟨2, ![8192, 2816]⟩
abbrev S4x1024x1408 : Shape := ⟨3, ![4, 1024, 1408]⟩
abbrev S8192x1024 : Shape := ⟨2, ![8192, 1024]⟩
abbrev S1024 : Shape := ⟨1, ![1024]⟩
abbrev S1x1024 : Shape := ⟨2, ![1, 1024]⟩
abbrev S1024x1408 : Shape := ⟨2, ![1024, 1408]⟩
abbrev S1x1024x1408 : Shape := ⟨3, ![1, 1024, 1408]⟩
abbrev S1024x1024 : Shape := ⟨2, ![1024, 1024]⟩
abbrev S256x1024 : Shape := ⟨2, ![256, 1024]⟩
abbrev S256 : Shape := ⟨1, ![256]⟩
abbrev S256x1 : Shape := ⟨2, ![256, 1]⟩

abbrev nBuf : Space → Nat
  | .hbm => 9
  | .vmem => 15
  | .smem => 0
  | _ => 0

abbrev bufTy : (tb : Table) → Fin (tcTables nBuf tb) → BufTy
  | .hbm, ⟨0, _⟩ => ⟨S8192x2816, .bf16⟩
  | .hbm, ⟨1, _⟩ => ⟨S8192x2816, .bf16⟩
  | .hbm, ⟨2, _⟩ => ⟨S4x1024x1408, .bf16⟩
  | .hbm, ⟨3, _⟩ => ⟨S8192x1024, .f32⟩
  | .hbm, ⟨4, _⟩ => ⟨S1024, .f32⟩
  | .hbm, ⟨5, _⟩ => ⟨S8192x1024, .f32⟩
  | .hbm, ⟨6, _⟩ => ⟨S1x1024, .f32⟩
  | .hbm, ⟨7, _⟩ => ⟨S8192x1024, .f32⟩
  | .hbm, ⟨8, _⟩ => ⟨S1x1024, .f32⟩
  | .local _ .vmem, ⟨0, _⟩ => ⟨S1024x1408, .bf16⟩
  | .local _ .vmem, ⟨1, _⟩ => ⟨S1024x1408, .bf16⟩
  | .local _ .vmem, ⟨2, _⟩ => ⟨S1024x1408, .bf16⟩
  | .local _ .vmem, ⟨3, _⟩ => ⟨S1024x1408, .bf16⟩
  | .local _ .vmem, ⟨4, _⟩ => ⟨S1x1024x1408, .bf16⟩
  | .local _ .vmem, ⟨5, _⟩ => ⟨S1x1024x1408, .bf16⟩
  | .local _ .vmem, ⟨6, _⟩ => ⟨S1024x1024, .f32⟩
  | .local _ .vmem, ⟨7, _⟩ => ⟨S1024x1024, .f32⟩
  | .local _ .vmem, ⟨8, _⟩ => ⟨S1x1024, .f32⟩
  | .local _ .vmem, ⟨9, _⟩ => ⟨S1024x1024, .f32⟩
  | .local _ .vmem, ⟨10, _⟩ => ⟨S1024x1024, .f32⟩
  | .local _ .vmem, ⟨11, _⟩ => ⟨S1024x1024, .f32⟩
  | .local _ .vmem, ⟨12, _⟩ => ⟨S1024x1024, .f32⟩
  | .local _ .vmem, ⟨13, _⟩ => ⟨S1x1024, .f32⟩
  | .local _ .vmem, ⟨14, _⟩ => ⟨S1024x1024, .f32⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1_0 : Ref sig .tc := ⟨.hbm, 7, rfl⟩
abbrev main_v1_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13

abbrev nD : Nat := 1
abbrev τ : Topo := Topo.v7x

variable {F : FTy → Type} [FloatOps F]

abbrev grid0 : Pipeline.Grid := ⟨2, ![8, 4], ![false, false]⟩

def k0_cond4 (i : grid0.Coords) : BitVec 1 :=
  let arg1 : BitVec 32 := BitVec.ofNat 32 (i 1).val
  let c3_i32 : BitVec 32 := 3#32
  let v9 : BitVec 1 := Scalar.cmpi .eq arg1 c3_i32
  let v10 : BitVec 32 := Scalar.extui v9
  let c0_i32_4 : BitVec 32 := 0#32
  let v11 : BitVec 1 := Scalar.cmpi .ne v10 c0_i32_4
  v11

def k0_cond5 (i : grid0.Coords) : BitVec 1 :=
  let arg0 : BitVec 32 := BitVec.ofNat 32 (i 0).val
  let c0_i32_64 : BitVec 32 := 0#32
  let v159 : BitVec 1 := Scalar.cmpi .eq arg0 c0_i32_64
  let v160 : BitVec 32 := Scalar.extui v159
  let c0_i32_65 : BitVec 32 := 0#32
  let v161 : BitVec 1 := Scalar.cmpi .ne v160 c0_i32_65
  v161

def k0_cond6 (i : grid0.Coords) : BitVec 1 :=
  let arg0 : BitVec 32 := BitVec.ofNat 32 (i 0).val
  let c0_i32_66 : BitVec 32 := 0#32
  let v162 : BitVec 1 := Scalar.cmpi .sgt arg0 c0_i32_66
  let v163 : BitVec 32 := Scalar.extui v162
  let c0_i32_67 : BitVec 32 := 0#32
  let v164 : BitVec 1 := Scalar.cmpi .ne v163 c0_i32_67
  v164

def cc0_transform_0 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.minsi arg1 c1_i32
  let c0_i32 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.subi arg1 c2_i32
  let c0_i32 : BitVec 32 := 0#32
  let v1 : BitVec 32 := Scalar.maxsi v0 c0_i32
  let c0_i32_0 : BitVec 32 := 0#32
  ![arg0.toNat, v1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]
-- ==== Reference5Ideal.lean ====
abbrev S8192x2816 : Shape := ⟨2, ![8192, 2816]⟩
abbrev S4x1024x1408 : Shape := ⟨3, ![4, 1024, 1408]⟩
abbrev S8192x1024 : Shape := ⟨2, ![8192, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S1024x4x1408 : Shape := ⟨3, ![1024, 4, 1408]⟩
abbrev S1024x5632 : Shape := ⟨2, ![1024, 5632]⟩
abbrev S8192x5632 : Shape := ⟨2, ![8192, 5632]⟩

abbrev nBuf : Space → Nat
  | .hbm => 63
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S8192x2816, .bf16⟩
  | .hbm, ⟨2, _⟩ => ⟨S4x1024x1408, .bf16⟩
  | .hbm, ⟨3, _⟩ => ⟨S8192x1024, .f32⟩
  | .hbm, ⟨4, _⟩ => ⟨S1024, .f32⟩
  | .hbm, ⟨5, _⟩ => ⟨S8192x1024, .f32⟩
  | .hbm, ⟨6, _⟩ => ⟨S4x1024x1408, .f32⟩
  | .hbm, ⟨7, _⟩ => ⟨S8192x1024, .f32⟩
  | .hbm, ⟨8, _⟩ => ⟨S_, .f32⟩
  | .hbm, ⟨9, _⟩ => ⟨S8192, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S8192x1, .f32⟩
  | .hbm, ⟨19, _⟩ => ⟨S_, .f32⟩
  | .hbm, ⟨20, _⟩ => ⟨S8192x1, .f32⟩
  | .hbm, ⟨21, _⟩ => ⟨S8192x1, .f32⟩
  | .hbm, ⟨22, _⟩ => ⟨S8192x1024, .f32⟩
  | .hbm, ⟨23, _⟩ => ⟨S8192x1024, .f32⟩
  | .hbm, ⟨24, _⟩ => ⟨S1x1024, .f32⟩
  | .hbm, ⟨25, _⟩ => ⟨S8192x1024, .f32⟩
  | .hbm, ⟨26, _⟩ => ⟨S8192x1024, .f32⟩
  | .hbm, ⟨27, _⟩ => ⟨S1024x4x1408, .f32⟩
  | .hbm, ⟨28, _⟩ => ⟨S1024x5632, .f32⟩
  | .hbm, ⟨29, _⟩ => ⟨S8192x5632, .f32⟩
  | .hbm, ⟨30, _⟩ => ⟨S8192x2816, .f32⟩
  | .hbm, ⟨31, _⟩ => ⟨S8192x2816, .f32⟩
  | .hbm, ⟨32, _⟩ => ⟨S8192x2816, .f32⟩
  | .hbm, ⟨33, _⟩ => ⟨S8192x2816, .f32⟩
  | .hbm, ⟨34, _⟩ => ⟨S8192x5632, .f32⟩
  | .hbm, ⟨35, _⟩ => ⟨S8192x1024, .f32⟩
  | .hbm, ⟨36, _⟩ => ⟨S8192x1024, .f32⟩
  | .hbm, ⟨37, _⟩ => ⟨S_, .f32⟩
  | .hbm, ⟨38, _⟩ => ⟨S1024, .f32⟩
  | .hbm, ⟨39, _⟩ => ⟨S1x1024, .f32⟩
  | .hbm, ⟨40, _⟩ => ⟨S8192x1024, .f32⟩
  | .hbm, ⟨41, _⟩ => ⟨S8192x1024, .f32⟩
  | .hbm, ⟨42, _⟩ => ⟨S_, .f32⟩
  | .hbm, ⟨43, _⟩ => ⟨S1024, .f32⟩
  | .hbm, ⟨44, _⟩ => ⟨S8192x1024, .f32⟩
  | .hbm, ⟨45, _⟩ => ⟨S_, .f32⟩
  | .hbm, ⟨46, _⟩ => ⟨S8192, .f32⟩
  | .hbm, ⟨47, _⟩ => ⟨S8192x1, .f32⟩
  | .hbm, ⟨48, _⟩ => ⟨S8192x1024, .f32⟩
  | .hbm, ⟨49, _⟩ => ⟨S8192x1024, .f32⟩
  | .hbm, ⟨50, _⟩ => ⟨S8192x1024, .f32⟩
  | .hbm, ⟨51, _⟩ => ⟨S8192x1, .f32⟩
  | .hbm, ⟨52, _⟩ => ⟨S_, .f32⟩
  | .hbm, ⟨53, _⟩ => ⟨S8192x1, .f32⟩
  | .hbm, ⟨54, _⟩ => ⟨S8192x1, .f32⟩
  | .hbm, ⟨55, _⟩ => ⟨S_, .f32⟩
  | .hbm, ⟨56, _⟩ => ⟨S8192, .f32⟩
  | .hbm, ⟨57, _⟩ => ⟨S8192x1024, .f32⟩
  | .hbm, ⟨58, _⟩ => ⟨S8192x1024, .f32⟩
  | .hbm, ⟨59, _⟩ => ⟨S8192x1024, .f32⟩
  | .hbm, ⟨60, _⟩ => ⟨S8192x1024, .f32⟩
  | .hbm, ⟨61, _⟩ => ⟨S8192x1024, .f32⟩
  | .hbm, ⟨62, _⟩ => ⟨S1x1024, .f32⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_2 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_3 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst_4 : Ref sig .tc := ⟨.hbm, 42, rfl⟩
abbrev main_v31 : Ref sig .tc := ⟨.hbm, 43, rfl⟩
abbrev main_v32 : Ref sig .tc := ⟨.hbm, 44, rfl⟩
abbrev main_cst_5 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_cst_6 : Ref sig .tc := ⟨.hbm, 52, rfl⟩
abbrev main_v39 : Ref sig .tc := ⟨.hbm, 53, rfl⟩
abbrev main_v40 : Ref sig .tc := ⟨.hbm, 54, rfl⟩
abbrev main_cst_7 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩

abbrev nD : Nat := 1
abbrev τ : Topo := Topo.v7x

variable {F : FTy → Type} [FloatOps F]
-- ==== Kernel6.lean ====
abbrev S8192x1024 : Shape := ⟨2, ![8192, 1024]⟩
abbrev S4x1024x1408 : Shape := ⟨3, ![4, 1024, 1408]⟩
abbrev S8192x2816 : Shape := ⟨2, ![8192, 2816]⟩
abbrev S1024x1024 : Shape := ⟨2, ![1024, 1024]⟩
abbrev S1x1024x1408 : Shape := ⟨3, ![1, 1024, 1408]⟩
abbrev S1024x1408 : Shape := ⟨2, ![1024, 1408]⟩

abbrev nBuf : Space → Nat
  | .hbm => 5
  | .vmem => 12
  | .smem => 0
  | _ => 0

abbrev bufTy : (tb : Table) → Fin (tcTables nBuf tb) → BufTy
  | .hbm, ⟨0, _⟩ => ⟨S8192x1024, .bf16⟩
  | .hbm, ⟨1, _⟩ => ⟨S4x1024x1408, .bf16⟩
  | .hbm, ⟨2, _⟩ => ⟨S8192x2816, .bf16⟩
  | .hbm, ⟨3, _⟩ => ⟨S8192x2816, .bf16⟩
  | .hbm, ⟨4, _⟩ => ⟨S8192x2816, .bf16⟩
  | .local _ .vmem, ⟨0, _⟩ => ⟨S1024x1024, .bf16⟩
  | .local _ .vmem, ⟨1, _⟩ => ⟨S1024x1024, .bf16⟩
  | .local _ .vmem, ⟨2, _⟩ => ⟨S1x1024x1408, .bf16⟩
  | .local _ .vmem, ⟨3, _⟩ => ⟨S1x1024x1408, .bf16⟩
  | .local _ .vmem, ⟨4, _⟩ => ⟨S1x1024x1408, .bf16⟩
  | .local _ .vmem, ⟨5, _⟩ => ⟨S1x1024x1408, .bf16⟩
  | .local _ .vmem, ⟨6, _⟩ => ⟨S1024x1408, .bf16⟩
  | .local _ .vmem, ⟨7, _⟩ => ⟨S1024x1408, .bf16⟩
  | .local _ .vmem, ⟨8, _⟩ => ⟨S1024x1408, .bf16⟩
  | .local _ .vmem, ⟨9, _⟩ => ⟨S1024x1408, .bf16⟩
  | .local _ .vmem, ⟨10, _⟩ => ⟨S1024x1408, .bf16⟩
  | .local _ .vmem, ⟨11, _⟩ => ⟨S1024x1408, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v0_2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.addi arg0 c2_i32
  let c0_i32 : BitVec 32 := 0#32
  let c0_i32_0 : BitVec 32 := 0#32
  let c0_i32_1 : BitVec 32 := 0#32
  ![v0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x1408 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference6Ideal.lean ====
abbrev S8192x1024 : Shape := ⟨2, ![8192, 1024]⟩
abbrev S4x1024x1408 : Shape := ⟨3, ![4, 1024, 1408]⟩
abbrev S1024x4x1408 : Shape := ⟨3, ![1024, 4, 1408]⟩
abbrev S1024x5632 : Shape := ⟨2, ![1024, 5632]⟩
abbrev S8192x5632 : Shape := ⟨2, ![8192, 5632]⟩
abbrev S8192x2816 : Shape := ⟨2, ![8192, 2816]⟩
abbrev S_ : Shape := ⟨0, ![]⟩

abbrev nBuf : Space → Nat
  | .hbm => 22
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S4x1024x1408, .bf16⟩
  | .hbm, ⟨2, _⟩ => ⟨S8192x1024, .f32⟩
  | .hbm, ⟨3, _⟩ => ⟨S4x1024x1408, .f32⟩
  | .hbm, ⟨4, _⟩ => ⟨S1024x4x1408, .f32⟩
  | .hbm, ⟨5, _⟩ => ⟨S1024x5632, .f32⟩
  | .hbm, ⟨6, _⟩ => ⟨S8192x5632, .f32⟩
  | .hbm, ⟨7, _⟩ => ⟨S8192x2816, .f32⟩
  | .hbm, ⟨8, _⟩ => ⟨S8192x2816, .f32⟩
  | .hbm, ⟨9, _⟩ => ⟨S8192x2816, .bf16⟩
  | .hbm, ⟨10, _⟩ => ⟨S8192x2816, .bf16⟩
  | .hbm, ⟨11, _⟩ => ⟨S8192x2816, .f32⟩
  | .hbm, ⟨12, _⟩ => ⟨S8192x2816, .f32⟩
  | .hbm, ⟨13, _⟩ => ⟨S_, .f32⟩
  | .hbm, ⟨14, _⟩ => ⟨S8192x2816, .f32⟩
  | .hbm, ⟨15, _⟩ => ⟨S8192x2816, .f32⟩
  | .hbm, ⟨16, _⟩ => ⟨S_, .f32⟩
  | .hbm, ⟨17, _⟩ => ⟨S8192x2816, .f32⟩
  | .hbm, ⟨18, _⟩ => ⟨S8192x2816, .f32⟩
  | .hbm, ⟨19, _⟩ => ⟨S8192x2816, .f32⟩
  | .hbm, ⟨20, _⟩ => ⟨S8192x2816, .f32⟩
  | .hbm, ⟨21, _⟩ => ⟨S8192x2816, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_call0_v0 : Ref sig .tc := ⟨.hbm, 11, rfl⟩
abbrev main_call0_v1 : Ref sig .tc := ⟨.hbm, 12, rfl⟩
abbrev main_call0_cst : Ref sig .tc := ⟨.hbm, 13, rfl⟩
abbrev main_call0_v2 : Ref sig .tc := ⟨.hbm, 14, rfl⟩
abbrev main_call0_v3 : Ref sig .tc := ⟨.hbm, 15, rfl⟩
abbrev main_call0_cst_0 : Ref sig .tc := ⟨.hbm, 16, rfl⟩
abbrev main_call0_v4 : Ref sig .tc := ⟨.hbm, 17, rfl⟩
abbrev main_call0_v5 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩

abbrev nD : Nat := 1
abbrev τ : Topo := Topo.v7x

variable {F : FTy → Type} [FloatOps F]
-- ==== Proof.Tables.lean ====
/-
  The two tables the attention-gradient kernel's pipeline is driven by, and the grid read through them.

  The grid is six head pairs by thirty-six block pairs.  The tables list the block pairs `(i, j)` with `j ≤ i`, the key
  block `j` outermost: point `(p, u)` works on query block `rowB` and key block `colB` of head pair `p`.
-/
module

public import proofs.«01_k».proof.Proof.Gen.KernelIdeal.Launch
public import Idealize.ShloMosaic.Lib.Pipeline.Regions

@[expose] public section

set_option maxRecDepth 16384

noncomputable section

namespace Cert.Proof.Attn

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.Sem

variable {F : FTy → Type} [FloatOps F]

/-- The tables as the host writes them. -/
def tabs : pre0.Contents (Elt F) := fun
  | ⟨0, _⟩ => fun i => lit0 (S36.rowMajor i)
  | ⟨1, _⟩ => fun i => lit1 (S36.rowMajor i)

/-- The query block of a grid point. -/
def rowB (i : grid0.Coords) : ℕ := (lit0 (i 1)).toNat
/-- The key block of a grid point. -/
def colB (i : grid0.Coords) : ℕ := (lit1 (i 1)).toNat

theorem rowB_lt (i : grid0.Coords) : rowB i < 8 := by
  have h : ∀ u : Fin 36, (lit0 u).toNat < 8 := by decide +kernel
  exact h _
theorem colB_le (i : grid0.Coords) : colB i ≤ rowB i := by
  have h : ∀ u : Fin 36, (lit1 u).toNat ≤ (lit0 u).toNat := by decide +kernel
  exact h _
theorem colB_lt (i : grid0.Coords) : colB i < 8 := (colB_le i).trans_lt (rowB_lt i)
theorem pair_lt (i : grid0.Coords) : (i 0).val < 6 := (i 0).isLt

/-- The one index of a one-element rectangle of a table is the point's second coordinate. -/
theorem rowMajor_at (i : grid0.Coords) (x : S36.Idx) (h : (x 0).val = (i 1).val) : S36.rowMajor x = i 1 := by
  apply Fin.ext
  rw [← h]
  exact Shape.rowMajor_val_one x

theorem off1_val (i : grid0.Coords) : k0_off1 i 0 = (i 1).val := by
  have h : (i 1).val < 36 := (i 1).isLt
  show (BitVec.ofNat 32 (i 1).val).toNat = _
  rw [BitVec.toNat_ofNat]
  exact Nat.mod_eq_of_lt (by omega)

theorem tabs_at0 (i : grid0.Coords) :
    (tabs (F := F)).at 0 (Rect.unit (s := S36) (k0_off1 i) S1.size (k0_off1_inb i)) numel1_S1 = lit0 (i 1) := by
  show lit0 _ = lit0 _
  exact congrArg lit0 (rowMajor_at i _ (by
    show k0_off1 i 0 + 1 * 0 = _
    rw [off1_val]; rfl))
theorem tabs_at1 (i : grid0.Coords) :
    (tabs (F := F)).at 1 (Rect.unit (s := S36) (k0_off1 i) S1.size (k0_off1_inb i)) numel1_S1 = lit1 (i 1) := by
  show lit1 _ = lit1 _
  exact congrArg lit1 (rowMajor_at i _ (by
    show k0_off1 i 0 + 1 * 0 = _
    rw [off1_val]; rfl))

theorem pair_toNat (i : grid0.Coords) : (BitVec.ofNat 32 (i 0).val).toNat = (i 0).val := by
  have h := pair_lt i
  rw [BitVec.toNat_ofNat]
  exact Nat.mod_eq_of_lt (by omega)

/-! ## The index maps of the twelve windows -/

theorem tr0 (i : grid0.Coords) : cc0_transform_0 k0_off1_inb numel1_S1 (tabs (F := F)) i = ![rowB i, (i 0).val] := by
  have h : (0#32 + BitVec.ofNat 32 (i 0).val).toNat = (i 0).val := by rw [BitVec.zero_add]; exact pair_toNat i
  show ![BitVec.toNat ((tabs (F := F)).at 0 (Rect.unit (s := S36) (k0_off1 i) S1.size (k0_off1_inb i)) numel1_S1), _] = _
  rw [tabs_at0]; exact congrArg (fun n => ![rowB i, n]) h
theorem tr1 (i : grid0.Coords) : cc0_transform_1 k0_off1_inb numel1_S1 (tabs (F := F)) i = ![colB i, (i 0).val] := by
  have h : (0#32 + BitVec.ofNat 32 (i 0).val).toNat = (i 0).val := by rw [BitVec.zero_add]; exact pair_toNat i
  show ![BitVec.toNat ((tabs (F := F)).at 1 (Rect.unit (s := S36) (k0_off1 i) S1.size (k0_off1_inb i)) numel1_S1), _] = _
  rw [tabs_at1]; exact congrArg (fun n => ![colB i, n]) h
theorem tr2 (i : grid0.Coords) : cc0_transform_2 k0_off1_inb numel1_S1 (tabs (F := F)) i = ![colB i, 12 + (i 0).val] := by
  have h : (12#32 + BitVec.ofNat 32 (i 0).val).toNat = 12 + (i 0).val := by
    have := pair_lt i
    rw [BitVec.toNat_add, pair_toNat]; show (12 + _) % _ = _; omega
  show ![BitVec.toNat ((tabs (F := F)).at 1 (Rect.unit (s := S36) (k0_off1 i) S1.size (k0_off1_inb i)) numel1_S1), _] = _
  rw [tabs_at1]; exact congrArg (fun n => ![colB i, n]) h
theorem tr3 (i : grid0.Coords) : cc0_transform_3 k0_off1_inb numel1_S1 (tabs (F := F)) i = ![rowB i, (i 0).val] := by
  have h : (0#32 + BitVec.ofNat 32 (i 0).val).toNat = (i 0).val := by rw [BitVec.zero_add]; exact pair_toNat i
  show ![BitVec.toNat ((tabs (F := F)).at 0 (Rect.unit (s := S36) (k0_off1 i) S1.size (k0_off1_inb i)) numel1_S1), _] = _
  rw [tabs_at0]; exact congrArg (fun n => ![rowB i, n]) h
theorem tr4 (i : grid0.Coords) : cc0_transform_4 k0_off1_inb numel1_S1 (tabs (F := F)) i = ![(i 0).val, 0, rowB i, 0] := by
  show ![_, 0, BitVec.toNat ((tabs (F := F)).at 0 (Rect.unit (s := S36) (k0_off1 i) S1.size (k0_off1_inb i)) numel1_S1), 0] = _
  rw [tabs_at0]; exact congrArg (fun n => ![n, 0, rowB i, 0]) (pair_toNat i)
theorem tr5 (i : grid0.Coords) : cc0_transform_5 k0_off1_inb numel1_S1 (tabs (F := F)) i = ![(i 0).val, 0, rowB i, 0] := by
  show ![_, 0, BitVec.toNat ((tabs (F := F)).at 0 (Rect.unit (s := S36) (k0_off1 i) S1.size (k0_off1_inb i)) numel1_S1), 0] = _
  rw [tabs_at0]; exact congrArg (fun n => ![n, 0, rowB i, 0]) (pair_toNat i)
theorem tr6 (i : grid0.Coords) : cc0_transform_6 k0_off1_inb numel1_S1 (tabs (F := F)) i = ![(i 0).val, 0, 0, colB i] := by
  show ![_, 0, 0, BitVec.toNat ((tabs (F := F)).at 1 (Rect.unit (s := S36) (k0_off1 i) S1.size (k0_off1_inb i)) numel1_S1)] = _
  rw [tabs_at1]; exact congrArg (fun n => ![n, 0, 0, colB i]) (pair_toNat i)
theorem tr7 (i : grid0.Coords) : cc0_transform_7 i = ![0, (i 0).val] := congrArg (fun n => ![0, n]) (pair_toNat i)
theorem tr8 (i : grid0.Coords) : cc0_transform_8 k0_off1_inb numel1_S1 (tabs (F := F)) i = ![colB i, (i 0).val] := by
  show ![BitVec.toNat ((tabs (F := F)).at 1 (Rect.unit (s := S36) (k0_off1 i) S1.size (k0_off1_inb i)) numel1_S1), _] = _
  rw [tabs_at1]; exact congrArg (fun n => ![colB i, n]) (pair_toNat i)
theorem tr9 (i : grid0.Coords) : cc0_transform_9 k0_off1_inb numel1_S1 (tabs (F := F)) i = ![colB i, (i 0).val] := by
  show ![BitVec.toNat ((tabs (F := F)).at 1 (Rect.unit (s := S36) (k0_off1 i) S1.size (k0_off1_inb i)) numel1_S1), _] = _
  rw [tabs_at1]; exact congrArg (fun n => ![colB i, n]) (pair_toNat i)
theorem tr10 (i : grid0.Coords) : cc0_transform_10 k0_off1_inb numel1_S1 (tabs (F := F)) i = ![(i 0).val, 0, 0, colB i] := by
  show ![_, 0, 0, BitVec.toNat ((tabs (F := F)).at 1 (Rect.unit (s := S36) (k0_off1 i) S1.size (k0_off1_inb i)) numel1_S1)] = _
  rw [tabs_at1]; exact congrArg (fun n => ![n, 0, 0, colB i]) (pair_toNat i)
theorem tr11 (i : grid0.Coords) : cc0_transform_11 i = ![(i 0).val, 0, 0, 0] := congrArg (fun n => ![n, 0, 0, 0]) (pair_toNat i)

/-! ## The side condition of the tables -/

/-- Every block of two axes is inside its array. -/
theorem inb2 {x : Fin 2 → ℕ} {a b : ℕ} (hx : x = ![a, b]) {N M : ℕ} (ha : (a + 1) * 1024 ≤ N) (hb : (b + 1) * 128 ≤ M)
    (sz S : Fin 2 → ℕ) (hsz : sz = ![1024, 128]) (hS : S = ![N, M]) : ∀ k, (x k + 1) * sz k ≤ S k := by
  subst hx hsz hS
  intro k; fin_cases k
  · exact ha
  · exact hb

/-- A pair-packed block of an even number of rows moves whole words. -/
theorem words_bf16 (o : Fin 2 → ℕ) (a b : ℕ) (ho : o = ![a, b]) (ha : a < 8) (hb : b < 6)
    (h : ∀ k, (o k + 1) * S1024x128.size k ≤ S8192x768.size k) :
    (Rect.block (s := S8192x768) S1024x128.size o h).WholeWords (EltTy.packing .bf16) := by
  subst ho
  have H : ∀ (a : Fin 8) (b : Fin 6), ∀ h : (∀ k, ((![a.val, b.val] : Fin 2 → ℕ) k + 1) * S1024x128.size k ≤ S8192x768.size k),
      (Rect.block (s := S8192x768) S1024x128.size ![a.val, b.val] h).WholeWords (EltTy.packing .bf16) := by decide +kernel
  exact H ⟨a, ha⟩ ⟨b, hb⟩ h

theorem ok_tabs : ok0 (tabs (F := F)) := by
  have r := rowB_lt
  have c := colB_lt
  have p := pair_lt
  refine ⟨fun i => ?_, fun i => ?_, fun i => ?_, fun i => ?_, fun i => ?_, fun i => ?_, fun i => ?_, fun i => ?_, fun i => ?_, fun i => ?_⟩ <;>
    have r := r i <;> have c := c i <;> have p := p i
  · have h := inb2 (tr0 (F := F) i) (N := 8192) (M := 768) (by omega) (by omega) S1024x128.size S8192x768.size rfl rfl
    exact ⟨h, .inr (words_bf16 _ _ _ (tr0 i) r p h)⟩
  · have h := inb2 (tr1 (F := F) i) (N := 8192) (M := 768) (by omega) (by omega) S1024x128.size S8192x768.size rfl rfl
    exact ⟨h, .inr (words_bf16 _ _ _ (tr1 i) c p h)⟩
  · exact ⟨inb2 (tr2 (F := F) i) (N := 8192) (M := 2688) (by omega) (by omega) _ _ rfl rfl, .inl rfl⟩
  · exact ⟨inb2 (tr3 (F := F) i) (N := 8192) (M := 1024) (by omega) (by omega) _ _ rfl rfl, .inl rfl⟩
  · refine ⟨fun k => ?_, .inl rfl⟩
    rw [tr4]; fin_cases k
    · show ((i 0).val + 1) * 1 ≤ 6; omega
    · show (0 + 1) * 2 ≤ 2; omega
    · show (rowB i + 1) * 1024 ≤ 8192; omega
    · show (0 + 1) * 1 ≤ 1; omega
  · refine ⟨fun k => ?_, .inl rfl⟩
    rw [tr5]; fin_cases k
    · show ((i 0).val + 1) * 1 ≤ 6; omega
    · show (0 + 1) * 2 ≤ 2; omega
    · show (rowB i + 1) * 1024 ≤ 8192; omega
    · show (0 + 1) * 1 ≤ 1; omega
  · refine ⟨fun k => ?_, .inl rfl⟩
    rw [tr6]; fin_cases k
    · show ((i 0).val + 1) * 1 ≤ 6; omega
    · show (0 + 1) * 2 ≤ 2; omega
    · show (0 + 1) * 1 ≤ 1; omega
    · show (colB i + 1) * 1024 ≤ 8192; omega
  · exact ⟨inb2 (tr8 (F := F) i) (N := 8192) (M := 768) (by omega) (by omega) _ _ rfl rfl, .inl rfl⟩
  · exact ⟨inb2 (tr9 (F := F) i) (N := 8192) (M := 768) (by omega) (by omega) _ _ rfl rfl, .inl rfl⟩
  · refine ⟨fun k => ?_, .inl rfl⟩
    rw [tr10]; fin_cases k
    · show ((i 0).val + 1) * 1 ≤ 6; omega
    · show (0 + 1) * 2 ≤ 2; omega
    · show (0 + 1) * 1 ≤ 1; omega
    · show (colB i + 1) * 1024 ≤ 8192; omega

/-- The tables, with their side condition: what the pipeline is pinned at. -/
def adm : (pcfg0 (F := F)).Adm := ⟨tabs, ok_tabs⟩
abbrev adms : (p : Fin 1) → (pcfgs (F := F) p).Adm := fun _ => adm

/-- The pinned pipelines. -/
abbrev cfgs : Fin 1 → Pipeline.Cfg sig Λ₀ := Pipeline.pin (pcfgs (F := F)) adms

end Cert.Proof.Attn
-- ==== Proof.Step.lean ====
/-
  What one grid point of the attention-gradient kernel computes, as functions of the blocks it finds.

  At query block `r` and key block `s`, for each of the two heads of the pair (each head is one half of the 128
  lanes): the probabilities of the block, their gradients, and from these the contributions to the five results.
-/
module

public import proofs.«01_k».proof.Proof.Tables
public import proofs.«01_k».proof.Proof.Gen.KernelIdeal.Skeleton
public import Idealize.ShloMosaic.Lib.Tactic
public import Idealize.ShloMosaic.Lib.Pipeline.FrameBody
public import Idealize.ShloMosaic.Lib.Pipeline.Value

@[expose] public section

set_option maxRecDepth 16384

noncomputable section

namespace Cert.Proof.Attn

open Cert.KernelIdeal Cert.KernelIdeal.Gen
open Idealize.ShloMosaic Idealize.ShloMosaic.TcCoe

/-! ## A list of stores laid over a block -/

section Lay
variable {Val : EltTy → Type} {s : Shape} {e : EltTy}

/-- The contents after the stores of `L` (the last first) into a block that held `Y`. -/
def lay (Y : s.Idx → Val e) : List (View.Piece Val s e) → s.Idx → Val e
  | [] => Y
  | p :: L => p.1.overlay (lay Y L) p.2

/-- A buffer after stores reads as the stores laid over what it read before. -/
theorem read_writes_lay {sig : RefSig} {κ : Kind} {sp : Space} (v : View sig κ sp s e) (f : v.ty.Contents Val) :
    ∀ L : List (View.Piece Val s e), v.read Val (v.writes Val f L) = lay (v.read Val f) L
  | [] => rfl
  | p :: L => by
    funext y
    by_cases hy : y ∈ p.1.set
    · obtain ⟨r, w⟩ := p
      obtain ⟨x, rfl⟩ : ∃ x, r.emb x = y := r.exists_idx_of_mem hy
      rw [View.read_writes_cons_emb]
      exact (r.overlay_emb _ _ x).symm
    · rw [View.read_writes_cons_miss v f p L y hy, read_writes_lay v f L]
      exact (p.1.overlay_of_not_mem _ _ hy).symm

/-- A store of the whole block leaves its payload. -/
theorem lay_whole (Y : s.Idx → Val e) {off : Fin s.rank → Nat} (h : off = fun _ => 0)
    (inb : ∀ a, off a + s.size a ≤ s.size a) (w : s.Idx → Val e) (L : List (View.Piece Val s e)) :
    lay Y ((⟨Rect.unit off s.size inb, w⟩ : View.Piece Val s e) :: L) = w := by
  subst h; funext y
  have e := (Rect.whole s).overlay_emb (lay Y L) w y
  rw [Rect.emb_whole_apply] at e
  exact e

/-- A store through a rectangle of known offsets. -/
theorem lay_unit (Y : s.Idx → Val e) {off off' size : Fin s.rank → Nat} (h : off = off') (inb : ∀ a, off a + size a ≤ s.size a)
    (inb' : ∀ a, off' a + size a ≤ s.size a) (w : (Rect.unit off size inb).shape.Idx → Val e) (L : List (View.Piece Val s e)) :
    lay Y ((⟨Rect.unit off size inb, w⟩ : View.Piece Val s e) :: L) = (Rect.unit off' size inb').overlay (lay Y L) w := by
  subst h; rfl

/-- A load through a rectangle of known offsets. -/
theorem ld_unit_congr (Y : s.Idx → Val e) {off off' size : Fin s.rank → Nat} (h : off = off') (inb : ∀ a, off a + size a ≤ s.size a)
    (inb' : ∀ a, off' a + size a ≤ s.size a) :
    (View.ld Y (Rect.unit off size inb) : (⟨s.rank, size⟩ : Shape).Idx → Val e) = View.ld Y (Rect.unit off' size inb') := by
  subst h; rfl

/-- A load beside a store reads what was there before it. -/
theorem ld_overlay_disjoint (Y : s.Idx → Val e) (p p' : Rect s) (w : p.shape.Idx → Val e) (h : ∀ x, p'.idx x ∉ p.set) :
    View.ld (p.overlay Y w) p' = View.ld Y p' := funext fun x => p.overlay_of_not_mem _ _ (h x)

theorem overlay_congr (p : Rect s) (Y : s.Idx → Val e) {w w' : p.shape.Idx → Val e} (h : w = w') : p.overlay Y w = p.overlay Y w' := by
  rw [h]

theorem overlay2_congr (p p' : Rect s) {Y Y' : s.Idx → Val e} (hY : Y = Y') {w w' : p.shape.Idx → Val e} {u u' : p'.shape.Idx → Val e}
    (h : w = w') (h' : u = u') : p'.overlay (p.overlay Y w) u = p'.overlay (p.overlay Y' w') u' := by
  rw [hY, h, h']

end Lay

variable {F : FTy → Type} [FloatOps F]

/-- The blocks a point reads: the scaled queries, the keys, the values, the incoming gradient, the logarithms of the
    softmax sums, the sums of the output times its gradient, and the decay sums. -/
structure Blk (F : FTy → Type) where
  q : Vec F S1024x128 .bf16
  k : Vec F S1024x128 .bf16
  v : Vec F S1024x128 .f32
  o : Vec F S1024x128 .f32
  l : Vec F S1x2x1024x1 .f32
  dl : Vec F S1x2x1024x1 .f32
  ck : Vec F S1x2x1x1024 .f32

/-- The lanes of a head. -/
def half : Fin 2 → IVec S1024x128 1
  | 0 => cmpi .slt (iota .tc S1024x128 32 [1] iota_S1024x128_d1_w32) (broadcast S1024x128 64#32)
  | 1 => xori (cmpi .slt (iota .tc S1024x128 32 [1] iota_S1024x128_d1_w32) (broadcast S1024x128 64#32)) (constantI S1024x128 1 1#1)

def zeroB : FVec F S1024x128 .bf16 := broadcast S1024x128 (Scalar.ofBits .bf16 0x0000#16)

theorem hl_inb (a : Fin 2) : ∀ x, (![0, a.val, 0, 0] : Fin 4 → ℕ) x + S1x1x1024x1.size x ≤ S1x2x1024x1.size x := by
  revert a; decide
theorem hc_inb (a : Fin 2) : ∀ x, (![0, a.val, 0, 0] : Fin 4 → ℕ) x + S1x1x1x1024.size x ≤ S1x2x1x1024.size x := by
  revert a; decide
theorem rq_inb (r : Fin 8) : ∀ x, (![r.val * 1024, 0] : Fin 2 → ℕ) x + S1024x128.size x ≤ S8192x128.size x := by
  revert r; decide
theorem rr_inb (a : Fin 2) (r : Fin 8) :
    ∀ x, (![0, a.val, r.val * 1024, 0] : Fin 4 → ℕ) x + S1x1x1024x128.size x ≤ S1x2x8192x128.size x := by
  revert a r; decide

/-- A head's column of row statistics. -/
def hl (a : Fin 2) : Rect S1x2x1024x1 := Rect.unit (s := S1x2x1024x1) ![0, a.val, 0, 0] S1x1x1024x1.size (hl_inb a)
/-- A head's row of column statistics. -/
def hc (a : Fin 2) : Rect S1x2x1x1024 := Rect.unit (s := S1x2x1x1024) ![0, a.val, 0, 0] S1x1x1x1024.size (hc_inb a)
/-- The rows of query block `r`. -/
def rq (r : Fin 8) : Rect S8192x128 := Rect.unit (s := S8192x128) ![r.val * 1024, 0] S1024x128.size (rq_inb r)
/-- The rows of query block `r` of a head. -/
def rr (a : Fin 2) (r : Fin 8) : Rect S1x2x8192x128 :=
  Rect.unit (s := S1x2x8192x128) ![0, a.val, r.val * 1024, 0] S1x1x1024x128.size (rr_inb a r)

namespace Blk
variable (B : Blk F)

def qh (a : Fin 2) : FVec F S1024x128 .bf16 := select (half a) (shapeCast S1024x128 B.q shapeCasts_S1024x128_S1024x128) zeroB
def kf : FVec F S1024x128 .bf16 := shapeCast S1024x128 B.k shapeCasts_S1024x128_S1024x128
def kh (a : Fin 2) : FVec F S1024x128 .bf16 := select (half a) B.kf zeroB
def vf : FVec F S1024x128 .bf16 := truncf .bf16 B.v bitsLt_bf16_f32
def oh (a : Fin 2) : FVec F S1024x128 .bf16 := select (half a) (truncf .bf16 B.o bitsLt_bf16_f32 : FVec F S1024x128 .bf16) zeroB

/-- The probabilities of the block, no key masked. -/
def ex (a : Fin 2) : FVec F S1024x1024 .f32 :=
  exp (subf (subf (matmul dot_S1024x128_S1024x128_S1024x1024_1_1_0_0_n_n none (B.qh a) B.kf (constant S1024x1024 .f32 0x00000000#32))
    (broadcastTo S1024x1024 (shapeCast S1x1024 (View.ld B.ck (hc a)) shapeCasts_S1x1x1x1024_S1x1024) broadcasts_S1x1024_S1024x1024))
    (broadcastTo S1024x1024 (shapeCast S1024x1 (View.ld B.l (hl a)) shapeCasts_S1x1x1024x1_S1024x1) broadcasts_S1024x1_S1024x1024))

/-- The keys at or before each query, of query block `w` and key block `u`. -/
def causal (w u : BitVec 32) : IVec S1024x1024 1 :=
  cmpi .sle
    (addi (broadcast S1024x1024 (Scalar.muli u 1024#32)) (iota .tc S1024x1024 32 [1] iota_S1024x1024_d1_w32))
    (addi (broadcast S1024x1024 (Scalar.addi (Scalar.muli w 1024#32) 0#32)) (iota .tc S1024x1024 32 [0] iota_S1024x1024_d0_w32))

/-- The probabilities of the block. -/
def pr (r s : Fin 8) (a : Fin 2) : FVec F S1024x1024 .f32 :=
  if r = s then select (causal (BitVec.ofNat 32 r.val) (BitVec.ofNat 32 s.val)) (B.ex a) (broadcast S1024x1024 (Scalar.ofBits .f32 0x00000000#32)) else B.ex a

/-- The gradients of the logits of a block of probabilities `P`. -/
def dsOf (P : FVec F S1024x1024 .f32) (a : Fin 2) : FVec F S1024x1024 .f32 :=
  mulf P (subf (matmul dot_S1024x128_S1024x128_S1024x1024_1_1_0_0_n_n none (B.oh a) B.vf (constant S1024x1024 .f32 0x00000000#32))
    (broadcastTo S1024x1024 (shapeCast S1024x1 (View.ld B.dl (hl a)) shapeCasts_S1x1x1024x1_S1024x1) broadcasts_S1024x1_S1024x1024))

/-- The gradients of the block's logits. -/
def ds (r s : Fin 8) (a : Fin 2) : FVec F S1024x1024 .f32 := B.dsOf (B.pr r s a) a

def dvC (r s : Fin 8) (a : Fin 2) : FVec F S1024x128 .f32 :=
  matmul dot_S1024x1024_S1024x128_S1024x128_0_0_1_1_n_n none (truncf .bf16 (B.pr r s a) bitsLt_bf16_f32 : FVec F S1024x1024 .bf16) (B.oh a)
    (constant S1024x128 .f32 0x00000000#32)
def dkC (r s : Fin 8) (a : Fin 2) : FVec F S1024x128 .f32 :=
  matmul dot_S1024x1024_S1024x128_S1024x128_0_0_1_1_n_n none (truncf .bf16 (B.ds r s a) bitsLt_bf16_f32 : FVec F S1024x1024 .bf16) (B.qh a)
    (constant S1024x128 .f32 0x00000000#32)
def dqC (r s : Fin 8) (a : Fin 2) : FVec F S1024x128 .f32 :=
  mulf (matmul dot_S1024x1024_S1024x128_S1024x128_1_0_0_1_n_n none (truncf .bf16 (B.ds r s a) bitsLt_bf16_f32 : FVec F S1024x1024 .bf16) (B.kh a)
    (constant S1024x128 .f32 0x00000000#32)) (broadcast S1024x128 (Scalar.ofBits .f32 0x3E000000#32))
def colC (r s : Fin 8) (a : Fin 2) : FVec F S1x1024 .f32 :=
  shapeCast S1x1024 (multiReduction .add [0] S1024 (B.ds r s a) 0x00000000#32 reduces_S1024x1024_S1024 (.inl rfl) rfl) shapeCasts_S1024_S1x1024

/-- The eight lane groups of a block of gradients, added. -/
def fold8 (d : FVec F S1024x1024 .f32) : FVec F S1024x128 .f32 :=
  addf (addf (addf (addf (addf (addf (addf (extractStridedSlice S1024x128 ![0, 0] d slices_S1024x1024_o0_0_S1024x128)
    (extractStridedSlice S1024x128 ![0, 128] d slices_S1024x1024_o0_128_S1024x128))
    (extractStridedSlice S1024x128 ![0, 256] d slices_S1024x1024_o0_256_S1024x128))
    (extractStridedSlice S1024x128 ![0, 384] d slices_S1024x1024_o0_384_S1024x128))
    (extractStridedSlice S1024x128 ![0, 512] d slices_S1024x1024_o0_512_S1024x128))
    (extractStridedSlice S1024x128 ![0, 640] d slices_S1024x1024_o0_640_S1024x128))
    (extractStridedSlice S1024x128 ![0, 768] d slices_S1024x1024_o0_768_S1024x128))
    (extractStridedSlice S1024x128 ![0, 896] d slices_S1024x1024_o0_896_S1024x128)

def rowC (r s : Fin 8) (a : Fin 2) : FVec F S1024x128 .f32 := fold8 (B.ds r s a)

end Blk

/-! ## What the point leaves in the five result buffers -/

/-- What a buffer of the key block holds before the point adds to it: zeros at the key block's first point. -/
def base (r s : Fin 8) {S : Shape} (Z Y : FVec F S .f32) : FVec F S .f32 := if r = s then Z else Y

/-- A rectangle of a block. -/
abbrev ldf {S : Shape} (Y : FVec F S .f32) (r : Rect S) : FVec F r.shape .f32 := fun x => Y (r.idx x)

def zeroF : FVec F S1024x128 .f32 := broadcast S1024x128 (Scalar.ofBits .f32 0x00000000#32)
def zeroC : FVec F S1x2x1x1024 .f32 :=
  shapeCast S1x2x1x1024 (broadcast S2x1x1024 (Scalar.ofBits .f32 0x00000000#32 : F .f32)) shapeCasts_S2x1x1024_S1x2x1x1024

def accB (Y X : FVec F S1024x128 .f32) : FVec F S1024x128 .f32 := addf (shapeCast S1024x128 Y shapeCasts_S1024x128_S1024x128) X
def accC (Y : FVec F S1x1x1x1024 .f32) (X : FVec F S1x1024 .f32) : FVec F S1x1x1x1024 .f32 :=
  shapeCast S1x1x1x1024 (addf (shapeCast S1x1024 Y shapeCasts_S1x1x1x1024_S1x1024) X) shapeCasts_S1x1024_S1x1x1x1024
def accR (Y : FVec F S1x1x1024x128 .f32) (X : FVec F S1024x128 .f32) : FVec F S1x1x1024x128 .f32 :=
  shapeCast S1x1x1024x128 (addf (shapeCast S1024x128 Y shapeCasts_S1x1x1024x128_S1024x128) X) shapeCasts_S1024x128_S1x1x1024x128
def setR (X : FVec F S1024x128 .f32) : FVec F S1x1x1024x128 .f32 := shapeCast S1x1x1024x128 X shapeCasts_S1024x128_S1x1x1024x128

def dvStep (r s : Fin 8) (B : Blk F) (Y : FVec F S1024x128 .f32) : FVec F S1024x128 .f32 :=
  accB (base r s zeroF Y) (addf (B.dvC r s 0) (B.dvC r s 1))
def dkStep (r s : Fin 8) (B : Blk F) (Y : FVec F S1024x128 .f32) : FVec F S1024x128 .f32 :=
  accB (base r s zeroF Y) (addf (B.dkC r s 0) (B.dkC r s 1))
def dcStep (r s : Fin 8) (B : Blk F) (Y : FVec F S1x2x1x1024 .f32) : FVec F S1x2x1x1024 .f32 :=
  (hc 1).overlay ((hc 0).overlay (base r s zeroC Y) (accC (ldf (base r s zeroC Y) (hc 0)) (B.colC r s 0)))
    (accC (ldf (base r s zeroC Y) (hc 1)) (B.colC r s 1))
/-- What the point writes over the rows `Y` of the queries' gradient. -/
def dqPart (s : Fin 8) (Y X : FVec F S1024x128 .f32) : FVec F S1024x128 .f32 := if s = 0 then X else accB Y X

def dqStep (r s : Fin 8) (B : Blk F) (Y : FVec F S8192x128 .f32) : FVec F S8192x128 .f32 :=
  (rq r).overlay Y (dqPart s (ldf Y (rq r)) (addf (B.dqC r s 0) (B.dqC r s 1)))
/-- What the point writes over the rows `Y` of the row sums. -/
def drPart (s : Fin 8) (Y : FVec F S1x1x1024x128 .f32) (X : FVec F S1024x128 .f32) : FVec F S1x1x1024x128 .f32 :=
  if s = 0 then setR X else accR Y X

def drStep (r s : Fin 8) (B : Blk F) (Y : FVec F S1x2x8192x128 .f32) : FVec F S1x2x8192x128 .f32 :=
  (rr 1 r).overlay ((rr 0 r).overlay Y (drPart s (ldf Y (rr 0 r)) (B.rowC r s 0))) (drPart s (ldf Y (rr 1 r)) (B.rowC r s 1))

theorem drPart_first {s : Fin 8} (h : s = 0) (Y : FVec F S1x1x1024x128 .f32) (X : FVec F S1024x128 .f32) : drPart s Y X = setR X := if_pos h
theorem drPart_later {s : Fin 8} (h : s ≠ 0) (Y : FVec F S1x1x1024x128 .f32) (X : FVec F S1024x128 .f32) : drPart s Y X = accR Y X := if_neg h

theorem dqPart_first {s : Fin 8} (h : s = 0) (Y X : FVec F S1024x128 .f32) : dqPart s Y X = X := if_pos h
theorem dqPart_later {s : Fin 8} (h : s ≠ 0) (Y X : FVec F S1024x128 .f32) : dqPart s Y X = accB Y X := if_neg h

end Cert.Proof.Attn
-- ==== Proof.Body.lean ====
/-
  The attention-gradient kernel's body run at one grid point: from the blocks it finds to what it leaves, in the
  four cases of its conditions (the block on the diagonal or under it, the key block the first or a later one).
-/
module

public import proofs.«01_k».proof.Proof.Step

@[expose] public section

set_option maxRecDepth 16384

noncomputable section

namespace Cert.Proof.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]
local notation "𝕄" => MT nD τ sig Unit (Elt F) ℕ (UR sig nD τ) ℕ

/-- The fourteen buffers of a point and what they hold. -/
abbrev bufs (c : Dev nD) (arg2 arg3 : Memref sig .tc .smem S36 .i32) (arg4 arg5 : Memref sig .tc .vmem S1024x128 .bf16)
    (arg6 arg7 : Memref sig .tc .vmem S1024x128 .f32) (arg8 arg9 : Memref sig .tc .vmem S1x2x1024x1 .f32)
    (arg10 : Memref sig .tc .vmem S1x2x1x1024 .f32) (arg11 : Memref sig .tc .vmem S8192x128 .f32)
    (arg12 arg13 : Memref sig .tc .vmem S1024x128 .f32) (arg14 : Memref sig .tc .vmem S1x2x1x1024 .f32)
    (arg15 : Memref sig .tc .vmem S1x2x8192x128 .f32) (T0 T1 : Vec F S36 .i32) (B : Blk F) (dq : Vec F S8192x128 .f32)
    (dk dv : Vec F S1024x128 .f32) (dcs : Vec F S1x2x1x1024 .f32) (drs : Vec F S1x2x8192x128 .f32) : sProp 𝕄 :=
  iprop(owns (c : Thread nD τ) arg2 fullShare T0 ∗ owns (c : Thread nD τ) arg3 fullShare T1
    ∗ owns (c : Thread nD τ) arg4 fullShare B.q ∗ owns (c : Thread nD τ) arg5 fullShare B.k
    ∗ owns (c : Thread nD τ) arg6 fullShare B.v ∗ owns (c : Thread nD τ) arg7 fullShare B.o
    ∗ owns (c : Thread nD τ) arg8 fullShare B.l ∗ owns (c : Thread nD τ) arg9 fullShare B.dl ∗ owns (c : Thread nD τ) arg10 fullShare B.ck
    ∗ owns (c : Thread nD τ) arg11 fullShare dq ∗ owns (c : Thread nD τ) arg12 fullShare dk ∗ owns (c : Thread nD τ) arg13 fullShare dv
    ∗ owns (c : Thread nD τ) arg14 fullShare dcs ∗ owns (c : Thread nD τ) arg15 fullShare drs)

/-- The word of a table at a grid point. -/
abbrev word (T : Vec F S36 .i32) (i : grid0.Coords) : BitVec 32 :=
  T ((Rect.unit (s := S36) (k0_off1 i) S1.size (k0_off1_inb i)).emb (Shape.Idx.first (numel1_S1.symm ▸ Nat.one_pos)))

section Args
variable (c : Dev nD) (i : grid0.Coords) (arg2 arg3 : Memref sig .tc .smem S36 .i32) (h2 : arg2.IsWhole) (h3 : arg3.IsWhole)
    (arg4 arg5 : Memref sig .tc .vmem S1024x128 .bf16) (h4 : arg4.IsWhole) (h5 : arg5.IsWhole)
    (arg6 arg7 : Memref sig .tc .vmem S1024x128 .f32) (h6 : arg6.IsWhole) (h7 : arg7.IsWhole)
    (arg8 arg9 : Memref sig .tc .vmem S1x2x1024x1 .f32) (h8 : arg8.IsWhole) (h9 : arg9.IsWhole)
    (arg10 : Memref sig .tc .vmem S1x2x1x1024 .f32) (h10 : arg10.IsWhole)
    (arg11 : Memref sig .tc .vmem S8192x128 .f32) (h11 : arg11.IsWhole)
    (arg12 arg13 : Memref sig .tc .vmem S1024x128 .f32) (h12 : arg12.IsWhole) (h13 : arg13.IsWhole)
    (arg14 : Memref sig .tc .vmem S1x2x1x1024 .f32) (h14 : arg14.IsWhole)
    (arg15 : Memref sig .tc .vmem S1x2x8192x128 .f32) (h15 : arg15.IsWhole)
    (T0 T1 : Vec F S36 .i32) (q k : Vec F S1024x128 .bf16) (v o : Vec F S1024x128 .f32) (l dl : Vec F S1x2x1024x1 .f32)
    (ck : Vec F S1x2x1x1024 .f32) (dq : Vec F S8192x128 .f32) (dk dv : Vec F S1024x128 .f32) (dcs : Vec F S1x2x1x1024 .f32)
    (drs : Vec F S1x2x8192x128 .f32) (r s : Fin 8) (e1 : word T0 i = BitVec.ofNat 32 r.val) (e3 : word T1 i = BitVec.ofNat 32 s.val)

theorem hz2 : (![0, 0] : Fin 2 → Nat) = fun _ => 0 := funext fun a => by fin_cases a <;> rfl

theorem hz4 : (![0, 0, 0, 0] : Fin 4 → Nat) = fun _ => 0 := funext fun a => by fin_cases a <;> rfl
theorem k0_off2_at (r : Fin 8) : k0_off2 (BitVec.ofNat 32 r.val) = ![r.val * 1024, 0] := by
  revert r; decide +kernel
theorem k0_off3_at (r : Fin 8) : k0_off3 (BitVec.ofNat 32 r.val) = ![0, 0, r.val * 1024, 0] := by
  revert r; decide +kernel
theorem k0_off4_at (r : Fin 8) : k0_off4 (BitVec.ofNat 32 r.val) = ![0, 1, r.val * 1024, 0] := by
  revert r; decide +kernel
theorem k0_off5_at (r : Fin 8) : k0_off5 (BitVec.ofNat 32 r.val) = ![r.val * 1024, 0] := by
  revert r; decide +kernel
theorem k0_off6_at (r : Fin 8) : k0_off6 (BitVec.ofNat 32 r.val) = ![0, 0, r.val * 1024, 0] := by
  revert r; decide +kernel
theorem k0_off7_at (r : Fin 8) : k0_off7 (BitVec.ofNat 32 r.val) = ![0, 1, r.val * 1024, 0] := by
  revert r; decide +kernel
theorem k0_off8_at (r : Fin 8) : k0_off8 (BitVec.ofNat 32 r.val) = ![r.val * 1024, 0] := by
  revert r; decide +kernel
theorem k0_off9_at (r : Fin 8) : k0_off9 (BitVec.ofNat 32 r.val) = ![0, 0, r.val * 1024, 0] := by
  revert r; decide +kernel
theorem k0_off10_at (r : Fin 8) : k0_off10 (BitVec.ofNat 32 r.val) = ![0, 1, r.val * 1024, 0] := by
  revert r; decide +kernel
theorem k0_off11_at (r : Fin 8) : k0_off11 (BitVec.ofNat 32 r.val) = ![r.val * 1024, 0] := by
  revert r; decide +kernel
theorem k0_off12_at (r : Fin 8) : k0_off12 (BitVec.ofNat 32 r.val) = ![0, 0, r.val * 1024, 0] := by
  revert r; decide +kernel
theorem k0_off13_at (r : Fin 8) : k0_off13 (BitVec.ofNat 32 r.val) = ![0, 1, r.val * 1024, 0] := by
  revert r; decide +kernel

/-- The two heads' rows of column statistics lie apart. -/
theorem hc_apart (x : (hc 1).shape.Idx) : (hc 1).idx x ∉ (hc 0).set := by
  intro h
  obtain ⟨y, hy⟩ := (hc 0).exists_idx_of_mem h
  have e := congrArg (fun j => (j 1).val) hy
  have e' : (0 + 1 * (y 1).val : ℕ) = 1 + 1 * (x 1).val := e
  have : (y 1).val < 1 := (y 1).isLt
  omega

/-- The two heads' rows of row sums lie apart. -/
theorem rr_apart (r : Fin 8) (x : (rr 1 r).shape.Idx) : (rr 1 r).idx x ∉ (rr 0 r).set := by
  intro h
  obtain ⟨y, hy⟩ := (rr 0 r).exists_idx_of_mem h
  have e := congrArg (fun j => (j 1).val) hy
  have e' : (0 + 1 * (y 1).val : ℕ) = 1 + 1 * (x 1).val := e
  have : (y 1).val < 1 := (y 1).isLt
  omega

/-- A load of a whole block reads the block. -/
theorem readAt_whole2 {sp : Space} {e : EltTy} (m : Memref sig .tc sp S1024x128 e) (f : m.view.ty.Contents (Elt F))
    (inb : ∀ a, (![0, 0] : Fin 2 → ℕ) a + S1024x128.size a ≤ S1024x128.size a) :
    m.view.readAt (Elt F) (Rect.unit (s := S1024x128) ![0, 0] S1024x128.size inb).toLoadRect f = m.view.read (Elt F) f :=
  View.ld_unit_zero (S := S1024x128) hz2 inb _

theorem readAt_rows (m : Memref sig .tc .vmem S8192x128 .f32) (f : m.view.ty.Contents (Elt F)) (r : Fin 8) {o : Fin 2 → ℕ}
    (h : o = ![r.val * 1024, 0]) (i : ∀ a, o a + S1024x128.size a ≤ S8192x128.size a) :
    (m.view.readAt (Elt F) (Rect.unit (s := S8192x128) o S1024x128.size i).toLoadRect f : FVec F S1024x128 .f32)
      = ldf (F := F) (m.view.read (Elt F) f) (rq r) := by
  subst h; rfl

theorem readAt_rows0 (m : Memref sig .tc .vmem S1x2x8192x128 .f32) (f : m.view.ty.Contents (Elt F)) (r : Fin 8) {o : Fin 4 → ℕ}
    (h : o = ![0, 0, r.val * 1024, 0]) (i : ∀ a, o a + S1x1x1024x128.size a ≤ S1x2x8192x128.size a) :
    (m.view.readAt (Elt F) (Rect.unit (s := S1x2x8192x128) o S1x1x1024x128.size i).toLoadRect f : FVec F S1x1x1024x128 .f32)
      = ldf (F := F) (m.view.read (Elt F) f) (rr 0 r) := by
  subst h; rfl

/-- The second head's rows, read after the first head's were stored. -/
theorem readAt_rows1 (m : Memref sig .tc .vmem S1x2x8192x128 .f32) (f : m.view.ty.Contents (Elt F)) (r : Fin 8) {o p : Fin 4 → ℕ}
    (h : o = ![0, 1, r.val * 1024, 0]) (h' : p = ![0, 0, r.val * 1024, 0]) (i : ∀ a, o a + S1x1x1024x128.size a ≤ S1x2x8192x128.size a)
    (i' : ∀ a, p a + S1x1x1024x128.size a ≤ S1x2x8192x128.size a) (w : (Rect.unit (s := S1x2x8192x128) p S1x1x1024x128.size i').shape.Idx → Elt F .f32) :
    (m.view.readAt (Elt F) (Rect.unit (s := S1x2x8192x128) o S1x1x1024x128.size i).toLoadRect
        (m.view.writes (Elt F) f [⟨Rect.unit (s := S1x2x8192x128) p S1x1x1024x128.size i', w⟩]) : FVec F S1x1x1024x128 .f32)
      = ldf (F := F) (m.view.read (Elt F) f) (rr 1 r) := by
  subst h; subst h'
  funext x
  show m.view.read (Elt F) (m.view.writes (Elt F) f _) ((rr 1 r).idx x) = _
  rw [read_writes_lay]
  exact Rect.overlay_of_not_mem _ _ _ (rr_apart r x)

theorem chk_of_le {r s : Fin 8} (h : s ≤ r) : k0_chk1 (BitVec.ofNat 32 r.val) (BitVec.ofNat 32 s.val) := by
  revert r s; decide +kernel
theorem cond1_of {r s : Fin 8} : k0_cond1 (BitVec.ofNat 32 r.val) (BitVec.ofNat 32 s.val) = 1#1 ↔ r = s := by
  revert r s; decide +kernel
theorem cond2_of {r s : Fin 8} (h : s ≤ r) : k0_cond2 (BitVec.ofNat 32 r.val) (BitVec.ofNat 32 s.val) = 1#1 ↔ r = s := by
  revert r s; decide +kernel
theorem cond3_of {s : Fin 8} : k0_cond3 (BitVec.ofNat 32 s.val) = 1#1 ↔ s = 0 := by
  revert s; decide +kernel
theorem cond4_of {s : Fin 8} : k0_cond4 (BitVec.ofNat 32 s.val) = 1#1 ↔ s ≠ 0 := by
  revert s; decide +kernel
theorem cond5_of {r s : Fin 8} (h : s ≤ r) : k0_cond5 (BitVec.ofNat 32 r.val) (BitVec.ofNat 32 s.val) = 1#1 ↔ r ≠ s := by
  revert r s; decide +kernel
theorem cond6_of {s : Fin 8} : k0_cond6 (BitVec.ofNat 32 s.val) = 1#1 ↔ s = 0 := by
  revert s; decide +kernel
theorem cond7_of {s : Fin 8} : k0_cond7 (BitVec.ofNat 32 s.val) = 1#1 ↔ s ≠ 0 := by
  revert s; decide +kernel

set_option maxHeartbeats 1000000 in
set_option sl_exec.resultNames true in
include e1 e3 in
theorem runA (hsr : s ≤ r) (hd : r = s) (h0 : s = 0) :
    bufs c arg2 arg3 arg4 arg5 arg6 arg7 arg8 arg9 arg10 arg11 arg12 arg13 arg14 arg15 T0 T1 ⟨q, k, v, o, l, dl, ck⟩ dq dk dv dcs drs
      ⊢ wp frame (wpE (defs₀ (F := F)) Variants.none c none) Set.univ
          (cc0_l0_fox_dattn i arg2 h2 arg3 h3 arg4 h4 arg5 h5 arg6 h6 arg7 h7 arg8 h8 arg9 h9 arg10 h10 arg11 h11 arg12 h12 arg13 h13 arg14 h14 arg15 h15)
          (fun _ => bufs c arg2 arg3 arg4 arg5 arg6 arg7 arg8 arg9 arg10 arg11 arg12 arg13 arg14 arg15 T0 T1 ⟨q, k, v, o, l, dl, ck⟩
            (dqStep r s ⟨q, k, v, o, l, dl, ck⟩ dq) (dkStep r s ⟨q, k, v, o, l, dl, ck⟩ dk) (dvStep r s ⟨q, k, v, o, l, dl, ck⟩ dv)
            (dcStep r s ⟨q, k, v, o, l, dl, ck⟩ dcs) (drStep r s ⟨q, k, v, o, l, dl, ck⟩ drs)) := by
  have hk := chk_of_le hsr
  have c1 : k0_cond1 (BitVec.ofNat 32 r.val) (BitVec.ofNat 32 s.val) = 1#1 := cond1_of.2 hd
  have c2 : k0_cond2 (BitVec.ofNat 32 r.val) (BitVec.ofNat 32 s.val) = 1#1 := (cond2_of hsr).2 hd
  have c3 : k0_cond3 (BitVec.ofNat 32 s.val) = 1#1 := cond3_of.2 h0
  have c4 : ¬ k0_cond4 (BitVec.ofNat 32 s.val) = 1#1 := fun h => cond4_of.1 h h0
  have c5 : ¬ k0_cond5 (BitVec.ofNat 32 r.val) (BitVec.ofNat 32 s.val) = 1#1 := fun h => (cond5_of hsr).1 h hd
  rw [cc0_l0_fox_dattn_eq_skeleton]; unfold cc0_l0_fox_dattn_skel
  unfold bufs owns
  iintro ⟨⟨%f2, %g2, H2⟩, ⟨%f3, %g3, H3⟩, ⟨%f4, %g4, H4⟩, ⟨%f5, %g5, H5⟩, ⟨%f6, %g6, H6⟩, ⟨%f7, %g7, H7⟩, ⟨%f8, %g8, H8⟩, ⟨%f9, %g9, H9⟩, ⟨%f10, %g10, H10⟩, ⟨%f11, %g11, H11⟩, ⟨%f12, %g12, H12⟩, ⟨%f13, %g13, H13⟩, ⟨%f14, %g14, H14⟩, ⟨%f15, %g15, H15⟩⟩
  sl_exec
  have r1 : runA.sl.v1 c i arg2 f2 = BitVec.ofNat 32 r.val := by rw [← e1, ← g2]; rfl
  have r3 : runA.sl.v3 c i arg3 f3 = BitVec.ofNat 32 s.val := by rw [← e3, ← g3]; rfl
  rw [← r1, ← r3] at hk c1 c2 c5
  rw [← r3] at c3 c4
  sl_exec
  sl_step
  subst g2 g3 g4 g5 g6 g7 g8 g9 g10 g11 g12 g13 g14 g15
  have hB : (⟨arg4.view.read (Elt F) f4, arg5.view.read (Elt F) f5, arg6.view.read (Elt F) f6, arg7.view.read (Elt F) f7,
      arg8.view.read (Elt F) f8, arg9.view.read (Elt F) f9, arg10.view.read (Elt F) f10⟩ : Blk F)
      = ⟨arg4.view.readAt (Elt F) (Rect.unit (s := S1024x128) ![0, 0] S1024x128.size inb_S1024x128_S1024x128_0_0).toLoadRect f4,
        arg5.view.readAt (Elt F) (Rect.unit (s := S1024x128) ![0, 0] S1024x128.size inb_S1024x128_S1024x128_0_0).toLoadRect f5,
        arg6.view.readAt (Elt F) (Rect.unit (s := S1024x128) ![0, 0] S1024x128.size inb_S1024x128_S1024x128_0_0).toLoadRect f6,
        arg7.view.readAt (Elt F) (Rect.unit (s := S1024x128) ![0, 0] S1024x128.size inb_S1024x128_S1024x128_0_0).toLoadRect f7,
        arg8.view.read (Elt F) f8, arg9.view.read (Elt F) f9, arg10.view.read (Elt F) f10⟩ := by
    rw [readAt_whole2, readAt_whole2, readAt_whole2, readAt_whole2]
  have hpr : ∀ (B : Blk F) a, B.pr r s a = select (Blk.causal (runA.sl.v1 c i arg2 f2) (runA.sl.v3 c i arg3 f3)) (B.ex a) (broadcast S1024x1024 (Scalar.ofBits .f32 0x00000000#32)) := fun B a => by
    rw [r1, r3]; exact if_pos hd
  have hds : ∀ (B : Blk F) a, B.ds r s a = B.dsOf (select (Blk.causal (runA.sl.v1 c i arg2 f2) (runA.sl.v3 c i arg3 f3)) (B.ex a) (broadcast S1024x1024 (Scalar.ofBits .f32 0x00000000#32))) a := fun B a =>
    congrArg (B.dsOf · a) (hpr B a)
  isplitl [H2]; iexists f2; isplitr; ipureintro; rfl; iexact H2
  isplitl [H3]; iexists f3; isplitr; ipureintro; rfl; iexact H3
  isplitl [H4]; iexists f4; isplitr; ipureintro; rfl; iexact H4
  isplitl [H5]; iexists f5; isplitr; ipureintro; rfl; iexact H5
  isplitl [H6]; iexists f6; isplitr; ipureintro; rfl; iexact H6
  isplitl [H7]; iexists f7; isplitr; ipureintro; rfl; iexact H7
  isplitl [H8]; iexists f8; isplitr; ipureintro; rfl; iexact H8
  isplitl [H9]; iexists f9; isplitr; ipureintro; rfl; iexact H9
  isplitl [H10]; iexists f10; isplitr; ipureintro; rfl; iexact H10
  isplitl [H11]
  · iexists _; isplitr; swap; iexact H11
    ipureintro
    rw [read_writes_lay, lay_unit _ (off' := ![r.val * 1024, 0]) (by rw [r1]; exact k0_off2_at r) _ (rq_inb r), dqStep]
    refine overlay_congr (rq r) _ ?_
    change @Eq (FVec F S1024x128 .f32) _ _
    refine Eq.trans ?_ (dqPart_first h0 _ _).symm
    rw [hB, Blk.dqC, Blk.dqC, hds, hds]
    rfl
  isplitl [H12]
  · iexists _; isplitr; swap; iexact H12
    ipureintro
    rw [read_writes_lay, lay_whole _ hz2, dkStep]
    rw [base, if_pos hd, hB, Blk.dkC, Blk.dkC, hds, hds]
    refine congrArg₂ accB (?_ : @Eq (FVec F S1024x128 .f32) _ _) (?_ : @Eq (FVec F S1024x128 .f32) _ _)
    · exact View.readCov_unit_zero (S := S1024x128) _ hz2 _ _
    · rfl
  isplitl [H13]
  · iexists _; isplitr; swap; iexact H13
    ipureintro
    rw [read_writes_lay, lay_whole _ hz2, dvStep]
    rw [base, if_pos hd, hB, Blk.dvC, Blk.dvC, hpr, hpr]
    refine congrArg₂ accB (?_ : @Eq (FVec F S1024x128 .f32) _ _) (?_ : @Eq (FVec F S1024x128 .f32) _ _)
    · exact View.readCov_unit_zero (S := S1024x128) _ hz2 _ _
    · rfl
  isplitl [H14]
  · iexists _; isplitr; swap; iexact H14
    ipureintro
    have z : View.canon (Val := Elt F) runA.sl.H14_1 = zeroC := View.canon_unit_zero hz4 _ _
    rw [read_writes_lay, dcStep, base, if_pos hd, hB, Blk.colC, Blk.colC, hds, hds]
    refine overlay2_congr (hc 0) (hc 1) ?_ ?_ ?_
    · exact lay_whole _ hz4 _ _ _
    · change @Eq (FVec F S1x1x1x1024 .f32) _ _
      refine congrArg₂ accC (?_ : @Eq (FVec F S1x1x1x1024 .f32) _ _) (?_ : @Eq (FVec F S1x1024 .f32) _ _)
      · refine (View.readCov_eq_canon' _ _ _).trans ?_
        rw [z]; rfl
      · rfl
    · change @Eq (FVec F S1x1x1x1024 .f32) _ _
      refine congrArg₂ accC (?_ : @Eq (FVec F S1x1x1x1024 .f32) _ _) (?_ : @Eq (FVec F S1x1024 .f32) _ _)
      · refine (View.readCov_eq_canon' _ _ _).trans ?_
        unfold runA.sl.H14_2
        rw [View.canon_cons, z]
        exact ld_overlay_disjoint (Val := Elt F) (e := .f32) zeroC (hc 0) (hc 1) _ hc_apart
      · rfl
  · iexists _; isplitr; swap; iexact H15
    ipureintro
    rw [read_writes_lay, lay_unit _ (off' := ![0, 1, r.val * 1024, 0]) (by rw [r1]; exact k0_off4_at r) _ (rr_inb 1 r)]
    rw [lay_unit _ (off' := ![0, 0, r.val * 1024, 0]) (by rw [r1]; exact k0_off3_at r) _ (rr_inb 0 r), drStep]
    refine overlay2_congr (rr 0 r) (rr 1 r) rfl ?_ ?_
    · change @Eq (FVec F S1x1x1024x128 .f32) _ _
      refine Eq.trans ?_ (drPart_first h0 _ _).symm
      rw [hB, Blk.rowC, hds]
      rfl
    · change @Eq (FVec F S1x1x1024x128 .f32) _ _
      refine Eq.trans ?_ (drPart_first h0 _ _).symm
      rw [hB, Blk.rowC, hds]
      rfl

set_option maxHeartbeats 1000000 in
set_option sl_exec.resultNames true in
include e1 e3 in
theorem runB (hsr : s ≤ r) (hd : r = s) (h0 : s ≠ 0) :
    bufs c arg2 arg3 arg4 arg5 arg6 arg7 arg8 arg9 arg10 arg11 arg12 arg13 arg14 arg15 T0 T1 ⟨q, k, v, o, l, dl, ck⟩ dq dk dv dcs drs
      ⊢ wp frame (wpE (defs₀ (F := F)) Variants.none c none) Set.univ
          (cc0_l0_fox_dattn i arg2 h2 arg3 h3 arg4 h4 arg5 h5 arg6 h6 arg7 h7 arg8 h8 arg9 h9 arg10 h10 arg11 h11 arg12 h12 arg13 h13 arg14 h14 arg15 h15)
          (fun _ => bufs c arg2 arg3 arg4 arg5 arg6 arg7 arg8 arg9 arg10 arg11 arg12 arg13 arg14 arg15 T0 T1 ⟨q, k, v, o, l, dl, ck⟩
            (dqStep r s ⟨q, k, v, o, l, dl, ck⟩ dq) (dkStep r s ⟨q, k, v, o, l, dl, ck⟩ dk) (dvStep r s ⟨q, k, v, o, l, dl, ck⟩ dv)
            (dcStep r s ⟨q, k, v, o, l, dl, ck⟩ dcs) (drStep r s ⟨q, k, v, o, l, dl, ck⟩ drs)) := by
  have hk := chk_of_le hsr
  have c1 : k0_cond1 (BitVec.ofNat 32 r.val) (BitVec.ofNat 32 s.val) = 1#1 := cond1_of.2 hd
  have c2 : k0_cond2 (BitVec.ofNat 32 r.val) (BitVec.ofNat 32 s.val) = 1#1 := (cond2_of hsr).2 hd
  have c3 : ¬ k0_cond3 (BitVec.ofNat 32 s.val) = 1#1 := fun h => h0 (cond3_of.1 h)
  have c4 : k0_cond4 (BitVec.ofNat 32 s.val) = 1#1 := cond4_of.2 h0
  have c5 : ¬ k0_cond5 (BitVec.ofNat 32 r.val) (BitVec.ofNat 32 s.val) = 1#1 := fun h => (cond5_of hsr).1 h hd
  rw [cc0_l0_fox_dattn_eq_skeleton]; unfold cc0_l0_fox_dattn_skel
  unfold bufs owns
  iintro ⟨⟨%f2, %g2, H2⟩, ⟨%f3, %g3, H3⟩, ⟨%f4, %g4, H4⟩, ⟨%f5, %g5, H5⟩, ⟨%f6, %g6, H6⟩, ⟨%f7, %g7, H7⟩, ⟨%f8, %g8, H8⟩, ⟨%f9, %g9, H9⟩, ⟨%f10, %g10, H10⟩, ⟨%f11, %g11, H11⟩, ⟨%f12, %g12, H12⟩, ⟨%f13, %g13, H13⟩, ⟨%f14, %g14, H14⟩, ⟨%f15, %g15, H15⟩⟩
  sl_exec
  have r1 : runB.sl.v1 c i arg2 f2 = BitVec.ofNat 32 r.val := by rw [← e1, ← g2]; rfl
  have r3 : runB.sl.v3 c i arg3 f3 = BitVec.ofNat 32 s.val := by rw [← e3, ← g3]; rfl
  rw [← r1, ← r3] at hk c1 c2 c5
  rw [← r3] at c3 c4
  sl_exec
  sl_step
  subst g2 g3 g4 g5 g6 g7 g8 g9 g10 g11 g12 g13 g14 g15
  have hB : (⟨arg4.view.read (Elt F) f4, arg5.view.read (Elt F) f5, arg6.view.read (Elt F) f6, arg7.view.read (Elt F) f7,
      arg8.view.read (Elt F) f8, arg9.view.read (Elt F) f9, arg10.view.read (Elt F) f10⟩ : Blk F)
      = ⟨arg4.view.readAt (Elt F) (Rect.unit (s := S1024x128) ![0, 0] S1024x128.size inb_S1024x128_S1024x128_0_0).toLoadRect f4,
        arg5.view.readAt (Elt F) (Rect.unit (s := S1024x128) ![0, 0] S1024x128.size inb_S1024x128_S1024x128_0_0).toLoadRect f5,
        arg6.view.readAt (Elt F) (Rect.unit (s := S1024x128) ![0, 0] S1024x128.size inb_S1024x128_S1024x128_0_0).toLoadRect f6,
        arg7.view.readAt (Elt F) (Rect.unit (s := S1024x128) ![0, 0] S1024x128.size inb_S1024x128_S1024x128_0_0).toLoadRect f7,
        arg8.view.read (Elt F) f8, arg9.view.read (Elt F) f9, arg10.view.read (Elt F) f10⟩ := by
    rw [readAt_whole2, readAt_whole2, readAt_whole2, readAt_whole2]
  have hpr : ∀ (B : Blk F) a, B.pr r s a = select (Blk.causal (runB.sl.v1 c i arg2 f2) (runB.sl.v3 c i arg3 f3)) (B.ex a) (broadcast S1024x1024 (Scalar.ofBits .f32 0x00000000#32)) := fun B a => by
    rw [r1, r3]; exact if_pos hd
  have hds : ∀ (B : Blk F) a, B.ds r s a = B.dsOf (select (Blk.causal (runB.sl.v1 c i arg2 f2) (runB.sl.v3 c i arg3 f3)) (B.ex a) (broadcast S1024x1024 (Scalar.ofBits .f32 0x00000000#32))) a := fun B a =>
    congrArg (B.dsOf · a) (hpr B a)
  isplitl [H2]; iexists f2; isplitr; ipureintro; rfl; iexact H2
  isplitl [H3]; iexists f3; isplitr; ipureintro; rfl; iexact H3
  isplitl [H4]; iexists f4; isplitr; ipureintro; rfl; iexact H4
  isplitl [H5]; iexists f5; isplitr; ipureintro; rfl; iexact H5
  isplitl [H6]; iexists f6; isplitr; ipureintro; rfl; iexact H6
  isplitl [H7]; iexists f7; isplitr; ipureintro; rfl; iexact H7
  isplitl [H8]; iexists f8; isplitr; ipureintro; rfl; iexact H8
  isplitl [H9]; iexists f9; isplitr; ipureintro; rfl; iexact H9
  isplitl [H10]; iexists f10; isplitr; ipureintro; rfl; iexact H10
  isplitl [H11]
  · iexists _; isplitr; swap; iexact H11
    ipureintro
    rw [read_writes_lay, lay_unit _ (off' := ![r.val * 1024, 0]) (by rw [r1]; exact k0_off5_at r) _ (rq_inb r), dqStep]
    refine overlay_congr (rq r) _ ?_
    change @Eq (FVec F S1024x128 .f32) _ _
    refine Eq.trans ?_ (dqPart_later h0 _ _).symm
    rw [hB, Blk.dqC, Blk.dqC, hds, hds]
    refine congrArg₂ accB (?_ : @Eq (FVec F S1024x128 .f32) _ _) (?_ : @Eq (FVec F S1024x128 .f32) _ _)
    · exact readAt_rows arg11 f11 r (by rw [r1]; exact k0_off5_at r) _
    · rfl
  isplitl [H12]
  · iexists _; isplitr; swap; iexact H12
    ipureintro
    rw [read_writes_lay, lay_whole _ hz2, dkStep]
    rw [base, if_pos hd, hB, Blk.dkC, Blk.dkC, hds, hds]
    refine congrArg₂ accB (?_ : @Eq (FVec F S1024x128 .f32) _ _) (?_ : @Eq (FVec F S1024x128 .f32) _ _)
    · exact View.readCov_unit_zero (S := S1024x128) _ hz2 _ _
    · rfl
  isplitl [H13]
  · iexists _; isplitr; swap; iexact H13
    ipureintro
    rw [read_writes_lay, lay_whole _ hz2, dvStep]
    rw [base, if_pos hd, hB, Blk.dvC, Blk.dvC, hpr, hpr]
    refine congrArg₂ accB (?_ : @Eq (FVec F S1024x128 .f32) _ _) (?_ : @Eq (FVec F S1024x128 .f32) _ _)
    · exact View.readCov_unit_zero (S := S1024x128) _ hz2 _ _
    · rfl
  isplitl [H14]
  · iexists _; isplitr; swap; iexact H14
    ipureintro
    have z : View.canon (Val := Elt F) runB.sl.H14_1 = zeroC := View.canon_unit_zero hz4 _ _
    rw [read_writes_lay, dcStep, base, if_pos hd, hB, Blk.colC, Blk.colC, hds, hds]
    refine overlay2_congr (hc 0) (hc 1) ?_ ?_ ?_
    · exact lay_whole _ hz4 _ _ _
    · change @Eq (FVec F S1x1x1x1024 .f32) _ _
      refine congrArg₂ accC (?_ : @Eq (FVec F S1x1x1x1024 .f32) _ _) (?_ : @Eq (FVec F S1x1024 .f32) _ _)
      · refine (View.readCov_eq_canon' _ _ _).trans ?_
        rw [z]; rfl
      · rfl
    · change @Eq (FVec F S1x1x1x1024 .f32) _ _
      refine congrArg₂ accC (?_ : @Eq (FVec F S1x1x1x1024 .f32) _ _) (?_ : @Eq (FVec F S1x1024 .f32) _ _)
      · refine (View.readCov_eq_canon' _ _ _).trans ?_
        unfold runB.sl.H14_2
        rw [View.canon_cons, z]
        exact ld_overlay_disjoint (Val := Elt F) (e := .f32) zeroC (hc 0) (hc 1) _ hc_apart
      · rfl
  · iexists _; isplitr; swap; iexact H15
    ipureintro
    rw [read_writes_lay, lay_unit _ (off' := ![0, 1, r.val * 1024, 0]) (by rw [r1]; exact k0_off7_at r) _ (rr_inb 1 r)]
    unfold runB.sl.H15_1
    rw [lay_unit _ (off' := ![0, 0, r.val * 1024, 0]) (by rw [r1]; exact k0_off6_at r) _ (rr_inb 0 r), drStep]
    refine overlay2_congr (rr 0 r) (rr 1 r) rfl ?_ ?_
    · change @Eq (FVec F S1x1x1024x128 .f32) _ _
      refine Eq.trans ?_ (drPart_later h0 _ _).symm
      rw [hB, Blk.rowC, hds]
      refine congrArg₂ accR (?_ : @Eq (FVec F S1x1x1024x128 .f32) _ _) (?_ : @Eq (FVec F S1024x128 .f32) _ _)
      · exact readAt_rows0 arg15 f15 r (by rw [r1]; exact k0_off6_at r) _
      · rfl
    · change @Eq (FVec F S1x1x1024x128 .f32) _ _
      refine Eq.trans ?_ (drPart_later h0 _ _).symm
      rw [hB, Blk.rowC, hds]
      refine congrArg₂ accR (?_ : @Eq (FVec F S1x1x1024x128 .f32) _ _) (?_ : @Eq (FVec F S1024x128 .f32) _ _)
      · exact readAt_rows1 arg15 f15 r (by rw [r1]; exact k0_off7_at r) (by rw [r1]; exact k0_off6_at r) _ _ _
      · rfl

set_option maxHeartbeats 1000000 in
set_option sl_exec.resultNames true in
include e1 e3 in
theorem runC (hsr : s ≤ r) (hd : r ≠ s) (h0 : s = 0) :
    bufs c arg2 arg3 arg4 arg5 arg6 arg7 arg8 arg9 arg10 arg11 arg12 arg13 arg14 arg15 T0 T1 ⟨q, k, v, o, l, dl, ck⟩ dq dk dv dcs drs
      ⊢ wp frame (wpE (defs₀ (F := F)) Variants.none c none) Set.univ
          (cc0_l0_fox_dattn i arg2 h2 arg3 h3 arg4 h4 arg5 h5 arg6 h6 arg7 h7 arg8 h8 arg9 h9 arg10 h10 arg11 h11 arg12 h12 arg13 h13 arg14 h14 arg15 h15)
          (fun _ => bufs c arg2 arg3 arg4 arg5 arg6 arg7 arg8 arg9 arg10 arg11 arg12 arg13 arg14 arg15 T0 T1 ⟨q, k, v, o, l, dl, ck⟩
            (dqStep r s ⟨q, k, v, o, l, dl, ck⟩ dq) (dkStep r s ⟨q, k, v, o, l, dl, ck⟩ dk) (dvStep r s ⟨q, k, v, o, l, dl, ck⟩ dv)
            (dcStep r s ⟨q, k, v, o, l, dl, ck⟩ dcs) (drStep r s ⟨q, k, v, o, l, dl, ck⟩ drs)) := by
  have hk := chk_of_le hsr
  have c1 : ¬ k0_cond1 (BitVec.ofNat 32 r.val) (BitVec.ofNat 32 s.val) = 1#1 := fun h => hd (cond1_of.1 h)
  have c2 : ¬ k0_cond2 (BitVec.ofNat 32 r.val) (BitVec.ofNat 32 s.val) = 1#1 := fun h => hd ((cond2_of hsr).1 h)
  have c5 : k0_cond5 (BitVec.ofNat 32 r.val) (BitVec.ofNat 32 s.val) = 1#1 := (cond5_of hsr).2 hd
  have c6 : k0_cond6 (BitVec.ofNat 32 s.val) = 1#1 := cond6_of.2 h0
  have c7 : ¬ k0_cond7 (BitVec.ofNat 32 s.val) = 1#1 := fun h => cond7_of.1 h h0
  rw [cc0_l0_fox_dattn_eq_skeleton]; unfold cc0_l0_fox_dattn_skel
  unfold bufs owns
  iintro ⟨⟨%f2, %g2, H2⟩, ⟨%f3, %g3, H3⟩, ⟨%f4, %g4, H4⟩, ⟨%f5, %g5, H5⟩, ⟨%f6, %g6, H6⟩, ⟨%f7, %g7, H7⟩, ⟨%f8, %g8, H8⟩, ⟨%f9, %g9, H9⟩, ⟨%f10, %g10, H10⟩, ⟨%f11, %g11, H11⟩, ⟨%f12, %g12, H12⟩, ⟨%f13, %g13, H13⟩, ⟨%f14, %g14, H14⟩, ⟨%f15, %g15, H15⟩⟩
  sl_exec
  have r1 : runC.sl.v1 c i arg2 f2 = BitVec.ofNat 32 r.val := by rw [← e1, ← g2]; rfl
  have r3 : runC.sl.v3 c i arg3 f3 = BitVec.ofNat 32 s.val := by rw [← e3, ← g3]; rfl
  rw [← r1, ← r3] at hk c1 c2 c5
  rw [← r3] at c6 c7
  sl_exec
  sl_step
  subst g2 g3 g4 g5 g6 g7 g8 g9 g10 g11 g12 g13 g14 g15
  have hB : (⟨arg4.view.read (Elt F) f4, arg5.view.read (Elt F) f5, arg6.view.read (Elt F) f6, arg7.view.read (Elt F) f7,
      arg8.view.read (Elt F) f8, arg9.view.read (Elt F) f9, arg10.view.read (Elt F) f10⟩ : Blk F)
      = ⟨arg4.view.readAt (Elt F) (Rect.unit (s := S1024x128) ![0, 0] S1024x128.size inb_S1024x128_S1024x128_0_0).toLoadRect f4,
        arg5.view.readAt (Elt F) (Rect.unit (s := S1024x128) ![0, 0] S1024x128.size inb_S1024x128_S1024x128_0_0).toLoadRect f5,
        arg6.view.readAt (Elt F) (Rect.unit (s := S1024x128) ![0, 0] S1024x128.size inb_S1024x128_S1024x128_0_0).toLoadRect f6,
        arg7.view.readAt (Elt F) (Rect.unit (s := S1024x128) ![0, 0] S1024x128.size inb_S1024x128_S1024x128_0_0).toLoadRect f7,
        arg8.view.read (Elt F) f8, arg9.view.read (Elt F) f9, arg10.view.read (Elt F) f10⟩ := by
    rw [readAt_whole2, readAt_whole2, readAt_whole2, readAt_whole2]
  have hpr : ∀ (B : Blk F) a, B.pr r s a = B.ex a := fun B a => by
    exact if_neg hd
  have hds : ∀ (B : Blk F) a, B.ds r s a = B.dsOf (B.ex a) a := fun B a =>
    congrArg (B.dsOf · a) (hpr B a)
  isplitl [H2]; iexists f2; isplitr; ipureintro; rfl; iexact H2
  isplitl [H3]; iexists f3; isplitr; ipureintro; rfl; iexact H3
  isplitl [H4]; iexists f4; isplitr; ipureintro; rfl; iexact H4
  isplitl [H5]; iexists f5; isplitr; ipureintro; rfl; iexact H5
  isplitl [H6]; iexists f6; isplitr; ipureintro; rfl; iexact H6
  isplitl [H7]; iexists f7; isplitr; ipureintro; rfl; iexact H7
  isplitl [H8]; iexists f8; isplitr; ipureintro; rfl; iexact H8
  isplitl [H9]; iexists f9; isplitr; ipureintro; rfl; iexact H9
  isplitl [H10]; iexists f10; isplitr; ipureintro; rfl; iexact H10
  isplitl [H11]
  · iexists _; isplitr; swap; iexact H11
    ipureintro
    rw [read_writes_lay, lay_unit _ (off' := ![r.val * 1024, 0]) (by rw [r1]; exact k0_off8_at r) _ (rq_inb r), dqStep]
    refine overlay_congr (rq r) _ ?_
    change @Eq (FVec F S1024x128 .f32) _ _
    refine Eq.trans ?_ (dqPart_first h0 _ _).symm
    rw [hB, Blk.dqC, Blk.dqC, hds, hds]
    rfl
  isplitl [H12]
  · iexists _; isplitr; swap; iexact H12
    ipureintro
    rw [read_writes_lay, lay_whole _ hz2, dkStep]
    rw [base, if_neg hd, hB, Blk.dkC, Blk.dkC, hds, hds]
    refine congrArg₂ accB (?_ : @Eq (FVec F S1024x128 .f32) _ _) (?_ : @Eq (FVec F S1024x128 .f32) _ _)
    · exact readAt_whole2 arg12 f12 _
    · rfl
  isplitl [H13]
  · iexists _; isplitr; swap; iexact H13
    ipureintro
    rw [read_writes_lay, lay_whole _ hz2, dvStep]
    rw [base, if_neg hd, hB, Blk.dvC, Blk.dvC, hpr, hpr]
    refine congrArg₂ accB (?_ : @Eq (FVec F S1024x128 .f32) _ _) (?_ : @Eq (FVec F S1024x128 .f32) _ _)
    · exact readAt_whole2 arg13 f13 _
    · rfl
  isplitl [H14]
  · iexists _; isplitr; swap; iexact H14
    ipureintro
    rw [read_writes_lay, dcStep, base, if_neg hd, hB, Blk.colC, Blk.colC, hds, hds]
    refine overlay2_congr (hc 0) (hc 1) rfl ?_ ?_
    · change @Eq (FVec F S1x1x1x1024 .f32) _ _
      refine congrArg₂ accC (?_ : @Eq (FVec F S1x1x1x1024 .f32) _ _) (?_ : @Eq (FVec F S1x1024 .f32) _ _)
      · rfl
      · rfl
    · change @Eq (FVec F S1x1x1x1024 .f32) _ _
      refine congrArg₂ accC (?_ : @Eq (FVec F S1x1x1x1024 .f32) _ _) (?_ : @Eq (FVec F S1x1024 .f32) _ _)
      · rfl
      · rfl
  · iexists _; isplitr; swap; iexact H15
    ipureintro
    rw [read_writes_lay, lay_unit _ (off' := ![0, 1, r.val * 1024, 0]) (by rw [r1]; exact k0_off10_at r) _ (rr_inb 1 r)]
    rw [lay_unit _ (off' := ![0, 0, r.val * 1024, 0]) (by rw [r1]; exact k0_off9_at r) _ (rr_inb 0 r), drStep]
    refine overlay2_congr (rr 0 r) (rr 1 r) rfl ?_ ?_
    · change @Eq (FVec F S1x1x1024x128 .f32) _ _
      refine Eq.trans ?_ (drPart_first h0 _ _).symm
      rw [hB, Blk.rowC, hds]
      rfl
    · change @Eq (FVec F S1x1x1024x128 .f32) _ _
      refine Eq.trans ?_ (drPart_first h0 _ _).symm
      rw [hB, Blk.rowC, hds]
      rfl

set_option maxHeartbeats 1000000 in
set_option sl_exec.resultNames true in
include e1 e3 in
theorem runD (hsr : s ≤ r) (hd : r ≠ s) (h0 : s ≠ 0) :
    bufs c arg2 arg3 arg4 arg5 arg6 arg7 arg8 arg9 arg10 arg11 arg12 arg13 arg14 arg15 T0 T1 ⟨q, k, v, o, l, dl, ck⟩ dq dk dv dcs drs
      ⊢ wp frame (wpE (defs₀ (F := F)) Variants.none c none) Set.univ
          (cc0_l0_fox_dattn i arg2 h2 arg3 h3 arg4 h4 arg5 h5 arg6 h6 arg7 h7 arg8 h8 arg9 h9 arg10 h10 arg11 h11 arg12 h12 arg13 h13 arg14 h14 arg15 h15)
          (fun _ => bufs c arg2 arg3 arg4 arg5 arg6 arg7 arg8 arg9 arg10 arg11 arg12 arg13 arg14 arg15 T0 T1 ⟨q, k, v, o, l, dl, ck⟩
            (dqStep r s ⟨q, k, v, o, l, dl, ck⟩ dq) (dkStep r s ⟨q, k, v, o, l, dl, ck⟩ dk) (dvStep r s ⟨q, k, v, o, l, dl, ck⟩ dv)
            (dcStep r s ⟨q, k, v, o, l, dl, ck⟩ dcs) (drStep r s ⟨q, k, v, o, l, dl, ck⟩ drs)) := by
  have hk := chk_of_le hsr
  have c1 : ¬ k0_cond1 (BitVec.ofNat 32 r.val) (BitVec.ofNat 32 s.val) = 1#1 := fun h => hd (cond1_of.1 h)
  have c2 : ¬ k0_cond2 (BitVec.ofNat 32 r.val) (BitVec.ofNat 32 s.val) = 1#1 := fun h => hd ((cond2_of hsr).1 h)
  have c5 : k0_cond5 (BitVec.ofNat 32 r.val) (BitVec.ofNat 32 s.val) = 1#1 := (cond5_of hsr).2 hd
  have c6 : ¬ k0_cond6 (BitVec.ofNat 32 s.val) = 1#1 := fun h => h0 (cond6_of.1 h)
  have c7 : k0_cond7 (BitVec.ofNat 32 s.val) = 1#1 := cond7_of.2 h0
  rw [cc0_l0_fox_dattn_eq_skeleton]; unfold cc0_l0_fox_dattn_skel
  unfold bufs owns
  iintro ⟨⟨%f2, %g2, H2⟩, ⟨%f3, %g3, H3⟩, ⟨%f4, %g4, H4⟩, ⟨%f5, %g5, H5⟩, ⟨%f6, %g6, H6⟩, ⟨%f7, %g7, H7⟩, ⟨%f8, %g8, H8⟩, ⟨%f9, %g9, H9⟩, ⟨%f10, %g10, H10⟩, ⟨%f11, %g11, H11⟩, ⟨%f12, %g12, H12⟩, ⟨%f13, %g13, H13⟩, ⟨%f14, %g14, H14⟩, ⟨%f15, %g15, H15⟩⟩
  sl_exec
  have r1 : runD.sl.v1 c i arg2 f2 = BitVec.ofNat 32 r.val := by rw [← e1, ← g2]; rfl
  have r3 : runD.sl.v3 c i arg3 f3 = BitVec.ofNat 32 s.val := by rw [← e3, ← g3]; rfl
  rw [← r1, ← r3] at hk c1 c2 c5
  rw [← r3] at c6 c7
  sl_exec
  sl_step
  subst g2 g3 g4 g5 g6 g7 g8 g9 g10 g11 g12 g13 g14 g15
  have hB : (⟨arg4.view.read (Elt F) f4, arg5.view.read (Elt F) f5, arg6.view.read (Elt F) f6, arg7.view.read (Elt F) f7,
      arg8.view.read (Elt F) f8, arg9.view.read (Elt F) f9, arg10.view.read (Elt F) f10⟩ : Blk F)
      = ⟨arg4.view.readAt (Elt F) (Rect.unit (s := S1024x128) ![0, 0] S1024x128.size inb_S1024x128_S1024x128_0_0).toLoadRect f4,
        arg5.view.readAt (Elt F) (Rect.unit (s := S1024x128) ![0, 0] S1024x128.size inb_S1024x128_S1024x128_0_0).toLoadRect f5,
        arg6.view.readAt (Elt F) (Rect.unit (s := S1024x128) ![0, 0] S1024x128.size inb_S1024x128_S1024x128_0_0).toLoadRect f6,
        arg7.view.readAt (Elt F) (Rect.unit (s := S1024x128) ![0, 0] S1024x128.size inb_S1024x128_S1024x128_0_0).toLoadRect f7,
        arg8.view.read (Elt F) f8, arg9.view.read (Elt F) f9, arg10.view.read (Elt F) f10⟩ := by
    rw [readAt_whole2, readAt_whole2, readAt_whole2, readAt_whole2]
  have hpr : ∀ (B : Blk F) a, B.pr r s a = B.ex a := fun B a => by
    exact if_neg hd
  have hds : ∀ (B : Blk F) a, B.ds r s a = B.dsOf (B.ex a) a := fun B a =>
    congrArg (B.dsOf · a) (hpr B a)
  isplitl [H2]; iexists f2; isplitr; ipureintro; rfl; iexact H2
  isplitl [H3]; iexists f3; isplitr; ipureintro; rfl; iexact H3
  isplitl [H4]; iexists f4; isplitr; ipureintro; rfl; iexact H4
  isplitl [H5]; iexists f5; isplitr; ipureintro; rfl; iexact H5
  isplitl [H6]; iexists f6; isplitr; ipureintro; rfl; iexact H6
  isplitl [H7]; iexists f7; isplitr; ipureintro; rfl; iexact H7
  isplitl [H8]; iexists f8; isplitr; ipureintro; rfl; iexact H8
  isplitl [H9]; iexists f9; isplitr; ipureintro; rfl; iexact H9
  isplitl [H10]; iexists f10; isplitr; ipureintro; rfl; iexact H10
  isplitl [H11]
  · iexists _; isplitr; swap; iexact H11
    ipureintro
    rw [read_writes_lay, lay_unit _ (off' := ![r.val * 1024, 0]) (by rw [r1]; exact k0_off11_at r) _ (rq_inb r), dqStep]
    refine overlay_congr (rq r) _ ?_
    change @Eq (FVec F S1024x128 .f32) _ _
    refine Eq.trans ?_ (dqPart_later h0 _ _).symm
    rw [hB, Blk.dqC, Blk.dqC, hds, hds]
    refine congrArg₂ accB (?_ : @Eq (FVec F S1024x128 .f32) _ _) (?_ : @Eq (FVec F S1024x128 .f32) _ _)
    · exact readAt_rows arg11 f11 r (by rw [r1]; exact k0_off11_at r) _
    · rfl
  isplitl [H12]
  · iexists _; isplitr; swap; iexact H12
    ipureintro
    rw [read_writes_lay, lay_whole _ hz2, dkStep]
    rw [base, if_neg hd, hB, Blk.dkC, Blk.dkC, hds, hds]
    refine congrArg₂ accB (?_ : @Eq (FVec F S1024x128 .f32) _ _) (?_ : @Eq (FVec F S1024x128 .f32) _ _)
    · exact readAt_whole2 arg12 f12 _
    · rfl
  isplitl [H13]
  · iexists _; isplitr; swap; iexact H13
    ipureintro
    rw [read_writes_lay, lay_whole _ hz2, dvStep]
    rw [base, if_neg hd, hB, Blk.dvC, Blk.dvC, hpr, hpr]
    refine congrArg₂ accB (?_ : @Eq (FVec F S1024x128 .f32) _ _) (?_ : @Eq (FVec F S1024x128 .f32) _ _)
    · exact readAt_whole2 arg13 f13 _
    · rfl
  isplitl [H14]
  · iexists _; isplitr; swap; iexact H14
    ipureintro
    rw [read_writes_lay, dcStep, base, if_neg hd, hB, Blk.colC, Blk.colC, hds, hds]
    refine overlay2_congr (hc 0) (hc 1) rfl ?_ ?_
    · change @Eq (FVec F S1x1x1x1024 .f32) _ _
      refine congrArg₂ accC (?_ : @Eq (FVec F S1x1x1x1024 .f32) _ _) (?_ : @Eq (FVec F S1x1024 .f32) _ _)
      · rfl
      · rfl
    · change @Eq (FVec F S1x1x1x1024 .f32) _ _
      refine congrArg₂ accC (?_ : @Eq (FVec F S1x1x1x1024 .f32) _ _) (?_ : @Eq (FVec F S1x1024 .f32) _ _)
      · rfl
      · rfl
  · iexists _; isplitr; swap; iexact H15
    ipureintro
    rw [read_writes_lay, lay_unit _ (off' := ![0, 1, r.val * 1024, 0]) (by rw [r1]; exact k0_off13_at r) _ (rr_inb 1 r)]
    unfold runD.sl.H15_1
    rw [lay_unit _ (off' := ![0, 0, r.val * 1024, 0]) (by rw [r1]; exact k0_off12_at r) _ (rr_inb 0 r), drStep]
    refine overlay2_congr (rr 0 r) (rr 1 r) rfl ?_ ?_
    · change @Eq (FVec F S1x1x1024x128 .f32) _ _
      refine Eq.trans ?_ (drPart_later h0 _ _).symm
      rw [hB, Blk.rowC, hds]
      refine congrArg₂ accR (?_ : @Eq (FVec F S1x1x1024x128 .f32) _ _) (?_ : @Eq (FVec F S1024x128 .f32) _ _)
      · exact readAt_rows0 arg15 f15 r (by rw [r1]; exact k0_off12_at r) _
      · rfl
    · change @Eq (FVec F S1x1x1024x128 .f32) _ _
      refine Eq.trans ?_ (drPart_later h0 _ _).symm
      rw [hB, Blk.rowC, hds]
      refine congrArg₂ accR (?_ : @Eq (FVec F S1x1x1024x128 .f32) _ _) (?_ : @Eq (FVec F S1024x128 .f32) _ _)
      · exact readAt_rows1 arg15 f15 r (by rw [r1]; exact k0_off13_at r) (by rw [r1]; exact k0_off12_at r) _ _ _
      · rfl

include e1 e3 in
/-- The body at a grid point, whatever the case. -/
theorem run_body (hsr : s ≤ r) :
    bufs c arg2 arg3 arg4 arg5 arg6 arg7 arg8 arg9 arg10 arg11 arg12 arg13 arg14 arg15 T0 T1 ⟨q, k, v, o, l, dl, ck⟩ dq dk dv dcs drs
      ⊢ wp frame (wpE (defs₀ (F := F)) Variants.none c none) Set.univ
          (cc0_l0_fox_dattn i arg2 h2 arg3 h3 arg4 h4 arg5 h5 arg6 h6 arg7 h7 arg8 h8 arg9 h9 arg10 h10 arg11 h11 arg12 h12 arg13 h13 arg14 h14 arg15 h15)
          (fun _ => bufs c arg2 arg3 arg4 arg5 arg6 arg7 arg8 arg9 arg10 arg11 arg12 arg13 arg14 arg15 T0 T1 ⟨q, k, v, o, l, dl, ck⟩
            (dqStep r s ⟨q, k, v, o, l, dl, ck⟩ dq) (dkStep r s ⟨q, k, v, o, l, dl, ck⟩ dk) (dvStep r s ⟨q, k, v, o, l, dl, ck⟩ dv)
            (dcStep r s ⟨q, k, v, o, l, dl, ck⟩ dcs) (drStep r s ⟨q, k, v, o, l, dl, ck⟩ drs)) := by
  by_cases hd : r = s <;> by_cases h0 : s = 0
  · exact runA c i arg2 arg3 h2 h3 arg4 arg5 h4 h5 arg6 arg7 h6 h7 arg8 arg9 h8 h9 arg10 h10 arg11 h11 arg12 arg13 h12 h13 arg14 h14 arg15 h15 T0 T1 q k v o l dl ck dq dk dv dcs drs r s e1 e3 hsr hd h0
  · exact runB c i arg2 arg3 h2 h3 arg4 arg5 h4 h5 arg6 arg7 h6 h7 arg8 arg9 h8 h9 arg10 h10 arg11 h11 arg12 arg13 h12 h13 arg14 h14 arg15 h15 T0 T1 q k v o l dl ck dq dk dv dcs drs r s e1 e3 hsr hd h0
  · exact runC c i arg2 arg3 h2 h3 arg4 arg5 h4 h5 arg6 arg7 h6 h7 arg8 arg9 h8 h9 arg10 h10 arg11 h11 arg12 arg13 h12 h13 arg14 h14 arg15 h15 T0 T1 q k v o l dl ck dq dk dv dcs drs r s e1 e3 hsr hd h0
  · exact runD c i arg2 arg3 h2 h3 arg4 arg5 h4 h5 arg6 arg7 h6 h7 arg8 arg9 h8 h9 arg10 h10 arg11 h11 arg12 arg13 h12 h13 arg14 h14 arg15 h15 T0 T1 q k v o l dl ck dq dk dv dcs drs r s e1 e3 hsr hd h0

end Args

end Cert.Proof.Attn
-- ==== Proof.Data.lean ====
/-
  The attention-gradient pipeline's proof data: at every grid point an input window is left as found, and an output
  window holds what the step at that point makes of what it held.
-/
module

public import proofs.«01_k».proof.Proof.Body

@[expose] public section

set_option maxHeartbeats 1000000
set_option maxRecDepth 16384

noncomputable section

namespace Cert.Proof.Attn

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]
local notation "𝕄" => MT nD τ sig Unit (Elt F) ℕ (UR sig nD τ) ℕ

/-- The pipeline at the host's tables. -/
abbrev cfg : Pipeline.Cfg sig Λ₀ := cfgs (F := F) 0

/-- The query block and the key block of a point. -/
def rowF (t : Fin grid0.N) : Fin 8 := ⟨rowB (grid0.coords t), rowB_lt _⟩
def colF (t : Fin grid0.N) : Fin 8 := ⟨colB (grid0.coords t), colB_lt _⟩
theorem col_le_row (t : Fin grid0.N) : colF t ≤ rowF t := colB_le _

variable (W : Dev nD → Valuation τ sig (Elt F))

/-- The block of a window's array a point names, the arrays held at `W`. -/
def piece (c : Dev nD) (w : Fin (cfg (F := F)).W) (t : Fin (cfg (F := F)).N) :
    (((cfg (F := F)).win w).xblock ((cfg (F := F)).grid.coords t)).Idx → Elt F ((cfg (F := F)).win w).elt :=
  (((cfg (F := F)).win w).blk t).view.read (Elt F) (W c (Pipeline.arrRef spec0 w))

/-- The seven blocks a point reads. -/
def blkAt (c : Dev nD) (t : Fin (cfg (F := F)).N) : Blk F where
  q := piece W c 0 t
  k := piece W c 1 t
  v := piece W c 2 t
  o := piece W c 3 t
  l := piece W c 4 t
  dl := piece W c 5 t
  ck := piece W c 6 t

/-- What the point's body makes of a window's buffer. -/
def afterW (c : Dev nD) (t : Fin (cfg (F := F)).N) :
    (w : Fin (cfg (F := F)).W) → (Y X : ((cfg (F := F)).win w).block.Idx → Elt F ((cfg (F := F)).win w).elt) → Prop
  | ⟨0, _⟩, Y, X => X = Y
  | ⟨1, _⟩, Y, X => X = Y
  | ⟨2, _⟩, Y, X => X = Y
  | ⟨3, _⟩, Y, X => X = Y
  | ⟨4, _⟩, Y, X => X = Y
  | ⟨5, _⟩, Y, X => X = Y
  | ⟨6, _⟩, Y, X => X = Y
  | ⟨7, _⟩, Y, X => X = dqStep (rowF t) (colF t) (blkAt W c t) Y
  | ⟨8, _⟩, Y, X => X = dkStep (rowF t) (colF t) (blkAt W c t) Y
  | ⟨9, _⟩, Y, X => X = dvStep (rowF t) (colF t) (blkAt W c t) Y
  | ⟨10, _⟩, Y, X => X = dcStep (rowF t) (colF t) (blkAt W c t) Y
  | ⟨11, _⟩, Y, X => X = drStep (rowF t) (colF t) (blkAt W c t) Y

/-- The proof data: the arrays at `W`, the steps, the tables held throughout, nothing owed. -/
def rdats (_ : Fin 1) (c : Dev nD) : Pipeline.RDat τ (Elt F) Unit ℕ (UR sig nD τ) ℕ (cfg (F := F)) c where
  A w := W c (Pipeline.arrRef spec0 w)
  after w t Y X := afterW W c t w Y X
  Φ _ := Pipeline.prefHeld pre0 c (fun _ => fullShare) (tabs (F := F))
  q _ := fullShare
  owed _ := 0

theorem A_eq (c : Dev nD) (w : Fin (cfg (F := F)).W) : (rdats W 0 c).A w = W c (Pipeline.arrRef spec0 w) := by
  dsimp only [rdats]

theorem piece_eq (c : Dev nD) (w : Fin (cfg (F := F)).W) (t : Fin (cfg (F := F)).N) : (rdats W 0 c).blockOf w t = piece W c w t := by
  unfold Pipeline.RDat.blockOf piece
  rw [A_eq]

/-- An input window is found holding its block. -/
theorem finds_in (c : Dev nD) (w : Fin (cfg (F := F)).W) (hw : ((cfg (F := F)).win w).isOut = false)
    (hkeep : ∀ t Y X, afterW W c t w Y X → X = Y) (t : Fin (cfg (F := F)).N)
    (Y : ((cfg (F := F)).win w).block.Idx → Elt F ((cfg (F := F)).win w).elt) (hY : (rdats W 0 c).Finds w t Y) :
    ∃ d, Y = ((cfg (F := F)).win w).fill ((cfg (F := F)).grid.coords t) d (piece W c w t) := by
  obtain ⟨d, hd⟩ := Pipeline.RDat.finds_in_eq_fetched (rdats W 0 c) w hw (fun _ _ _ => rfl)
    (fun t Y X h => hkeep t Y X h) t Y hY
  exact ⟨d, by rw [hd]; unfold Pipeline.RDat.fetched; rw [piece_eq]⟩

theorem finds0 (c : Dev nD) (t) (Y) (hY : (rdats W 0 c).Finds 0 t Y) : Y = (blkAt W c t).q := by
  obtain ⟨d, hd⟩ := finds_in W c 0 rfl (fun _ _ _ h => h) t Y hY; exact hd
theorem finds1 (c : Dev nD) (t) (Y) (hY : (rdats W 0 c).Finds 1 t Y) : Y = (blkAt W c t).k := by
  obtain ⟨d, hd⟩ := finds_in W c 1 rfl (fun _ _ _ h => h) t Y hY; exact hd
theorem finds2 (c : Dev nD) (t) (Y) (hY : (rdats W 0 c).Finds 2 t Y) : Y = (blkAt W c t).v := by
  obtain ⟨d, hd⟩ := finds_in W c 2 rfl (fun _ _ _ h => h) t Y hY; exact hd
theorem finds3 (c : Dev nD) (t) (Y) (hY : (rdats W 0 c).Finds 3 t Y) : Y = (blkAt W c t).o := by
  obtain ⟨d, hd⟩ := finds_in W c 3 rfl (fun _ _ _ h => h) t Y hY; exact hd
theorem finds4 (c : Dev nD) (t) (Y) (hY : (rdats W 0 c).Finds 4 t Y) : Y = (blkAt W c t).l := by
  obtain ⟨d, hd⟩ := finds_in W c 4 rfl (fun _ _ _ h => h) t Y hY; exact hd
theorem finds5 (c : Dev nD) (t) (Y) (hY : (rdats W 0 c).Finds 5 t Y) : Y = (blkAt W c t).dl := by
  obtain ⟨d, hd⟩ := finds_in W c 5 rfl (fun _ _ _ h => h) t Y hY; exact hd
theorem finds6 (c : Dev nD) (t) (Y) (hY : (rdats W 0 c).Finds 6 t Y) : Y = (blkAt W c t).ck := by
  obtain ⟨d, hd⟩ := finds_in W c 6 rfl (fun _ _ _ h => h) t Y hY; exact hd

/-- The two tables, as arrays of words. -/
def tab0 : Vec F S36 .i32 := fun i => lit0 (S36.rowMajor i)
def tab1 : Vec F S36 .i32 := fun i => lit1 (S36.rowMajor i)

theorem word0 (i : grid0.Coords) : word (F := F) tab0 i = BitVec.ofNat 32 (rowB i) := by
  rw [show word (F := F) tab0 i = lit0 (i 1) from tabs_at0 (F := F) i]
  simp only [rowB, BitVec.ofNat_toNat, BitVec.setWidth_eq]
theorem word1 (i : grid0.Coords) : word (F := F) tab1 i = BitVec.ofNat 32 (colB i) := by
  rw [show word (F := F) tab1 i = lit1 (i 1) from tabs_at1 (F := F) i]
  simp only [colB, BitVec.ofNat_toNat, BitVec.setWidth_eq]

/-- The two tables held, split. -/
theorem tables_pair (c : Dev nD) :
    (Pipeline.prefHeld pre0 c (fun _ => fullShare) (tabs (F := F)) : sProp 𝕄)
      = iprop((((c : Thread nD τ).loc main_c) ↦{fullShare} (show Buf (Elt F) ((c : Thread nD τ).loc main_c) from tab0))
          ∗ (((c : Thread nD τ).loc main_c_0) ↦{fullShare} (show Buf (Elt F) ((c : Thread nD τ).loc main_c_0) from tab1))) := by
  unfold Pipeline.prefHeld
  rw [show (Finset.univ : Finset (Fin 2)) = insert 0 {1} from by decide, bigSep_insert (by decide), bigSep_singleton]
  rfl

/-- A buffer owned whole is the buffer. -/
theorem owns_buf (c : Dev nD) (b : Ref sig .tc) (X : Buf (Elt F) ((c : Thread nD τ).loc b)) :
    (owns (c : Thread nD τ) (Memref.whole b) fullShare X : sProp 𝕄) = (((c : Thread nD τ).loc b) ↦{fullShare} X) := by
  refine (owns_whole_eq _ _ _ _).trans ?_
  have h₁ : iprop(∃ f : Buf (Elt F) ((c : Thread nD τ).loc b), ⌜f = X⌝ ∗ (((c : Thread nD τ).loc b) ↦{fullShare} f))
      ⊢ ((((c : Thread nD τ).loc b) ↦{fullShare} X : sProp 𝕄)) := by
    iintro ⟨%f, %hf, H⟩; subst hf; iexact H
  have h₂ : ((((c : Thread nD τ).loc b) ↦{fullShare} X : sProp 𝕄))
      ⊢ iprop(∃ f : Buf (Elt F) ((c : Thread nD τ).loc b), ⌜f = X⌝ ∗ (((c : Thread nD τ).loc b) ↦{fullShare} f)) := by
    iintro H; iexists _; isplitr; swap; (· iexact H); ipureintro; rfl
  exact BI.Entails.antisymm h₁ h₂
theorem owns_word0 (c : Dev nD) :
    (owns (c : Thread nD τ) (Memref.whole main_c) fullShare (tab0 (F := F)) : sProp 𝕄)
      = (((c : Thread nD τ).loc main_c) ↦{fullShare} (show Buf (Elt F) ((c : Thread nD τ).loc main_c) from tab0)) := owns_buf c main_c _
theorem owns_word1 (c : Dev nD) :
    (owns (c : Thread nD τ) (Memref.whole main_c_0) fullShare (tab1 (F := F)) : sProp 𝕄)
      = (((c : Thread nD τ).loc main_c_0) ↦{fullShare} (show Buf (Elt F) ((c : Thread nD τ).loc main_c_0) from tab1)) := owns_buf c main_c_0 _

/-- What the body is owed at a point and what it leaves. -/
theorem body_obligation (c : Dev nD) :
    (rdats W 0 c).BodyObligation (defs₀ (F := F)) Variants.none () Set.univ := fun t Y hY => by
  have e0 := finds0 W c t _ (hY 0)
  have e1 := finds1 W c t _ (hY 1)
  have e2 := finds2 W c t _ (hY 2)
  have e3 := finds3 W c t _ (hY 3)
  have e4 := finds4 W c t _ (hY 4)
  have e5 := finds5 W c t _ (hY 5)
  have e6 := finds6 W c t _ (hY 6)
  rw [bigSep_W0, bigSep_W0]
  rw [show (rdats W 0 c).Φ t.castSucc = Pipeline.prefHeld pre0 c (fun _ => fullShare) (tabs (F := F)) from rfl,
    show (rdats W 0 c).Φ t.succ = Pipeline.prefHeld pre0 c (fun _ => fullShare) (tabs (F := F)) from rfl, tables_pair]
  unfold Pipeline.RDat.owesAt Pipeline.owesWithin
  rw [show (rdats W 0 c).owed t.castSucc = 0 from rfl, show (rdats W 0 c).owed t.succ = 0 from rfl, e0, e1, e2, e3, e4, e5, e6]
  have run := run_body (F := F) c (grid0.coords t) (Memref.whole main_c) (Memref.whole main_c_0) (Memref.isWhole_whole _) (Memref.isWhole_whole _)
    _ _ (hstage0_0 (((cfg (F := F)).slots t 0).cast nbuf0_0)) (hstage0_1 (((cfg (F := F)).slots t 1).cast nbuf0_1))
    _ _ (hstage0_2 (((cfg (F := F)).slots t 2).cast nbuf0_2)) (hstage0_3 (((cfg (F := F)).slots t 3).cast nbuf0_3))
    _ _ (hstage0_4 (((cfg (F := F)).slots t 4).cast nbuf0_4)) (hstage0_5 (((cfg (F := F)).slots t 5).cast nbuf0_5))
    _ (hstage0_6 (((cfg (F := F)).slots t 6).cast nbuf0_6))
    _ (hstage0_7 (((cfg (F := F)).slots t 7).cast nbuf0_7))
    _ _ (hstage0_8 (((cfg (F := F)).slots t 8).cast nbuf0_8)) (hstage0_9 (((cfg (F := F)).slots t 9).cast nbuf0_9))
    _ (hstage0_10 (((cfg (F := F)).slots t 10).cast nbuf0_10))
    _ (hstage0_11 (((cfg (F := F)).slots t 11).cast nbuf0_11))
    tab0 tab1 (blkAt W c t).q (blkAt W c t).k (blkAt W c t).v (blkAt W c t).o (blkAt W c t).l (blkAt W c t).dl (blkAt W c t).ck
    (Y 7) (Y 8) (Y 9) (Y 10) (Y 11) (rowF t) (colF t) (word0 _) (word1 _) (col_le_row t)
  have h := (BIClass.sep_mono run (BIClass.entails_refl (iprop(∃ Wd : Waits sig Unit, ⌜(↑Wd : Set (SemLoc sig × Unit)) ⊆ (rdats W 0 c).bound () t.castSucc⌝ ∗ owes (c : Thread nD τ) 0 Wd) : sProp 𝕄))).trans (wp_frame_r _ _ _)
  clear run
  refine triple_restated h rfl ?_ fun _ => ?_
  · rw [← owns_word0, ← owns_word1]
    iintro ⟨⟨T0, T1⟩, HO, H0, H1, H2, H3, H4, H5, H6, H7, H8, H9, H10, H11⟩
    isplitr [HO]
    · unfold bufs
      isplitl [T0]; · iexact T0
      isplitl [T1]; · iexact T1
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      iexact H11
    · iexact HO
  · rw [← owns_word0, ← owns_word1]
    unfold bufs
    iintro ⟨⟨T0, T1, H0, H1, H2, H3, H4, H5, H6, H7, H8, H9, H10, H11⟩, ⟨%Wd, %hW, HO⟩⟩
    isplitl [T0 T1]; · isplitl [T0] <;> iassumption
    isplitl [HO]
    · iexists Wd; isplitr; · ipureintro; exact fun _ _ => Or.inl trivial
      iexact HO
    isplitl [H0]
    · iexists _; isplitr; swap; (· iexact H0); ipureintro; exact rfl
    isplitl [H1]
    · iexists _; isplitr; swap; (· iexact H1); ipureintro; exact rfl
    isplitl [H2]
    · iexists _; isplitr; swap; (· iexact H2); ipureintro; exact rfl
    isplitl [H3]
    · iexists _; isplitr; swap; (· iexact H3); ipureintro; exact rfl
    isplitl [H4]
    · iexists _; isplitr; swap; (· iexact H4); ipureintro; exact rfl
    isplitl [H5]
    · iexists _; isplitr; swap; (· iexact H5); ipureintro; exact rfl
    isplitl [H6]
    · iexists _; isplitr; swap; (· iexact H6); ipureintro; exact rfl
    isplitl [H7]
    · iexists _; isplitr; swap; (· iexact H7); ipureintro; exact rfl
    isplitl [H8]
    · iexists _; isplitr; swap; (· iexact H8); ipureintro; exact rfl
    isplitl [H9]
    · iexists _; isplitr; swap; (· iexact H9); ipureintro; exact rfl
    isplitl [H10]
    · iexists _; isplitr; swap; (· iexact H10); ipureintro; exact rfl
    iexists _; isplitr; swap; (· iexact H11); ipureintro; exact rfl

end Cert.Proof.Attn
-- ==== Proof.Run.lean ====
/-
  The attention-gradient program's run: the host operations, the pipeline at the host's tables, and the host operations
  after it.  Every final state holds its arguments as launched, and its results as the pipeline's proof data allow.
-/
module

public import proofs.«01_k».proof.Proof.Data
public import Idealize.ShloMosaic.Lib.Pipeline.RegionArraysT
public import Idealize.ShloMosaic.Lib.Pipeline.RegionArraysF
public import Idealize.ShloMosaic.Lib.Pipeline.ArrRel

@[expose] public section

set_option maxRecDepth 16384
set_option maxHeartbeats 1000000

noncomputable section

namespace Cert.Proof.Attn

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ (UR sig nD τ) ℕ

variable (m : (ℓ : Loc nD τ sig) → Buf (Elt F) ℓ) (ρ : Dev nD → PrngReg)

/-! ## The host operations before the pipeline -/

/-- The buffers at launch, and when the pipeline is entered. -/
abbrev V₀ (c : Dev nD) : Valuation τ sig (Elt F) := fun b => (s₀ m ρ).mem ((c : Dev nD), b)
abbrev V₁ (c : Dev nD) : Valuation τ sig (Elt F) := StableHlo.after hostOps0 (V₀ m ρ c)
abbrev V₂ (c : Dev nD) : Valuation τ sig (Elt F) := StableHlo.after hostOps0_1 (V₁ m ρ c)
abbrev V₃ (c : Dev nD) : Valuation τ sig (Elt F) := StableHlo.after hostOps0_2 (V₂ m ρ c)

abbrev hostOps0_W : List (Ref sig .tc) := [main_c, main_c_0, main_v0, main_v1, main_v2, main_v3, main_v4, main_v5, main_v6, main_cst, main_v7, main_v8, main_v9, main_v10, main_v11, main_v12, main_v13, main_v14, main_v15, main_v16, main_v17, main_v18, main_cst_1]
theorem hostOps0_writes : (hostOps0 : List (HloOp τ sig (Elt F))).Forall fun op => op.writes ⊆ (hostOps0_W.map (Proc.devRef (τ := τ) .tc)).toFinset :=
  StableHlo.forall_writes_sub_of_map rfl
abbrev hostOps0_1_W : List (Ref sig .tc) := [main_call0_v0, main_call0_v1, main_call0_v2, main_v19]
theorem hostOps0_1_writes : (hostOps0_1 : List (HloOp τ sig (Elt F))).Forall fun op => op.writes ⊆ (hostOps0_1_W.map (Proc.devRef (τ := τ) .tc)).toFinset :=
  StableHlo.forall_writes_sub_of_map rfl
abbrev hostOps0_2_W : List (Ref sig .tc) := [main_cst_2, main_v20, main_v21, main_v22, main_v23, main_v24, main_cst_3, main_v25, main_v26, main_v27, main_v28, main_v29, main_v30, main_v31, main_v32, main_v33, main_cst_4, main_v34, main_v35, main_cst_5, main_v36, main_v37, main_v38, main_v39, main_v40, main_v41, main_v42]
theorem hostOps0_2_writes : (hostOps0_2 : List (HloOp τ sig (Elt F))).Forall fun op => op.writes ⊆ (hostOps0_2_W.map (Proc.devRef (τ := τ) .tc)).toFinset :=
  StableHlo.forall_writes_sub_of_map rfl
abbrev hostOps1_W : List (Ref sig .tc) := [main_cst_6, main_v44, main_v45, main_v46, main_v47]
theorem hostOps1_writes : (hostOps1 : List (HloOp τ sig (Elt F))).Forall fun op => op.writes ⊆ (hostOps1_W.map (Proc.devRef (τ := τ) .tc)).toFinset :=
  StableHlo.forall_writes_sub_of_map rfl

theorem hostOps0_fresh : ∀ op ∈ (hostOps0 : List (HloOp τ sig (Elt F))), op.fresh = ∅ :=
  List.forall_iff_forall_mem.mp (StableHlo.forall_fresh_of_map rfl)
theorem hostOps0_1_fresh : ∀ op ∈ (hostOps0_1 : List (HloOp τ sig (Elt F))), op.fresh = ∅ :=
  List.forall_iff_forall_mem.mp (StableHlo.forall_fresh_of_map rfl)
theorem hostOps0_2_fresh : ∀ op ∈ (hostOps0_2 : List (HloOp τ sig (Elt F))), op.fresh = ∅ :=
  List.forall_iff_forall_mem.mp (StableHlo.forall_fresh_of_map rfl)
theorem hostOps1_fresh : ∀ op ∈ (hostOps1 : List (HloOp τ sig (Elt F))), op.fresh = ∅ :=
  List.forall_iff_forall_mem.mp (StableHlo.forall_fresh_of_map rfl)

/-- A buffer no host operation writes reaches the pipeline as launched. -/
theorem V₃_kept (c : Dev nD) (r : Ref sig .tc) (h0 : r ∉ hostOps0_W) (h1 : r ∉ hostOps0_1_W) (h2 : r ∉ hostOps0_2_W) :
    V₃ m ρ c (Proc.devRef .tc r) = m ((c : Thread nD τ).loc r) :=
  ((StableHlo.after_of_writes_sub hostOps0_2 _ hostOps0_2_writes h2).trans
    (StableHlo.after_of_writes_sub hostOps0_1 _ hostOps0_1_writes h1)).trans
    (StableHlo.after_of_writes_sub hostOps0 _ hostOps0_writes h0)

/-- A buffer the first stretch alone writes. -/
theorem V₃_first (c : Dev nD) (r : Ref sig .tc) (h1 : r ∉ hostOps0_1_W) (h2 : r ∉ hostOps0_2_W) :
    V₃ m ρ c (Proc.devRef .tc r) = V₁ m ρ c (Proc.devRef .tc r) :=
  (StableHlo.after_of_writes_sub hostOps0_2 _ hostOps0_2_writes h2).trans
    (StableHlo.after_of_writes_sub hostOps0_1 _ hostOps0_1_writes h1)

/-- The two tables, when the pipeline is entered. -/
theorem V₃_tab0 (c : Dev nD) : V₃ m ρ c (Proc.devRef .tc main_c) = tab0 (F := F) := by
  rw [V₃_first m ρ c main_c (by decide) (by decide)]
  show StableHlo.after hostOps0 _ _ = _
  after_results
  rfl
theorem V₃_tab1 (c : Dev nD) : V₃ m ρ c (Proc.devRef .tc main_c_0) = tab1 (F := F) := by
  rw [V₃_first m ρ c main_c_0 (by decide) (by decide)]
  show StableHlo.after hostOps0 _ _ = _
  after_results
  rfl

theorem V₃_tabs (c : Dev nD) (k : Fin pre0.K) : (adms (F := F) 0).1 k = V₃ m ρ c (Proc.devRef .tc (pre0.ref k)) := by
  fin_cases k
  · exact (V₃_tab0 m ρ c).symm
  · exact (V₃_tab1 m ρ c).symm

/-! ## The segments -/

abbrev ucRefs : Finset (DevRef τ sig) := Pipeline.ucRefs τ sig

theorem unscopedBufs_held (c : Dev nD) (W : Valuation τ sig (Elt F)) :
    (unscopedBufs c (fun b => W b) : sProp 𝕄) = StableHlo.held (c : Thread nD τ) ucRefs W := by
  unfold unscopedBufs StableHlo.held ucRefs Pipeline.ucRefs StableHlo.tcRefs
  rw [Finset.filter_map, bigSep_map]
  rfl

theorem sub_ucRefs (op : HloOp τ sig (Elt F)) (h : op.bufs ⊆ StableHlo.tcRefs τ sig) : op.bufs ⊆ ucRefs := fun b hb =>
  Finset.mem_filter.mpr ⟨h hb, fun h' => Bool.false_ne_true ((op.no_scoped b hb).symm.trans h')⟩

abbrev L : GSem nD τ sig → Finset Unit := fun _ => ∅
abbrev lv : GSem nD τ sig → Unit → ℕ := fun _ _ => 0
abbrev R (c : Dev nD) : sProp 𝕄 := iprop(∃ W, owes (c : Thread nD τ) (0 : CellTallies nD τ sig Unit) W)
abbrev data := rdats (V₃ m ρ)

/-- A host stretch before the pipeline. -/
def hostSeg (ops : List (HloOp τ sig (Elt F))) (hs : ops.Forall fun op => op.bufs ⊆ StableHlo.tcRefs τ sig)
    (hf : ∀ op ∈ ops, op.fresh = ∅) (V : Dev nD → Valuation τ sig (Elt F)) :
    Pipeline.HostSeg (Name := ℕ) (U := UR sig nD τ) (pcfgs (F := F)) defs₀ Variants.none L lv :=
  Pipeline.HostSeg.ofOps _ _ _ _ _ ucRefs ops (fun op h => sub_ucRefs op ((List.forall_iff_forall_mem.mp hs) op h)) hf V R

/-- The contents of a family of distinct buffers, put in a valuation. -/
theorem exists_valuation {n : ℕ} (f : Fin n → DevRef τ sig) (hf : Function.Injective f) (V : Valuation τ sig (Elt F))
    (A : (w : Fin n) → (f w).ty.Contents (Elt F)) :
    ∃ V' : Valuation τ sig (Elt F), (∀ w, V' (f w) = A w) ∧ ∀ d, (∀ w, f w ≠ d) → V' d = V d := by
  classical
  have key : ∀ d (h : ∃ w, f w = d) w (e : f w = d), (h.choose_spec ▸ A h.choose : d.ty.Contents (Elt F)) = e ▸ A w := by
    intro d h w e
    have hw : h.choose = w := hf (h.choose_spec.trans e.symm)
    have : ∀ (u : Fin n) (eu : f u = d), u = w → (eu ▸ A u : d.ty.Contents (Elt F)) = e ▸ A w := by
      intro u eu hu; subst hu; rfl
    exact this _ _ hw
  refine ⟨fun d => if h : ∃ w, f w = d then h.choose_spec ▸ A h.choose else V d, fun w => ?_, fun d hd => ?_⟩
  · have h : ∃ u, f u = f w := ⟨w, rfl⟩
    show (if h : ∃ u, f u = f w then (h.choose_spec ▸ A h.choose : (f w).ty.Contents (Elt F)) else V (f w)) = _
    rw [dif_pos h]; exact key _ h w rfl
  · exact dif_neg fun ⟨w, hw⟩ => hd w hw

/-- What the pipeline leaves: each window's array something the data allow, every other buffer as it was. -/
def Left (c : Dev nD) (V : Valuation τ sig (Elt F)) : Prop :=
  (∀ w : Fin (cfg (F := F)).W, (data m ρ 0 c).ArrAt w (cfg (F := F)).N (V (Proc.devRef .tc (Pipeline.arrRef spec0 w))))
    ∧ ∀ d : DevRef τ sig, (∀ w : Fin 12, Proc.devRef .tc (Pipeline.arrRef spec0 w) ≠ d) → V d = V₃ m ρ c d

theorem data_A (c : Dev nD) (w : Fin (cfg (F := F)).W) : (data m ρ 0 c).A w = V₃ m ρ c (Proc.devRef .tc (Pipeline.arrRef spec0 w)) := by
  exact A_eq (V₃ m ρ) c w

theorem exact_arrays (W : Dev nD → Valuation τ sig (Elt F)) (c : Dev nD)
    (A : (w : Fin (cfg (F := F)).W) → Buf (Elt F) (((cfg (F := F)).win w).arr.view.loc (c : Thread nD τ)))
    (V : Valuation τ sig (Elt F)) (h : ∀ w, A w = V (Proc.devRef .tc (Pipeline.arrRef spec0 w))) :
    ((rdats W 0 c).arrays A : sProp 𝕄) = StableHlo.held (c : Thread nD τ) (Pipeline.arrRefs spec0) V :=
  Pipeline.arrays_held (pcfgs (F := F)) adms
    (fun p c => (rdats W p c).withAfter fun _ _ _ => Classical.arbitrary _) 0 launch0 c
    (fun w => by unfold Pipeline.Dat.share; split <;> rfl) A V h

theorem tables_held (c : Dev nD) (V : Valuation τ sig (Elt F)) (h : ∀ k : Fin pre0.K, (adms (F := F) 0).1 k = V (Proc.devRef .tc (pre0.ref k))) :
    (Pipeline.prefHeld pre0 c (fun _ => fullShare) (adms (F := F) 0).1 : sProp 𝕄) = StableHlo.held (c : Thread nD τ) (Pipeline.tblRefs pre0) V :=
  Pipeline.prefHeld_held pre0 preFacts0.inj c _ V h

/-- The buffers neither a window nor a table names. -/
abbrev others : Finset (DevRef τ sig) := (ucRefs \ Pipeline.arrRefs spec0) \ Pipeline.tblRefs pre0

theorem held_split (c : Dev nD) (V : Valuation τ sig (Elt F)) :
    (StableHlo.held (c : Thread nD τ) ucRefs V : sProp 𝕄)
      = iprop(StableHlo.held (c : Thread nD τ) (Pipeline.arrRefs spec0) V ∗ StableHlo.held (c : Thread nD τ) (Pipeline.tblRefs pre0) V
          ∗ StableHlo.held (c : Thread nD τ) others V) := by
  rw [StableHlo.held_sub_split (c : Thread nD τ) (Pipeline.arrRefs_sub_ucRefs spec0 winFacts0.arr_unscoped) V,
    StableHlo.held_sub_split (c : Thread nD τ) (Pipeline.tblRefs_sub_ucRefs_sdiff spec0 pre0 preFacts0.unscoped preFacts0.disj) V]

/-- The arrays at contents the data allow, the other buffers as they were. -/
theorem left_of (W : Dev nD → Valuation τ sig (Elt F)) (c : Dev nD)  :
    iprop((rdats W 0 c).arraysAt (cfg (F := F)).N)
      ⊢ (iprop(∃ V : Valuation τ sig (Elt F), ⌜(∀ w : Fin (cfg (F := F)).W, (rdats W 0 c).ArrAt w (cfg (F := F)).N (V (Proc.devRef .tc (Pipeline.arrRef spec0 w))))
            ∧ ∀ d : DevRef τ sig, (∀ w : Fin 12, Proc.devRef .tc (Pipeline.arrRef spec0 w) ≠ d) → V d = W c d⌝
          ∗ StableHlo.held (c : Thread nD τ) (Pipeline.arrRefs spec0) V) : sProp 𝕄) := by
  have h₁ : (iprop((rdats W 0 c).arraysAt (cfg (F := F)).N) : sProp 𝕄)
      ⊢ iprop(∃ A, ⌜∀ w : Fin (cfg (F := F)).W, (rdats W 0 c).ArrAt w (cfg (F := F)).N (A w)⌝ ∗ (rdats W 0 c).arrays A) := by
    unfold Pipeline.RDat.arraysAt Pipeline.RDat.arrays
    refine (BI.bigSep_exists_pi Finset.univ _).trans ?_
    iintro ⟨%A, H⟩
    ihave H' := (BI.bigSep_pure_sep Finset.univ (fun w => (rdats W 0 c).ArrAt w (cfg (F := F)).N (A w)) _) $$ H
    icases H' with ⟨%hA, H⟩
    iexists A
    isplitr
    · ipureintro; exact fun w => hA w (Finset.mem_univ w)
    iexact H
  refine h₁.trans ?_
  iintro ⟨%A, %hA, H⟩
  obtain ⟨V, hV, hV'⟩ := exists_valuation (fun w : Fin 12 => Proc.devRef .tc (Pipeline.arrRef spec0 w))
    (fun a b h => winFacts0.arr_inj (Proc.devRef_injective _ h)) (W c) A
  iexists V
  isplitr
  · ipureintro; exact ⟨fun w => by rw [hV]; exact hA w, hV'⟩
  rw [← exact_arrays W c A V fun w => (hV w).symm]
  iexact H

theorem rest_of (c : Dev nD) (V : Valuation τ sig (Elt F)) (hV : Left m ρ c V) (S : Finset (DevRef τ sig))
    (hS : ∀ d ∈ S, d ∉ Pipeline.arrRefs (τ := τ) spec0) :
    (StableHlo.held (c : Thread nD τ) S V : sProp 𝕄) = StableHlo.held (c : Thread nD τ) S (V₃ m ρ c) :=
  StableHlo.held_congr (c : Thread nD τ) fun d hd => hV.2 d fun w e => hS d hd (e ▸ Finset.mem_map_of_mem _ (Finset.mem_image_of_mem _ (Finset.mem_univ w)))

/-- What the run holds once the pipeline is done. -/
abbrev Done (c : Dev nD) : sProp 𝕄 :=
  iprop(∃ V : Valuation τ sig (Elt F), ⌜Left m ρ c V⌝ ∗ StableHlo.held (c : Thread nD τ) ucRefs V ∗ R (F := F) c)

set_option backward.isDefEq.respectTransparency.types false in
/-- The pipeline: entered from the host's buffers, left with each window's array as the data allow. -/
noncomputable def reg : Pipeline.RDat.RegionSeg (pcfgs (F := F)) adms (data m ρ) () defs₀ Variants.none L lv 0 where
  win := (launch0 (F := F)).win.to₀
  block_pos := (launch0 (F := F)).block_pos
  stage_whole := (launch0 (F := F)).stage_whole
  K := PEmpty
  osem k := k.elim
  ho := Pipeline.OwnSemFacts.none _
  hbody c := body_obligation (V₃ m ρ) c
  hwaits := Pipeline.RDat.hwaits_of_owed_zero (pcfgs (F := F)) adms (data m ρ) () L lv 0 fun _ _ => rfl
  pre c := iprop(StableHlo.held (c : Thread nD τ) ucRefs (V₃ m ρ c) ∗ R c)
  post c := Done m ρ c
  X _ := iprop(emp)
  Y c := Pipeline.prefHeld pre0 c (fun _ => fullShare) (adms (F := F) 0).1
  Z c := StableHlo.held (c : Thread nD τ) others (V₃ m ρ c)
  hentry c := by
    rw [held_split, exact_arrays (V₃ m ρ) c _ (V₃ m ρ c) (data_A m ρ c),
      show (Pipeline.prefHeld (pcfgs (F := F) 0).pre c (fun _ => fullShare) (adms (F := F) 0).1 : sProp 𝕄) = StableHlo.held (c : Thread nD τ) (Pipeline.tblRefs pre0) (V₃ m ρ c)
        from tables_held c _ (V₃_tabs m ρ c)]
    iintro ⟨⟨⟨Ha, Ht, Hr⟩, HO⟩, -, -⟩
    imodintro
    isplitl [Ha]; · iexact Ha
    isplitl [Ht]; · iexact Ht
    isplitl [HO]
    · unfold Pipeline.RDat.owesAt Pipeline.owesWithin
      icases HO with ⟨%W, HO⟩; iexists W; isplitr; · ipureintro; exact fun _ _ => Or.inl trivial
      iexact HO
    isplitr; · iempintro
    iexact Hr
  hin c := by
    rw [show (data m ρ 0 c).Φ 0 = Pipeline.prefHeld pre0 c (fun _ => fullShare) (adms (F := F) 0).1 from rfl]
    iintro ⟨-, Ht, -⟩
    iexact Ht
  hout c := by
    rw [show (data m ρ 0 c).Φ (Fin.last (cfg (F := F)).N) = Pipeline.prefHeld pre0 c (fun _ => fullShare) (adms (F := F) 0).1 from rfl,
      show (Pipeline.scopedRest (Pipeline.pin (pcfgs (F := F)) adms 0).spec c : sProp 𝕄) = BI.emp from scopedRest0_eq c, Pipeline.ownSems0_none]
    iintro Ht
    isplitl [Ht]; · iexact Ht
    isplitr <;> iempintro
  hexit c := by
    iintro ⟨Ha, HO, Ht, Hr⟩
    ihave H := (left_of (V₃ m ρ) c) $$ Ha
    icases H with ⟨%V, %hV, Ha⟩
    imodintro
    iexists V
    isplitr; · ipureintro; exact hV
    rw [held_split, rest_of m ρ c V hV (Pipeline.tblRefs pre0) (fun d hd => Finset.disjoint_left.mp (Pipeline.tblRefs_disjoint_arrRefs spec0 pre0 preFacts0.disj) hd),
      rest_of m ρ c V hV others (fun d hd => (Finset.mem_sdiff.mp (Finset.mem_sdiff.mp hd).1).2),
      ← tables_held c _ (V₃_tabs m ρ c)]
    isplitr [HO]
    · isplitl [Ha]; · iexact Ha
      isplitl [Ht]; · iexact Ht
      iexact Hr
    · unfold Pipeline.RDat.owesAt Pipeline.owesWithin
      icases HO with ⟨%W, -, HO⟩; iexists W; iexact HO

set_option backward.isDefEq.respectTransparency.types false in
/-- The host operations after the pipeline, from whatever it left. -/
noncomputable def seg₄ : Pipeline.HostSeg (Name := ℕ) (U := UR sig nD τ) (pcfgs (F := F)) defs₀ Variants.none L lv where
  prog := StableHlo.seq hostOps1
  pre c := Done m ρ c
  post c := iprop(∃ V : Valuation τ sig (Elt F), ⌜Left m ρ c V⌝ ∗ StableHlo.held (c : Thread nD τ) ucRefs (StableHlo.after hostOps1 V) ∗ R (F := F) c)
  run c {β} k K := by
    have hseq := fun V => StableHlo.wp_seq (defs := Pipeline.defs (pcfgs (F := F)) defs₀) Variants.none.lift none Set.univ c ucRefs k (K := K) hostOps1
      (fun op h => sub_ucRefs op ((List.forall_iff_forall_mem.mp hostOps1_sub) op h)) hostOps1_fresh V
    iintro ⟨Hk, Hbd, ⟨%V, %hV, Hh, HR⟩, -⟩
    iapply (hseq V) $$ [Hbd Hh]
    · isplitl [Hbd] <;> iassumption
    iintro ⟨Hbd, Hh⟩
    iapply Hk
    isplitl [Hbd]; · iexact Hbd
    iexists V
    isplitr; · ipureintro; exact hV
    isplitl [Hh] <;> iassumption

/-- @main as the list of its stretches. -/
noncomputable abbrev segs : List (Pipeline.RDat.Seg (pcfgs (F := F)) adms (data m ρ) () defs₀ Variants.none L lv) :=
  [.host (hostSeg hostOps0 hostOps0_sub hostOps0_fresh (V₀ m ρ)), .host (hostSeg hostOps0_1 hostOps0_1_sub hostOps0_1_fresh (V₁ m ρ)),
    .host (hostSeg hostOps0_2 hostOps0_2_sub hostOps0_2_fresh (V₂ m ρ)), .region (reg m ρ), .host (seg₄ m ρ)]

/-- What every final state satisfies: its buffers are what the last stretch makes of something the pipeline may leave. -/
def Final (r : PUnit × MemSt nD τ sig (Elt F)) : Prop :=
  ∀ c : Dev nD, ∃ V : Valuation τ sig (Elt F), Left m ρ c V ∧ ∀ b ∈ ucRefs, r.2.mem (c, b) = StableHlo.after hostOps1 V b

set_option backward.isDefEq.respectTransparency.types false in
theorem run_all : θ_run defs (onTc (τ := τ) (main (F := F))) (s₀ m ρ) (fun r => Final m ρ r ∧ r.2.sem = fun _ => 0) :=
  Pipeline.RDat.θ_run_regions_kit_sems (pcfgs (F := F)) adms (data m ρ) () (cellOf_inj adms) emb₁ defs₀ Variants.none L lv m ρ main (segs m ρ)
    (fun c Q => by rw [main_chain, Pipeline.RDat.Seg.run_eq_chain]; exact .rfl)
    (by simp only [Pipeline.RDat.Seg.pipes_host, Pipeline.RDat.Seg.pipes_region, Pipeline.RDat.Seg.pipes_nil]; decide) (O₀ := 0) (hL := fun _ _ => rfl) (G := fun _ => iprop(emp))
    (u₀ := initOf (Pipeline.cells (Pipeline.pin (pcfgs (F := F)) adms) (cellOf_inj adms)) (Pipeline.launchToks (Pipeline.pin (pcfgs (F := F)) adms) (cellOf_inj adms)))
    (hu₀ := by
      rw [ownU_emb₁]
      iintro HP
      imodintro
      isplitl [HP]; · iexact HP
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) ucRefs (V₀ m ρ c) ∗ R (F := F) c))
    (Tₙ := fun c => iprop(∃ V : Valuation τ sig (Elt F), ⌜Left m ρ c V⌝ ∗ StableHlo.held (c : Thread nD τ) ucRefs (StableHlo.after hostOps1 V)))
    (hch := ⟨fun _ => .rfl, fun _ => .rfl, fun _ => .rfl, fun _ => .rfl, fun _ => .rfl, fun c => by
      show iprop(∃ V : Valuation τ sig (Elt F), ⌜Left m ρ c V⌝ ∗ StableHlo.held (c : Thread nD τ) ucRefs (StableHlo.after hostOps1 V) ∗ R (F := F) c) ⊢ _
      iintro ⟨%V, %hV, Hh, HR⟩
      isplitl [Hh]
      · iexists V
        isplitr; · ipureintro; exact hV
        iexact Hh
      iexact HR⟩)
    (hinit := by
      refine Pipeline.initEach L lv fun c => ?_
      rw [show unscopedBufs c (fun b => m ((c : Thread nD τ).loc b)) = StableHlo.held (c : Thread nD τ) ucRefs (V₀ m ρ c) from unscopedBufs_held c (V₀ m ρ c)]
      iintro ⟨⟨Hh, -, HO, -, -, -⟩, -⟩
      imodintro
      isplitl [Hh]; · iexact Hh
      iexists ∅; iexact HO)
    (QY := fun c s => ∃ V : Valuation τ sig (Elt F), Left m ρ c V ∧ ∀ b ∈ ucRefs, s.mem (c, b) = StableHlo.after hostOps1 V b)
    (hfin := fun c s' => by
      have h : ∀ V : Valuation τ sig (Elt F), iprop(StableHlo.held (c : Thread nD τ) ucRefs (StableHlo.after hostOps1 V) ∗ SI s')
          ⊢ (⌜∀ b ∈ ucRefs, s'.mem.mem (c, b) = StableHlo.after hostOps1 V b⌝ : sProp 𝕄) := fun V => by
        unfold StableHlo.held
        iintro ⟨H, HSI⟩
        iapply (SI_pointsTo_bufs_agree (qs := fun _ => fullShare) ucRefs)
        isplitl [HSI]; · iexact HSI
        iexact H
      iintro ⟨⟨%V, %hV, H⟩, HSI⟩
      ihave H' := (persistent_entails_right (h V)) $$ [H HSI]
      · isplitl [H] <;> iassumption
      icases H' with ⟨%hb, -, HSI⟩
      imodintro
      isplitr; · ipureintro; exact ⟨V, hV, hb⟩
      iexact HSI)
    (hQ := fun _ h hz => ⟨h, funext fun g => hz g (.inr (by revert g; decide))⟩)

/-- What a window only reads is left as the pipeline found it. -/
theorem Left.input {c : Dev nD} {V : Valuation τ sig (Elt F)} (h : Left m ρ c V) (w : Fin (cfg (F := F)).W) (hw : ((cfg (F := F)).win w).isOut = false) :
    V (Proc.devRef .tc (Pipeline.arrRef spec0 w)) = V₃ m ρ c (Proc.devRef .tc (Pipeline.arrRef spec0 w)) :=
  (show _ = (data m ρ 0 c).A w from (congrFun ((data m ρ 0 c).ArrAt_in w hw _) _).mp (h.1 w)).trans (data_A m ρ c w)

theorem mem_ucRefs (r : Ref sig .tc) (h : r.isScoped = false) : (Proc.devRef .tc r : DevRef τ sig) ∈ ucRefs :=
  Finset.mem_filter.mpr ⟨StableHlo.devRef_mem_tcRefs r, by rw [Bool.not_eq_true]; exact h⟩

/-- A buffer no operation writes, and no window names, is as launched. -/
theorem Final.kept {r : PUnit × MemSt nD τ sig (Elt F)} (h : Final m ρ r) (c : Dev nD) (b : Ref sig .tc) (hs : b.isScoped = false)
    (h0 : b ∉ hostOps0_W) (h1 : b ∉ hostOps0_1_W) (h2 : b ∉ hostOps0_2_W) (h3 : b ∉ hostOps1_W)
    (hw : ∀ w : Fin 12, Pipeline.arrRef spec0 w = b → (spec0 w).isOut = false) :
    r.2.mem ((c : Thread nD τ).loc b) = m ((c : Thread nD τ).loc b) := by
  obtain ⟨V, hV, hb⟩ := h c
  refine (hb _ (mem_ucRefs b hs)).trans ((StableHlo.after_of_writes_sub hostOps1 _ hostOps1_writes h3).trans (Eq.trans ?_ (V₃_kept m ρ c b h0 h1 h2)))
  by_cases e : ∃ w : Fin 12, Pipeline.arrRef spec0 w = b
  · obtain ⟨w, rfl⟩ := e
    exact hV.input m ρ w (hw w rfl)
  · exact hV.2 _ fun w hw => e ⟨w, Proc.devRef_injective _ hw⟩

/-- What every final state leaves unchanged. -/
def Kept (r : PUnit × MemSt nD τ sig (Elt F)) : Prop := ∀ c : Dev nD,
  r.2.mem ((c : Thread nD τ).loc main_arg0) = m ((c : Thread nD τ).loc main_arg0)
  ∧ r.2.mem ((c : Thread nD τ).loc main_arg1) = m ((c : Thread nD τ).loc main_arg1)
  ∧ r.2.mem ((c : Thread nD τ).loc main_arg2) = m ((c : Thread nD τ).loc main_arg2)
  ∧ r.2.mem ((c : Thread nD τ).loc main_arg3) = m ((c : Thread nD τ).loc main_arg3)
  ∧ r.2.mem ((c : Thread nD τ).loc main_arg4) = m ((c : Thread nD τ).loc main_arg4)

theorem Final.args {r : PUnit × MemSt nD τ sig (Elt F)} (h : Final m ρ r) : Kept m r := fun c =>
  ⟨h.kept m ρ c main_arg0 rfl (by decide) (by decide) (by decide) (by decide) (by decide),
   h.kept m ρ c main_arg1 rfl (by decide) (by decide) (by decide) (by decide) (by decide),
   h.kept m ρ c main_arg2 rfl (by decide) (by decide) (by decide) (by decide) (by decide),
   h.kept m ρ c main_arg3 rfl (by decide) (by decide) (by decide) (by decide) (by decide),
   h.kept m ρ c main_arg4 rfl (by decide) (by decide) (by decide) (by decide) (by decide)⟩

end Cert.Proof.Attn
-- ==== Proof.Frames.lean ====
/-
  The frames of the kernel: over bit patterns and over the reals.
-/
module

public import proofs.«01_k».proof.Defs
public import proofs.«01_k».proof.Proof.Gen.Pre_finite
public import proofs.«01_k».proof.Proof.Run
public import proofs.«01_k».proof.Proof.Words.Run

@[expose] public section

set_option maxRecDepth 16384

noncomputable section

namespace Cert.Proof.Attn

open Idealize.ShloMosaic Idealize.SL.Sem

theorem frame_kernel : Cert.quiescent_Kernel := fun m ρ _ =>
  (θ_run Cert.Kernel.defs _ _).mono (fun _ h => ⟨h.1.args m ρ, h.2⟩) (Words.run_all (F := Bits) m ρ)

theorem frame_ideal : Cert.quiescent_KernelIdeal := fun m ρ _ =>
  (θ_run Cert.KernelIdeal.defs _ _).mono (fun _ h => ⟨h.1.args m ρ, h.2⟩) (run_all (F := Ideal) m ρ)

theorem frame_ideal_finite : Cert.quiescent_KernelIdeal_pre_finite := fun m ρ _ => frame_ideal m ρ trivial

end Cert.Proof.Attn

end
-- ==== Proof.RefRun.lean ====
/-
  The reference's run: its arguments are unchanged, and its signature declares no semaphore.
-/
module

public import proofs.«01_k».proof.Defs
public import proofs.«01_k».proof.Proof.Gen.Pre_finite
public import proofs.«01_k».proof.Proof.Gen.ReferenceIdeal
public import proofs.«01_k».proof.Proof.Gen.ReferenceIdeal.Run
public import Idealize.ShloMosaic.Lib.Quiescent

@[expose] public section

set_option maxRecDepth 16384

noncomputable section

namespace Cert.Proof.Attn

open Idealize.ShloMosaic Idealize.SL.Sem

theorem frame_reference : Cert.quiescent_ReferenceIdeal := fun m ρ _ =>
  (θ_run Cert.ReferenceIdeal.defs _ _).mono (fun r h => ⟨fun c => (h c).2.2.2.2, sem_eq_zero_of_no_sems (by decide) r.2⟩)
    (Cert.ReferenceIdeal.Value.run (F := Ideal) m ρ)

theorem frame_reference_finite : Cert.quiescent_ReferenceIdeal_pre_finite := fun m ρ _ => frame_reference m ρ trivial

end Cert.Proof.Attn

end
-- ==== Proof.Value.Spec.lean ====
/-
  The gradient of the forgetting attention over the reals, written once: the probabilities, the gradients of the logits,
  and the four results.  Both programs are shown to compute these.
-/
module

public import Idealize.ShloMosaic.Lib.Pointwise
public import Mathlib.Analysis.SpecialFunctions.Log.Basic
public import Mathlib.Tactic.FieldSimp

@[expose] public section

noncomputable section

namespace Cert.Proof.Value

/-- The real arguments: queries, keys, values, incoming gradient (a row per position, 64 lanes per head), decay sums. -/
structure Arg where
  q : Fin 8192 → Fin 768 → ℝ
  k : Fin 8192 → Fin 768 → ℝ
  v : Fin 8192 → Fin 768 → ℝ
  o : Fin 8192 → Fin 768 → ℝ
  c : Fin 12 → Fin 8192 → ℝ

/-- Lane `d` of head `h`. -/
def ln (h : Fin 12) (d : Fin 64) : Fin 768 := ⟨h.val * 64 + d.val, by omega⟩
/-- The head of a lane. -/
def hd (n : Fin 768) : Fin 12 := ⟨n.val / 64, by omega⟩

theorem hd_ln (h : Fin 12) (d : Fin 64) : hd (ln h d) = h := Fin.ext (by simp only [hd, ln]; omega)
theorem ln_hd (n : Fin 768) (d : Fin 64) (hn : d.val = n.val % 64) : ln (hd n) d = n := Fin.ext (by simp only [hd, ln]; omega)

namespace Arg
variable (A : Arg)

def logit (h : Fin 12) (x y : Fin 8192) : ℝ := (∑ d, A.q x (ln h d) * A.k y (ln h d)) * (1 / 8) - A.c h y
def wt (h : Fin 12) (x y : Fin 8192) : ℝ := if y ≤ x then Real.exp (A.logit h x y) else 0
def mass (h : Fin 12) (x : Fin 8192) : ℝ := ∑ y, A.wt h x y
def prob (h : Fin 12) (x y : Fin 8192) : ℝ := A.wt h x y / A.mass h x
def dprob (h : Fin 12) (x y : Fin 8192) : ℝ := ∑ d, A.o x (ln h d) * A.v y (ln h d)
def del (h : Fin 12) (x : Fin 8192) : ℝ := ∑ y, A.prob h x y * A.dprob h x y
def dlog (h : Fin 12) (x y : Fin 8192) : ℝ := A.prob h x y * (A.dprob h x y - A.del h x)

def dq (x : Fin 8192) (n : Fin 768) : ℝ := ∑ y, A.dlog (hd n) x y * A.k y n * (1 / 8)
def dk (y : Fin 8192) (n : Fin 768) : ℝ := ∑ x, A.dlog (hd n) x y * A.q x n * (1 / 8)
def dv (y : Fin 8192) (n : Fin 768) : ℝ := ∑ x, A.prob (hd n) x y * A.o x n
def dc (h : Fin 12) (z : Fin 8192) : ℝ := ∑ y, A.dlog h z y - ∑ x, A.dlog h x z

theorem wt_nonneg (h : Fin 12) (x y : Fin 8192) : 0 ≤ A.wt h x y := by
  unfold wt; split
  · exact (Real.exp_pos _).le
  · exact le_rfl

theorem mass_pos (h : Fin 12) (x : Fin 8192) : 0 < A.mass h x :=
  Finset.sum_pos' (fun y _ => A.wt_nonneg h x y) ⟨x, Finset.mem_univ _, by unfold wt; rw [if_pos le_rfl]; exact Real.exp_pos _⟩

theorem prob_masked {h : Fin 12} {x y : Fin 8192} (hxy : x < y) : A.prob h x y = 0 := by
  unfold prob wt; rw [if_neg (not_le.mpr hxy), zero_div]

theorem dlog_masked {h : Fin 12} {x y : Fin 8192} (hxy : x < y) : A.dlog h x y = 0 := by
  unfold dlog; rw [A.prob_masked hxy, zero_mul]

/-- An allowed probability is the exponential of the logit less the logarithm of the mass. -/
theorem prob_eq_exp {h : Fin 12} {x y : Fin 8192} (hxy : y ≤ x) :
    A.prob h x y = Real.exp (A.logit h x y - Real.log (A.mass h x)) := by
  unfold prob wt; rw [if_pos hxy, Real.exp_sub, Real.exp_log (A.mass_pos h x)]

/-- The weights of a row, each exponent shifted by `b`. -/
def wtS (b : ℝ) (h : Fin 12) (x y : Fin 8192) : ℝ := if y ≤ x then Real.exp (A.logit h x y + b) else 0

theorem wtS_eq (b : ℝ) (h : Fin 12) (x y : Fin 8192) : A.wtS b h x y = A.wt h x y * Real.exp b := by
  unfold wtS wt; split
  · rw [Real.exp_add]
  · rw [zero_mul]

theorem sum_wtS (b : ℝ) (h : Fin 12) (x : Fin 8192) : ∑ y, A.wtS b h x y = A.mass h x * Real.exp b := by
  simp only [wtS_eq, ← Finset.sum_mul]; rfl

theorem sum_wtS_pos (b : ℝ) (h : Fin 12) (x : Fin 8192) : 0 < ∑ y, A.wtS b h x y := by
  rw [sum_wtS]; exact mul_pos (A.mass_pos h x) (Real.exp_pos b)

/-- The shift cancels. -/
theorem wtS_div (b : ℝ) (h : Fin 12) (x y : Fin 8192) : A.wtS b h x y / ∑ y', A.wtS b h x y' = A.prob h x y := by
  rw [sum_wtS, wtS_eq]; exact mul_div_mul_right _ _ (Real.exp_pos b).ne'

/-- The logarithm of the shifted mass, the shift taken back. -/
theorem log_sum_wtS (b : ℝ) (h : Fin 12) (x : Fin 8192) : -b + Real.log (∑ y, A.wtS b h x y) = Real.log (A.mass h x) := by
  rw [sum_wtS, Real.log_mul (A.mass_pos h x).ne' (Real.exp_pos b).ne', Real.log_exp]; ring

/-- The gradient of the logits as differentiating the quotient gives it. -/
theorem dlog_eq (b : ℝ) (h : Fin 12) (x y : Fin 8192) :
    (A.dprob h x y / (∑ y', A.wtS b h x y')
        + -(∑ z, A.dprob h x z * (1 / ((∑ y', A.wtS b h x y') * (∑ y', A.wtS b h x y'))) * A.wtS b h x z)) * A.wtS b h x y
      = A.dlog h x y := by
  have hl := (A.sum_wtS_pos b h x).ne'
  have e : ∑ z, A.dprob h x z * (1 / ((∑ y', A.wtS b h x y') * (∑ y', A.wtS b h x y'))) * A.wtS b h x z
      = A.del h x / ∑ y', A.wtS b h x y' := by
    unfold del
    rw [Finset.sum_div]
    refine Finset.sum_congr rfl fun z _ => ?_
    rw [← A.wtS_div b h x z]; field_simp
  rw [e]; unfold dlog
  rw [← A.wtS_div b h x y]; field_simp; ring

/-- The row sum of the output times its gradient is the row's mean of the probabilities' gradients. -/
theorem del_eq (h : Fin 12) (x : Fin 8192) :
    ∑ d, (∑ y, A.v y (ln h d) * A.prob h x y) * A.o x (ln h d) = A.del h x := by
  unfold del dprob
  simp only [Finset.sum_mul, Finset.mul_sum]
  rw [Finset.sum_comm]
  exact Finset.sum_congr rfl fun y _ => Finset.sum_congr rfl fun d _ => by ring

end Arg

/-- A real sum as a sum of extended reals. -/
theorem coe_sum {ι : Type} (s : Finset ι) (f : ι → ℝ) : (∑ i ∈ s, (f i : EReal)) = ((∑ i ∈ s, f i : ℝ) : EReal) := by
  classical
  induction s using Finset.induction_on with
  | empty => simp
  | insert a s ha ih => rw [Finset.sum_insert ha, Finset.sum_insert ha, ih, EReal.coe_add]

/-- The greatest of extended reals below `⊤`, one of them above `⊥`, is a real. -/
theorem fold_max_real {n : ℕ} (f : Fin n → EReal) (ht : ∀ i, f i ≠ ⊤) (i₀ : Fin n) (hb : f i₀ ≠ ⊥) :
    ∃ r : ℝ, Finset.univ.fold max ⊥ f = (r : EReal) := by
  have h1 : Finset.univ.fold max ⊥ f ≠ ⊤ := by
    have : Finset.univ.fold max ⊥ f < ⊤ := (Finset.fold_max_lt (c := (⊤ : EReal))).mpr ⟨bot_lt_top, fun i _ => lt_top_iff_ne_top.mpr (ht i)⟩
    exact this.ne
  have h2 : Finset.univ.fold max ⊥ f ≠ ⊥ := by
    have : f i₀ ≤ Finset.univ.fold max ⊥ f := (Finset.le_fold_max _).mpr (.inr ⟨i₀, Finset.mem_univ _, le_rfl⟩)
    exact fun e => hb (le_bot_iff.mp (e ▸ this))
  exact ⟨(Finset.univ.fold max ⊥ f).toReal, (EReal.coe_toReal h1 h2).symm⟩

end Cert.Proof.Value

end
-- ==== Proof.Value.Words.lean ====
/-
  The constants of the two programs as extended reals, the causal comparison of positions as a comparison of numbers,
  and arithmetic on the extended reals that are reals.
-/
module

public import proofs.«01_k».proof.Proof.Value.Spec
public import Idealize.ShloMosaic.Lib.WordCmp
public import Idealize.ShloMosaic.Lib.IdealHost

@[expose] public section

noncomputable section

namespace Cert.Proof.Value

open Idealize.ShloMosaic

theorem eighth : Ideal.ofBits .f32 0x3E000000#32 = ((1 / 8 : ℝ) : EReal) := by
  simp [Ideal.ofBits, Ideal.ieee, -EReal.coe_mul]; norm_num

theorem negInf : Ideal.ofBits .f32 0xFF800000#32 = ⊥ := by
  simp [Ideal.ofBits, Ideal.ieee]

/-- A selection by a causal comparison. -/
theorem select_sle {α : Type} {a b : ℕ} (ha : a < 2 ^ 31) (hb : b < 2 ^ 31) (x y : α) :
    Scalar.select (IntOp.cmpi .sle (BitVec.ofNat 32 a) (BitVec.ofNat 32 b)) x y = if a ≤ b then x else y := by
  rw [WordCmp.cmpi_sle_ofNat ha hb]
  by_cases h : a ≤ b
  · rw [if_pos h, decide_eq_true h]; rfl
  · rw [if_neg h, decide_eq_false h]; rfl

theorem div_real (x : ℝ) {y : ℝ} (h : y ≠ 0) : Ideal.div (x : EReal) (y : EReal) = ((x / y : ℝ) : EReal) := by
  rw [Ideal.div_coe h, ← EReal.coe_mul, mul_one_div]

theorem log_real {r : ℝ} (h : 0 < r) : Ideal.log (r : EReal) = (Real.log r : EReal) := by
  rw [Ideal.log_coe, if_neg (not_le.mpr h)]

/-- A row's greatest element, as a fold over the row. -/
theorem reduce_max {n0 n1 n2 : ℕ} (x : FVec Ideal ⟨3, ![n0, n1, n2]⟩ .f32) (init : FVec Ideal ⟨0, ![]⟩ .f32)
    (h : (⟨3, ![n0, n1, n2]⟩ : Shape).ReducesTo [2] ⟨2, ![n0, n1]⟩) (hu : 0 < (⟨0, ![]⟩ : Shape).numel) (i : Fin n0) (j : Fin n1) :
    Host.reduce FloatOps.maximumf x init h hu (ix2 i j) = Finset.univ.fold max (init ix0) (fun k => x (ix3 i j k)) := by
  rw [Host.reduce_eq_fold, Shape.ReducesTo.fold_fiber_r3_a2, show Shape.Idx.first hu = ix0 from funext fun a => a.elim0]
  rfl

/-- The five arrays hold the real arguments: the values are lanes 1536 to 2303 of the third, the incoming gradient lanes 0
    to 767 of the fifth. -/
structure Holds (A : Arg) (a0 a1 : FVec Ideal ⟨2, ![8192, 768]⟩ .f32) (a2 : FVec Ideal ⟨2, ![8192, 2688]⟩ .f32)
    (a3 : FVec Ideal ⟨2, ![12, 8192]⟩ .f32) (a4 : FVec Ideal ⟨2, ![8192, 1024]⟩ .f32) : Prop where
  q : ∀ x n, a0 (ix2 x n) = (A.q x n : EReal)
  k : ∀ x n, a1 (ix2 x n) = (A.k x n : EReal)
  v : ∀ x (n : Fin 768) (h : 1536 + n.val < 2688), a2 (ix2 x ⟨1536 + n.val, h⟩) = (A.v x n : EReal)
  c : ∀ h x, a3 (ix2 h x) = (A.c h x : EReal)
  o : ∀ x (n : Fin 768) (h : n.val < 1024), a4 (ix2 x ⟨n.val, h⟩) = (A.o x n : EReal)

end Cert.Proof.Value

end
-- ==== Proof.Value.Finite.lean ====
/-
  Arguments that fulfil the precondition are arrays of real numbers.
-/
module

public import proofs.«01_k».proof.Proof.Gen.Pre_finite
public import proofs.«01_k».proof.Proof.Value.Words

@[expose] public section

set_option maxRecDepth 16384
set_option maxHeartbeats 1000000

noncomputable section

namespace Cert.Proof.Value.Finite

open Cert.Pre_finite Idealize.ShloMosaic

theorem infinity : Ideal.ofBits .f32 0x7F800000#32 = ⊤ := by simp [Ideal.ofBits, Ideal.ieee]

/-- A value whose magnitude is below infinity is a real number. -/
theorem real_of_lt {x : EReal} (h : Ideal.cmp .olt (max x (-x)) (Ideal.ofBits .f32 0x7F800000#32) = 1#1) : ((x.toReal : ℝ) : EReal) = x := by
  rw [infinity] at h
  have h' : max x (-x) < ⊤ := by
    by_contra hn
    simp only [Ideal.cmp, decide_eq_false hn] at h
    exact absurd h (by decide)
  refine EReal.coe_toReal (fun e => ?_) (fun e => ?_)
  · subst e; exact absurd h' (by simp)
  · subst e; exact absurd h' (by simp)

variable (a0 a1 : FVec Ideal S8192x768 .f32) (a2 : FVec Ideal S8192x2688 .f32) (a3 : FVec Ideal S12x8192 .f32)
  (a4 : FVec Ideal S8192x1024 .f32)

/-- The real arrays. -/
def arg : Arg where
  q x n := (a0 (ix2 x n) : EReal).toReal
  k x n := (a1 (ix2 x n) : EReal).toReal
  v x n := (a2 (ix2 x ⟨1536 + n.val, by omega⟩) : EReal).toReal
  o x n := (a4 (ix2 x ⟨n.val, by omega⟩) : EReal).toReal
  c h x := (a3 (ix2 h x) : EReal).toReal

theorem at0 (x : Fin 8192) (n : Fin 768) : (fn (F := Ideal) a0 a1 a2 a3 a4).1 (ix2 x n)
    = Ideal.cmp .olt (max (a0 (ix2 x n)) (-(a0 (ix2 x n) : EReal))) (Ideal.ofBits .f32 0x7F800000#32) := by
  pointwise [fn] <;> rfl
theorem at1 (x : Fin 8192) (n : Fin 768) : (fn (F := Ideal) a0 a1 a2 a3 a4).2.1 (ix2 x n)
    = Ideal.cmp .olt (max (a1 (ix2 x n)) (-(a1 (ix2 x n) : EReal))) (Ideal.ofBits .f32 0x7F800000#32) := by
  pointwise [fn] <;> rfl
theorem at2 (x : Fin 8192) (n : Fin 768) (h : 1536 + n.val < 2688) : (fn (F := Ideal) a0 a1 a2 a3 a4).2.2.1 (ix2 x n)
    = Ideal.cmp .olt (max (a2 (ix2 x ⟨1536 + n.val, h⟩)) (-(a2 (ix2 x ⟨1536 + n.val, h⟩) : EReal))) (Ideal.ofBits .f32 0x7F800000#32) := by
  pointwise [fn] <;> rfl
theorem at3 (h : Fin 12) (x : Fin 8192) : (fn (F := Ideal) a0 a1 a2 a3 a4).2.2.2.1 (ix2 h x)
    = Ideal.cmp .olt (max (a3 (ix2 h x)) (-(a3 (ix2 h x) : EReal))) (Ideal.ofBits .f32 0x7F800000#32) := by
  pointwise [fn] <;> rfl
theorem at4 (x : Fin 8192) (n : Fin 768) (h : n.val < 1024) : (fn (F := Ideal) a0 a1 a2 a3 a4).2.2.2.2 (ix2 x n)
    = Ideal.cmp .olt (max (a4 (ix2 x ⟨n.val, h⟩)) (-(a4 (ix2 x ⟨n.val, h⟩) : EReal))) (Ideal.ofBits .f32 0x7F800000#32) := by
  pointwise [fn] <;> rfl

theorem holds (h : (fn (F := Ideal) a0 a1 a2 a3 a4).1 = (fun _ => 1#1) ∧ (fn (F := Ideal) a0 a1 a2 a3 a4).2.1 = (fun _ => 1#1)
      ∧ (fn (F := Ideal) a0 a1 a2 a3 a4).2.2.1 = (fun _ => 1#1) ∧ (fn (F := Ideal) a0 a1 a2 a3 a4).2.2.2.1 = (fun _ => 1#1)
      ∧ (fn (F := Ideal) a0 a1 a2 a3 a4).2.2.2.2 = (fun _ => 1#1)) :
    Holds (arg a0 a1 a2 a3 a4) a0 a1 a2 a3 a4 where
  q x n := (real_of_lt ((at0 a0 a1 a2 a3 a4 x n).symm.trans (congrFun h.1 _))).symm
  k x n := (real_of_lt ((at1 a0 a1 a2 a3 a4 x n).symm.trans (congrFun h.2.1 _))).symm
  v x n hn := (real_of_lt ((at2 a0 a1 a2 a3 a4 x n hn).symm.trans (congrFun h.2.2.1 _))).symm
  c g x := (real_of_lt ((at3 a0 a1 a2 a3 a4 g x).symm.trans (congrFun h.2.2.2.1 _))).symm
  o x n hn := (real_of_lt ((at4 a0 a1 a2 a3 a4 x n hn).symm.trans (congrFun h.2.2.2.2 _))).symm

end Cert.Proof.Value.Finite

end
-- ==== Proof.Value.Ref.lean ====
/-
  The reference's results, in stages, read at an index over real arguments.
-/
module

public import proofs.«01_k».proof.Proof.Gen.ReferenceIdeal
public import proofs.«01_k».proof.Proof.Gen.ReferenceIdeal.Run
public import proofs.«01_k».proof.Proof.Value.Words
public import Idealize.ShloMosaic.Lib.Tactic.CleanTypes

@[expose] public section

set_option maxRecDepth 16384
set_option maxHeartbeats 1000000

noncomputable section

namespace Cert.Proof.Value.Ref

open Cert.ReferenceIdeal Cert.ReferenceIdeal.Gen Idealize.ShloMosaic Idealize.ShloMosaic.TcCoe

abbrev T3 := FVec Ideal S12x8192x8192 .f32
abbrev R3 := FVec Ideal S8192x12x64 .f32

def heads (a : FVec Ideal S8192x768 .f32) : R3 := shapeCast S8192x12x64 a shapeCasts_S8192x768_S8192x12x64
def vals (a2 : FVec Ideal S8192x2688 .f32) : R3 := heads (extractStridedSlice S8192x768 ![0, 1536] a2 slices_S8192x2688_S8192x768_0_1536)
def outs (a4 : FVec Ideal S8192x1024 .f32) : FVec Ideal S12x64x8192 .f32 :=
  transpose S12x64x8192 [1, 2, 0] (heads (extractStridedSlice S8192x768 ![0, 0] a4 slices_S8192x1024_S8192x768_0_0)) transposes_S8192x12x64_S12x64x8192_1_2_0

def mask : IVec S12x8192x8192 1 :=
  broadcastInDim S12x8192x8192 ![0, 1, 2] bcast_S1x8192x8192_S12x8192x8192_0_1_2 (broadcastInDim S1x8192x8192 ![1, 2] bcast_S8192x8192_S1x8192x8192_1_2
    (cmpi .sle (broadcastInDim S8192x8192 ![0, 1] bcast_S1x8192_S8192x8192_0_1 (broadcastInDim S1x8192 ![1] bcast_S8192_S1x8192_1 (iotaInDim S8192 32 0)))
      (broadcastInDim S8192x8192 ![0, 1] bcast_S8192x1_S8192x8192_0_1 (broadcastInDim S8192x1 ![0] bcast_S8192_S8192x1_0 (iotaInDim S8192 32 0)))))

def logits (a0 a1 : FVec Ideal S8192x768 .f32) (a3 : FVec Ideal S12x8192 .f32) : T3 :=
  select mask
    (subf (addf (mulf (Host.dotGeneral dot_S8192x12x64_S8192x12x64_S12x8192x8192_2_2_0_0_1_1 none (heads a0) (heads a1))
        (broadcastInDim S12x8192x8192 ![] bcast_S_S12x8192x8192 (constant S_ .f32 0x3E000000#32)))
      (broadcastInDim S12x8192x8192 ![0, 1, 2] bcast_S12x8192x1_S12x8192x8192_0_1_2 (broadcastInDim S12x8192x1 ![0, 1] bcast_S12x8192_S12x8192x1_0_1 a3)))
      (broadcastInDim S12x8192x8192 ![0, 1, 2] bcast_S12x1x8192_S12x8192x8192_0_1_2 (broadcastInDim S12x1x8192 ![0, 2] bcast_S12x8192_S12x1x8192_0_2 a3)))
    (broadcastInDim S12x8192x8192 ![] bcast_S_S12x8192x8192 (id (constant S_ .f32 0xFF800000#32)))

def top (x : T3) : FVec Ideal S12x8192 .f32 :=
  maximumf (broadcastInDim S12x8192 ![] bcast_S_S12x8192 (constant S_ .f32 0xFF800000#32))
    (Host.reduce FloatOps.maximumf x (constant S_ .f32 0xFF800000#32) reducesTo_S12x8192x8192_S12x8192_d2 h_S_)

def expo (x : T3) (m : FVec Ideal S12x8192 .f32) : T3 :=
  Host.exp (subf x (broadcastInDim S12x8192x8192 ![0, 1, 2] bcast_S12x8192x1_S12x8192x8192_0_1_2 (broadcastInDim S12x8192x1 ![0, 1] bcast_S12x8192_S12x8192x1_0_1 m)))

def total (e : T3) : FVec Ideal S12x8192x1 .f32 :=
  broadcastInDim S12x8192x1 ![0, 1] bcast_S12x8192_S12x8192x1_0_1 (Host.reduceAdd e (constant S_ .f32 0x00000000#32) reducesTo_S12x8192x8192_S12x8192_d2 h_S_)

def wide (l : FVec Ideal S12x8192x1 .f32) : T3 := broadcastInDim S12x8192x8192 ![0, 1, 2] bcast_S12x8192x1_S12x8192x8192_0_1_2 l

def probs (e : T3) : T3 := Host.divf e (wide (total e))

def dprobs (a2 : FVec Ideal S8192x2688 .f32) (a4 : FVec Ideal S8192x1024 .f32) : T3 :=
  Host.dotGeneral dot_S12x64x8192_S8192x12x64_S12x8192x8192_1_2_2_0_0_1 none (outs a4) (vals a2)

def mean (e dp : T3) : FVec Ideal S12x8192 .f32 :=
  Host.reduceAdd (Host.negf (shapeCast S12x8192x1 (Host.reduceAdd (mulf (mulf dp (wide (Host.divf (broadcastInDim S12x8192x1 ![] bcast_S_S12x8192x1 (constant S_ .f32 0x3F800000#32))
      (mulf (total e) (total e))))) e) (constant S_ .f32 0x00000000#32) reducesTo_S12x8192x8192_S12x8192_d2 h_S_) shapeCasts_S12x8192_S12x8192x1))
    (constant S_ .f32 0x00000000#32) reducesTo_S12x8192x1_S12x8192_d2 h_S_

def dlogits (e dp : T3) : T3 :=
  select mask (mulf (addf (Host.divf dp (wide (total e))) (broadcastInDim S12x8192x8192 ![0, 1] bcast_S12x8192_S12x8192x8192_0_1 (mean e dp))) e)
    (broadcastInDim S12x8192x8192 ![] bcast_S_S12x8192x8192 (constant S_ .f32 0x00000000#32))

def outC (ds : T3) : FVec Ideal S12x8192 .f32 :=
  addf (Host.reduceAdd (shapeCast S12x1x8192 (Host.reduceAdd (Host.negf ds) (constant S_ .f32 0x00000000#32) reducesTo_S12x8192x8192_S12x8192_d1 h_S_) shapeCasts_S12x8192_S12x1x8192)
      (constant S_ .f32 0x00000000#32) reducesTo_S12x1x8192_S12x8192_d1 h_S_)
    (Host.reduceAdd (shapeCast S12x8192x1 (Host.reduceAdd ds (constant S_ .f32 0x00000000#32) reducesTo_S12x8192x8192_S12x8192_d2 h_S_) shapeCasts_S12x8192_S12x8192x1)
      (constant S_ .f32 0x00000000#32) reducesTo_S12x8192x1_S12x8192_d2 h_S_)

def scaled (ds : T3) : T3 := mulf ds (broadcastInDim S12x8192x8192 ![] bcast_S_S12x8192x8192 (constant S_ .f32 0x3E000000#32))

def outK (ds : T3) (a0 : FVec Ideal S8192x768 .f32) : FVec Ideal S8192x768 .f32 :=
  shapeCast S8192x768 (transpose S8192x12x64 [1, 0, 2] (Host.dotGeneral dot_S12x8192x8192_S8192x12x64_S12x8192x64_1_0_2_2_0_1 none (scaled ds) (heads a0)) transposes_S12x8192x64_S8192x12x64_1_0_2)
    shapeCasts_S8192x12x64_S8192x768
def outQ (ds : T3) (a1 : FVec Ideal S8192x768 .f32) : FVec Ideal S8192x768 .f32 :=
  shapeCast S8192x768 (transpose S8192x12x64 [1, 0, 2] (Host.dotGeneral dot_S12x8192x8192_S8192x12x64_S12x8192x64_2_0_1_2_0_1 none (scaled ds) (heads a1)) transposes_S12x8192x64_S8192x12x64_1_0_2)
    shapeCasts_S8192x12x64_S8192x768
def outV (e : T3) (a4 : FVec Ideal S8192x1024 .f32) : FVec Ideal S8192x768 .f32 :=
  shapeCast S8192x768 (transpose S8192x12x64 [2, 0, 1] (Host.dotGeneral dot_S12x64x8192_S12x8192x8192_S12x64x8192_2_1_1_2_0_0 none (outs a4) (probs e)) transposes_S12x64x8192_S8192x12x64_2_0_1)
    shapeCasts_S8192x12x64_S8192x768

def expos (a0 a1 : FVec Ideal S8192x768 .f32) (a3 : FVec Ideal S12x8192 .f32) : T3 := expo (logits a0 a1 a3) (top (logits a0 a1 a3))

section Terms
variable (m : (ℓ : Loc nD τ sig) → Buf (Elt Ideal) ℓ) (c : Dev nD)

abbrev arg0 : FVec Ideal S8192x768 .f32 := m ((c.tc : Thread nD τ).loc main_arg0)
abbrev arg1 : FVec Ideal S8192x768 .f32 := m ((c.tc : Thread nD τ).loc main_arg1)
abbrev arg2 : FVec Ideal S8192x2688 .f32 := m ((c.tc : Thread nD τ).loc main_arg2)
abbrev arg3 : FVec Ideal S12x8192 .f32 := m ((c.tc : Thread nD τ).loc main_arg3)
abbrev arg4 : FVec Ideal S8192x1024 .f32 := m ((c.tc : Thread nD τ).loc main_arg4)
abbrev E : T3 := expos (arg0 m c) (arg1 m c) (arg3 m c)
abbrev D : T3 := dlogits (E m c) (dprobs (arg2 m c) (arg4 m c))

theorem v85_eq : Value.res_main_v85 (F := Ideal) m c = outV (E m c) (arg4 m c) := by unfold Value.res_main_v85; rfl
theorem v86_eq : Value.res_main_v86 (F := Ideal) m c = outK (D m c) (arg0 m c) := by unfold Value.res_main_v86; rfl
theorem v87_eq : Value.res_main_v87 (F := Ideal) m c = outQ (D m c) (arg1 m c) := by unfold Value.res_main_v87; rfl
theorem v78_eq : Value.res_main_v78 (F := Ideal) m c = outC (D m c) := by unfold Value.res_main_v78; rfl
end Terms

end Cert.Proof.Value.Ref

end
-- ==== Proof.Value.RefVal.lean ====
/-
  The reference's results at real arguments are the gradient of Spec.
-/
module

public import proofs.«01_k».proof.Proof.Value.Ref

@[expose] public section

set_option maxRecDepth 16384
set_option maxHeartbeats 1000000

noncomputable section

namespace Cert.Proof.Value.Ref

open Cert.ReferenceIdeal Cert.ReferenceIdeal.Gen Idealize.ShloMosaic

variable {A : Arg} {a0 a1 : FVec Ideal S8192x768 .f32} {a2 : FVec Ideal S8192x2688 .f32} {a3 : FVec Ideal S12x8192 .f32}
  {a4 : FVec Ideal S8192x1024 .f32} (H : Holds A a0 a1 a2 a3 a4)

theorem heads_at (a : FVec Ideal S8192x768 .f32) (x : Fin 8192) (h : Fin 12) (d : Fin 64) :
    heads a (ix3 x h d) = a (ix2 x (ln h d)) := by
  pointwise [heads] <;> rfl
theorem vals_at (a : FVec Ideal S8192x2688 .f32) (x : Fin 8192) (h : Fin 12) (d : Fin 64) :
    vals a (ix3 x h d) = a (ix2 x ⟨1536 + (ln h d).val, by have := (ln h d).isLt; omega⟩) := by
  unfold vals; rw [heads_at]; pointwise
theorem outs_at (a : FVec Ideal S8192x1024 .f32) (x : Fin 8192) (h : Fin 12) (d : Fin 64) :
    outs a (ix3 h d x) = a (ix2 x ⟨(ln h d).val, by have := (ln h d).isLt; omega⟩) := by
  pointwise [outs, heads] <;> rfl

theorem mask_at (h : Fin 12) (x y : Fin 8192) : mask (ix3 h x y) = IntOp.cmpi .sle (BitVec.ofNat 32 y.val) (BitVec.ofNat 32 x.val) := by
  pointwise [mask]

theorem sel_at {α : Type} (h : Fin 12) (x y : Fin 8192) (u v : α) : Scalar.select (mask (ix3 h x y)) u v = if y ≤ x then u else v := by
  rw [mask_at, select_sle (by have := y.isLt; omega) (by have := x.isLt; omega)]; rfl

include H in
theorem logits_at (h : Fin 12) (x y : Fin 8192) :
    logits a0 a1 a3 (ix3 h x y) = if y ≤ x then ((A.logit h x y + A.c h x : ℝ) : EReal) else ⊥ := by
  have e : logits a0 a1 a3 (ix3 h x y) = Scalar.select (mask (ix3 h x y))
      ((∑ d, heads a0 (ix3 x h d) * heads a1 (ix3 y h d)) * Ideal.ofBits .f32 0x3E000000#32 + a3 (ix2 h x) - a3 (ix2 h y))
      (Ideal.ofBits .f32 0xFF800000#32) := by
    pointwise [logits, mask]; rfl
  rw [e, sel_at, negInf, eighth]
  simp only [heads_at, H.q, H.k, H.c, ← EReal.coe_mul, coe_sum, ← EReal.coe_add, ← EReal.coe_sub]
  unfold Arg.logit
  congr 2; ring

include H in
theorem top_real (h : Fin 12) (x : Fin 8192) : ∃ r : ℝ, top (logits a0 a1 a3) (ix2 h x) = (r : EReal) := by
  have e : ∀ R : FVec Ideal S12x8192 .f32, maximumf (broadcastInDim S12x8192 ![] bcast_S_S12x8192 (constant S_ .f32 0xFF800000#32)) R (ix2 h x)
      = max (Ideal.ofBits .f32 0xFF800000#32) (R (ix2 h x)) := by intro R; pointwise
  unfold top
  rw [e, reduce_max, negInf, max_eq_right bot_le]
  have e' : (constant S_ .f32 0xFF800000#32 : FVec Ideal S_ .f32) ix0 = ⊥ := negInf
  rw [e']
  refine fold_max_real _ (fun y => ?_) x ?_
  · rw [logits_at H]; split
    · exact EReal.coe_ne_top _
    · exact bot_ne_top
  · rw [logits_at H, if_pos le_rfl]; exact EReal.coe_ne_bot _

/-- The row's shift. -/
def shift (a0 a1 : FVec Ideal S8192x768 .f32) (a3 : FVec Ideal S12x8192 .f32) (A : Arg) (h : Fin 12) (x : Fin 8192) : ℝ :=
  A.c h x - (top (logits a0 a1 a3) (ix2 h x)).toReal

include H in
theorem expos_at (h : Fin 12) (x y : Fin 8192) :
    expos a0 a1 a3 (ix3 h x y) = (A.wtS (shift a0 a1 a3 A h x) h x y : EReal) := by
  obtain ⟨r, hr⟩ := top_real H h x
  have e : expos a0 a1 a3 (ix3 h x y) = Ideal.exp (logits a0 a1 a3 (ix3 h x y) - top (logits a0 a1 a3) (ix2 h x)) := by
    unfold expos; generalize top (logits a0 a1 a3) = m; generalize logits a0 a1 a3 = X; pointwise [expo]
  rw [e, logits_at H, hr]
  unfold Arg.wtS shift
  rw [hr, EReal.toReal_coe]
  split
  · rw [← EReal.coe_sub, Ideal.exp_coe, add_sub_assoc]
  · rw [EReal.bot_sub, Ideal.exp_bot]; rfl

/-- What the rest needs of the exponentials `E`. -/
def Exps (A : Arg) (b : Fin 12 → Fin 8192 → ℝ) (E : T3) : Prop := ∀ h x y, E (ix3 h x y) = (A.wtS (b h x) h x y : EReal)

variable {b : Fin 12 → Fin 8192 → ℝ} {E : T3} (HE : Exps A b E)

include HE in
theorem total_at (h : Fin 12) (x : Fin 8192) : total E (ix3 h x 0) = ((∑ y, A.wtS (b h x) h x y : ℝ) : EReal) := by
  have e : total E (ix3 h x 0) = ∑ y, E (ix3 h x y) := by pointwise [total]
  rw [e]; simp only [HE h x]; exact coe_sum _ _

include HE in
theorem probs_at (h : Fin 12) (x y : Fin 8192) : probs E (ix3 h x y) = (A.prob h x y : EReal) := by
  have e : probs E (ix3 h x y) = Ideal.div (E (ix3 h x y)) (total E (ix3 h x 0)) := by pointwise [probs, wide]
  rw [e, HE h x y, total_at HE, div_real _ (A.sum_wtS_pos _ h x).ne', A.wtS_div]

include H in
theorem dprobs_at (h : Fin 12) (x y : Fin 8192) : dprobs a2 a4 (ix3 h x y) = (A.dprob h x y : EReal) := by
  have e : dprobs a2 a4 (ix3 h x y) = ∑ d, outs a4 (ix3 h d x) * vals a2 (ix3 y h d) := by pointwise [dprobs]
  rw [e]; simp only [outs_at, vals_at, H.o, H.v, ← EReal.coe_mul]; exact coe_sum _ _

variable {DP : T3} (HD : ∀ h x y, DP (ix3 h x y) = (A.dprob h x y : EReal))

include HE HD in
theorem mean_at (h : Fin 12) (x : Fin 8192) : mean E DP (ix2 h x)
    = ((-(∑ z, A.dprob h x z * (1 / ((∑ y', A.wtS (b h x) h x y') * (∑ y', A.wtS (b h x) h x y'))) * A.wtS (b h x) h x z) : ℝ) : EReal) := by
  have e : mean E DP (ix2 h x) = ∑ _u : Fin 1, -∑ z, DP (ix3 h x z) * Ideal.div 1 (total E (ix3 h x 0) * total E (ix3 h x 0)) * E (ix3 h x z) := by
    pointwise [mean, wide]
  rw [e, Fin.sum_univ_one]
  have hp := A.sum_wtS_pos (b h x) h x
  rw [total_at HE, ← EReal.coe_mul, ← EReal.coe_one, div_real _ (mul_pos hp hp).ne']
  simp only [HD h x, HE h x, ← EReal.coe_mul]
  rw [coe_sum, EReal.coe_neg]

include HE HD in
theorem dlogits_at (h : Fin 12) (x y : Fin 8192) : dlogits E DP (ix3 h x y) = (A.dlog h x y : EReal) := by
  have e : dlogits E DP (ix3 h x y) = Scalar.select (mask (ix3 h x y))
      ((Ideal.div (DP (ix3 h x y)) (total E (ix3 h x 0)) + mean E DP (ix2 h x)) * E (ix3 h x y)) 0 := by
    pointwise [dlogits, wide, mask]
  rw [e, sel_at]
  split
  · rw [HD, HE h x y, total_at HE, mean_at HE HD, div_real _ (A.sum_wtS_pos _ h x).ne', ← EReal.coe_add, ← EReal.coe_mul, A.dlog_eq]
  · rename_i hxy; rw [A.dlog_masked (not_le.mp hxy)]; rfl

variable {DS : T3} (HS : ∀ h x y, DS (ix3 h x y) = (A.dlog h x y : EReal))

include HS in
theorem outC_at (h : Fin 12) (z : Fin 8192) : outC DS (ix2 h z) = (A.dc h z : EReal) := by
  have e : outC DS (ix2 h z) = ∑ _u : Fin 1, ∑ x, -DS (ix3 h x z) + ∑ _u : Fin 1, ∑ y, DS (ix3 h z y) := by pointwise [outC]
  rw [e, Fin.sum_univ_one, Fin.sum_univ_one]
  simp only [HS, ← EReal.coe_neg, coe_sum]
  rw [← EReal.coe_add, Finset.sum_neg_distrib]
  unfold Arg.dc; congr 1; ring

theorem lane_eq (n : Fin 768) : ln ⟨n.val / 64, by omega⟩ ⟨n.val % 64, by omega⟩ = n := ln_hd n _ rfl

include HS H in
theorem outQ_at (x : Fin 8192) (n : Fin 768) : outQ DS a1 (ix2 x n) = (A.dq x n : EReal) := by
  have e : outQ DS a1 (ix2 x n) = ∑ y, DS (ix3 ⟨n.val / 64, by omega⟩ x y) * Ideal.ofBits .f32 0x3E000000#32
      * heads a1 (ix3 y ⟨n.val / 64, by omega⟩ ⟨n.val % 64, by omega⟩) := by pointwise [outQ, scaled]
  rw [e, eighth]
  simp only [heads_at, lane_eq, HS, H.k, ← EReal.coe_mul, coe_sum]
  unfold Arg.dq hd
  congr 1; exact Finset.sum_congr rfl fun y _ => by ring

include HS H in
theorem outK_at (y : Fin 8192) (n : Fin 768) : outK DS a0 (ix2 y n) = (A.dk y n : EReal) := by
  have e : outK DS a0 (ix2 y n) = ∑ x, DS (ix3 ⟨n.val / 64, by omega⟩ x y) * Ideal.ofBits .f32 0x3E000000#32
      * heads a0 (ix3 x ⟨n.val / 64, by omega⟩ ⟨n.val % 64, by omega⟩) := by pointwise [outK, scaled]
  rw [e, eighth]
  simp only [heads_at, lane_eq, HS, H.q, ← EReal.coe_mul, coe_sum]
  unfold Arg.dk hd
  congr 1; exact Finset.sum_congr rfl fun y _ => by ring

include HE H in
theorem outV_at (y : Fin 8192) (n : Fin 768) : outV E a4 (ix2 y n) = (A.dv y n : EReal) := by
  have e : outV E a4 (ix2 y n) = ∑ x, outs a4 (ix3 ⟨n.val / 64, by omega⟩ ⟨n.val % 64, by omega⟩ x)
      * probs E (ix3 ⟨n.val / 64, by omega⟩ x y) := by pointwise [outV]
  rw [e]
  simp only [outs_at, lane_eq, H.o, probs_at HE, ← EReal.coe_mul, coe_sum]
  unfold Arg.dv hd
  congr 1; exact Finset.sum_congr rfl fun y _ => by ring

end Cert.Proof.Value.Ref

end
-- ==== Proof.Value.Host.lean ====
/-
  The arrays the kernel's call is launched on, in stages, read at an index over real arguments: the scaled queries, the
  logarithms of the masses and the rows' means of the probabilities' gradients.
-/
module

public import proofs.«01_k».proof.Proof.Run
public import proofs.«01_k».proof.Proof.Value.Words
public import Idealize.ShloMosaic.Lib.StableHlo.RunRead

@[expose] public section

set_option maxRecDepth 16384
set_option maxHeartbeats 1000000

noncomputable section

namespace Cert.Proof.Value.Host

open Cert.KernelIdeal Cert.KernelIdeal.Gen Idealize.ShloMosaic Idealize.ShloMosaic.TcCoe Cert.Proof.Attn

abbrev T3 := FVec Ideal S12x8192x8192 .f32
abbrev R3 := FVec Ideal S8192x12x64 .f32

def heads (a : FVec Ideal S8192x768 .f32) : R3 := shapeCast S8192x12x64 a shapeCasts_S8192x768_S8192x12x64
def vals (a2 : FVec Ideal S8192x2688 .f32) : R3 := heads (extractStridedSlice S8192x768 ![0, 1536] a2 slices_S8192x2688_S8192x768_0_1536)
def outs (a4 : FVec Ideal S8192x1024 .f32) : R3 := heads (extractStridedSlice S8192x768 ![0, 0] a4 slices_S8192x1024_S8192x768_0_0)

def low : IVec S1x8192x8192 1 :=
  broadcastInDim S1x8192x8192 ![1, 2] bcast_S8192x8192_S1x8192x8192_1_2
    (cmpi .sle (broadcastInDim S8192x8192 ![0, 1] bcast_S1x8192_S8192x8192_0_1 (broadcastInDim S1x8192 ![1] bcast_S8192_S1x8192_1 (iotaInDim S8192 32 0)))
      (broadcastInDim S8192x8192 ![0, 1] bcast_S8192x1_S8192x8192_0_1 (broadcastInDim S8192x1 ![0] bcast_S8192_S8192x1_0 (iotaInDim S8192 32 0))))

def raw (a0 a1 : FVec Ideal S8192x768 .f32) (a3 : FVec Ideal S12x8192 .f32) : T3 :=
  subf (mulf (Host.dotGeneral dot_S8192x12x64_S8192x12x64_S12x8192x8192_2_2_0_0_1_1 none (heads a0) (heads a1))
      (broadcastInDim S12x8192x8192 ![] bcast_S_S12x8192x8192 (constant S_ .f32 0x3E000000#32)))
    (broadcastInDim S12x8192x8192 ![0, 1, 2] bcast_S12x1x8192_S12x8192x8192_0_1_2 (broadcastInDim S12x1x8192 ![0, 2] bcast_S12x8192_S12x1x8192_0_2 a3))

def logits (a0 a1 : FVec Ideal S8192x768 .f32) (a3 : FVec Ideal S12x8192 .f32) : T3 :=
  select (broadcastInDim S12x8192x8192 ![0, 1, 2] bcast_S1x8192x8192_S12x8192x8192_0_1_2 low) (raw a0 a1 a3)
    (broadcastInDim S12x8192x8192 ![] bcast_S_S12x8192x8192 (id (constant S_ .f32 0xFF800000#32)))

def top (x : T3) : FVec Ideal S12x8192 .f32 :=
  Host.reduce FloatOps.maximumf x (constant S_ .f32 0xFF800000#32) reducesTo_S12x8192x8192_S12x8192_d2 h_S_

def wide (m : FVec Ideal S12x8192 .f32) : T3 :=
  broadcastInDim S12x8192x8192 ![0, 1, 2] bcast_S12x8192x1_S12x8192x8192_0_1_2 (broadcastInDim S12x8192x1 ![0, 1] bcast_S12x8192_S12x8192x1_0_1 m)

def expo (x : T3) (m : FVec Ideal S12x8192 .f32) : T3 := Host.exp (subf x (wide m))
def expos (x : T3) : T3 := expo x (top x)
def total (e : T3) : FVec Ideal S12x8192 .f32 := Host.reduceAdd e (constant S_ .f32 0x00000000#32) reducesTo_S12x8192x8192_S12x8192_d2 h_S_
def lse (t l : FVec Ideal S12x8192 .f32) : FVec Ideal S6x2x8192x1 .f32 :=
  shapeCast S6x2x8192x1 (addf t (Host.log l)) shapeCasts_S12x8192_S6x2x8192x1
def probs (e : T3) : T3 := Host.divf e (wide (total e))
def delta (v o : R3) (p : T3) : FVec Ideal S6x2x8192x1 .f32 :=
  shapeCast S6x2x8192x1 (transpose S12x8192 [1, 0] (Host.reduceAdd (mulf (transpose S8192x12x64 [2, 0, 1]
      (Host.dotGeneral dot_S8192x12x64_S12x8192x8192_S12x64x8192_0_2_2_1_1_0 none v p) transposes_S12x64x8192_S8192x12x64_2_0_1) o)
    (constant S_ .f32 0x00000000#32) reducesTo_S8192x12x64_S8192x12_d2 h_S_) transposes_S8192x12_S12x8192_1_0) shapeCasts_S12x8192_S6x2x8192x1

section Terms
variable (m : (ℓ : Loc nD τ sig) → Buf (Elt Ideal) ℓ) (ρ : Dev nD → PrngReg) (c : Dev nD)

abbrev arg0 : FVec Ideal S8192x768 .f32 := m ((c.tc : Thread nD τ).loc main_arg0)
abbrev arg1 : FVec Ideal S8192x768 .f32 := m ((c.tc : Thread nD τ).loc main_arg1)
abbrev arg2 : FVec Ideal S8192x2688 .f32 := m ((c.tc : Thread nD τ).loc main_arg2)
abbrev arg3 : FVec Ideal S12x8192 .f32 := m ((c.tc : Thread nD τ).loc main_arg3)
abbrev arg4 : FVec Ideal S8192x1024 .f32 := m ((c.tc : Thread nD τ).loc main_arg4)
abbrev X : T3 := logits (arg0 m c) (arg1 m c) (arg3 m c)

theorem V₂_v19 : V₂ m ρ c (Proc.devRef .tc main_v19) = X m c := by
  have e0 : V₁ m ρ c (Proc.devRef .tc main_v18) = low := by
    show StableHlo.after hostOps0 _ _ = _
    after_results <;> rfl
  have e1 : V₁ m ρ c (Proc.devRef .tc main_v11) = raw (arg0 m c) (arg1 m c) (arg3 m c) := by
    show StableHlo.after hostOps0 _ _ = _
    after_results <;> rfl
  have e2 : V₁ m ρ c (Proc.devRef .tc main_cst_1) = (constant S_ .f32 0xFF800000#32 : FVec Ideal S_ .f32) := by
    show StableHlo.after hostOps0 _ _ = _
    after_results <;> rfl
  have e : V₂ m ρ c (Proc.devRef .tc main_v19)
      = select (broadcastInDim S12x8192x8192 ![0, 1, 2] bcast_S1x8192x8192_S12x8192x8192_0_1_2 (V₁ m ρ c (Proc.devRef .tc main_v18)))
        (V₁ m ρ c (Proc.devRef .tc main_v11)) (broadcastInDim S12x8192x8192 ![] bcast_S_S12x8192x8192 (id (V₁ m ρ c (Proc.devRef .tc main_cst_1)))) := by
    show StableHlo.after hostOps0_1 _ _ = _
    generalize V₁ m ρ c = W
    simp only [StableHlo.TRef.nullary, StableHlo.TRef.ternary, StableHlo.TRef.unary, StableHlo.TRef.toBuf, StableHlo.TRef.ofBuf, cast_eq]
    after_results <;> rfl
  rw [e, e0, e1, e2]; rfl

theorem V₂_v4 : V₂ m ρ c (Proc.devRef .tc main_v4) = vals (arg2 m c) := by
  refine (StableHlo.after_of_writes_sub hostOps0_1 _ hostOps0_1_writes (by decide)).trans ?_
  show StableHlo.after hostOps0 _ _ = _
  after_results <;> rfl
theorem V₂_v5 : V₂ m ρ c (Proc.devRef .tc main_v5) = outs (arg4 m c) := by
  refine (StableHlo.after_of_writes_sub hostOps0_1 _ hostOps0_1_writes (by decide)).trans ?_
  show StableHlo.after hostOps0 _ _ = _
  after_results <;> rfl

theorem V₂_arg (r : Ref sig .tc) (h0 : r ∉ hostOps0_W) (h1 : r ∉ hostOps0_1_W) :
    V₂ m ρ c (Proc.devRef .tc r) = m ((c : Thread nD τ).loc r) := by
  refine (StableHlo.after_of_writes_sub hostOps0_1 _ hostOps0_1_writes h1).trans ?_
  exact StableHlo.after_of_writes_sub hostOps0 _ hostOps0_writes h0

theorem V₃_v38 : V₃ m ρ c (Proc.devRef .tc main_v38)
    = (truncf .bf16 (mulf (arg0 m c) (broadcastInDim S8192x768 ![] bcast_S_S8192x768 (constant S_ .f32 0x3E000000#32))) bitsLt_bf16_f32 : FVec Ideal S8192x768 .bf16) := by
  rw [← show V₂ m ρ c (Proc.devRef .tc main_arg0) = arg0 m c from V₂_arg m ρ c main_arg0 (by decide) (by decide)]
  show StableHlo.after hostOps0_2 _ _ = _
  generalize V₂ m ρ c = W
  after_results <;> rfl
theorem V₃_v39 : V₃ m ρ c (Proc.devRef .tc main_v39) = (truncf .bf16 (arg1 m c) bitsLt_bf16_f32 : FVec Ideal S8192x768 .bf16) := by
  rw [← show V₂ m ρ c (Proc.devRef .tc main_arg1) = arg1 m c from V₂_arg m ρ c main_arg1 (by decide) (by decide)]
  show StableHlo.after hostOps0_2 _ _ = _
  generalize V₂ m ρ c = W
  after_results <;> rfl
theorem V₃_v40 : V₃ m ρ c (Proc.devRef .tc main_v40) = shapeCast S6x2x1x8192 (arg3 m c) shapeCasts_S12x8192_S6x2x1x8192 := by
  rw [← show V₂ m ρ c (Proc.devRef .tc main_arg3) = arg3 m c from V₂_arg m ρ c main_arg3 (by decide) (by decide)]
  show StableHlo.after hostOps0_2 _ _ = _
  generalize V₂ m ρ c = W
  after_results <;> rfl
theorem V₃_v41 : V₃ m ρ c (Proc.devRef .tc main_v41) = lse (top (X m c)) (total (expos (X m c))) := by
  rw [← V₂_v19 m ρ c]
  show StableHlo.after hostOps0_2 _ _ = _
  generalize V₂ m ρ c = W
  after_results <;> rfl
theorem V₃_v42 : V₃ m ρ c (Proc.devRef .tc main_v42) = delta (vals (arg2 m c)) (outs (arg4 m c)) (probs (expos (X m c))) := by
  rw [← V₂_v19 m ρ c, ← V₂_v4 m ρ c, ← V₂_v5 m ρ c]
  show StableHlo.after hostOps0_2 _ _ = _
  generalize V₂ m ρ c = W
  after_results <;> rfl
end Terms

end Cert.Proof.Value.Host

end
-- ==== Proof.Value.HostVal.lean ====
/-
  What the kernel's call is launched on, at an index, over real arguments.
-/
module

public import proofs.«01_k».proof.Proof.Value.Host

@[expose] public section

set_option maxRecDepth 16384
set_option maxHeartbeats 1000000

noncomputable section

namespace Cert.Proof.Value.Host

open Cert.KernelIdeal Cert.KernelIdeal.Gen Idealize.ShloMosaic

variable {A : Arg} {a0 a1 : FVec Ideal S8192x768 .f32} {a2 : FVec Ideal S8192x2688 .f32} {a3 : FVec Ideal S12x8192 .f32}
  {a4 : FVec Ideal S8192x1024 .f32} (H : Holds A a0 a1 a2 a3 a4)

theorem heads_at (a : FVec Ideal S8192x768 .f32) (x : Fin 8192) (h : Fin 12) (d : Fin 64) :
    heads a (ix3 x h d) = a (ix2 x (ln h d)) := by
  pointwise [heads] <;> rfl
theorem vals_at (a : FVec Ideal S8192x2688 .f32) (x : Fin 8192) (h : Fin 12) (d : Fin 64) :
    vals a (ix3 x h d) = a (ix2 x ⟨1536 + (ln h d).val, by have := (ln h d).isLt; omega⟩) := by
  unfold vals; rw [heads_at]; pointwise
theorem outs_at (a : FVec Ideal S8192x1024 .f32) (x : Fin 8192) (h : Fin 12) (d : Fin 64) :
    outs a (ix3 x h d) = a (ix2 x ⟨(ln h d).val, by have := (ln h d).isLt; omega⟩) := by
  unfold outs; rw [heads_at]; pointwise

theorem sel_at {α : Type} (x y : Fin 8192) (u v : α) : Scalar.select (low (ix3 0 x y)) u v = if y ≤ x then u else v := by
  rw [show low (ix3 0 x y) = IntOp.cmpi .sle (BitVec.ofNat 32 y.val) (BitVec.ofNat 32 x.val) by pointwise [low],
    select_sle (by have := y.isLt; omega) (by have := x.isLt; omega)]; rfl

include H in
theorem logits_at (h : Fin 12) (x y : Fin 8192) :
    logits a0 a1 a3 (ix3 h x y) = if y ≤ x then (A.logit h x y : EReal) else ⊥ := by
  have e : logits a0 a1 a3 (ix3 h x y) = Scalar.select (low (ix3 0 x y))
      ((∑ d, heads a0 (ix3 x h d) * heads a1 (ix3 y h d)) * Ideal.ofBits .f32 0x3E000000#32 - a3 (ix2 h y))
      (Ideal.ofBits .f32 0xFF800000#32) := by
    pointwise [logits, raw, low]; rfl
  rw [e, sel_at, negInf, eighth]
  simp only [heads_at, H.q, H.k, H.c, ← EReal.coe_mul, coe_sum, ← EReal.coe_sub]
  rfl

include H in
theorem top_real (h : Fin 12) (x : Fin 8192) : ∃ r : ℝ, top (logits a0 a1 a3) (ix2 h x) = (r : EReal) := by
  unfold top
  rw [reduce_max]
  have e' : (constant S_ .f32 0xFF800000#32 : FVec Ideal S_ .f32) ix0 = ⊥ := negInf
  rw [e']
  refine fold_max_real _ (fun y => ?_) x ?_
  · rw [logits_at H]; split
    · exact EReal.coe_ne_top _
    · exact bot_ne_top
  · rw [logits_at H, if_pos le_rfl]; exact EReal.coe_ne_bot _

/-- The row's shift, and the exponentials. -/
def Exps (A : Arg) (b : Fin 12 → Fin 8192 → ℝ) (t : FVec Ideal S12x8192 .f32) (E : T3) : Prop :=
  (∀ h x, t (ix2 h x) = ((-b h x : ℝ) : EReal)) ∧ ∀ h x y, E (ix3 h x y) = (A.wtS (b h x) h x y : EReal)

include H in
theorem exps : ∃ b, Exps A b (top (logits a0 a1 a3)) (expos (logits a0 a1 a3)) := by
  choose r hr using top_real H
  refine ⟨fun h x => -r h x, fun h x => by rw [hr, neg_neg], fun h x y => ?_⟩
  have e : expos (logits a0 a1 a3) (ix3 h x y) = Ideal.exp (logits a0 a1 a3 (ix3 h x y) - top (logits a0 a1 a3) (ix2 h x)) := by
    unfold expos; generalize top (logits a0 a1 a3) = m; generalize logits a0 a1 a3 = X; pointwise [expo, wide]
  rw [e, logits_at H, hr]
  unfold Arg.wtS
  split
  · rw [← EReal.coe_sub, Ideal.exp_coe, sub_eq_add_neg]
  · rw [EReal.bot_sub, Ideal.exp_bot]; rfl

variable {b : Fin 12 → Fin 8192 → ℝ} {t : FVec Ideal S12x8192 .f32} {E : T3} (HE : Exps A b t E)

include HE in
theorem total_at (h : Fin 12) (x : Fin 8192) : total E (ix2 h x) = ((∑ y, A.wtS (b h x) h x y : ℝ) : EReal) := by
  have e : total E (ix2 h x) = ∑ y, E (ix3 h x y) := by pointwise [total]
  rw [e]; simp only [HE.2 h x]; exact coe_sum _ _

include HE in
theorem probs_at (h : Fin 12) (x y : Fin 8192) : probs E (ix3 h x y) = (A.prob h x y : EReal) := by
  have e : probs E (ix3 h x y) = Ideal.div (E (ix3 h x y)) (total E (ix2 h x)) := by
    unfold probs; generalize total E = L; pointwise [wide]
  rw [e, HE.2 h x y, total_at HE, div_real _ (A.sum_wtS_pos _ h x).ne', A.wtS_div]

/-- The head of a pair. -/
def hp (p : Fin 6) (a : Fin 2) : Fin 12 := ⟨p.val * 2 + a.val, by omega⟩

include HE in
theorem lse_at (p : Fin 6) (a : Fin 2) (x : Fin 8192) :
    lse t (total E) (ix4 p a x 0) = (Real.log (A.mass (hp p a) x) : EReal) := by
  have e : lse t (total E) (ix4 p a x 0) = t (ix2 (hp p a) x) + Ideal.log (total E (ix2 (hp p a) x)) := by
    generalize total E = L; pointwise [lse] <;> rfl
  rw [e, HE.1, total_at HE, log_real (A.sum_wtS_pos _ _ x), ← EReal.coe_add, A.log_sum_wtS]

include H HE in
theorem delta_at (p : Fin 6) (a : Fin 2) (x : Fin 8192) :
    delta (vals a2) (outs a4) (probs E) (ix4 p a x 0) = (A.del (hp p a) x : EReal) := by
  have e : delta (vals a2) (outs a4) (probs E) (ix4 p a x 0)
      = ∑ d, (∑ y, vals a2 (ix3 y (hp p a) d) * probs E (ix3 (hp p a) x y)) * outs a4 (ix3 x (hp p a) d) := by
    generalize probs E = P; generalize vals a2 = V; generalize outs a4 = O; pointwise [delta] <;> rfl
  rw [e]
  simp only [vals_at, outs_at, H.v, H.o, probs_at HE, ← EReal.coe_mul, coe_sum]
  rw [A.del_eq]

include H in
theorem decay_at (p : Fin 6) (a : Fin 2) (y : Fin 8192) :
    shapeCast S6x2x1x8192 a3 shapeCasts_S12x8192_S6x2x1x8192 (ix4 p a 0 y) = (A.c (hp p a) y : EReal) := by
  have e : shapeCast S6x2x1x8192 a3 shapeCasts_S12x8192_S6x2x1x8192 (ix4 p a 0 y) = a3 (ix2 (hp p a) y) := by pointwise <;> rfl
  rw [e, H.c]

include H in
theorem queries_at (x : Fin 8192) (n : Fin 768) :
    (truncf .bf16 (mulf a0 (broadcastInDim S8192x768 ![] bcast_S_S8192x768 (constant S_ .f32 0x3E000000#32))) bitsLt_bf16_f32 : FVec Ideal S8192x768 .bf16) (ix2 x n)
      = ((A.q x n * (1 / 8) : ℝ) : EReal) := by
  have e : (truncf .bf16 (mulf a0 (broadcastInDim S8192x768 ![] bcast_S_S8192x768 (constant S_ .f32 0x3E000000#32))) bitsLt_bf16_f32 : FVec Ideal S8192x768 .bf16) (ix2 x n)
      = a0 (ix2 x n) * Ideal.ofBits .f32 0x3E000000#32 := by pointwise
  rw [e, H.q, eighth, ← EReal.coe_mul]

end Cert.Proof.Value.Host

end
-- ==== Proof.Value.Block.lean ====
/-
  One point's contributions to the five results, over real arguments: the point of query block `i` and key block `j`
  multiplies out its block of the probabilities and of the gradients of the logits.
-/
module

public import proofs.«01_k».proof.Proof.Value.HostVal

@[expose] public section

set_option maxRecDepth 16384
set_option maxHeartbeats 1000000

noncomputable section

namespace Cert.Proof.Value.Block

open Cert.KernelIdeal Cert.KernelIdeal.Gen Idealize.ShloMosaic Cert.Proof.Attn Cert.Proof.Value.Host

/-- Position `x` of block `i`; lane `l` of pair `p`. -/
def R (i : Fin 8) (x : Fin 1024) : Fin 8192 := ⟨i.val * 1024 + x.val, by omega⟩
def L (p : Fin 6) (l : Fin 128) : Fin 768 := ⟨p.val * 128 + l.val, by omega⟩

/-- The half of a lane. -/
def hf (l : Fin 128) : Fin 2 := ⟨l.val / 64, by omega⟩

theorem hd_L (p : Fin 6) (l : Fin 128) : hd (L p l) = hp p (hf l) := Fin.ext (by simp only [hd, L, hp, hf]; omega)

section Reals
variable (A : Arg) (p : Fin 6) (i j : Fin 8)

def cV (y : Fin 1024) (l : Fin 128) : ℝ := ∑ x, A.prob (hd (L p l)) (R i x) (R j y) * A.o (R i x) (L p l)
def cK (y : Fin 1024) (l : Fin 128) : ℝ := ∑ x, A.dlog (hd (L p l)) (R i x) (R j y) * (A.q (R i x) (L p l) * (1 / 8))
def cQ (x : Fin 1024) (l : Fin 128) : ℝ := (∑ y, A.dlog (hd (L p l)) (R i x) (R j y) * A.k (R j y) (L p l)) * (1 / 8)
def cC (a : Fin 2) (y : Fin 1024) : ℝ := ∑ x, A.dlog (hp p a) (R i x) (R j y)
def cR (a : Fin 2) (x : Fin 1024) (l : Fin 128) : ℝ := ∑ g : Fin 8, A.dlog (hp p a) (R i x) (R j ⟨g.val * 128 + l.val, by omega⟩)
end Reals

/-- The blocks a point reads, over the real arguments. -/
structure Reads (A : Arg) (p : Fin 6) (i j : Fin 8) (B : Blk Ideal) : Prop where
  q : ∀ x l, B.q (ix2 x l) = ((A.q (R i x) (L p l) * (1 / 8) : ℝ) : EReal)
  k : ∀ y l, B.k (ix2 y l) = (A.k (R j y) (L p l) : EReal)
  v : ∀ y l, B.v (ix2 y l) = (A.v (R j y) (L p l) : EReal)
  o : ∀ x l, B.o (ix2 x l) = (A.o (R i x) (L p l) : EReal)
  l : ∀ a x, B.l (ix4 0 a x 0) = (Real.log (A.mass (hp p a) (R i x)) : EReal)
  dl : ∀ a x, B.dl (ix4 0 a x 0) = (A.del (hp p a) (R i x) : EReal)
  ck : ∀ a y, B.ck (ix4 0 a 0 y) = (A.c (hp p a) (R j y) : EReal)

theorem half_at {α : Type} (a : Fin 2) (x : Fin 1024) (l : Fin 128) (u v : α) :
    Scalar.select (half a (ix2 x l)) u v = if hf l = a then u else v := by
  have hl : l.val < 128 := l.isLt
  have e : IntOp.cmpi .slt (BitVec.ofNat 32 l.val) 64#32 = BitVec.ofBool (decide (l.val < 64)) :=
    WordCmp.cmpi_slt_ofNat (a := l.val) (b := 64) (by omega) (by omega)
  match a with
  | 0 =>
    rw [show half 0 (ix2 x l) = IntOp.cmpi .slt (BitVec.ofNat 32 l.val) 64#32 by pointwise [half], e]
    by_cases h : l.val < 64
    · rw [decide_eq_true h, if_pos (Fin.ext (by simp only [hf]; show _ = 0; omega))]; rfl
    · rw [decide_eq_false h, if_neg (fun h' => h (by have := congrArg Fin.val h'; simp only [hf] at this; change _ = 0 at this; omega))]; rfl
  | 1 =>
    rw [show half 1 (ix2 x l) = IntOp.xori (IntOp.cmpi .slt (BitVec.ofNat 32 l.val) 64#32) 1#1 by pointwise [half], e]
    by_cases h : l.val < 64
    · rw [decide_eq_true h, if_neg (fun h' => by have := congrArg Fin.val h'; simp only [hf] at this; change _ = 1 at this; omega)]; rfl
    · rw [decide_eq_false h, if_pos (Fin.ext (by simp only [hf]; show _ = 1; omega))]; rfl

/-- A sum over the lanes of a head. -/
theorem sum_half (a : Fin 2) (F : Fin 128 → ℝ) :
    ∑ l, (if hf l = a then F l else 0) = ∑ d : Fin 64, F ⟨a.val * 64 + d.val, by omega⟩ := by
  rw [show ∑ l, (if hf l = a then F l else 0) = ∑ d : Fin 64, (if hf ⟨d.val, by omega⟩ = a then F ⟨d.val, by omega⟩ else 0)
      + ∑ d : Fin 64, (if hf ⟨64 + d.val, by omega⟩ = a then F ⟨64 + d.val, by omega⟩ else 0) from Fin.sum_univ_add (a := 64) (b := 64) _]
  have h0 : ∀ d : Fin 64, hf ⟨d.val, by omega⟩ = 0 := fun d => Fin.ext (by simp only [hf]; show _ = 0; omega)
  have h1 : ∀ d : Fin 64, hf ⟨64 + d.val, by omega⟩ = 1 := fun d => Fin.ext (by simp only [hf]; show _ = 1; omega)
  simp only [h0, h1]
  match a with
  | 0 => simp
  | 1 => simp

theorem L_half (p : Fin 6) (a : Fin 2) (d : Fin 64) : L p ⟨a.val * 64 + d.val, by omega⟩ = ln (hp p a) d :=
  Fin.ext (by simp only [L, ln, hp]; omega)

variable {A : Arg} {p : Fin 6} {i j : Fin 8} {B : Blk Ideal} (H : Reads A p i j B)

include H in
theorem qh_at (a : Fin 2) (x : Fin 1024) (l : Fin 128) :
    B.qh a (ix2 x l) = ((if hf l = a then A.q (R i x) (L p l) * (1 / 8) else 0 : ℝ) : EReal) := by
  have e : B.qh a (ix2 x l) = Scalar.select (half a (ix2 x l)) (B.q (ix2 x l)) 0 := by pointwise [Blk.qh, zeroB]
  rw [e, half_at, H.q]; split <;> rfl
include H in
theorem kf_at (y : Fin 1024) (l : Fin 128) : B.kf (ix2 y l) = (A.k (R j y) (L p l) : EReal) := by
  have e : B.kf (ix2 y l) = B.k (ix2 y l) := by pointwise [Blk.kf]
  rw [e, H.k]
include H in
theorem kh_at (a : Fin 2) (y : Fin 1024) (l : Fin 128) :
    B.kh a (ix2 y l) = ((if hf l = a then A.k (R j y) (L p l) else 0 : ℝ) : EReal) := by
  have e : B.kh a (ix2 y l) = Scalar.select (half a (ix2 y l)) (B.k (ix2 y l)) 0 := by pointwise [Blk.kh, Blk.kf, zeroB]
  rw [e, half_at, H.k]; split <;> rfl
include H in
theorem oh_at (a : Fin 2) (x : Fin 1024) (l : Fin 128) :
    B.oh a (ix2 x l) = ((if hf l = a then A.o (R i x) (L p l) else 0 : ℝ) : EReal) := by
  have e : B.oh a (ix2 x l) = Scalar.select (half a (ix2 x l)) (B.o (ix2 x l)) 0 := by pointwise [Blk.oh, zeroB]
  rw [e, half_at, H.o]; split <;> rfl
include H in
theorem vf_at (y : Fin 1024) (l : Fin 128) : B.vf (ix2 y l) = (A.v (R j y) (L p l) : EReal) := by
  have e : B.vf (ix2 y l) = B.v (ix2 y l) := by pointwise [Blk.vf]
  rw [e, H.v]

include H in
theorem ex_at (a : Fin 2) (x y : Fin 1024) :
    B.ex a (ix2 x y) = (Real.exp (A.logit (hp p a) (R i x) (R j y) - Real.log (A.mass (hp p a) (R i x))) : EReal) := by
  have e : B.ex a (ix2 x y) = Ideal.exp (∑ l, B.qh a (ix2 x l) * B.kf (ix2 y l) - B.ck (ix4 0 a 0 y) - B.l (ix4 0 a x 0)) := by
    pointwise [Blk.ex, hc, hl]
  rw [e]
  simp only [qh_at H, kf_at H, H.ck, H.l, ← EReal.coe_mul, coe_sum, ← EReal.coe_sub, Ideal.exp_coe, ite_mul, zero_mul]
  rw [sum_half a (fun l => A.q (R i x) (L p l) * (1 / 8) * A.k (R j y) (L p l))]
  simp only [L_half]
  unfold Arg.logit
  rw [Finset.sum_mul]
  rw [Finset.sum_congr rfl (fun d _ => show A.q (R i x) (ln (hp p a) d) * (1 / 8) * A.k (R j y) (ln (hp p a) d)
    = A.q (R i x) (ln (hp p a) d) * A.k (R j y) (ln (hp p a) d) * (1 / 8) by ring)]

theorem causal_at {α : Type} (r s : Fin 8) (x y : Fin 1024) (u v : α) :
    Scalar.select (Blk.causal (BitVec.ofNat 32 r.val) (BitVec.ofNat 32 s.val) (ix2 x y)) u v = if R s y ≤ R r x then u else v := by
  have e : Blk.causal (BitVec.ofNat 32 r.val) (BitVec.ofNat 32 s.val) (ix2 x y)
      = IntOp.cmpi .sle (IntOp.addi (Scalar.muli (BitVec.ofNat 32 s.val) 1024#32) (BitVec.ofNat 32 y.val))
        (IntOp.addi (Scalar.addi (Scalar.muli (BitVec.ofNat 32 r.val) 1024#32) 0#32) (BitVec.ofNat 32 x.val)) := by pointwise [Blk.causal]
  have e1 : ∀ (s : Fin 8), Scalar.muli (BitVec.ofNat 32 s.val) 1024#32 = BitVec.ofNat 32 (s.val * 1024) := by decide
  have e2 : ∀ (s : Fin 8), Scalar.addi (Scalar.muli (BitVec.ofNat 32 s.val) 1024#32) 0#32 = BitVec.ofNat 32 (s.val * 1024) := by decide
  have e3 : ∀ a b : ℕ, IntOp.addi (BitVec.ofNat 32 a) (BitVec.ofNat 32 b) = BitVec.ofNat 32 (a + b) := fun a b => (BitVec.ofNat_add a b).symm
  rw [e, e1, e2, e3, e3, select_sle (by omega) (by omega)]
  rfl

include H in
theorem pr_at (hij : j ≤ i) (a : Fin 2) (x y : Fin 1024) : B.pr i j a (ix2 x y) = (A.prob (hp p a) (R i x) (R j y) : EReal) := by
  unfold Blk.pr
  by_cases h : i = j
  · rw [if_pos h]
    have e : select (Blk.causal (BitVec.ofNat 32 i.val) (BitVec.ofNat 32 j.val)) (B.ex a) (broadcast S1024x1024 (Scalar.ofBits (F := Ideal) .f32 0x00000000#32)) (ix2 x y)
        = Scalar.select (Blk.causal (BitVec.ofNat 32 i.val) (BitVec.ofNat 32 j.val) (ix2 x y)) (B.ex a (ix2 x y)) 0 := by
      generalize Blk.causal _ _ = M; generalize B.ex a = E; pointwise
    rw [e, causal_at, ex_at H]
    by_cases hc : R j y ≤ R i x
    · rw [if_pos hc, ← A.prob_eq_exp hc]
    · rw [if_neg hc, A.prob_masked (not_le.mp hc)]; rfl
  · rw [if_neg h, ex_at H, A.prob_eq_exp]
    have : j.val ≤ i.val := hij
    have : i.val ≠ j.val := fun e => h (Fin.ext e)
    show j.val * 1024 + y.val ≤ i.val * 1024 + x.val
    omega

include H in
theorem ds_at (hij : j ≤ i) (a : Fin 2) (x y : Fin 1024) : B.ds i j a (ix2 x y) = (A.dlog (hp p a) (R i x) (R j y) : EReal) := by
  have e : B.ds i j a (ix2 x y) = B.pr i j a (ix2 x y) * (∑ l, B.oh a (ix2 x l) * B.vf (ix2 y l) - B.dl (ix4 0 a x 0)) := by
    unfold Blk.ds; generalize B.pr i j a = P; pointwise [Blk.dsOf, hl]
  rw [e, pr_at H hij]
  simp only [oh_at H, vf_at H, H.dl, ← EReal.coe_mul, coe_sum, ← EReal.coe_sub, ite_mul, zero_mul]
  rw [sum_half a (fun l => A.o (R i x) (L p l) * A.v (R j y) (L p l))]
  simp only [L_half]
  rfl

/-- The two heads' parts of a lane: the lane is one head's. -/
theorem add_heads (l : Fin 128) (F : Fin 2 → ℝ) :
    ((if hf l = 0 then F 0 else 0 : ℝ) : EReal) + ((if hf l = 1 then F 1 else 0 : ℝ) : EReal) = (F (hf l) : EReal) := by
  generalize hf l = a
  match a with
  | 0 => simp
  | 1 => simp

theorem sum_ite_mul (l : Fin 128) (a : Fin 2) {n : ℕ} (f g : Fin n → ℝ) :
    ∑ x, f x * (if hf l = a then g x else 0) = if hf l = a then ∑ x, f x * g x else 0 := by
  split
  · rfl
  · simp

include H in
theorem dvC_at (hij : j ≤ i) (y : Fin 1024) (l : Fin 128) :
    addf (B.dvC i j 0) (B.dvC i j 1) (ix2 y l) = (cV A p i j y l : EReal) := by
  have e : ∀ a, B.dvC i j a (ix2 y l) = ((if hf l = a then ∑ x, A.prob (hp p a) (R i x) (R j y) * A.o (R i x) (L p l) else 0 : ℝ) : EReal) := by
    intro a
    rw [show B.dvC i j a (ix2 y l) = ∑ x, B.pr i j a (ix2 x y) * B.oh a (ix2 x l) by pointwise [Blk.dvC]]
    simp only [pr_at H hij, oh_at H, ← EReal.coe_mul, coe_sum, sum_ite_mul]
  show B.dvC i j 0 (ix2 y l) + B.dvC i j 1 (ix2 y l) = _
  rw [e, e, add_heads l (fun a => ∑ x, A.prob (hp p a) (R i x) (R j y) * A.o (R i x) (L p l))]
  unfold cV; rw [hd_L]

include H in
theorem dkC_at (hij : j ≤ i) (y : Fin 1024) (l : Fin 128) :
    addf (B.dkC i j 0) (B.dkC i j 1) (ix2 y l) = (cK A p i j y l : EReal) := by
  have e : ∀ a, B.dkC i j a (ix2 y l) = ((if hf l = a then ∑ x, A.dlog (hp p a) (R i x) (R j y) * (A.q (R i x) (L p l) * (1 / 8)) else 0 : ℝ) : EReal) := by
    intro a
    rw [show B.dkC i j a (ix2 y l) = ∑ x, B.ds i j a (ix2 x y) * B.qh a (ix2 x l) by pointwise [Blk.dkC]]
    simp only [ds_at H hij, qh_at H, ← EReal.coe_mul, coe_sum, sum_ite_mul]
  show B.dkC i j 0 (ix2 y l) + B.dkC i j 1 (ix2 y l) = _
  rw [e, e, add_heads l (fun a => ∑ x, A.dlog (hp p a) (R i x) (R j y) * (A.q (R i x) (L p l) * (1 / 8)))]
  unfold cK; rw [hd_L]

include H in
theorem dqC_at (hij : j ≤ i) (x : Fin 1024) (l : Fin 128) :
    addf (B.dqC i j 0) (B.dqC i j 1) (ix2 x l) = (cQ A p i j x l : EReal) := by
  have e : ∀ a, B.dqC i j a (ix2 x l) = ((if hf l = a then (∑ y, A.dlog (hp p a) (R i x) (R j y) * A.k (R j y) (L p l)) * (1 / 8) else 0 : ℝ) : EReal) := by
    intro a
    rw [show B.dqC i j a (ix2 x l) = (∑ y, B.ds i j a (ix2 x y) * B.kh a (ix2 y l)) * Ideal.ofBits .f32 0x3E000000#32 by pointwise [Blk.dqC], eighth]
    simp only [ds_at H hij, kh_at H, ← EReal.coe_mul, coe_sum, sum_ite_mul, ite_mul, zero_mul]
  show B.dqC i j 0 (ix2 x l) + B.dqC i j 1 (ix2 x l) = _
  rw [e, e, add_heads l (fun a => (∑ y, A.dlog (hp p a) (R i x) (R j y) * A.k (R j y) (L p l)) * (1 / 8))]
  unfold cQ; rw [hd_L]

include H in
theorem colC_at (hij : j ≤ i) (a : Fin 2) (y : Fin 1024) : B.colC i j a (ix2 0 y) = (cC A p i j a y : EReal) := by
  rw [show B.colC i j a (ix2 0 y) = ∑ x, B.ds i j a (ix2 x y) by pointwise [Blk.colC]]
  simp only [ds_at H hij]; exact coe_sum _ _

include H in
theorem rowC_at (hij : j ≤ i) (a : Fin 2) (x : Fin 1024) (l : Fin 128) : B.rowC i j a (ix2 x l) = (cR A p i j a x l : EReal) := by
  have e : B.rowC i j a (ix2 x l) = ∑ g : Fin 8, B.ds i j a (ix2 x ⟨g.val * 128 + l.val, by omega⟩) := by
    unfold Blk.rowC
    generalize B.ds i j a = X
    have e8 : Blk.fold8 X (ix2 x l) = X (ix2 x ⟨l.val, by omega⟩) + X (ix2 x ⟨128 + l.val, by omega⟩) + X (ix2 x ⟨256 + l.val, by omega⟩)
        + X (ix2 x ⟨384 + l.val, by omega⟩) + X (ix2 x ⟨512 + l.val, by omega⟩) + X (ix2 x ⟨640 + l.val, by omega⟩)
        + X (ix2 x ⟨768 + l.val, by omega⟩) + X (ix2 x ⟨896 + l.val, by omega⟩) := by pointwise [Blk.fold8]
    rw [e8, Fin.sum_univ_eight]
    have f0 : (⟨(0 : Fin 8).val * 128 + l.val, by omega⟩ : Fin 1024) = ⟨l.val, by omega⟩ := Fin.ext (by simp)
    rw [f0]; rfl
  rw [e]; simp only [ds_at H hij]; exact coe_sum _ _

end Cert.Proof.Value.Block

end
-- ==== Proof.Value.StepVal.lean ====
/-
  What a point leaves in the five result buffers, element by element, over real arguments.
-/
module

public import proofs.«01_k».proof.Proof.Value.Block

@[expose] public section

set_option maxRecDepth 16384
set_option maxHeartbeats 1000000

noncomputable section

namespace Cert.Proof.Value.Block

open Cert.KernelIdeal Cert.KernelIdeal.Gen Idealize.ShloMosaic Cert.Proof.Attn Cert.Proof.Value.Host

section Rects

theorem hc_emb (a : Fin 2) (y : Fin 1024) : (hc a).emb (ix4 (0 : Fin 1) (0 : Fin 1) (0 : Fin 1) y) = ix4 (0 : Fin 1) a (0 : Fin 1) y := by
  funext k; apply Fin.ext; fin_cases k
  · rfl
  · show a.val + 1 * 0 = a.val; omega
  · rfl
  · show 0 + 1 * y.val = y.val; omega
theorem rq_emb (i : Fin 8) (x : Fin 1024) (l : Fin 128) : (rq i).emb (ix2 x l) = ix2 (R i x) l := by
  funext k; apply Fin.ext; fin_cases k
  · show i.val * 1024 + 1 * x.val = i.val * 1024 + x.val; omega
  · show 0 + 1 * l.val = l.val; omega
theorem rr_emb (a : Fin 2) (i : Fin 8) (x : Fin 1024) (l : Fin 128) :
    (rr a i).emb (ix4 (0 : Fin 1) (0 : Fin 1) x l) = ix4 (0 : Fin 1) a (R i x) l := by
  funext k; apply Fin.ext; fin_cases k
  · rfl
  · show a.val + 1 * 0 = a.val; omega
  · show i.val * 1024 + 1 * x.val = i.val * 1024 + x.val; omega
  · show 0 + 1 * l.val = l.val; omega

theorem overlay_at {S : Shape} {α : Type} (r : Rect S) (X : S.Idx → α) (G : r.shape.Idx → α) {z : S.Idx} {x : r.shape.Idx}
    (h : r.emb x = z) : r.overlay X G z = G x := by subst h; exact r.overlay_emb X G x

/-- An element a rectangle does not reach. -/
theorem overlay_other {S : Shape} {α : Type} (r : Rect S) (X : S.Idx → α) (G : r.shape.Idx → α) {z : S.Idx}
    (h : ∀ x, r.emb x ≠ z) : r.overlay X G z = X z :=
  r.overlay_of_not_mem _ _ fun hz => by obtain ⟨x, hx⟩ := r.exists_idx_of_mem hz; exact h x hx

theorem hc_other {a b : Fin 2} (hab : a ≠ b) (y : Fin 1024) (x : (hc a).shape.Idx) : (hc a).emb x ≠ ix4 (0 : Fin 1) b (0 : Fin 1) y := by
  intro h
  have e := congrArg (fun z : S1x2x1x1024.Idx => (z 1).val) h
  have hx : (x 1).val < 1 := (x 1).isLt
  change a.val + 1 * (x 1).val = b.val at e
  exact hab (Fin.ext (by omega))
theorem rq_other {i i' : Fin 8} (h : i ≠ i') (z : Fin 1024) (l : Fin 128) (x : (rq i).shape.Idx) : (rq i).emb x ≠ ix2 (R i' z) l := by
  intro h'
  have e := congrArg (fun z : S8192x128.Idx => (z 0).val) h'
  have hx : (x 0).val < 1024 := (x 0).isLt
  change i.val * 1024 + 1 * (x 0).val = i'.val * 1024 + z.val at e
  exact h (Fin.ext (by omega))
theorem rr_other {a b : Fin 2} {i i' : Fin 8} (h : a ≠ b ∨ i ≠ i') (z : Fin 1024) (l : Fin 128) (x : (rr a i).shape.Idx) :
    (rr a i).emb x ≠ ix4 (0 : Fin 1) b (R i' z) l := by
  intro h'
  have e0 := congrArg (fun z : S1x2x8192x128.Idx => (z 1).val) h'
  have e := congrArg (fun z : S1x2x8192x128.Idx => (z 2).val) h'
  have hx0 : (x 1).val < 1 := (x 1).isLt
  have hx : (x 2).val < 1024 := (x 2).isLt
  change a.val + 1 * (x 1).val = b.val at e0
  change i.val * 1024 + 1 * (x 2).val = i'.val * 1024 + z.val at e
  rcases h with h | h
  · exact h (Fin.ext (by omega))
  · exact h (Fin.ext (by omega))

end Rects

variable {A : Arg} {p : Fin 6} {i j : Fin 8} {B : Blk Ideal} (H : Reads A p i j B)

theorem accB_at (Y X : FVec Ideal S1024x128 .f32) (y : Fin 1024) (l : Fin 128) : accB Y X (ix2 y l) = Y (ix2 y l) + X (ix2 y l) := by
  pointwise [accB]
theorem base_at (r s : Fin 8) {S : Shape} (Z Y : FVec Ideal S .f32) (z : S.Idx) (h : Z z = 0) :
    base r s Z Y z = if r = s then 0 else Y z := by
  unfold base; split
  · exact h
  · rfl

include H in
theorem dvStep_at (hij : j ≤ i) (Y : FVec Ideal S1024x128 .f32) (y : Fin 1024) (l : Fin 128) :
    dvStep i j B Y (ix2 y l) = (if i = j then 0 else Y (ix2 y l)) + (cV A p i j y l : EReal) := by
  unfold dvStep
  rw [accB_at, dvC_at H hij, base_at _ _ _ _ _ (by pointwise [zeroF])]
include H in
theorem dkStep_at (hij : j ≤ i) (Y : FVec Ideal S1024x128 .f32) (y : Fin 1024) (l : Fin 128) :
    dkStep i j B Y (ix2 y l) = (if i = j then 0 else Y (ix2 y l)) + (cK A p i j y l : EReal) := by
  unfold dkStep
  rw [accB_at, dkC_at H hij, base_at _ _ _ _ _ (by pointwise [zeroF])]

theorem accC_at (Y : FVec Ideal S1x1x1x1024 .f32) (X : FVec Ideal S1x1024 .f32) (y : Fin 1024) :
    accC Y X (ix4 0 0 0 y) = Y (ix4 0 0 0 y) + X (ix2 0 y) := by pointwise [accC]

include H in
theorem dcStep_at (hij : j ≤ i) (Y : FVec Ideal S1x2x1x1024 .f32) (a : Fin 2) (y : Fin 1024) :
    dcStep i j B Y (ix4 0 a 0 y) = (if i = j then 0 else Y (ix4 0 a 0 y)) + (cC A p i j a y : EReal) := by
  have hz : ∀ a, zeroC (F := Ideal) (ix4 0 a 0 y) = 0 := fun a => by pointwise [zeroC]
  have key : ∀ a : Fin 2, accC (ldf (base i j zeroC Y) (hc a)) (B.colC i j a) (ix4 0 0 0 y)
      = (if i = j then 0 else Y (ix4 0 a 0 y)) + (cC A p i j a y : EReal) := by
    intro a
    refine (accC_at _ _ _).trans ?_
    rw [colC_at H hij]
    refine congrArg (· + (cC A p i j a y : EReal)) ?_
    refine (congrArg (base i j zeroC Y) (hc_emb a y)).trans ?_
    exact base_at _ _ _ _ _ (hz a)
  unfold dcStep
  match a with
  | 0 =>
    refine (overlay_other (hc 1) _ _ (hc_other (a := 1) (b := 0) (by decide) y)).trans ?_
    exact (overlay_at (hc 0) _ _ (hc_emb 0 y)).trans (key 0)
  | 1 =>
    exact (overlay_at (hc 1) _ _ (hc_emb 1 y)).trans (key 1)

include H in
theorem dqStep_at (hij : j ≤ i) (Y : FVec Ideal S8192x128 .f32) (x : Fin 1024) (l : Fin 128) :
    dqStep i j B Y (ix2 (R i x) l) = (if j = 0 then 0 else Y (ix2 (R i x) l)) + (cQ A p i j x l : EReal) := by
  unfold dqStep
  refine (overlay_at (rq i) _ _ (rq_emb i x l)).trans ?_
  unfold dqPart
  by_cases h : j = 0
  · rw [if_pos h, if_pos h, zero_add]; exact dqC_at H hij x l
  · rw [if_neg h, if_neg h]
    refine (accB_at _ _ x l).trans ?_
    rw [dqC_at H hij]
    exact congrArg (· + (cQ A p i j x l : EReal)) (congrArg Y (rq_emb i x l))
theorem dqStep_other {i i' : Fin 8} (j : Fin 8) (h : i ≠ i') (B : Blk Ideal) (Y : FVec Ideal S8192x128 .f32) (x : Fin 1024) (l : Fin 128) :
    dqStep i j B Y (ix2 (R i' x) l) = Y (ix2 (R i' x) l) := by
  unfold dqStep
  exact overlay_other (rq i) _ _ (rq_other h x l)

theorem accR_at (Y : FVec Ideal S1x1x1024x128 .f32) (X : FVec Ideal S1024x128 .f32) (x : Fin 1024) (l : Fin 128) :
    accR Y X (ix4 0 0 x l) = Y (ix4 0 0 x l) + X (ix2 x l) := by pointwise [accR]
theorem setR_at (X : FVec Ideal S1024x128 .f32) (x : Fin 1024) (l : Fin 128) : setR X (ix4 0 0 x l) = X (ix2 x l) := by pointwise [setR]

include H in
theorem drStep_at (hij : j ≤ i) (Y : FVec Ideal S1x2x8192x128 .f32) (a : Fin 2) (x : Fin 1024) (l : Fin 128) :
    drStep i j B Y (ix4 0 a (R i x) l) = (if j = 0 then 0 else Y (ix4 0 a (R i x) l)) + (cR A p i j a x l : EReal) := by
  have key : ∀ a : Fin 2, drPart j (ldf Y (rr a i)) (B.rowC i j a) (ix4 0 0 x l)
      = (if j = 0 then 0 else Y (ix4 0 a (R i x) l)) + (cR A p i j a x l : EReal) := by
    intro a
    unfold drPart
    by_cases h : j = 0
    · rw [if_pos h, if_pos h, zero_add, setR_at]; exact rowC_at H hij a x l
    · rw [if_neg h, if_neg h]
      refine (accR_at _ _ x l).trans ?_
      rw [rowC_at H hij]
      exact congrArg (· + (cR A p i j a x l : EReal)) (congrArg Y (rr_emb a i x l))
  unfold drStep
  match a with
  | 0 =>
    refine (overlay_other (rr 1 i) _ _ (rr_other (a := 1) (b := 0) (i' := i) (Or.inl (by decide)) x l)).trans ?_
    exact (overlay_at (rr 0 i) _ _ (rr_emb 0 i x l)).trans (key 0)
  | 1 =>
    exact (overlay_at (rr 1 i) _ _ (rr_emb 1 i x l)).trans (key 1)
theorem drStep_other {i i' : Fin 8} (j : Fin 8) (h : i ≠ i') (B : Blk Ideal) (Y : FVec Ideal S1x2x8192x128 .f32) (a : Fin 2)
    (x : Fin 1024) (l : Fin 128) : drStep i j B Y (ix4 0 a (R i' x) l) = Y (ix4 0 a (R i' x) l) := by
  unfold drStep
  exact (overlay_other (rr 1 i) _ _ (rr_other (Or.inr h) x l)).trans (overlay_other (rr 0 i) _ _ (rr_other (Or.inr h) x l))

end Cert.Proof.Value.Block

end
-- ==== Proof.Value.Read.lean ====
/-
  The blocks a grid point reads, over real arguments: each window's block is the part of its array that the point's
  query block, key block and pair name.
-/
module

public import proofs.«01_k».proof.Proof.Value.StepVal
public import proofs.«01_k».proof.Proof.Run
public import Idealize.ShloMosaic.Lib.Pipeline.ValueKit.Geometry

@[expose] public section

set_option maxRecDepth 16384
set_option maxHeartbeats 200000

noncomputable section

namespace Cert.Proof.Value.Block

open Cert.KernelIdeal Cert.KernelIdeal.Gen Idealize.ShloMosaic Cert.Proof.Attn Cert.Proof.Value.Host
open Idealize.ShloMosaic.TcCoe

/-- The pair of a point. -/
def pairF (t : Fin grid0.N) : Fin 6 := ⟨(grid0.coords t 0).val, pair_lt _⟩

section Places
variable (t : Fin (cfg (F := Ideal)).N)

theorem index0 : ((cfg (F := Ideal)).win 0).index t = ![rowB (grid0.coords t), (grid0.coords t 0).val] := tr0 (F := Ideal) (grid0.coords t)
theorem place0 (x : Fin 1024) (l : Fin 128) : (((cfg (F := Ideal)).win 0).blk t).view.emb (ix2 x l) = ix2 (Block.R (rowF t) x) (Block.L (pairF t) l) := by
  funext k; apply Fin.ext
  refine (Pipeline.Window.rect_emb_val ((cfg (F := Ideal)).win 0) t (ix2 x l) k).trans ?_
  rw [index0]
  fin_cases k <;> rfl
theorem index1 : ((cfg (F := Ideal)).win 1).index t = ![colB (grid0.coords t), (grid0.coords t 0).val] := tr1 (F := Ideal) (grid0.coords t)
theorem place1 (x : Fin 1024) (l : Fin 128) : (((cfg (F := Ideal)).win 1).blk t).view.emb (ix2 x l) = ix2 (Block.R (colF t) x) (Block.L (pairF t) l) := by
  funext k; apply Fin.ext
  refine (Pipeline.Window.rect_emb_val ((cfg (F := Ideal)).win 1) t (ix2 x l) k).trans ?_
  rw [index1]
  fin_cases k <;> rfl
theorem index2 : ((cfg (F := Ideal)).win 2).index t = ![colB (grid0.coords t), 12 + (grid0.coords t 0).val] := tr2 (F := Ideal) (grid0.coords t)
theorem place2 (x : Fin 1024) (l : Fin 128) : (((cfg (F := Ideal)).win 2).blk t).view.emb (ix2 x l) = ix2 (Block.R (colF t) x) (⟨1536 + (Block.L (pairF t) l).val, by omega⟩ : Fin 2688) := by
  funext k; apply Fin.ext
  refine (Pipeline.Window.rect_emb_val ((cfg (F := Ideal)).win 2) t (ix2 x l) k).trans ?_
  rw [index2]
  fin_cases k
  · rfl
  · show (12 + (grid0.coords t 0).val) * 128 + l.val = 1536 + ((grid0.coords t 0).val * 128 + l.val); omega
theorem index3 : ((cfg (F := Ideal)).win 3).index t = ![rowB (grid0.coords t), (grid0.coords t 0).val] := tr3 (F := Ideal) (grid0.coords t)
theorem place3 (x : Fin 1024) (l : Fin 128) : (((cfg (F := Ideal)).win 3).blk t).view.emb (ix2 x l) = ix2 (Block.R (rowF t) x) (⟨(Block.L (pairF t) l).val, by omega⟩ : Fin 1024) := by
  funext k; apply Fin.ext
  refine (Pipeline.Window.rect_emb_val ((cfg (F := Ideal)).win 3) t (ix2 x l) k).trans ?_
  rw [index3]
  fin_cases k <;> rfl
theorem index4 : ((cfg (F := Ideal)).win 4).index t = ![(grid0.coords t 0).val, 0, rowB (grid0.coords t), 0] := tr4 (F := Ideal) (grid0.coords t)
theorem place4 (a : Fin 2) (x : Fin 1024) : (((cfg (F := Ideal)).win 4).blk t).view.emb (ix4 (0 : Fin 1) a x (0 : Fin 1)) = ix4 (pairF t) a (Block.R (rowF t) x) (0 : Fin 1) := by
  funext k; apply Fin.ext
  refine (Pipeline.Window.rect_emb_val ((cfg (F := Ideal)).win 4) t (ix4 (0 : Fin 1) a x (0 : Fin 1)) k).trans ?_
  rw [index4]
  fin_cases k
  · show (grid0.coords t 0).val * 1 + 0 = (grid0.coords t 0).val; omega
  · show 0 * 2 + a.val = a.val; omega
  · rfl
  · rfl
theorem index5 : ((cfg (F := Ideal)).win 5).index t = ![(grid0.coords t 0).val, 0, rowB (grid0.coords t), 0] := tr5 (F := Ideal) (grid0.coords t)
theorem place5 (a : Fin 2) (x : Fin 1024) : (((cfg (F := Ideal)).win 5).blk t).view.emb (ix4 (0 : Fin 1) a x (0 : Fin 1)) = ix4 (pairF t) a (Block.R (rowF t) x) (0 : Fin 1) := by
  funext k; apply Fin.ext
  refine (Pipeline.Window.rect_emb_val ((cfg (F := Ideal)).win 5) t (ix4 (0 : Fin 1) a x (0 : Fin 1)) k).trans ?_
  rw [index5]
  fin_cases k
  · show (grid0.coords t 0).val * 1 + 0 = (grid0.coords t 0).val; omega
  · show 0 * 2 + a.val = a.val; omega
  · rfl
  · rfl
theorem index6 : ((cfg (F := Ideal)).win 6).index t = ![(grid0.coords t 0).val, 0, 0, colB (grid0.coords t)] := tr6 (F := Ideal) (grid0.coords t)
theorem place6 (a : Fin 2) (x : Fin 1024) : (((cfg (F := Ideal)).win 6).blk t).view.emb (ix4 (0 : Fin 1) a (0 : Fin 1) x) = ix4 (pairF t) a (0 : Fin 1) (Block.R (colF t) x) := by
  funext k; apply Fin.ext
  refine (Pipeline.Window.rect_emb_val ((cfg (F := Ideal)).win 6) t (ix4 (0 : Fin 1) a (0 : Fin 1) x) k).trans ?_
  rw [index6]
  fin_cases k
  · show (grid0.coords t 0).val * 1 + 0 = (grid0.coords t 0).val; omega
  · show 0 * 2 + a.val = a.val; omega
  · rfl
  · rfl
theorem index7 : ((cfg (F := Ideal)).win 7).index t = ![0, (grid0.coords t 0).val] := tr7 (grid0.coords t)
theorem place7 (z : Fin 8192) (l : Fin 128) : (((cfg (F := Ideal)).win 7).blk t).view.emb (ix2 z l) = ix2 z (Block.L (pairF t) l) := by
  funext k; apply Fin.ext
  refine (Pipeline.Window.rect_emb_val ((cfg (F := Ideal)).win 7) t (ix2 z l) k).trans ?_
  rw [index7]
  fin_cases k
  · show 0 * 8192 + z.val = z.val; omega
  · rfl
theorem index8 : ((cfg (F := Ideal)).win 8).index t = ![colB (grid0.coords t), (grid0.coords t 0).val] := tr8 (F := Ideal) (grid0.coords t)
theorem place8 (x : Fin 1024) (l : Fin 128) : (((cfg (F := Ideal)).win 8).blk t).view.emb (ix2 x l) = ix2 (Block.R (colF t) x) (Block.L (pairF t) l) := by
  funext k; apply Fin.ext
  refine (Pipeline.Window.rect_emb_val ((cfg (F := Ideal)).win 8) t (ix2 x l) k).trans ?_
  rw [index8]
  fin_cases k <;> rfl
theorem index9 : ((cfg (F := Ideal)).win 9).index t = ![colB (grid0.coords t), (grid0.coords t 0).val] := tr9 (F := Ideal) (grid0.coords t)
theorem place9 (x : Fin 1024) (l : Fin 128) : (((cfg (F := Ideal)).win 9).blk t).view.emb (ix2 x l) = ix2 (Block.R (colF t) x) (Block.L (pairF t) l) := by
  funext k; apply Fin.ext
  refine (Pipeline.Window.rect_emb_val ((cfg (F := Ideal)).win 9) t (ix2 x l) k).trans ?_
  rw [index9]
  fin_cases k <;> rfl
theorem index10 : ((cfg (F := Ideal)).win 10).index t = ![(grid0.coords t 0).val, 0, 0, colB (grid0.coords t)] := tr10 (F := Ideal) (grid0.coords t)
theorem place10 (a : Fin 2) (x : Fin 1024) : (((cfg (F := Ideal)).win 10).blk t).view.emb (ix4 (0 : Fin 1) a (0 : Fin 1) x) = ix4 (pairF t) a (0 : Fin 1) (Block.R (colF t) x) := by
  funext k; apply Fin.ext
  refine (Pipeline.Window.rect_emb_val ((cfg (F := Ideal)).win 10) t (ix4 (0 : Fin 1) a (0 : Fin 1) x) k).trans ?_
  rw [index10]
  fin_cases k
  · show (grid0.coords t 0).val * 1 + 0 = (grid0.coords t 0).val; omega
  · show 0 * 2 + a.val = a.val; omega
  · rfl
  · rfl
theorem index11 : ((cfg (F := Ideal)).win 11).index t = ![(grid0.coords t 0).val, 0, 0, 0] := tr11 (grid0.coords t)
theorem place11 (a : Fin 2) (z : Fin 8192) (l : Fin 128) : (((cfg (F := Ideal)).win 11).blk t).view.emb (ix4 (0 : Fin 1) a z l) = ix4 (pairF t) a z l := by
  funext k; apply Fin.ext
  refine (Pipeline.Window.rect_emb_val ((cfg (F := Ideal)).win 11) t (ix4 (0 : Fin 1) a z l) k).trans ?_
  rw [index11]
  fin_cases k
  · show (grid0.coords t 0).val * 1 + 0 = (grid0.coords t 0).val; omega
  · show 0 * 2 + a.val = a.val; omega
  · show 0 * 8192 + z.val = z.val; omega
  · show 0 * 128 + l.val = l.val; omega
end Places

/-! ## The blocks as parts of their arrays -/

section Parts
variable (W : Dev nD → Valuation τ sig (Elt Ideal)) (c : Dev nD) (t : Fin (cfg (F := Ideal)).N)

theorem part_q (x : Fin 1024) (l : Fin 128) : (blkAt W c t).q (ix2 x l) = W c (Proc.devRef .tc main_v38) (ix2 (Block.R (rowF t) x) (Block.L (pairF t) l)) :=
  congrArg (W c (Proc.devRef .tc main_v38)) (place0 t x l)
theorem part_k (x : Fin 1024) (l : Fin 128) : (blkAt W c t).k (ix2 x l) = W c (Proc.devRef .tc main_v39) (ix2 (Block.R (colF t) x) (Block.L (pairF t) l)) :=
  congrArg (W c (Proc.devRef .tc main_v39)) (place1 t x l)
theorem part_v (x : Fin 1024) (l : Fin 128) : (blkAt W c t).v (ix2 x l) = W c (Proc.devRef .tc main_arg2) (ix2 (Block.R (colF t) x) (⟨1536 + (Block.L (pairF t) l).val, by omega⟩ : Fin 2688)) :=
  congrArg (W c (Proc.devRef .tc main_arg2)) (place2 t x l)
theorem part_o (x : Fin 1024) (l : Fin 128) : (blkAt W c t).o (ix2 x l) = W c (Proc.devRef .tc main_arg4) (ix2 (Block.R (rowF t) x) (⟨(Block.L (pairF t) l).val, by omega⟩ : Fin 1024)) :=
  congrArg (W c (Proc.devRef .tc main_arg4)) (place3 t x l)
theorem part_l (a : Fin 2) (x : Fin 1024) : (blkAt W c t).l (ix4 (0 : Fin 1) a x (0 : Fin 1)) = W c (Proc.devRef .tc main_v41) (ix4 (pairF t) a (Block.R (rowF t) x) (0 : Fin 1)) :=
  congrArg (W c (Proc.devRef .tc main_v41)) (place4 t a x)
theorem part_dl (a : Fin 2) (x : Fin 1024) : (blkAt W c t).dl (ix4 (0 : Fin 1) a x (0 : Fin 1)) = W c (Proc.devRef .tc main_v42) (ix4 (pairF t) a (Block.R (rowF t) x) (0 : Fin 1)) :=
  congrArg (W c (Proc.devRef .tc main_v42)) (place5 t a x)
theorem part_ck (a : Fin 2) (x : Fin 1024) : (blkAt W c t).ck (ix4 (0 : Fin 1) a (0 : Fin 1) x) = W c (Proc.devRef .tc main_v40) (ix4 (pairF t) a (0 : Fin 1) (Block.R (colF t) x)) :=
  congrArg (W c (Proc.devRef .tc main_v40)) (place6 t a x)
end Parts

variable (m : (ℓ : Loc nD τ sig) → Buf (Elt Ideal) ℓ) (ρ : Dev nD → PrngReg) (c : Dev nD)
variable {A : Arg} (H : Holds A (arg0 m c) (arg1 m c) (arg2 m c) (arg3 m c) (arg4 m c))

include H in
theorem in_q (x : Fin 8192) (n : Fin 768) : V₃ m ρ c (Proc.devRef .tc main_v38) (ix2 x n) = ((A.q x n * (1 / 8) : ℝ) : EReal) :=
  (congrFun (V₃_v38 m ρ c) _).trans (queries_at H x n)
include H in
theorem in_k (x : Fin 8192) (n : Fin 768) : V₃ m ρ c (Proc.devRef .tc main_v39) (ix2 x n) = (A.k x n : EReal) :=
  (congrFun (V₃_v39 m ρ c) _).trans (H.k x n)
include H in
theorem in_v (x : Fin 8192) (n : Fin 768) (h : 1536 + n.val < 2688) :
    V₃ m ρ c (Proc.devRef .tc main_arg2) (ix2 x ⟨1536 + n.val, h⟩) = (A.v x n : EReal) :=
  (congrFun (V₃_kept m ρ c main_arg2 (by decide) (by decide) (by decide)) _).trans (H.v x n h)
include H in
theorem in_o (x : Fin 8192) (n : Fin 768) (h : n.val < 1024) :
    V₃ m ρ c (Proc.devRef .tc main_arg4) (ix2 x ⟨n.val, h⟩) = (A.o x n : EReal) :=
  (congrFun (V₃_kept m ρ c main_arg4 (by decide) (by decide) (by decide)) _).trans (H.o x n h)
include H in
theorem in_l (p : Fin 6) (a : Fin 2) (x : Fin 8192) :
    V₃ m ρ c (Proc.devRef .tc main_v41) (ix4 p a x 0) = (Real.log (A.mass (hp p a) x) : EReal) := by
  obtain ⟨b, HE⟩ := exps H
  exact (congrFun (V₃_v41 m ρ c) _).trans (lse_at HE p a x)
include H in
theorem in_dl (p : Fin 6) (a : Fin 2) (x : Fin 8192) :
    V₃ m ρ c (Proc.devRef .tc main_v42) (ix4 p a x 0) = (A.del (hp p a) x : EReal) := by
  obtain ⟨b, HE⟩ := exps H
  exact (congrFun (V₃_v42 m ρ c) _).trans (delta_at H HE p a x)
include H in
theorem in_ck (p : Fin 6) (a : Fin 2) (y : Fin 8192) :
    V₃ m ρ c (Proc.devRef .tc main_v40) (ix4 p a 0 y) = (A.c (hp p a) y : EReal) :=
  (congrFun (V₃_v40 m ρ c) _).trans (decay_at H p a y)

include H in
/-- What a point reads, in terms of the program's arguments. -/
theorem reads_at (t : Fin (cfg (F := Ideal)).N) : Reads A (pairF t) (rowF t) (colF t) (blkAt (V₃ m ρ) c t) where
  q x l := (part_q (V₃ m ρ) c t x l).trans (in_q m ρ c H _ _)
  k x l := (part_k (V₃ m ρ) c t x l).trans (in_k m ρ c H _ _)
  v x l := (part_v (V₃ m ρ) c t x l).trans (in_v m ρ c H _ _ _)
  o x l := (part_o (V₃ m ρ) c t x l).trans (in_o m ρ c H _ _ _)
  l a x := (part_l (V₃ m ρ) c t a x).trans (in_l m ρ c H _ _ _)
  dl a x := (part_dl (V₃ m ρ) c t a x).trans (in_dl m ρ c H _ _ _)
  ck a x := (part_ck (V₃ m ρ) c t a x).trans (in_ck m ρ c H _ _ _)

end Cert.Proof.Value.Block

end
-- ==== Proof.Value.Accum.lean ====
/-
  The results accumulated over the grid's points.

  The points of a pair run through the key blocks, and within a key block through the query blocks from it on.  A
  result of the key block is set at the first of these and added to at the others; a result of the queries is set
  where the key block is the first and added to afterwards.
-/
module

public import proofs.«01_k».proof.Proof.Value.Read

@[expose] public section

set_option maxRecDepth 16384
set_option maxHeartbeats 1000000

noncomputable section

namespace Cert.Proof.Value.Block

open Cert.KernelIdeal Cert.KernelIdeal.Gen Idealize.ShloMosaic Cert.Proof.Attn Cert.Proof.Value.Host
open Idealize.ShloMosaic.TcCoe

/-- The sum of the first `n` of eight terms. -/
def sumLt (f : Fin 8 → ℝ) (n : ℕ) : ℝ := ∑ i, if i.val < n then f i else 0

theorem sumLt_succ (f : Fin 8 → ℝ) (i : Fin 8) : sumLt f (i.val + 1) = sumLt f i.val + f i := by
  unfold sumLt
  have h : ∀ i' : Fin 8, (if i'.val < i.val + 1 then f i' else 0) = (if i'.val < i.val then f i' else 0) + (if i' = i then f i' else 0) := by
    intro i'
    by_cases e : i' = i
    · subst e; simp
    · have : i'.val ≠ i.val := fun h => e (Fin.ext h)
      by_cases l : i'.val < i.val
      · rw [if_pos l, if_pos (by omega), if_neg e, add_zero]
      · rw [if_neg l, if_neg (by omega), if_neg e, add_zero]
  rw [Finset.sum_congr rfl fun i' _ => h i', Finset.sum_add_distrib]
  simp
theorem sumLt_zero (f : Fin 8 → ℝ) : sumLt f 0 = 0 := by simp [sumLt]
theorem sumLt_below (f : Fin 8 → ℝ) (n : ℕ) (h : ∀ i : Fin 8, i.val < n → f i = 0) : sumLt f n = 0 :=
  Finset.sum_eq_zero fun i _ => by
    split
    · exact h i ‹_›
    · rfl
theorem sumLt_all (f : Fin 8 → ℝ) : sumLt f 8 = ∑ i, f i := Finset.sum_congr rfl fun i _ => if_pos i.isLt

/-! ## The order of the points -/

/-- The point before. -/
def prev (t : Fin grid0.N) : Fin grid0.N := ⟨t.val - 1, Nat.lt_of_le_of_lt (Nat.sub_le _ _) t.isLt⟩

theorem col_prev : ∀ t : Fin grid0.N, rowF t ≠ colF t →
    t.val ≠ 0 ∧ pairF (prev t) = pairF t ∧ colF (prev t) = colF t ∧ (rowF (prev t)).val + 1 = (rowF t).val := by
  decide +kernel
theorem row_prev : ∀ t : Fin grid0.N, rowF t ≠ 0 →
    t.val ≠ 0 ∧ pairF (prev t) = pairF t ∧ ((colF (prev t) = colF t ∧ (rowF (prev t)).val + 1 = (rowF t).val)
      ∨ (rowF t = colF t ∧ rowF (prev t) = 7 ∧ (colF (prev t)).val + 1 = (colF t).val)) := by
  decide +kernel

section Acc
variable (W : Dev nD → Valuation τ sig (Elt Ideal)) (c : Dev nD) (w : Fin (cfg (F := Ideal)).W)

/-- What an output window holds at a point that is not the first and names the block of the point before is what that
    point left. -/
theorem finds_prev (hw : ((cfg (F := Ideal)).win w).isOut = true) (t : Fin (cfg (F := Ideal)).N) (h0 : t.val ≠ 0)
    (hi : ((cfg (F := Ideal)).win w).index (prev t) = ((cfg (F := Ideal)).win w).index t)
    (Y : ((cfg (F := Ideal)).win w).block.Idx → Elt Ideal ((cfg (F := Ideal)).win w).elt)
    (hY : (rdats W 0 c).Finds w t Y) : (rdats W 0 c).Leaves w (prev t) Y := by
  have hf : ((cfg (F := Ideal)).win w).fetch t = false := by unfold Pipeline.Window.fetch; rw [hw]; rfl
  refine (((rdats W 0 c).finds_of_pos hf h0 Y).mp hY).resolve_left ?_
  have hlt : t.val < (cfg (F := Ideal)).grid.N := t.isLt
  unfold Pipeline.Window.flush
  rw [hw, Bool.true_and, Bool.not_eq_true, Bool.or_eq_false_iff]
  have e : (⟨t.val - 1 + 1, by omega⟩ : Fin (cfg (F := Ideal)).grid.N) = t := Fin.ext (by show t.val - 1 + 1 = t.val; omega)
  refine ⟨decide_eq_false ?_, decide_eq_false ?_⟩
  · show ¬ (t.val - 1 + 1 = _); omega
  · rintro ⟨h, hne⟩
    exact hne ((congrArg ((cfg (F := Ideal)).win w).index e).trans hi.symm)

variable (e : (((cfg (F := Ideal)).win w).block.Idx → Elt Ideal ((cfg (F := Ideal)).win w).elt) → EReal)
variable (g : Fin 6 → Fin 8 → Fin 8 → ℝ)

/-- A result of the key block: the sum over the query blocks so far. -/
theorem col_acc (hw : ((cfg (F := Ideal)).win w).isOut = true)
    (hidx : ∀ t u, pairF t = pairF u → colF t = colF u → ((cfg (F := Ideal)).win w).index t = ((cfg (F := Ideal)).win w).index u)
    (hz : ∀ p i j, i < j → g p i j = 0)
    (hstep : ∀ t Y X, (rdats W 0 c).after w t Y X → e X = (if rowF t = colF t then 0 else e Y) + (g (pairF t) (rowF t) (colF t) : EReal)) :
    ∀ (n : ℕ) (t : Fin (cfg (F := Ideal)).N), t.val = n → ∀ X, (rdats W 0 c).Leaves w t X →
      e X = (sumLt (fun i => g (pairF t) i (colF t)) ((rowF t).val + 1) : EReal) := by
  intro n
  induction n with
  | zero =>
    rintro t ht X ⟨Y, hY, hX⟩
    have h : rowF t = colF t := by_contra fun h => (col_prev t h).1 ht
    rw [hstep t Y X hX, if_pos h, zero_add, sumLt_succ, sumLt_below, zero_add]
    intro i hi; exact hz _ _ _ (by rw [← h]; exact hi)
  | succ n ih =>
    rintro t ht X ⟨Y, hY, hX⟩
    by_cases h : rowF t = colF t
    · rw [hstep t Y X hX, if_pos h, zero_add, sumLt_succ, sumLt_below, zero_add]
      intro i hi; exact hz _ _ _ (by rw [← h]; exact hi)
    · obtain ⟨h0, hp, hc, hr⟩ := col_prev t h
      have hl := ih (prev t) (by show t.val - 1 = n; omega) Y (finds_prev W c w hw t h0 (hidx _ _ hp hc) Y hY)
      rw [hp, hc, hr] at hl
      rw [hstep t Y X hX, if_neg h, hl, sumLt_succ, EReal.coe_add]
end Acc

section AccRow
variable (W : Dev nD → Valuation τ sig (Elt Ideal)) (c : Dev nD) (w : Fin (cfg (F := Ideal)).W)
variable (e : Fin 8 → (((cfg (F := Ideal)).win w).block.Idx → Elt Ideal ((cfg (F := Ideal)).win w).elt) → EReal)
variable (g : Fin 6 → Fin 8 → Fin 8 → ℝ)

/-- The number of key blocks query block `i` has been through at a point. -/
def through (t : Fin grid0.N) (i : Fin 8) : ℕ := if i ≤ rowF t then (colF t).val + 1 else (colF t).val

/-- A result of the queries: the sum over the key blocks so far. -/
theorem row_acc (hw : ((cfg (F := Ideal)).win w).isOut = true)
    (hidx : ∀ t u, pairF t = pairF u → ((cfg (F := Ideal)).win w).index t = ((cfg (F := Ideal)).win w).index u)
    (hz : ∀ p i j, i < j → g p i j = 0)
    (hstep : ∀ t Y X, (rdats W 0 c).after w t Y X →
      e (rowF t) X = (if colF t = 0 then 0 else e (rowF t) Y) + (g (pairF t) (rowF t) (colF t) : EReal))
    (hother : ∀ t Y X i, rowF t ≠ i → (rdats W 0 c).after w t Y X → e i X = e i Y) :
    ∀ (n : ℕ) (t : Fin (cfg (F := Ideal)).N), t.val = n → ∀ X, (rdats W 0 c).Leaves w t X →
      ∀ i, 0 < through t i → e i X = (sumLt (g (pairF t) i) (through t i) : EReal) := by
  intro n
  induction n using Nat.strong_induction_on with
  | _ n ih =>
    rintro t ht X ⟨Y, hY, hX⟩ i hi
    have hcr : colF t ≤ rowF t := col_le_row t
    by_cases hr0 : rowF t = 0
    · -- the pair's first point
      have hc0 : colF t = 0 := Fin.ext (by have := Fin.le_def.mp hcr; rw [hr0] at this; exact Nat.le_zero.mp this)
      have hi0 : i = rowF t := by
        by_contra hne
        have : ¬ i ≤ rowF t := fun h => hne (Fin.ext (by have := Fin.le_def.mp h; rw [hr0] at this ⊢; exact Nat.le_zero.mp this))
        unfold through at hi; rw [if_neg this, hc0] at hi; exact absurd hi (Nat.lt_irrefl 0)
      subst hi0
      unfold through
      rw [hstep t Y X hX, if_pos hc0, zero_add, if_pos le_rfl, sumLt_succ, hc0]
      show _ = ((sumLt _ 0 + _ : ℝ) : EReal)
      rw [sumLt_zero, zero_add]
    · obtain ⟨h0, hp, hq⟩ := row_prev t hr0
      have hl := ih (t.val - 1) (by omega) (prev t) rfl Y (finds_prev W c w hw t h0 (hidx _ _ hp) Y hY) i
      rw [hp] at hl
      by_cases hie : rowF t = i
      · subst hie
        have hth : through (prev t) (rowF t) = (colF t).val := by
          unfold through
          rcases hq with ⟨hc, hr⟩ | ⟨_, hr, hc⟩
          · rw [if_neg (fun h => by have := Fin.le_def.mp h; omega), hc]
          · rw [if_pos (by rw [hr]; exact Fin.le_last _), hc]
        rw [hth] at hl
        rw [hstep t Y X hX]
        unfold through
        rw [if_pos le_rfl, sumLt_succ]
        by_cases hc0 : colF t = 0
        · rw [if_pos hc0, hc0]
          show _ = ((sumLt _ 0 + _ : ℝ) : EReal)
          rw [sumLt_zero, zero_add, zero_add]
        · rw [if_neg hc0, hl (Nat.pos_of_ne_zero fun h => hc0 (Fin.ext h)), EReal.coe_add]
      · rw [hother t Y X i hie hX]
        rcases hq with ⟨hc, hr⟩ | ⟨hrc, hr, hc⟩
        · have hth : through (prev t) i = through t i := by
            unfold through
            have : rowF t ≠ i := hie
            have hv : (rowF t).val ≠ i.val := fun h => this (Fin.ext h)
            rw [hc]
            by_cases h : i ≤ rowF t
            · rw [if_pos h, if_pos (Fin.le_def.mpr (by have := Fin.le_def.mp h; omega))]
            · rw [if_neg h, if_neg (fun h' => h (Fin.le_def.mpr (by have := Fin.le_def.mp h'; omega)))]
          rw [hth] at hl; exact hl hi
        · have hth : through (prev t) i = (colF t).val := by
            unfold through; rw [if_pos (by rw [hr]; exact Fin.le_last _), hc]
          rw [hth] at hl
          have hv : (rowF t).val ≠ i.val := fun h => hie (Fin.ext h)
          rw [hl (by omega)]
          unfold through
          by_cases h : i ≤ rowF t
          · have hlt : i < colF t := Fin.lt_def.mpr (by rw [← hrc]; have := Fin.le_def.mp h; omega)
            rw [if_pos h, sumLt_succ, hz _ _ _ hlt, add_zero]
          · rw [if_neg h]
end AccRow

end Cert.Proof.Value.Block

end
-- ==== Proof.Value.Arrays.lean ====
/-
  The five result arrays after the last point, over real arguments.
-/
module

public import proofs.«01_k».proof.Proof.Value.Accum

@[expose] public section

set_option maxRecDepth 16384
set_option maxHeartbeats 1000000

noncomputable section

namespace Cert.Proof.Value.Block

open Cert.KernelIdeal Cert.KernelIdeal.Gen Idealize.ShloMosaic Cert.Proof.Attn Cert.Proof.Value.Host
open Idealize.ShloMosaic.TcCoe

/-! ## The schedule -/

theorem cov7 : ((cfg (F := Ideal)).win 7).Covers := by decide +kernel
theorem cov8 : ((cfg (F := Ideal)).win 8).Covers := by decide +kernel
theorem cov9 : ((cfg (F := Ideal)).win 9).Covers := by decide +kernel
theorem cov10 : ((cfg (F := Ideal)).win 10).Covers := by decide +kernel
theorem cov11 : ((cfg (F := Ideal)).win 11).Covers := by decide +kernel
theorem last7 : ∀ t, ((cfg (F := Ideal)).win 7).flush t = true → colF t = 7 := by decide +kernel
theorem last8 : ∀ t, ((cfg (F := Ideal)).win 8).flush t = true → rowF t = 7 := by decide +kernel
theorem last9 : ∀ t, ((cfg (F := Ideal)).win 9).flush t = true → rowF t = 7 := by decide +kernel
theorem last10 : ∀ t, ((cfg (F := Ideal)).win 10).flush t = true → rowF t = 7 := by decide +kernel
theorem last11 : ∀ t, ((cfg (F := Ideal)).win 11).flush t = true → colF t = 7 := by decide +kernel

/-! ## Sums over the positions, block by block -/

theorem sum_blocks (f : Fin 8192 → ℝ) : ∑ x, f x = ∑ i, ∑ x, f (Block.R i x) := by
  rw [← Fintype.sum_prod_type' (fun i x => f (Block.R i x))]
  refine (Fintype.sum_equiv (finProdFinEquiv (m := 8) (n := 1024)) _ _ fun ⟨i, x⟩ => congrArg f (Fin.ext ?_)).symm
  show i.val * 1024 + x.val = x.val + 1024 * i.val
  omega

theorem exists_R (z : Fin 8192) : ∃ i x, z = Block.R i x :=
  ⟨⟨z.val / 1024, by omega⟩, ⟨z.val % 1024, by omega⟩, Fin.ext (by show z.val = z.val / 1024 * 1024 + z.val % 1024; omega)⟩

/-- The part of a row's sum one lane gathers. -/
def lane (A : Arg) (p : Fin 6) (a : Fin 2) (z : Fin 8192) (l : Fin 128) : ℝ :=
  ∑ j, ∑ g : Fin 8, A.dlog (hp p a) z (Block.R j ⟨g.val * 128 + l.val, by omega⟩)

/-- The lanes' parts are the row's sum. -/
theorem sum_lane (A : Arg) (p : Fin 6) (a : Fin 2) (z : Fin 8192) : ∑ l, lane A p a z l = ∑ y, A.dlog (hp p a) z y := by
  unfold lane
  rw [sum_blocks, Finset.sum_comm]
  refine Finset.sum_congr rfl fun j _ => ?_
  rw [Finset.sum_comm, ← Fintype.sum_prod_type' (fun (g : Fin 8) (l : Fin 128) => A.dlog (hp p a) z (Block.R j ⟨g.val * 128 + l.val, by omega⟩))]
  refine Fintype.sum_equiv (finProdFinEquiv (m := 8) (n := 128)) _ _ fun ⟨g, l⟩ => congrArg (fun y => A.dlog (hp p a) z (Block.R j y)) (Fin.ext ?_)
  show g.val * 128 + l.val = l.val + 128 * g.val
  omega

theorem R_lt {i j : Fin 8} (h : i < j) (x y : Fin 1024) : Block.R i x < Block.R j y := by
  have := Fin.lt_def.mp h
  exact Fin.lt_def.mpr (by show i.val * 1024 + x.val < j.val * 1024 + y.val; omega)

section Zero
variable (A : Arg) (p : Fin 6) {i j : Fin 8} (h : i < j)
include h
theorem cV_zero (y l) : cV A p i j y l = 0 := Finset.sum_eq_zero fun x _ => by rw [A.prob_masked (R_lt h x y), zero_mul]
theorem cK_zero (y l) : cK A p i j y l = 0 := Finset.sum_eq_zero fun x _ => by rw [A.dlog_masked (R_lt h x y), zero_mul]
theorem cQ_zero (x l) : cQ A p i j x l = 0 := by
  unfold cQ
  rw [Finset.sum_eq_zero fun y _ => by rw [A.dlog_masked (R_lt h x y), zero_mul], zero_mul]
theorem cC_zero (a y) : cC A p i j a y = 0 := Finset.sum_eq_zero fun x _ => A.dlog_masked (R_lt h x y)
theorem cR_zero (a x l) : cR A p i j a x l = 0 := Finset.sum_eq_zero fun g _ => A.dlog_masked (R_lt h x _)
end Zero

/-! ## The arrays -/

section Arr
variable (W : Dev nD → Valuation τ sig (Elt Ideal)) (c : Dev nD)

/-- An array's elements have a property that every element written back has. -/
theorem arr_forall (w : Fin (cfg (F := Ideal)).W) {G : Buf (Elt Ideal) (((cfg (F := Ideal)).win w).arr.view.loc (c.tc : Thread nD τ))}
    (hG : (rdats W 0 c).ArrAt w (cfg (F := Ideal)).N G)
    (P : (((cfg (F := Ideal)).win w).arr.view.loc (c.tc : Thread nD τ)).2.ty.Idx → Elt Ideal (((cfg (F := Ideal)).win w).arr.view.loc (c.tc : Thread nD τ)).2.ty.elt → Prop)
    (hcov : ((cfg (F := Ideal)).win w).Covers)
    (hP : ∀ t, ((cfg (F := Ideal)).win w).flush t = true → ∀ X, (rdats W 0 c).Leaves w t X →
      ∀ y : (((cfg (F := Ideal)).win w).xblock ((cfg (F := Ideal)).grid.coords t)).Idx,
        P ((((cfg (F := Ideal)).win w).blk t).view.emb y)
          (_root_.cast (congrArg (Elt Ideal) (((cfg (F := Ideal)).win w).blk t).view.elt_eq.symm) (X (((cfg (F := Ideal)).win w).xinj ((cfg (F := Ideal)).grid.coords t) y))))
    (harr : ((cfg (F := Ideal)).win w).arr.IsWhole)
    (i : (((cfg (F := Ideal)).win w).arr.view.loc (c.tc : Thread nD τ)).2.ty.Idx) : P i (G i) := by
  obtain ⟨X, hX, hA⟩ := hG.exists_exact
  rw [hA (Function.update (fun _ _ _ => Classical.arbitrary _) w X) fun u _ _ => by rw [Function.update_self]]
  refine Pipeline.Dat.arrAt_forall_of_covers _ w P hcov (fun t hf y => ?_) i harr
  rw [Pipeline.RDat.withAfter_after, Function.update_self]
  exact hP t hf (X t) (hX t t.isLt hf) y

theorem colB_eq {t u : Fin grid0.N} (h : colF t = colF u) : colB (grid0.coords t) = colB (grid0.coords u) := Fin.mk.inj_iff.mp h
theorem pair_eq {t u : Fin grid0.N} (h : pairF t = pairF u) : (grid0.coords t 0).val = (grid0.coords u 0).val := Fin.mk.inj_iff.mp h
theorem seven {t : Fin grid0.N} (h : colF t = 7) (i : Fin 8) : through t i = 8 := by
  have hr : rowF t = 7 := Fin.ext (by
    have h1 := Fin.le_def.mp (col_le_row t); rw [h] at h1
    have h2 := (rowF t).isLt
    change 7 ≤ (rowF t).val at h1; show (rowF t).val = 7; omega)
  unfold through; rw [hr, h, if_pos (show i ≤ 7 from Fin.le_last i)]; rfl

variable {A : Arg} (HR : ∀ t, Reads A (pairF t) (rowF t) (colF t) (blkAt W c t))

include HR in
theorem out9 {G : FVec Ideal S8192x768 .f32} (hG : (rdats W 0 c).ArrAt 9 (cfg (F := Ideal)).N G) (z : S8192x768.Idx) :
    G z = (A.dv (z 0) (z 1) : EReal) := by
  refine arr_forall W c 9 hG (fun z v => v = (A.dv (z 0) (z 1) : EReal)) cov9 (fun t hf X hX y => ?_) (Memref.isWhole_whole _) z
  obtain ⟨x, l, rfl⟩ : ∃ (x : Fin 1024) (l : Fin 128), y = ix2 x l := ⟨y 0, y 1, (eq_ix2 y)⟩
  have h := col_acc W c 9 (fun X => X (ix2 x l)) (fun p i j => cV A p i j x l) rfl
    (fun t u hp hc => by rw [index9, index9, colB_eq hc, pair_eq hp])
    (fun p i j h => cV_zero A p h x l)
    (fun t Y X hX => by rw [show X = dvStep (rowF t) (colF t) (blkAt W c t) Y from hX]; exact dvStep_at (HR t) (col_le_row t) Y x l)
    t.val t rfl X hX
  rw [last9 t hf] at h
  have e : (A.dv (Block.R (colF t) x) (Block.L (pairF t) l) : EReal) = (sumLt (fun i => cV A (pairF t) i (colF t) x l) 8 : EReal) := by
    rw [sumLt_all]; unfold Arg.dv cV; rw [sum_blocks]
  show X (ix2 x l) = (A.dv ((((cfg (F := Ideal)).win 9).blk t).view.emb (ix2 x l) 0) ((((cfg (F := Ideal)).win 9).blk t).view.emb (ix2 x l) 1) : EReal)
  rw [place9]
  exact h.trans e.symm
include HR in
theorem out8 {G : FVec Ideal S8192x768 .f32} (hG : (rdats W 0 c).ArrAt 8 (cfg (F := Ideal)).N G) (z : S8192x768.Idx) :
    G z = (A.dk (z 0) (z 1) : EReal) := by
  refine arr_forall W c 8 hG (fun z v => v = (A.dk (z 0) (z 1) : EReal)) cov8 (fun t hf X hX y => ?_) (Memref.isWhole_whole _) z
  obtain ⟨x, l, rfl⟩ : ∃ (x : Fin 1024) (l : Fin 128), y = ix2 x l := ⟨y 0, y 1, (eq_ix2 y)⟩
  have h := col_acc W c 8 (fun X => X (ix2 x l)) (fun p i j => cK A p i j x l) rfl
    (fun t u hp hc => by rw [index8, index8, colB_eq hc, pair_eq hp])
    (fun p i j h => cK_zero A p h x l)
    (fun t Y X hX => by rw [show X = dkStep (rowF t) (colF t) (blkAt W c t) Y from hX]; exact dkStep_at (HR t) (col_le_row t) Y x l)
    t.val t rfl X hX
  rw [last8 t hf] at h
  have e : (A.dk (Block.R (colF t) x) (Block.L (pairF t) l) : EReal) = (sumLt (fun i => cK A (pairF t) i (colF t) x l) 8 : EReal) := by
    rw [sumLt_all]; unfold Arg.dk cK; rw [sum_blocks]
    exact congrArg Real.toEReal (Finset.sum_congr rfl fun i _ => Finset.sum_congr rfl fun x _ => by ring)
  show X (ix2 x l) = (A.dk ((((cfg (F := Ideal)).win 8).blk t).view.emb (ix2 x l) 0) ((((cfg (F := Ideal)).win 8).blk t).view.emb (ix2 x l) 1) : EReal)
  rw [place8]
  exact h.trans e.symm
include HR in
theorem out10 {G : FVec Ideal S6x2x1x8192 .f32} (hG : (rdats W 0 c).ArrAt 10 (cfg (F := Ideal)).N G) (z : S6x2x1x8192.Idx) :
    G z = ((∑ x, A.dlog (hp (z 0) (z 1)) x (z 3) : ℝ) : EReal) := by
  refine arr_forall W c 10 hG (fun z v => v = ((∑ x, A.dlog (hp (z 0) (z 1)) x (z 3) : ℝ) : EReal)) cov10 (fun t hf X hX y => ?_) (Memref.isWhole_whole _) z
  obtain ⟨a, x, rfl⟩ : ∃ (a : Fin 2) (x : Fin 1024), y = ix4 (0 : Fin 1) a (0 : Fin 1) x := by
    exact ⟨y 1, y 3, (eq_ix4 y).trans (congrArg₂ (fun (u v : Fin 1) => ix4 u (y 1 : Fin 2) v (y 3 : Fin 1024))
      (Subsingleton.elim (α := Fin 1) (y 0) 0) (Subsingleton.elim (α := Fin 1) (y 2) 0))⟩
  have h := col_acc W c 10 (fun X => X (ix4 (0 : Fin 1) a (0 : Fin 1) x)) (fun p i j => cC A p i j a x) rfl
    (fun t u hp hc => by rw [index10, index10, colB_eq hc, pair_eq hp])
    (fun p i j h => cC_zero A p h a x)
    (fun t Y X hX => by rw [show X = dcStep (rowF t) (colF t) (blkAt W c t) Y from hX]; exact dcStep_at (HR t) (col_le_row t) Y a x)
    t.val t rfl X hX
  rw [last10 t hf] at h
  have e : ((∑ z, A.dlog (hp (pairF t) a) z (Block.R (colF t) x) : ℝ) : EReal) = (sumLt (fun i => cC A (pairF t) i (colF t) a x) 8 : EReal) := by
    rw [sumLt_all]; unfold cC; rw [sum_blocks]
  show X (ix4 (0 : Fin 1) a (0 : Fin 1) x) = ((∑ z, A.dlog (hp ((((cfg (F := Ideal)).win 10).blk t).view.emb (ix4 (0 : Fin 1) a (0 : Fin 1) x) 0) ((((cfg (F := Ideal)).win 10).blk t).view.emb (ix4 (0 : Fin 1) a (0 : Fin 1) x) 1)) z ((((cfg (F := Ideal)).win 10).blk t).view.emb (ix4 (0 : Fin 1) a (0 : Fin 1) x) 3) : ℝ) : EReal)
  rw [place10]
  exact h.trans e.symm
include HR in
theorem out7 {G : FVec Ideal S8192x768 .f32} (hG : (rdats W 0 c).ArrAt 7 (cfg (F := Ideal)).N G) (z : S8192x768.Idx) :
    G z = (A.dq (z 0) (z 1) : EReal) := by
  refine arr_forall W c 7 hG (fun z v => v = (A.dq (z 0) (z 1) : EReal)) cov7 (fun t hf X hX y => ?_) (Memref.isWhole_whole _) z
  obtain ⟨x, l, rfl⟩ : ∃ (x : Fin 8192) (l : Fin 128), y = ix2 x l := ⟨y 0, y 1, (eq_ix2 y)⟩
  obtain ⟨i, x, rfl⟩ := exists_R x
  have h := row_acc W c 7 (fun i X => X (ix2 (Block.R i x) l)) (fun p i j => cQ A p i j x l) rfl
    (fun t u hp => by rw [index7, index7, pair_eq hp])
    (fun p i j h => cQ_zero A p h x l)
    (fun t Y X hX => by rw [show X = dqStep (rowF t) (colF t) (blkAt W c t) Y from hX]; exact dqStep_at (HR t) (col_le_row t) Y x l)
    (fun t Y X i h hX => by rw [show X = dqStep (rowF t) (colF t) (blkAt W c t) Y from hX]; exact dqStep_other _ h _ Y x l)
    t.val t rfl X hX i (by rw [seven (last7 t hf)]; decide)
  rw [seven (last7 t hf)] at h
  have e : (A.dq (Block.R i x) (Block.L (pairF t) l) : EReal) = (sumLt (fun j => cQ A (pairF t) i j x l) 8 : EReal) := by
    rw [sumLt_all]; unfold Arg.dq cQ; rw [sum_blocks]
    exact congrArg Real.toEReal (Finset.sum_congr rfl fun j _ => (Finset.sum_mul _ _ _).symm)
  show X (ix2 (Block.R i x) l) = (A.dq ((((cfg (F := Ideal)).win 7).blk t).view.emb (ix2 (Block.R i x) l) 0) ((((cfg (F := Ideal)).win 7).blk t).view.emb (ix2 (Block.R i x) l) 1) : EReal)
  rw [place7]
  exact h.trans e.symm
include HR in
theorem out11 {G : FVec Ideal S6x2x8192x128 .f32} (hG : (rdats W 0 c).ArrAt 11 (cfg (F := Ideal)).N G) (z : S6x2x8192x128.Idx) :
    G z = (lane A (z 0) (z 1) (z 2) (z 3) : EReal) := by
  refine arr_forall W c 11 hG (fun z v => v = (lane A (z 0) (z 1) (z 2) (z 3) : EReal)) cov11 (fun t hf X hX y => ?_) (Memref.isWhole_whole _) z
  obtain ⟨a, x, l, rfl⟩ : ∃ (a : Fin 2) (x : Fin 8192) (l : Fin 128), y = ix4 (0 : Fin 1) a x l := by
    exact ⟨y 1, y 2, y 3, (eq_ix4 y).trans (congrArg (fun (u : Fin 1) => ix4 u (y 1 : Fin 2) (y 2 : Fin 8192) (y 3 : Fin 128))
      (Subsingleton.elim (α := Fin 1) (y 0) 0))⟩
  obtain ⟨i, x, rfl⟩ := exists_R x
  have h := row_acc W c 11 (fun i X => X (ix4 (0 : Fin 1) a (Block.R i x) l)) (fun p i j => cR A p i j a x l) rfl
    (fun t u hp => by rw [index11, index11, pair_eq hp])
    (fun p i j h => cR_zero A p h a x l)
    (fun t Y X hX => by rw [show X = drStep (rowF t) (colF t) (blkAt W c t) Y from hX]; exact drStep_at (HR t) (col_le_row t) Y a x l)
    (fun t Y X i h hX => by rw [show X = drStep (rowF t) (colF t) (blkAt W c t) Y from hX]; exact drStep_other _ h _ Y a x l)
    t.val t rfl X hX i (by rw [seven (last11 t hf)]; decide)
  rw [seven (last11 t hf)] at h
  have e : (lane A (pairF t) a (Block.R i x) l : EReal) = (sumLt (fun j => cR A (pairF t) i j a x l) 8 : EReal) := by
    rw [sumLt_all]; rfl
  show X (ix4 (0 : Fin 1) a (Block.R i x) l) = (lane A ((((cfg (F := Ideal)).win 11).blk t).view.emb (ix4 (0 : Fin 1) a (Block.R i x) l) 0) ((((cfg (F := Ideal)).win 11).blk t).view.emb (ix4 (0 : Fin 1) a (Block.R i x) l) 1) ((((cfg (F := Ideal)).win 11).blk t).view.emb (ix4 (0 : Fin 1) a (Block.R i x) l) 2) ((((cfg (F := Ideal)).win 11).blk t).view.emb (ix4 (0 : Fin 1) a (Block.R i x) l) 3) : EReal)
  rw [place11]
  exact h.trans e.symm
end Arr

end Cert.Proof.Value.Block

end
-- ==== Proof.Value.Tail.lean ====
/-
  The gradient of the cumulative log-gates after the call: the rows' sums less the columns' sums.
-/
module

public import proofs.«01_k».proof.Proof.Value.Arrays

@[expose] public section

set_option maxRecDepth 16384
set_option maxHeartbeats 1000000

noncomputable section

namespace Cert.Proof.Value.Block

open Cert.KernelIdeal Cert.KernelIdeal.Gen Idealize.ShloMosaic Cert.Proof.Attn Cert.Proof.Value.Host
open Idealize.ShloMosaic.TcCoe

/-- The host's lines after the call, of the lanes' sums `G` and the columns' sums `K`. -/
def tail (G : FVec Ideal S6x2x8192x128 .f32) (K : FVec Ideal S6x2x1x8192 .f32) : FVec Ideal S12x8192 .f32 :=
  shapeCast S12x8192 (subf
    (Host.reduceAdd G (constant S_ .f32 0x00000000#32) reducesTo_S6x2x8192x128_S6x2x8192_d3 h_S_)
    (shapeCast S6x2x8192 K shapeCasts_S6x2x1x8192_S6x2x8192)) shapeCasts_S6x2x8192_S12x8192

theorem after_v47 (V : Valuation τ sig (Elt Ideal)) :
    StableHlo.after (hostOps1 (F := Ideal)) V (Proc.devRef .tc main_v47)
      = tail (V (Proc.devRef .tc main_v43_4)) (V (Proc.devRef .tc main_v43_3)) := by
  show StableHlo.after (hostOps1 (F := Ideal)) _ _ = _
  after_results <;> rfl

theorem tail_at (G : FVec Ideal S6x2x8192x128 .f32) (K : FVec Ideal S6x2x1x8192 .f32) (h : Fin 12) (z : Fin 8192) :
    tail G K (ix2 h z) = (∑ l, G (ix4 (⟨h.val / 2, by omega⟩ : Fin 6) (⟨h.val % 2, by omega⟩ : Fin 2) z l))
      - K (ix4 (⟨h.val / 2, by omega⟩ : Fin 6) (⟨h.val % 2, by omega⟩ : Fin 2) (0 : Fin 1) z) := by
  pointwise [tail] <;> rfl

theorem hp_half (h : Fin 12) : hp ⟨h.val / 2, by omega⟩ ⟨h.val % 2, by omega⟩ = h :=
  Fin.ext (by show h.val / 2 * 2 + h.val % 2 = h.val; omega)

theorem tail_real {A : Arg} {G : FVec Ideal S6x2x8192x128 .f32} {K : FVec Ideal S6x2x1x8192 .f32}
    (hG : ∀ z, G z = (lane A (z 0) (z 1) (z 2) (z 3) : EReal))
    (hK : ∀ z, K z = ((∑ x, A.dlog (hp (z 0) (z 1)) x (z 3) : ℝ) : EReal)) (h : Fin 12) (z : Fin 8192) :
    tail G K (ix2 h z) = (A.dc h z : EReal) := by
  have e : (∑ l, G (ix4 (⟨h.val / 2, by omega⟩ : Fin 6) (⟨h.val % 2, by omega⟩ : Fin 2) z l))
      = ((∑ y, A.dlog h z y : ℝ) : EReal) := by
    rw [← congrArg (fun g => ∑ y, A.dlog g z y) (hp_half h), ← sum_lane, ← coe_sum]
    exact Finset.sum_congr rfl fun l _ => hG _
  have e' : K (ix4 (⟨h.val / 2, by omega⟩ : Fin 6) (⟨h.val % 2, by omega⟩ : Fin 2) (0 : Fin 1) z) = ((∑ x, A.dlog h x z : ℝ) : EReal) :=
    (hK _).trans (congrArg (fun g => ((∑ x, A.dlog g x z : ℝ) : EReal)) (hp_half h))
  rw [tail_at, e, e', ← EReal.coe_sub]
  rfl

end Cert.Proof.Value.Block

end
-- ==== Proof.Value.Final.lean ====
/-
  On finite arguments the kernel's four results are the reference's: both are the gradient of Spec at the real arguments.
-/
module

public import proofs.«01_k».proof.Defs
public import proofs.«01_k».proof.Proof.Gen.Pre_finite
public import proofs.«01_k».proof.Proof.Value.Finite
public import proofs.«01_k».proof.Proof.Value.RefVal
public import proofs.«01_k».proof.Proof.Value.Read
public import proofs.«01_k».proof.Proof.Value.Tail

@[expose] public section

set_option maxRecDepth 16384
set_option maxHeartbeats 1000000

noncomputable section

namespace Cert.Proof.Value

open Idealize.ShloMosaic Idealize.SL.Sem

/-! ## The gradient as arrays -/

def dqArr (A : Arg) : FVec Ideal ⟨2, ![8192, 768]⟩ .f32 := fun z => (A.dq (z 0) (z 1) : EReal)
def dkArr (A : Arg) : FVec Ideal ⟨2, ![8192, 768]⟩ .f32 := fun z => (A.dk (z 0) (z 1) : EReal)
def dvArr (A : Arg) : FVec Ideal ⟨2, ![8192, 768]⟩ .f32 := fun z => (A.dv (z 0) (z 1) : EReal)
def dcArr (A : Arg) : FVec Ideal ⟨2, ![12, 8192]⟩ .f32 := fun z => (A.dc (z 0) (z 1) : EReal)

theorem eq_of_ix2 {a b : ℕ} {X Y : FVec Ideal ⟨2, ![a, b]⟩ .f32} (h : ∀ (x : Fin a) (y : Fin b), X (ix2 x y) = Y (ix2 x y)) : X = Y :=
  funext fun z => by rw [eq_ix2 z]; exact h _ _

/-! ## The kernel -/

section Kernel
open Cert.KernelIdeal Cert.KernelIdeal.Gen Cert.Proof.Attn Cert.Proof.Value.Block

theorem kernel_arrays (W : Dev nD → Valuation τ sig (Elt Ideal)) (c : Dev nD) {A : Arg}
    (HR : ∀ t, Reads A (pairF t) (rowF t) (colF t) (blkAt W c t)) (V : Valuation τ sig (Elt Ideal))
    (hV : ∀ w : Fin (cfg (F := Ideal)).W, (rdats W 0 c).ArrAt w (cfg (F := Ideal)).N (V (Proc.devRef .tc (Pipeline.arrRef spec0 w)))) :
    V (Proc.devRef .tc main_v43_0) = dqArr A ∧ V (Proc.devRef .tc main_v43_1) = dkArr A ∧ V (Proc.devRef .tc main_v43_2) = dvArr A
      ∧ StableHlo.after (hostOps1 (F := Ideal)) V (Proc.devRef .tc main_v47) = dcArr A :=
  ⟨funext fun z => out7 W c HR (hV 7) z, funext fun z => out8 W c HR (hV 8) z, funext fun z => out9 W c HR (hV 9) z,
    (after_v47 V).trans (eq_of_ix2 fun h z => tail_real (fun z => out11 W c HR (hV 11) z) (fun z => out10 W c HR (hV 10) z) h z)⟩

variable (m : (ℓ : Loc nD τ sig) → Buf (Elt Ideal) ℓ) (ρ : Dev nD → PrngReg)

theorem kernel_run (A : Dev nD → Arg)
    (H : ∀ c, Holds (A c) (Host.arg0 m c) (Host.arg1 m c) (Host.arg2 m c) (Host.arg3 m c) (Host.arg4 m c)) :
    θ_run (defs (F := Ideal)) (onTc (τ := τ) (main (F := Ideal))) ⟨m, fun _ => 0, ρ⟩ (fun r => ∀ c : Dev nD,
      r.2.mem ((c.tc : Thread nD τ).loc main_v43_0) = dqArr (A c)
      ∧ r.2.mem ((c.tc : Thread nD τ).loc main_v43_1) = dkArr (A c)
      ∧ r.2.mem ((c.tc : Thread nD τ).loc main_v43_2) = dvArr (A c)
      ∧ r.2.mem ((c.tc : Thread nD τ).loc main_v47) = dcArr (A c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c => by
    obtain ⟨V, hV, hr⟩ := h.1 c
    obtain ⟨h7, h8, h9, h47⟩ := kernel_arrays (V₃ m ρ) c (reads_at m ρ c (H c)) V hV.1
    exact ⟨(hr _ (mem_ucRefs main_v43_0 rfl)).trans ((StableHlo.after_of_writes_sub hostOps1 _ hostOps1_writes (by decide)).trans h7),
      (hr _ (mem_ucRefs main_v43_1 rfl)).trans ((StableHlo.after_of_writes_sub hostOps1 _ hostOps1_writes (by decide)).trans h8),
      (hr _ (mem_ucRefs main_v43_2 rfl)).trans ((StableHlo.after_of_writes_sub hostOps1 _ hostOps1_writes (by decide)).trans h9),
      (hr _ (mem_ucRefs main_v47 rfl)).trans h47, h.1.args m ρ c⟩) (run_all (F := Ideal) m ρ)

end Kernel

/-! ## The reference -/

section Reference
open Cert.ReferenceIdeal Cert.ReferenceIdeal.Gen Cert.Proof.Value.Ref

variable (m : (ℓ : Loc nD τ sig) → Buf (Elt Ideal) ℓ) (c : Dev nD) {A : Arg}
  (H : Holds A (arg0 m c) (arg1 m c) (arg2 m c) (arg3 m c) (arg4 m c))

include H in
theorem ref_expos : Exps A (shift (arg0 m c) (arg1 m c) (arg3 m c) A) (E m c) := fun h x y => expos_at H h x y
include H in
theorem ref_dlogits (h : Fin 12) (x y : Fin 8192) : D m c (ix3 h x y) = (A.dlog h x y : EReal) :=
  dlogits_at (ref_expos m c H) (dprobs_at H) h x y

include H in
theorem ref_arrays : Value.res_main_v87 (F := Ideal) m c = dqArr A ∧ Value.res_main_v86 (F := Ideal) m c = dkArr A
    ∧ Value.res_main_v85 (F := Ideal) m c = dvArr A ∧ Value.res_main_v78 (F := Ideal) m c = dcArr A :=
  ⟨(v87_eq m c).trans (eq_of_ix2 fun x n => outQ_at H (ref_dlogits m c H) x n),
    (v86_eq m c).trans (eq_of_ix2 fun x n => outK_at H (ref_dlogits m c H) x n),
    (v85_eq m c).trans (eq_of_ix2 fun x n => outV_at H (ref_expos m c H) x n),
    (v78_eq m c).trans (eq_of_ix2 fun h z => outC_at (ref_dlogits m c H) h z)⟩

end Reference

/-! ## The claim -/

theorem algebraic : Cert.algebraic_KernelIdeal_ReferenceIdeal_pre_finite := fun m g m' g' hpre hm => by
  have H := fun c => Finite.holds _ _ _ _ _ (hpre c)
  refine ⟨fun c => dqArr _, fun c => dkArr _, fun c => dvArr _, fun c => dcArr _, kernel_run m g _ H,
    (θ_run Cert.ReferenceIdeal.defs _ _).mono (fun r h c => ?_) (Cert.ReferenceIdeal.Value.run (F := Ideal) m' g')⟩
  have H' := H c
  rw [← (hm c).1, ← (hm c).2.1, ← (hm c).2.2.1, ← (hm c).2.2.2.1, ← (hm c).2.2.2.2] at H'
  obtain ⟨e0, e1, e2, e3⟩ := ref_arrays m' c H'
  obtain ⟨h0, h1, h2, h3, ha⟩ := h c
  rw [(hm c).1, (hm c).2.1, (hm c).2.2.1, (hm c).2.2.2.1, (hm c).2.2.2.2] at e0 e1 e2 e3
  exact ⟨h0.trans e0, h1.trans e1, h2.trans e2, h3.trans e3, ha⟩

end Cert.Proof.Value

end
-- ==== Proof.Ffn.Frames.lean ====
/-
  The runs of the feed-forward's five calls and of their references: arguments are unchanged, and no semaphore is left counting.
-/
module

public import proofs.«01_k».proof.Defs
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Reference2Ideal
public import proofs.«01_k».proof.Proof.Gen.Reference2Ideal.Run
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Reference3Ideal
public import proofs.«01_k».proof.Proof.Gen.Reference3Ideal.Run
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Frame
public import proofs.«01_k».proof.Proof.Gen.Reference4Ideal
public import proofs.«01_k».proof.Proof.Gen.Reference4Ideal.Run
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Frame
public import proofs.«01_k».proof.Proof.Gen.Reference5Ideal
public import proofs.«01_k».proof.Proof.Gen.Reference5Ideal.Run
public import proofs.«01_k».proof.Proof.Gen.Kernel6
public import proofs.«01_k».proof.Proof.Gen.Kernel6.Frame
public import proofs.«01_k».proof.Proof.Gen.Kernel6Ideal
public import proofs.«01_k».proof.Proof.Gen.Kernel6Ideal.Frame
public import proofs.«01_k».proof.Proof.Gen.Reference6Ideal
public import proofs.«01_k».proof.Proof.Gen.Reference6Ideal.Run
public import proofs.«01_k».proof.Proof.Gen.Pre_finite_act
public import Idealize.ShloMosaic.Lib.Quiescent

@[expose] public section

set_option maxRecDepth 16384

noncomputable section

namespace Cert.Proof.Ffn

open Idealize.ShloMosaic Idealize.SL.Sem

/-! ## The gradient of the first weight -/

theorem frame_kernel2 : Cert.quiescent_Kernel2 := fun m ρ _ => Cert.Kernel2.Gen.frame m ρ

theorem frame_ideal2 : Cert.quiescent_Kernel2Ideal := fun m ρ _ => Cert.Kernel2Ideal.Gen.frame m ρ

theorem frame_reference2 : Cert.quiescent_Reference2Ideal := fun m ρ _ =>
  (θ_run Cert.Reference2Ideal.defs _ _).mono (fun r h => ⟨fun c => (h c).2, sem_eq_zero_of_no_sems (by decide) r.2⟩)
    (Cert.Reference2Ideal.Value.run (F := Ideal) m ρ)

/-! ## The gradient of the second weight -/

theorem frame_kernel3 : Cert.quiescent_Kernel3 := fun m ρ _ => Cert.Kernel3.Gen.frame m ρ

theorem frame_ideal3 : Cert.quiescent_Kernel3Ideal := fun m ρ _ => Cert.Kernel3Ideal.Gen.frame m ρ

theorem frame_reference3 : Cert.quiescent_Reference3Ideal := fun m ρ _ =>
  (θ_run Cert.Reference3Ideal.defs _ _).mono (fun r h => ⟨fun c => (h c).2, sem_eq_zero_of_no_sems (by decide) r.2⟩)
    (Cert.Reference3Ideal.Value.run (F := Ideal) m ρ)

/-! ## The gradients of the two halves of the first product -/

theorem frame_kernel4 : Cert.quiescent_Kernel4 := fun m ρ _ => Cert.Kernel4.Gen.frame m ρ

theorem frame_ideal4 : Cert.quiescent_Kernel4Ideal := fun m ρ _ => Cert.Kernel4Ideal.Gen.frame m ρ

theorem frame_ideal4_finite : Cert.quiescent_Kernel4Ideal_pre_finite_act := fun m ρ _ => frame_ideal4 m ρ trivial

theorem frame_reference4 : Cert.quiescent_Reference4Ideal := fun m ρ _ =>
  (θ_run Cert.Reference4Ideal.defs _ _).mono (fun r h => ⟨fun c => (h c).2.2, sem_eq_zero_of_no_sems (by decide) r.2⟩)
    (Cert.Reference4Ideal.Value.run (F := Ideal) m ρ)

theorem frame_reference4_finite : Cert.quiescent_Reference4Ideal_pre_finite_act := fun m ρ _ => frame_reference4 m ρ trivial

/-! ## The gradient of the input -/

theorem frame_kernel5 : Cert.quiescent_Kernel5 := fun m ρ _ => Cert.Kernel5.Gen.frame m ρ

theorem frame_ideal5 : Cert.quiescent_Kernel5Ideal := fun m ρ _ => Cert.Kernel5Ideal.Gen.frame m ρ

theorem frame_reference5 : Cert.quiescent_Reference5Ideal := fun m ρ _ =>
  (θ_run Cert.Reference5Ideal.defs _ _).mono (fun r h => ⟨fun c => (h c).2.2, sem_eq_zero_of_no_sems (by decide) r.2⟩)
    (Cert.Reference5Ideal.Value.run (F := Ideal) m ρ)

/-! ## The first product -/

theorem frame_kernel6 : Cert.quiescent_Kernel6 := fun m ρ _ => Cert.Kernel6.Gen.frame m ρ

theorem frame_ideal6 : Cert.quiescent_Kernel6Ideal := fun m ρ _ => Cert.Kernel6Ideal.Gen.frame m ρ

theorem frame_reference6 : Cert.quiescent_Reference6Ideal := fun m ρ _ =>
  (θ_run Cert.Reference6Ideal.defs _ _).mono (fun r h => ⟨fun c => (h c).2.2.2, sem_eq_zero_of_no_sems (by decide) r.2⟩)
    (Cert.Reference6Ideal.Value.run (F := Ideal) m ρ)

end Cert.Proof.Ffn

end
-- ==== Proof.Ffn.Sum.lean ====
/-
  Sums over the 8192 positions, taken block by block, in the extended reals.
-/
module

public import Mathlib.Data.EReal.Operations
public import Mathlib.Algebra.BigOperators.Fin
public import Mathlib.Logic.Equiv.Fin.Basic

@[expose] public section

noncomputable section

namespace Cert.Proof.Ffn

/-- Position `x` of block `i`. -/
def R (i : Fin 8) (x : Fin 1024) : Fin 8192 := ⟨i.val * 1024 + x.val, by omega⟩

/-- Summing over all the positions is summing over the blocks and then over a block's positions. -/
theorem sum_blocks {M : Type} [AddCommMonoid M] (f : Fin 8192 → M) : ∑ x, f x = ∑ i, ∑ x, f (R i x) := by
  rw [← Fintype.sum_prod_type' (fun i x => f (R i x))]
  refine (Fintype.sum_equiv (finProdFinEquiv (m := 8) (n := 1024)) _ _ fun ⟨i, x⟩ => congrArg f (Fin.ext ?_)).symm
  show i.val * 1024 + x.val = x.val + 1024 * i.val
  omega

/-- The sum of the first `n` of `N` terms. -/
def upto {M : Type} [AddCommMonoid M] {N : ℕ} (f : Fin N → M) (n : ℕ) : M := ∑ i, if i.val < n then f i else 0

theorem upto_zero {M : Type} [AddCommMonoid M] {N : ℕ} (f : Fin N → M) : upto f 0 = 0 :=
  Finset.sum_eq_zero fun i _ => if_neg (Nat.not_lt_zero _)

theorem upto_all {M : Type} [AddCommMonoid M] {N : ℕ} (f : Fin N → M) : upto f N = ∑ i, f i :=
  Finset.sum_congr rfl fun i _ => if_pos i.isLt

theorem upto_succ {M : Type} [AddCommMonoid M] {N : ℕ} (f : Fin N → M) (n : ℕ) (h : n < N) :
    upto f (n + 1) = upto f n + f ⟨n, h⟩ := by
  unfold upto
  have e : f ⟨n, h⟩ = ∑ i : Fin N, if i = ⟨n, h⟩ then f i else 0 := by
    rw [Finset.sum_ite_eq' Finset.univ (⟨n, h⟩ : Fin N) f, if_pos (Finset.mem_univ _)]
  rw [e, ← Finset.sum_add_distrib]
  refine Finset.sum_congr rfl fun i _ => ?_
  by_cases h1 : i.val < n
  · rw [if_pos (by omega), if_pos h1, if_neg (fun hi => by rw [hi] at h1; exact absurd h1 (Nat.lt_irrefl _)), add_zero]
  · by_cases h2 : i.val = n
    · rw [if_pos (by omega), if_neg h1, if_pos (Fin.ext h2), zero_add]
    · rw [if_neg (by omega), if_neg h1, if_neg (fun hi => h2 (congrArg Fin.val hi)), add_zero]

theorem upto_one {M : Type} [AddCommMonoid M] {N : ℕ} (f : Fin N → M) (h : 0 < N) : upto f 1 = f ⟨0, h⟩ := by
  rw [upto_succ f 0 h, upto_zero, zero_add]

/-- Halving a sum of extended reals is halving its terms. -/
theorem mul_sum_of_pos {ι : Type} (s : Finset ι) (f : ι → EReal) (r : ℝ) (hr : 0 ≤ r) :
    (r : EReal) * ∑ i ∈ s, f i = ∑ i ∈ s, (r : EReal) * f i := by
  induction s using Finset.cons_induction with
  | empty => simp
  | cons a s ha ih =>
    rw [Finset.sum_cons, Finset.sum_cons, ← ih]
    exact EReal.left_distrib_of_nonneg_of_ne_top (by exact_mod_cast hr) (EReal.coe_ne_top _) _ _

/-- A sum of real numbers is a real number. -/
theorem sum_real {ι : Type} (s : Finset ι) (f : ι → EReal) (h : ∀ i ∈ s, ∃ r : ℝ, f i = (r : EReal)) :
    ∃ r : ℝ, ∑ i ∈ s, f i = (r : EReal) := by
  induction s using Finset.cons_induction with
  | empty => exact ⟨0, by simp⟩
  | cons a s ha ih =>
    obtain ⟨r, hr⟩ := h a (Finset.mem_cons_self a s)
    obtain ⟨q, hq⟩ := ih fun i hi => h i (Finset.mem_cons_of_mem hi)
    exact ⟨r + q, by rw [Finset.sum_cons, hr, hq, EReal.coe_add]⟩

/-- The product of two real numbers is one. -/
theorem mul_real {x y : EReal} (hx : ∃ r : ℝ, x = (r : EReal)) (hy : ∃ r : ℝ, y = (r : EReal)) : ∃ r : ℝ, x * y = (r : EReal) := by
  obtain ⟨r, rfl⟩ := hx
  obtain ⟨q, rfl⟩ := hy
  exact ⟨r * q, (EReal.coe_mul r q).symm⟩

end Cert.Proof.Ffn

end
-- ==== Proof.Ffn.ColsCase.lean ====
/-
  What one grid point leaves behind, for the gradient of the first weight of a feed-forward: its accumulator starts at
  zero or at what the point before left, and gains the product of the point's two blocks.
-/
module

public import proofs.«01_k».proof.Proof.Gen.Kernel2Ideal
public import proofs.«01_k».proof.Proof.Gen.Kernel2Ideal.Frame
public import Idealize.ShloMosaic.Lib.Pipeline.Value
public import Idealize.ShloMosaic.Lib.Tactic

@[expose] public section

set_option maxRecDepth 16384
set_option maxHeartbeats 1000000

noncomputable section

namespace Cert.Proof.Ffn.Cols

open Cert.Kernel2Ideal Cert.Kernel2Ideal.Gen Idealize.ShloMosaic Idealize.ShloMosaic.TcCoe

variable {F : FTy → Type} [FloatOps F]

theorem zero2 : (![0, 0] : Fin 2 → Nat) = fun _ => 0 := funext fun a => by fin_cases a <;> rfl
theorem zero3 : (![0, 0, 0] : Fin 3 → Nat) = fun _ => 0 := funext fun a => by fin_cases a <;> rfl

variable (c : Dev nD) (i : grid0.Coords) (a2 : Memref sig .tc .vmem S1024x1024 .bf16) (h2 : a2.IsWhole)
  (a3 : Memref sig .tc .vmem S1024x1408 .bf16) (h3 : a3.IsWhole) (a4 : Memref sig .tc .vmem S1024x1408 .bf16) (h4 : a4.IsWhole)
  (a5 : Memref sig .tc .vmem S1x1024x1408 .f32) (h5 : a5.IsWhole) (a6 : Memref sig .tc .vmem S1024x1408 .f32) (h6 : a6.IsWhole)
  (x0 : Vec F S1024x1024 .bf16) (x1 x2 : Vec F S1024x1408 .bf16) (s : Vec F S1024x1408 .f32)

theorem scratch_A (q0 : cond0_0 i) (q1 : cond0_1 i) (q2 : ¬cond0_2 i) (q3 : ¬cond0_3 i) :
    sout0_A_0 c i a2 h2 a3 h3 a4 h4 a5 h5 a6 h6 q0 q1 q2 q3 x0 x1 x2 = k0_pay2 (k0_pay1 (F := F)) x0 x1 := by
  unfold sout0_A_0
  rw [View.read_writes_eq_canon _ _ _ (scover0_A_0 c i a2 h2 a3 h3 a4 h4 a5 h5 a6 h6 q0 q1 q2 q3 x0 x1 x2)]
  unfold kernelRun0_A
  dsimp only
  sl_unfold_words
  rw [View.canon_cons_unit_zero (S := S1024x1408) zero2, View.readCov_unit_zero (S := S1024x1408) _ zero2]
  simp only [View.readAt_eq_ld, h2.read_unread, h3.read_unread, h4.read_unread, h6.read_unread, View.ld_unit_zero (S := S1024x1408) zero2, View.ld_unit_zero (S := S1024x1024) zero2]

theorem scratch_B (q0 : ¬cond0_0 i) (q1 : cond0_1 i) (q2 : ¬cond0_2 i) (q3 : ¬cond0_3 i) :
    sout0_B_0 c i a2 h2 a3 h3 a4 h4 a5 h5 a6 h6 q0 q1 q2 q3 x0 x1 x2 s = k0_pay2 s x0 x1 := by
  unfold sout0_B_0
  rw [View.read_writes_eq_canon _ _ _ (scover0_B_0 c i a2 h2 a3 h3 a4 h4 a5 h5 a6 h6 q0 q1 q2 q3 x0 x1 x2 s)]
  unfold kernelRun0_B
  dsimp only
  sl_unfold_words
  rw [View.canon_unit_zero (S := S1024x1408) zero2]
  simp only [View.readAt_eq_ld, h2.read_unread, h3.read_unread, h4.read_unread, h6.read_unread, View.ld_unit_zero (S := S1024x1408) zero2, View.ld_unit_zero (S := S1024x1024) zero2]

theorem scratch_C (q0 : ¬cond0_0 i) (q1 : cond0_1 i) (q2 : ¬cond0_2 i) (q3 : cond0_3 i) :
    sout0_C_0 c i a2 h2 a3 h3 a4 h4 a5 h5 a6 h6 q0 q1 q2 q3 x0 x1 x2 s = k0_pay2 s x0 x1 := by
  unfold sout0_C_0
  rw [View.read_writes_eq_canon _ _ _ (scover0_C_0 c i a2 h2 a3 h3 a4 h4 a5 h5 a6 h6 q0 q1 q2 q3 x0 x1 x2 s)]
  unfold kernelRun0_C
  dsimp only
  sl_unfold_words
  rw [View.canon_unit_zero (S := S1024x1408) zero2]
  simp only [View.readAt_eq_ld, h2.read_unread, h3.read_unread, h4.read_unread, h6.read_unread, View.ld_unit_zero (S := S1024x1408) zero2, View.ld_unit_zero (S := S1024x1024) zero2]

theorem block_C (q0 : ¬cond0_0 i) (q1 : cond0_1 i) (q2 : ¬cond0_2 i) (q3 : cond0_3 i) :
    out0_C_3 c i a2 h2 a3 h3 a4 h4 a5 h5 a6 h6 q0 q1 q2 q3 x0 x1 x2 s = k0_pay4 (k0_pay2 s x0 x1) := by
  unfold out0_C_3
  rw [View.read_writes_eq_canon _ _ _ (cover0_C_3 c i a2 h2 a3 h3 a4 h4 a5 h5 a6 h6 q0 q1 q2 q3 x0 x1 x2 s)]
  unfold kernelRun0_C
  dsimp only
  sl_unfold_words
  rw [View.canon_unit_zero (S := S1x1024x1408) zero3, View.readCov_unit_zero (S := S1024x1408) _ zero2]
  simp only [View.readAt_eq_ld, h2.read_unread, h3.read_unread, h4.read_unread, h6.read_unread, View.ld_unit_zero (S := S1024x1408) zero2, View.ld_unit_zero (S := S1024x1024) zero2]

theorem scratch_D (q0 : cond0_0 i) (q1 : ¬cond0_1 i) (q2 : cond0_2 i) (q3 : ¬cond0_3 i) :
    sout0_D_0 c i a2 h2 a3 h3 a4 h4 a5 h5 a6 h6 q0 q1 q2 q3 x0 x1 x2 = k0_pay3 (k0_pay1 (F := F)) x0 x2 := by
  unfold sout0_D_0
  rw [View.read_writes_eq_canon _ _ _ (scover0_D_0 c i a2 h2 a3 h3 a4 h4 a5 h5 a6 h6 q0 q1 q2 q3 x0 x1 x2)]
  unfold kernelRun0_D
  dsimp only
  sl_unfold_words
  rw [View.canon_cons_unit_zero (S := S1024x1408) zero2, View.readCov_unit_zero (S := S1024x1408) _ zero2]
  simp only [View.readAt_eq_ld, h2.read_unread, h3.read_unread, h4.read_unread, h6.read_unread, View.ld_unit_zero (S := S1024x1408) zero2, View.ld_unit_zero (S := S1024x1024) zero2]

theorem scratch_E (q0 : ¬cond0_0 i) (q1 : ¬cond0_1 i) (q2 : cond0_2 i) (q3 : ¬cond0_3 i) :
    sout0_E_0 c i a2 h2 a3 h3 a4 h4 a5 h5 a6 h6 q0 q1 q2 q3 x0 x1 x2 s = k0_pay3 s x0 x2 := by
  unfold sout0_E_0
  rw [View.read_writes_eq_canon _ _ _ (scover0_E_0 c i a2 h2 a3 h3 a4 h4 a5 h5 a6 h6 q0 q1 q2 q3 x0 x1 x2 s)]
  unfold kernelRun0_E
  dsimp only
  sl_unfold_words
  rw [View.canon_unit_zero (S := S1024x1408) zero2]
  simp only [View.readAt_eq_ld, h2.read_unread, h3.read_unread, h4.read_unread, h6.read_unread, View.ld_unit_zero (S := S1024x1408) zero2, View.ld_unit_zero (S := S1024x1024) zero2]

theorem scratch_F (q0 : ¬cond0_0 i) (q1 : ¬cond0_1 i) (q2 : cond0_2 i) (q3 : cond0_3 i) :
    sout0_F_0 c i a2 h2 a3 h3 a4 h4 a5 h5 a6 h6 q0 q1 q2 q3 x0 x1 x2 s = k0_pay3 s x0 x2 := by
  unfold sout0_F_0
  rw [View.read_writes_eq_canon _ _ _ (scover0_F_0 c i a2 h2 a3 h3 a4 h4 a5 h5 a6 h6 q0 q1 q2 q3 x0 x1 x2 s)]
  unfold kernelRun0_F
  dsimp only
  sl_unfold_words
  rw [View.canon_unit_zero (S := S1024x1408) zero2]
  simp only [View.readAt_eq_ld, h2.read_unread, h3.read_unread, h4.read_unread, h6.read_unread, View.ld_unit_zero (S := S1024x1408) zero2, View.ld_unit_zero (S := S1024x1024) zero2]

theorem block_F (q0 : ¬cond0_0 i) (q1 : ¬cond0_1 i) (q2 : cond0_2 i) (q3 : cond0_3 i) :
    out0_F_3 c i a2 h2 a3 h3 a4 h4 a5 h5 a6 h6 q0 q1 q2 q3 x0 x1 x2 s = k0_pay4 (k0_pay3 s x0 x2) := by
  unfold out0_F_3
  rw [View.read_writes_eq_canon _ _ _ (cover0_F_3 c i a2 h2 a3 h3 a4 h4 a5 h5 a6 h6 q0 q1 q2 q3 x0 x1 x2 s)]
  unfold kernelRun0_F
  dsimp only
  sl_unfold_words
  rw [View.canon_unit_zero (S := S1x1024x1408) zero3, View.readCov_unit_zero (S := S1024x1408) _ zero2]
  simp only [View.readAt_eq_ld, h2.read_unread, h3.read_unread, h4.read_unread, h6.read_unread, View.ld_unit_zero (S := S1024x1408) zero2, View.ld_unit_zero (S := S1024x1024) zero2]

end Cert.Proof.Ffn.Cols

end
-- ==== Proof.Ffn.ColsVal.lean ====
/-
  The gradient of the first weight of a feed-forward is the reference's: over the extended reals both are, slab by slab,
  the sum over the positions of a row's entry times the incoming gradient's.
-/
module

public import proofs.«01_k».proof.Proof.Ffn.Sum
public import proofs.«01_k».proof.Proof.Ffn.ColsCase
public import proofs.«01_k».proof.Defs
public import proofs.«01_k».proof.Proof.Gen.Kernel2Ideal.Frame
public import proofs.«01_k».proof.Proof.Gen.Reference2Ideal
public import proofs.«01_k».proof.Proof.Gen.Reference2Ideal.Run
public import Idealize.ShloMosaic.Lib.Pipeline.Value
public import Idealize.ShloMosaic.Lib.Pipeline.ValueKit.Geometry
public import Idealize.ShloMosaic.Lib.Pointwise
public import Idealize.ShloMosaic.Lib.IdealHost
public import Idealize.ShloMosaic.Lib.Tactic.CleanTypes

@[expose] public section

set_option maxRecDepth 16384
set_option maxHeartbeats 1000000

noncomputable section

namespace Cert.Proof.Ffn.Cols

open Idealize.ShloMosaic Idealize.ShloMosaic.TcCoe Idealize.SL.Sem

/-- The incoming gradient at column `f` of slab `ch`: the first two slabs are the gate's half, the other two the other half. -/
def side (da db : FVec Ideal ⟨2, ![8192, 2816]⟩ .bf16) (ch : Fin 4) (f : Fin 1408) (x : Fin 8192) : EReal :=
  if h : ch.val * 1408 + f.val < 2816 then da (ix2 x ⟨ch.val * 1408 + f.val, h⟩)
  else db (ix2 x ⟨ch.val * 1408 + f.val - 2816, by omega⟩)

/-- The gradient of slab `ch` at row `d` and column `f`. -/
def grad (h : FVec Ideal ⟨2, ![8192, 1024]⟩ .bf16) (da db : FVec Ideal ⟨2, ![8192, 2816]⟩ .bf16) : FVec Ideal ⟨3, ![4, 1024, 1408]⟩ .f32 :=
  fun z => ∑ x : Fin 8192, h (ix2 x (z 1)) * side da db (z 0) (z 2) x

section Kernel
open Cert.Kernel2Ideal Cert.Kernel2Ideal.Gen

theorem start_at (d : Fin 1024) (f : Fin 1408) : (k0_pay1 : FVec Ideal S1024x1408 .f32) (ix2 d f) = 0 := by
  have e : (k0_pay1 : FVec Ideal S1024x1408 .f32) (ix2 d f) = Ideal.ofBits .f32 0x00000000#32 := by pointwise [k0_pay1] <;> rfl
  rw [e]; simp [Ideal.ofBits, Ideal.ieee]

theorem gain_at (s : FVec Ideal S1024x1408 .f32) (a : FVec Ideal S1024x1024 .bf16) (b : FVec Ideal S1024x1408 .bf16) (d : Fin 1024) (f : Fin 1408) :
    k0_pay2 s a b (ix2 d f) = s (ix2 d f) + ∑ x, a (ix2 x d) * b (ix2 x f) := by
  pointwise [k0_pay2]
theorem gain_at' (s : FVec Ideal S1024x1408 .f32) (a : FVec Ideal S1024x1024 .bf16) (b : FVec Ideal S1024x1408 .bf16) (d : Fin 1024) (f : Fin 1408) :
    k0_pay3 s a b (ix2 d f) = s (ix2 d f) + ∑ x, a (ix2 x d) * b (ix2 x f) := gain_at s a b d f

theorem slab_at (s : FVec Ideal S1024x1408 .f32) (d : Fin 1024) (f : Fin 1408) :
    k0_pay4 s (ix3 (0 : Fin 1) d f) = s (ix2 d f) := by
  pointwise [k0_pay4]

theorem index0 : ∀ t : Fin cfg0.N, win0_0.index t = ![t.val % 8, 0] := (by decide +kernel : ∀ t : Fin grid0.N, _)
theorem index1 : ∀ t : Fin cfg0.N, win0_1.index t = ![if t.val < 16 then t.val % 8 else 0, min (t.val / 8) 1] :=
  (by decide +kernel : ∀ t : Fin grid0.N, _)
theorem index2 : ∀ t : Fin cfg0.N, win0_2.index t = ![if 16 ≤ t.val then t.val % 8 else 0, t.val / 8 - 2] :=
  (by decide +kernel : ∀ t : Fin grid0.N, _)

variable (m : (ℓ : Loc nD τ sig) → Buf (Elt Ideal) ℓ) (c : Dev nD)

abbrev H : FVec Ideal S8192x1024 .bf16 := m ((c.tc : Thread nD τ).loc main_arg0)
abbrev DA : FVec Ideal S8192x2816 .bf16 := m ((c.tc : Thread nD τ).loc main_arg1)
abbrev DB : FVec Ideal S8192x2816 .bf16 := m ((c.tc : Thread nD τ).loc main_arg2)

/-- A block's part of the gradient of a slab. -/
def part (ch : Fin 4) (d : Fin 1024) (f : Fin 1408) (k : Fin 8) : EReal :=
  ∑ x : Fin 1024, H m c (ix2 (R k x) d) * side (DA m c) (DB m c) ch f (R k x)

section Point
variable (ch : Fin 4) (j : ℕ) (hj : j < 8) (t : Fin cfg0.N) (ht : t.val = ch.val * 8 + j)
include ht

theorem rows (x d : Fin 1024) : (iblk m c 0 t : FVec Ideal S1024x1024 .bf16) (ix2 x d) = H m c (ix2 (R ⟨j, hj⟩ x) d) := by
  show H m c (((cfg0.win 0).blk t).view.emb (ix2 x d)) = _
  refine congrArg (H m c) (funext fun k => Fin.ext ?_)
  refine (Pipeline.Window.rect_emb_val (cfg0.win 0) t (ix2 x d) k).trans ?_
  rw [show (cfg0.win 0).index t = ![t.val % 8, 0] from index0 t]
  fin_cases k
  · show t.val % 8 * 1024 + x.val = j * 1024 + x.val; omega
  · show 0 * 1024 + d.val = d.val; omega

theorem gate (hc : ch.val < 2) (x : Fin 1024) (f : Fin 1408) :
    (iblk m c 1 t : FVec Ideal S1024x1408 .bf16) (ix2 x f) = side (DA m c) (DB m c) ch f (R ⟨j, hj⟩ x) := by
  unfold side
  rw [dif_pos (by omega)]
  show DA m c (((cfg0.win 1).blk t).view.emb (ix2 x f)) = _
  refine congrArg (DA m c) (funext fun k => Fin.ext ?_)
  refine (Pipeline.Window.rect_emb_val (cfg0.win 1) t (ix2 x f) k).trans ?_
  rw [show (cfg0.win 1).index t = _ from index1 t, if_pos (by omega)]
  fin_cases k
  · show t.val % 8 * 1024 + x.val = j * 1024 + x.val; omega
  · show min (t.val / 8) 1 * 1408 + f.val = ch.val * 1408 + f.val
    rw [show min (t.val / 8) 1 = ch.val by omega]

theorem other (hc : 2 ≤ ch.val) (x : Fin 1024) (f : Fin 1408) :
    (iblk m c 2 t : FVec Ideal S1024x1408 .bf16) (ix2 x f) = side (DA m c) (DB m c) ch f (R ⟨j, hj⟩ x) := by
  unfold side
  rw [dif_neg (by omega)]
  show DB m c (((cfg0.win 2).blk t).view.emb (ix2 x f)) = _
  refine congrArg (DB m c) (funext fun k => Fin.ext ?_)
  refine (Pipeline.Window.rect_emb_val (cfg0.win 2) t (ix2 x f) k).trans ?_
  rw [show (cfg0.win 2).index t = _ from index2 t, if_pos (by omega)]
  fin_cases k
  · show t.val % 8 * 1024 + x.val = j * 1024 + x.val; omega
  · show (t.val / 8 - 2) * 1408 + f.val = ch.val * 1408 + f.val - 2816
    rw [show t.val / 8 - 2 = ch.val - 2 by omega]; omega

theorem gain_gate (hc : ch.val < 2) (s : FVec Ideal S1024x1408 .f32) (d : Fin 1024) (f : Fin 1408) :
    k0_pay2 s (iblk m c 0 t) (iblk m c 1 t) (ix2 d f) = s (ix2 d f) + part m c ch d f ⟨j, hj⟩ := by
  refine (gain_at s _ _ d f).trans (congrArg (s (ix2 d f) + ·) (Finset.sum_congr rfl fun x _ => ?_))
  exact congrArg₂ (· * ·) (rows m c ch j hj t ht x d) (gate m c ch j hj t ht hc x f)

theorem gain_other (hc : 2 ≤ ch.val) (s : FVec Ideal S1024x1408 .f32) (d : Fin 1024) (f : Fin 1408) :
    k0_pay3 s (iblk m c 0 t) (iblk m c 2 t) (ix2 d f) = s (ix2 d f) + part m c ch d f ⟨j, hj⟩ := by
  refine (gain_at' s _ _ d f).trans (congrArg (s (ix2 d f) + ·) (Finset.sum_congr rfl fun x _ => ?_))
  exact congrArg₂ (· * ·) (rows m c ch j hj t ht x d) (other m c ch j hj t ht hc x f)

end Point

/-- After the first block of a slab the accumulator holds that block's part. -/
theorem first (ch : Fin 4) (t : Fin cfg0.N) (ht : t.val = ch.val * 8) (d : Fin 1024) (f : Fin 1408) :
    (outsAt0 m c t.val t.isLt).2 (ix2 d f) = upto (part m c ch d f) 1 := by
  have e : ∀ s : EReal, s = 0 → s + part m c ch d f ⟨0, by decide⟩ = upto (part m c ch d f) 1 := fun s hs => by
    rw [hs, zero_add, upto_one]
  by_cases hc : ch.val < 2
  · rw [outsAt0_A m c t (by omega) (by omega) (by omega) (by omega)]
    dsimp only
    rw [scratch_A, gain_gate m c ch 0 (by decide) t ht hc]
    exact e _ (start_at d f)
  · rw [outsAt0_D m c t (by omega) (by omega) (by omega) (by omega)]
    dsimp only
    rw [scratch_D, gain_other m c ch 0 (by decide) t ht (by omega)]
    exact e _ (start_at d f)

/-- A later block adds its own part. -/
theorem later (ch : Fin 4) (j : ℕ) (hj : j + 1 < 8) (t : Fin cfg0.N) (ht : t.val = ch.val * 8 + (j + 1)) (d : Fin 1024) (f : Fin 1408) :
    (outsAt0 m c t.val t.isLt).2 (ix2 d f)
      = (outsAt0 m c (t.val - 1) (Nat.lt_of_le_of_lt (Nat.sub_le _ _) t.isLt)).2 (ix2 d f) + part m c ch d f ⟨j + 1, hj⟩ := by
  by_cases hc : ch.val < 2 <;> by_cases h7 : j + 1 = 7
  · rw [outsAt0_C m c t (by omega) (by omega) (by omega) (by omega)]
    dsimp only
    rw [scratch_C, gain_gate m c ch (j + 1) hj t ht hc]
  · rw [outsAt0_B m c t (by omega) (by omega) (by omega) (by omega)]
    dsimp only
    rw [scratch_B, gain_gate m c ch (j + 1) hj t ht hc]
  · rw [outsAt0_F m c t (by omega) (by omega) (by omega) (by omega)]
    dsimp only
    rw [scratch_F, gain_other m c ch (j + 1) hj t ht (by omega)]
  · rw [outsAt0_E m c t (by omega) (by omega) (by omega) (by omega)]
    dsimp only
    rw [scratch_E, gain_other m c ch (j + 1) hj t ht (by omega)]

theorem acc (ch : Fin 4) : ∀ (j : ℕ) (hj : j < 8) (n : ℕ) (hn : n < cfg0.N) (_ : n = ch.val * 8 + j) (d : Fin 1024) (f : Fin 1408),
    (outsAt0 m c n hn).2 (ix2 d f) = upto (part m c ch d f) (j + 1)
  | 0, _, n, hn, e, d, f => first m c ch ⟨n, hn⟩ e d f
  | j + 1, hj, n, hn, e, d, f => by
    rw [upto_succ _ (j + 1) hj, ← acc ch j (by omega) (n - 1) (by omega) (by omega) d f]
    exact later m c ch j hj ⟨n, hn⟩ e d f

/-- What the last block's point writes back. -/
theorem out (ch : Fin 4) (n : ℕ) (hn : n < cfg0.N) (e : n = ch.val * 8 + 7) (d : Fin 1024) (f : Fin 1408) :
    (outsAt0 m c n hn).1 (ix3 (0 : Fin 1) d f) = grad (H m c) (DA m c) (DB m c) (ix3 ch d f) := by
  have ea := acc m c ch 7 (by decide) n hn e d f
  have e8 : upto (part m c ch d f) 8 = grad (H m c) (DA m c) (DB m c) (ix3 ch d f) := by
    rw [upto_all]; exact (sum_blocks fun x => H m c (ix2 x d) * side (DA m c) (DB m c) ch f x).symm
  rw [← e8, ← ea]
  by_cases hc : ch.val < 2
  · rw [outsAt0_C m c ⟨n, hn⟩ (by show ¬n % 8 = 0; omega) (by show n < 16; omega) (by show ¬16 ≤ n; omega) (by show n % 8 = 7; omega)]
    dsimp only
    rw [scratch_C, block_C]
    exact slab_at _ d f
  · rw [outsAt0_F m c ⟨n, hn⟩ (by show ¬n % 8 = 0; omega) (by show ¬n < 16; omega) (by show 16 ≤ n; omega) (by show n % 8 = 7; omega)]
    dsimp only
    rw [scratch_F, block_F]
    exact slab_at _ d f

/-- A slab is written back at its last block, into its own place. -/
theorem index3 : ∀ t : Fin cfg0.N, win0_3.index t = ![t.val / 8, 0, 0] := (by decide +kernel : ∀ t : Fin grid0.N, _)

theorem place (ch : Fin 4) (t : Fin cfg0.N) (ht : t.val = ch.val * 8 + 7) (y : S1x1024x1408.Idx) :
    ((cfg0.win 3).blk t).view.emb y = ix3 ch (y 1) (y 2) := by
  funext k
  apply Fin.ext
  refine (Pipeline.Window.rect_emb_val (cfg0.win 3) t y k).trans ?_
  rw [show (cfg0.win 3).index t = ![t.val / 8, 0, 0] from index3 t]
  have h0 : (y 0).val < 1 := (y 0).isLt
  fin_cases k
  · show t.val / 8 * 1 + (y 0).val = ch.val; omega
  · show 0 * 1024 + (y 1).val = (y 1).val; omega
  · show 0 * 1408 + (y 2).val = (y 2).val; omega

theorem written (t : Fin cfg0.N) (hf : (cfg0.win 3).flush t = true) :
    (dats m 0 c).flushed 3 t = ((cfg0.win 3).blk t).view.read (Elt Ideal) (grad (H m c) (DA m c) (DB m c)) := by
  show (cfg0.win 3).cut (grid0.coords t) ((dats m 0 c).after 3 t) = _
  rw [after0_3]
  have h7 : t.val % 8 = 7 := (flush0_3 t).mp hf
  have hN : t.val < 32 := lt_of_lt_of_eq t.isLt N_0
  obtain ⟨ch, hc⟩ : ∃ ch : Fin 4, t.val = ch.val * 8 + 7 := ⟨⟨t.val / 8, by omega⟩, by show t.val = t.val / 8 * 8 + 7; omega⟩
  funext y
  have hx : (cfg0.win 3).xinj (grid0.coords t) y = ix3 (0 : Fin 1) (y 1) (y 2) := by
    have h0 : (y 0).val < 1 := (y 0).isLt
    funext k
    apply Fin.ext
    fin_cases k
    · show (y 0).val = 0; omega
    · rfl
    · rfl
  show (outsAt0 m c t.val t.isLt).1 ((cfg0.win 3).xinj (grid0.coords t) y) = grad (H m c) (DA m c) (DB m c) (((cfg0.win 3).blk t).view.emb y)
  exact (congrArg _ hx).trans ((out m c ch t.val t.isLt hc (y 1) (y 2)).trans (congrArg _ (place ch t hc y).symm))

theorem covered (i : S4x1024x1408.Idx) : ∃ t : Fin cfg0.N, (cfg0.win 3).flush t = true ∧ i ∈ ((cfg0.win 3).blk t).view.set := by
  have h0 : (i 0).val < 4 := (i 0).isLt
  have hN : cfg0.N = 32 := N_0
  have ht : (i 0).val * 8 + 7 < cfg0.N := by omega
  refine ⟨⟨(i 0).val * 8 + 7, ht⟩, (flush0_3 _).mpr (by show ((i 0).val * 8 + 7) % 8 = 7; omega), ?_⟩
  have e := place (i 0) ⟨(i 0).val * 8 + 7, ht⟩ rfl (ix3 (0 : Fin 1) (i 1) (i 2))
  have := View.emb_mem_set ((cfg0.win 3).blk ⟨(i 0).val * 8 + 7, ht⟩).view (ix3 (0 : Fin 1) (i 1) (i 2))
  rwa [e.trans (eq_ix3 i).symm] at this

theorem kernel_array : (dats m 0 c).arrAt 3 cfg0.N = grad (H m c) (DA m c) (DB m c) :=
  (dats m 0 c).arrAt_eq_of_cover 3 _ (written m c) covered

/-- The kernel's run: the result is the gradient, and the arguments are as they were. -/
theorem kernel_run (ρ : Dev nD → PrngReg) : θ_run defs (onTc (τ := τ) (main (F := Ideal))) ⟨m, fun _ => 0, ρ⟩ fun r => ∀ c : Dev nD,
      r.2.mem ((c : Thread nD τ).loc main_v0) = grad (H m c) (DA m c) (DB m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨((h c).1 3).trans (kernel_array m c),
    ((h c).1 0).trans (((dats m 0 c).arrAt_in 0 rfl _).trans ((A_eq m c 0).trans (V_main_arg0 m c))),
    ((h c).1 1).trans (((dats m 0 c).arrAt_in 1 rfl _).trans ((A_eq m c 1).trans (V_main_arg1 m c))),
    ((h c).1 2).trans (((dats m 0 c).arrAt_in 2 rfl _).trans ((A_eq m c 2).trans (V_main_arg2 m c)))⟩)
    (run_main m ρ)

end Kernel

section Reference
open Cert.Reference2Ideal Cert.Reference2Ideal.Gen

/-- The two halves of the incoming gradient, side by side. -/
def both (a1 a2 : FVec Ideal S8192x2816 .bf16) : FVec Ideal S8192x5632 .f32 :=
  concatenate S8192x5632 1 [⟨S8192x2816, (extf .f32 a1 bitsLt_bf16_f32)⟩, ⟨S8192x2816, (extf .f32 a2 bitsLt_bf16_f32)⟩] concatenates_S8192x2816_S8192x2816_S8192x5632_d1

theorem both_at (a1 a2 : FVec Ideal S8192x2816 .bf16) (x : Fin 8192) (ch : Fin 4) (f : Fin 1408) :
    both a1 a2 (ix2 x ⟨ch.val * 1408 + f.val, by omega⟩) = side a1 a2 ch f x := by
  unfold side
  pointwise [both] <;> rfl

def refArr (a0 : FVec Ideal S8192x1024 .bf16) (g : FVec Ideal S8192x5632 .f32) : FVec Ideal S4x1024x1408 .f32 :=
  transpose S4x1024x1408 [1, 0, 2] (shapeCast S1024x4x1408 (transpose S1024x5632 [1, 0] (Host.dotGeneral dot_S8192x5632_S8192x1024_S5632x1024_0_0_1_1_n_n none g (extf .f32 a0 bitsLt_bf16_f32)) transposes_S5632x1024_S1024x5632_1_0) shapeCasts_S1024x5632_S1024x4x1408) transposes_S1024x4x1408_S4x1024x1408_1_0_2

theorem refArr_at (a0 : FVec Ideal S8192x1024 .bf16) (g : FVec Ideal S8192x5632 .f32) (ch : Fin 4) (d : Fin 1024) (f : Fin 1408) :
    refArr a0 g (ix3 ch d f) = ∑ x, g (ix2 x ⟨ch.val * 1408 + f.val, by omega⟩) * a0 (ix2 x d) := by
  pointwise [refArr] <;> rfl

theorem ref_array (a0 : FVec Ideal S8192x1024 .bf16) (a1 a2 : FVec Ideal S8192x2816 .bf16) : refArr a0 (both a1 a2) = grad a0 a1 a2 := by
  funext z
  obtain ⟨ch, d, f, rfl⟩ : ∃ (ch : Fin 4) (d : Fin 1024) (f : Fin 1408), z = ix3 ch d f := ⟨z 0, z 1, z 2, eq_ix3 z⟩
  rw [refArr_at]
  refine Finset.sum_congr rfl fun x _ => ?_
  rw [both_at, mul_comm]; rfl

end Reference

/-! ## The claim -/

theorem algebraic : Cert.algebraic_Kernel2Ideal_Reference2Ideal := fun m g m' g' _ hm => by
  refine ⟨fun c => grad (H m c) (DA m c) (DB m c),
    kernel_run m g,
    (θ_run Cert.Reference2Ideal.defs _ _).mono (fun r h c => ⟨(h c).1.trans ?_, (h c).2⟩) (Cert.Reference2Ideal.Value.run (F := Ideal) m' g')⟩
  rw [(hm c).1, (hm c).2.1, (hm c).2.2]
  exact ref_array (H m c) (DA m c) (DB m c)

end Cert.Proof.Ffn.Cols

end
-- ==== Proof.Ffn.RowsCase.lean ====
/-
  What one grid point leaves behind, for the gradient of the second weight of a feed-forward: its accumulator starts at
  zero or at what the point before left, and gains the product of the point's two blocks; a column's last point writes
  half of it back, in four slabs of rows.
-/
module

public import proofs.«01_k».proof.Proof.Gen.Kernel3Ideal
public import proofs.«01_k».proof.Proof.Gen.Kernel3Ideal.Frame
public import Idealize.ShloMosaic.Lib.Pipeline.Value
public import Idealize.ShloMosaic.Lib.Pipeline.FrameBody
public import Idealize.ShloMosaic.Lib.Pipeline.ValueKit.Tiles
public import Idealize.ShloMosaic.Lib.Pointwise
public import Idealize.ShloMosaic.Lib.IdealHost
public import Idealize.ShloMosaic.Lib.Tactic.CleanTypes
public import Idealize.ShloMosaic.Lib.Tactic

@[expose] public section

set_option maxRecDepth 16384
set_option maxHeartbeats 1000000

noncomputable section

namespace Cert.Proof.Ffn.Rows

open Cert.Kernel3Ideal Cert.Kernel3Ideal.Gen Idealize.ShloMosaic Idealize.ShloMosaic.TcCoe

theorem zero2 : (![0, 0] : Fin 2 → Nat) = fun _ => 0 := funext fun a => by fin_cases a <;> rfl

/-- Row `r` of slab `d`. -/
def row (d : Fin 4) (r : Fin 704) : Fin 2816 := ⟨704 * d.val + r.val, by omega⟩

theorem half_at (u : FVec Ideal S704x512 .f32) (r : Fin 704) (f : Fin 512) :
    k0_pay3 u (ix3 (0 : Fin 1) r f) = u (ix2 r f) * Ideal.ofBits .f32 0x3F000000#32 := by
  pointwise [k0_pay3] <;> rfl

/-- Half of the accumulator, in four slabs of rows. -/
def halved (w : FVec Ideal S2816x512 .f32) : FVec Ideal S4x704x512 .f32 :=
  fun z => w (ix2 (row (z 0) (z 1)) (z 2)) * Ideal.ofBits .f32 0x3F000000#32

theorem tile {sig : RefSig} {κ : Kind} {sp : Space} (v : View sig κ sp S2816x512 .f32) (inb0) (w : FVec Ideal S2816x512 .f32)
    (o : ℕ) (d : Fin 4) (inb) (ho : o = 704 * d.val) (y : S4x704x512.Idx) :
    View.TileAt (Val := Elt Ideal) (e := .f32) y ![d.val, 0, 0] S1x704x512.size
      (k0_pay3 (F := Ideal) (v.readCov (Val := Elt Ideal) [⟨Rect.unit (s := S2816x512) ![0, 0] S2816x512.size inb0, w⟩] (Rect.unit (s := S2816x512) ![o, 0] S704x512.size inb).toLoadRect))
      (halved w y) := by
  intro x hx
  have h0 : (y 0).val = d.val + (x 0).val := hx 0
  have h1 : (y 1).val = 0 + (x 1).val := hx 1
  have h2 : (y 2).val = 0 + (x 2).val := hx 2
  have hx0 : (x 0).val < 1 := (x 0).isLt
  have hx1 : (x 1).val < 704 := (x 1).isLt
  obtain ⟨a, r, f, rfl⟩ : ∃ (a : Fin 1) (r : Fin 704) (f : Fin 512), x = ix3 a r f := ⟨x 0, x 1, x 2, eq_ix3 x⟩
  obtain rfl : a = 0 := Subsingleton.elim _ _
  rw [half_at, View.readCov_eq_canon', View.canon_unit_zero (S := S2816x512) zero2]
  refine congrArg (w · * _) (funext fun k => Fin.ext ?_)
  refine (Rect.idx_unit_val (s := S2816x512) ![o, 0] S704x512.size inb (ix2 r f) k).trans ?_
  have e1 : (y 1).val = r.val := by rw [h1]; exact Nat.zero_add _
  have e2 : (y 2).val = f.val := by rw [h2]; exact Nat.zero_add _
  fin_cases k
  · show o + r.val = 704 * (y 0).val + (y 1).val; omega
  · show 0 + f.val = (y 2).val; omega

variable {F : FTy → Type} [FloatOps F]

variable (c : Dev nD) (i : grid0.Coords) (a2 : Memref sig .tc .vmem S1024x2816 .bf16) (h2 : a2.IsWhole)
  (a3 : Memref sig .tc .vmem S1024x512 .f32) (h3 : a3.IsWhole) (a4 : Memref sig .tc .vmem S4x704x512 .f32) (h4 : a4.IsWhole)
  (a5 : Memref sig .tc .vmem S2816x512 .f32) (h5 : a5.IsWhole)

section Scratch
variable (x0 : Vec F S1024x2816 .bf16) (x1 : Vec F S1024x512 .f32) (s : Vec F S2816x512 .f32)

theorem scratch_A (q0 : cond0_0 i) (q1 : ¬cond0_1 i) :
    sout0_A_0 c i a2 h2 a3 h3 a4 h4 a5 h5 q0 q1 x0 x1 = k0_pay2 (k0_pay1 (F := F)) x0 x1 := by
  unfold sout0_A_0
  rw [View.read_writes_eq_canon _ _ _ (scover0_A_0 c i a2 h2 a3 h3 a4 h4 a5 h5 q0 q1 x0 x1)]
  unfold kernelRun0_A
  dsimp only
  sl_unfold_words
  rw [View.canon_cons_unit_zero (S := S2816x512) zero2, View.readCov_unit_zero (S := S2816x512) _ zero2]
  simp only [View.readAt_eq_ld, h2.read_unread, h3.read_unread, h5.read_unread, View.ld_unit_zero (S := S2816x512) zero2, View.ld_unit_zero (S := S1024x2816) zero2, View.ld_unit_zero (S := S1024x512) zero2]

theorem scratch_B (q0 : ¬cond0_0 i) (q1 : ¬cond0_1 i) :
    sout0_B_0 c i a2 h2 a3 h3 a4 h4 a5 h5 q0 q1 x0 x1 s = k0_pay2 s x0 x1 := by
  unfold sout0_B_0
  rw [View.read_writes_eq_canon _ _ _ (scover0_B_0 c i a2 h2 a3 h3 a4 h4 a5 h5 q0 q1 x0 x1 s)]
  unfold kernelRun0_B
  dsimp only
  sl_unfold_words
  rw [View.canon_unit_zero (S := S2816x512) zero2]
  simp only [View.readAt_eq_ld, h2.read_unread, h3.read_unread, h5.read_unread, View.ld_unit_zero (S := S2816x512) zero2, View.ld_unit_zero (S := S1024x2816) zero2, View.ld_unit_zero (S := S1024x512) zero2]

theorem scratch_C (q0 : ¬cond0_0 i) (q1 : cond0_1 i) :
    sout0_C_0 c i a2 h2 a3 h3 a4 h4 a5 h5 q0 q1 x0 x1 s = k0_pay2 s x0 x1 := by
  unfold sout0_C_0
  rw [View.read_writes_eq_canon _ _ _ (scover0_C_0 c i a2 h2 a3 h3 a4 h4 a5 h5 q0 q1 x0 x1 s)]
  unfold kernelRun0_C
  dsimp only
  sl_unfold_words
  rw [View.canon_unit_zero (S := S2816x512) zero2]
  simp only [View.readAt_eq_ld, h2.read_unread, h3.read_unread, h5.read_unread, View.ld_unit_zero (S := S2816x512) zero2, View.ld_unit_zero (S := S1024x2816) zero2, View.ld_unit_zero (S := S1024x512) zero2]

end Scratch

theorem block_C (x0 : FVec Ideal S1024x2816 .bf16) (x1 : FVec Ideal S1024x512 .f32) (s : FVec Ideal S2816x512 .f32) (q0 : ¬cond0_0 i) (q1 : cond0_1 i) :
    out0_C_2 (F := Ideal) c i a2 h2 a3 h3 a4 h4 a5 h5 q0 q1 x0 x1 s = halved (k0_pay2 s x0 x1) := by
  unfold out0_C_2
  rw [View.read_writes_eq_canon _ _ _ (cover0_C_2 (F := Ideal) c i a2 h2 a3 h3 a4 h4 a5 h5 q0 q1 x0 x1 s)]
  funext y
  refine View.canon_eq_of_allAt _ _ _ (cover0_C_2 (F := Ideal) c i a2 h2 a3 h3 a4 h4 a5 h5 q0 q1 x0 x1 s y) ?_
  unfold kernelRun0_C
  dsimp only
  sl_unfold_words
  simp only [View.readAt_eq_ld, h2.read_unread, h3.read_unread, h5.read_unread, View.ld_unit_zero (S := S2816x512) zero2, View.ld_unit_zero (S := S1024x2816) zero2, View.ld_unit_zero (S := S1024x512) zero2]
  refine View.allAt_cons_unit _ _ _ _ _ (tile _ _ _ 2112 3 _ rfl y) ?_
  refine View.allAt_cons_unit _ _ _ _ _ (tile _ _ _ 1408 2 _ rfl y) ?_
  refine View.allAt_cons_unit _ _ _ _ _ (tile _ _ _ 704 1 _ rfl y) ?_
  exact View.allAt_cons_unit _ _ _ _ _ (tile _ _ _ 0 0 _ rfl y) (View.allAt_nil _ _)

end Cert.Proof.Ffn.Rows

end
-- ==== Proof.Ffn.RowsVal.lean ====
/-
  The gradient of the second weight of a feed-forward is the reference's: over the extended reals both are half of the
  sum over the positions of an activation's entry times the incoming gradient's.
-/
module

public import proofs.«01_k».proof.Proof.Ffn.Sum
public import proofs.«01_k».proof.Proof.Ffn.RowsCase
public import proofs.«01_k».proof.Defs
public import proofs.«01_k».proof.Proof.Gen.Kernel3Ideal.Frame
public import proofs.«01_k».proof.Proof.Gen.Reference3Ideal
public import proofs.«01_k».proof.Proof.Gen.Reference3Ideal.Run
public import Idealize.ShloMosaic.Lib.Pipeline.Value
public import Idealize.ShloMosaic.Lib.Pipeline.ValueKit.Geometry
public import Idealize.ShloMosaic.Lib.Pointwise
public import Idealize.ShloMosaic.Lib.IdealHost
public import Idealize.ShloMosaic.Lib.Tactic.CleanTypes

@[expose] public section

set_option maxRecDepth 16384
set_option maxHeartbeats 1000000

noncomputable section

namespace Cert.Proof.Ffn.Rows

open Idealize.ShloMosaic Idealize.ShloMosaic.TcCoe Idealize.SL.Sem

theorem half : Ideal.ofBits .f32 0x3F000000#32 = ((1 / 2 : ℝ) : EReal) := by
  simp [Ideal.ofBits, Ideal.ieee, -EReal.coe_mul]; norm_num

/-- The gradient of slab `z 0` at row `z 1` and column `z 2`. -/
def grad (a : FVec Ideal ⟨2, ![8192, 2816]⟩ .bf16) (dy : FVec Ideal ⟨2, ![8192, 1024]⟩ .f32) : FVec Ideal ⟨3, ![4, 704, 1024]⟩ .f32 :=
  fun z => (∑ x : Fin 8192, a (ix2 x (row (z 0) (z 1))) * dy (ix2 x (z 2))) * Ideal.ofBits .f32 0x3F000000#32

section Kernel
open Cert.Kernel3Ideal Cert.Kernel3Ideal.Gen

theorem start_at (d : Fin 2816) (f : Fin 512) : (k0_pay1 : FVec Ideal S2816x512 .f32) (ix2 d f) = 0 := by
  have e : (k0_pay1 : FVec Ideal S2816x512 .f32) (ix2 d f) = Ideal.ofBits .f32 0x00000000#32 := by pointwise [k0_pay1] <;> rfl
  rw [e]; simp [Ideal.ofBits, Ideal.ieee]

theorem gain_at (s : FVec Ideal S2816x512 .f32) (a : FVec Ideal S1024x2816 .bf16) (b : FVec Ideal S1024x512 .f32) (d : Fin 2816) (f : Fin 512) :
    k0_pay2 s a b (ix2 d f) = s (ix2 d f) + ∑ x, a (ix2 x d) * b (ix2 x f) := by
  pointwise [k0_pay2]

theorem index0 : ∀ t : Fin cfg0.N, win0_0.index t = ![t.val % 8, 0] := (by decide +kernel : ∀ t : Fin grid0.N, _)
theorem index1 : ∀ t : Fin cfg0.N, win0_1.index t = ![t.val % 8, t.val / 8] := (by decide +kernel : ∀ t : Fin grid0.N, _)
theorem index2 : ∀ t : Fin cfg0.N, win0_2.index t = ![0, 0, t.val / 8] := (by decide +kernel : ∀ t : Fin grid0.N, _)

variable (m : (ℓ : Loc nD τ sig) → Buf (Elt Ideal) ℓ) (c : Dev nD)

abbrev A : FVec Ideal S8192x2816 .bf16 := m ((c.tc : Thread nD τ).loc main_arg0)
abbrev DY : FVec Ideal S8192x1024 .f32 := m ((c.tc : Thread nD τ).loc main_arg1)

/-- Column `f` of half `j`. -/
def col (j : Fin 2) (f : Fin 512) : Fin 1024 := ⟨j.val * 512 + f.val, by omega⟩

/-- A block's part of the sum. -/
def part (j : Fin 2) (d : Fin 2816) (f : Fin 512) (k : Fin 8) : EReal :=
  ∑ x : Fin 1024, A m c (ix2 (R k x) d) * DY m c (ix2 (R k x) (col j f))

section Point
variable (j : Fin 2) (k : ℕ) (hk : k < 8) (t : Fin cfg0.N) (ht : t.val = j.val * 8 + k)
include ht

theorem rows (x : Fin 1024) (d : Fin 2816) : (iblk m c 0 t : FVec Ideal S1024x2816 .bf16) (ix2 x d) = A m c (ix2 (R ⟨k, hk⟩ x) d) := by
  show A m c (((cfg0.win 0).blk t).view.emb (ix2 x d)) = _
  refine congrArg (A m c) (funext fun a => Fin.ext ?_)
  refine (Pipeline.Window.rect_emb_val (cfg0.win 0) t (ix2 x d) a).trans ?_
  rw [show (cfg0.win 0).index t = ![t.val % 8, 0] from index0 t]
  fin_cases a
  · show t.val % 8 * 1024 + x.val = k * 1024 + x.val; omega
  · show 0 * 2816 + d.val = d.val; omega

theorem incoming (x : Fin 1024) (f : Fin 512) : (iblk m c 1 t : FVec Ideal S1024x512 .f32) (ix2 x f) = DY m c (ix2 (R ⟨k, hk⟩ x) (col j f)) := by
  show DY m c (((cfg0.win 1).blk t).view.emb (ix2 x f)) = _
  refine congrArg (DY m c) (funext fun a => Fin.ext ?_)
  refine (Pipeline.Window.rect_emb_val (cfg0.win 1) t (ix2 x f) a).trans ?_
  rw [show (cfg0.win 1).index t = _ from index1 t]
  fin_cases a
  · show t.val % 8 * 1024 + x.val = k * 1024 + x.val; omega
  · show t.val / 8 * 512 + f.val = j.val * 512 + f.val; omega

theorem gain (s : FVec Ideal S2816x512 .f32) (d : Fin 2816) (f : Fin 512) :
    k0_pay2 s (iblk m c 0 t) (iblk m c 1 t) (ix2 d f) = s (ix2 d f) + part m c j d f ⟨k, hk⟩ := by
  refine (gain_at s _ _ d f).trans (congrArg (s (ix2 d f) + ·) (Finset.sum_congr rfl fun x _ => ?_))
  exact congrArg₂ (· * ·) (rows m c j k hk t ht x d) (incoming m c j k hk t ht x f)

end Point

theorem first (j : Fin 2) (t : Fin cfg0.N) (ht : t.val = j.val * 8) (d : Fin 2816) (f : Fin 512) :
    (outsAt0 m c t.val t.isLt).2 (ix2 d f) = upto (part m c j d f) 1 := by
  have e : ∀ s : EReal, s = 0 → s + part m c j d f ⟨0, by decide⟩ = upto (part m c j d f) 1 := fun s hs => by
    rw [hs, zero_add, upto_one]
  rw [outsAt0_A m c t (by omega) (by omega)]
  dsimp only
  rw [scratch_A, gain m c j 0 (by decide) t ht]
  exact e _ (start_at d f)

theorem later (j : Fin 2) (k : ℕ) (hk : k + 1 < 8) (t : Fin cfg0.N) (ht : t.val = j.val * 8 + (k + 1)) (d : Fin 2816) (f : Fin 512) :
    (outsAt0 m c t.val t.isLt).2 (ix2 d f)
      = (outsAt0 m c (t.val - 1) (Nat.lt_of_le_of_lt (Nat.sub_le _ _) t.isLt)).2 (ix2 d f) + part m c j d f ⟨k + 1, hk⟩ := by
  by_cases h7 : k + 1 = 7
  · rw [outsAt0_C m c t (by omega) (by omega)]
    dsimp only
    rw [scratch_C, gain m c j (k + 1) hk t ht]
  · rw [outsAt0_B m c t (by omega) (by omega)]
    dsimp only
    rw [scratch_B, gain m c j (k + 1) hk t ht]

theorem acc (j : Fin 2) : ∀ (k : ℕ) (hk : k < 8) (n : ℕ) (hn : n < cfg0.N) (_ : n = j.val * 8 + k) (d : Fin 2816) (f : Fin 512),
    (outsAt0 m c n hn).2 (ix2 d f) = upto (part m c j d f) (k + 1)
  | 0, _, n, hn, e, d, f => first m c j ⟨n, hn⟩ e d f
  | k + 1, hk, n, hn, e, d, f => by
    rw [upto_succ _ (k + 1) hk, ← acc j k (by omega) (n - 1) (by omega) (by omega) d f]
    exact later m c j k hk ⟨n, hn⟩ e d f

/-- What the last block's point writes back. -/
theorem out (j : Fin 2) (n : ℕ) (hn : n < cfg0.N) (e : n = j.val * 8 + 7) (s : Fin 4) (r : Fin 704) (f : Fin 512) :
    (outsAt0 m c n hn).1 (ix3 s r f) = grad (A m c) (DY m c) (ix3 s r (col j f)) := by
  have ea := acc m c j 7 (by decide) n hn e (row s r) f
  have e8 : upto (part m c j (row s r) f) 8 = ∑ x : Fin 8192, A m c (ix2 x (row s r)) * DY m c (ix2 x (col j f)) := by
    rw [upto_all]; exact (sum_blocks fun x => A m c (ix2 x (row s r)) * DY m c (ix2 x (col j f))).symm
  have eg : grad (A m c) (DY m c) (ix3 s r (col j f)) = (outsAt0 m c n hn).2 (ix2 (row s r) f) * Ideal.ofBits .f32 0x3F000000#32 := by
    rw [ea, e8]; rfl
  rw [eg, outsAt0_C m c ⟨n, hn⟩ (by show ¬n % 8 = 0; omega) (by show n % 8 = 7; omega)]
  dsimp only
  rw [scratch_C, block_C]
  rfl

theorem place (j : Fin 2) (t : Fin cfg0.N) (ht : t.val = j.val * 8 + 7) (y : S4x704x512.Idx) :
    ((cfg0.win 2).blk t).view.emb y = ix3 (y 0) (y 1) (col j (y 2)) := by
  funext k
  apply Fin.ext
  refine (Pipeline.Window.rect_emb_val (cfg0.win 2) t y k).trans ?_
  rw [show (cfg0.win 2).index t = ![0, 0, t.val / 8] from index2 t]
  fin_cases k
  · show 0 * 4 + (y 0).val = (y 0).val; omega
  · show 0 * 704 + (y 1).val = (y 1).val; omega
  · show t.val / 8 * 512 + (y 2).val = j.val * 512 + (y 2).val; omega

theorem written (t : Fin cfg0.N) (hf : (cfg0.win 2).flush t = true) :
    (dats m 0 c).flushed 2 t = ((cfg0.win 2).blk t).view.read (Elt Ideal) (grad (A m c) (DY m c)) := by
  show (cfg0.win 2).cut (grid0.coords t) ((dats m 0 c).after 2 t) = _
  rw [after0_2]
  have h7 : t.val % 8 = 7 := (flush0_2 t).mp hf
  have hN : t.val < 16 := lt_of_lt_of_eq t.isLt N_0
  obtain ⟨j, hj⟩ : ∃ j : Fin 2, t.val = j.val * 8 + 7 := ⟨⟨t.val / 8, by omega⟩, by show t.val = t.val / 8 * 8 + 7; omega⟩
  funext y
  have hx : (cfg0.win 2).xinj (grid0.coords t) y = ix3 (y 0) (y 1) (y 2) := by
    funext k
    apply Fin.ext
    fin_cases k <;> rfl
  show (outsAt0 m c t.val t.isLt).1 ((cfg0.win 2).xinj (grid0.coords t) y) = grad (A m c) (DY m c) (((cfg0.win 2).blk t).view.emb y)
  exact (congrArg _ hx).trans ((out m c j t.val t.isLt hj (y 0) (y 1) (y 2)).trans (congrArg _ (place j t hj y).symm))

theorem covered (i : S4x704x1024.Idx) : ∃ t : Fin cfg0.N, (cfg0.win 2).flush t = true ∧ i ∈ ((cfg0.win 2).blk t).view.set := by
  have h2 : (i 2).val < 1024 := (i 2).isLt
  have hN : cfg0.N = 16 := N_0
  obtain ⟨j, f, hjf⟩ : ∃ (j : Fin 2) (f : Fin 512), (i 2).val = j.val * 512 + f.val :=
    ⟨⟨(i 2).val / 512, by omega⟩, ⟨(i 2).val % 512, by omega⟩, by show (i 2).val = (i 2).val / 512 * 512 + (i 2).val % 512; omega⟩
  have ht : j.val * 8 + 7 < cfg0.N := by omega
  refine ⟨⟨j.val * 8 + 7, ht⟩, (flush0_2 _).mpr (by show (j.val * 8 + 7) % 8 = 7; omega), ?_⟩
  have e := place j ⟨j.val * 8 + 7, ht⟩ rfl (ix3 (i 0) (i 1) f)
  have ei : i = ix3 (i 0) (i 1) (col j f) := (eq_ix3 i).trans (congrArg (ix3 (i 0) (i 1)) (Fin.ext hjf))
  have := View.emb_mem_set ((cfg0.win 2).blk ⟨j.val * 8 + 7, ht⟩).view (ix3 (i 0) (i 1) f)
  rwa [e.trans ei.symm] at this

theorem kernel_array : (dats m 0 c).arrAt 2 cfg0.N = grad (A m c) (DY m c) :=
  (dats m 0 c).arrAt_eq_of_cover 2 _ (written m c) covered

/-- The kernel's run: the result is the gradient, and the arguments are as they were. -/
theorem kernel_run (ρ : Dev nD → PrngReg) : θ_run defs (onTc (τ := τ) (main (F := Ideal))) ⟨m, fun _ => 0, ρ⟩ fun r => ∀ c : Dev nD,
      r.2.mem ((c : Thread nD τ).loc main_v0) = grad (A m c) (DY m c)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨((h c).1 2).trans (kernel_array m c),
    ((h c).1 0).trans (((dats m 0 c).arrAt_in 0 rfl _).trans ((A_eq m c 0).trans (V_main_arg0 m c))),
    ((h c).1 1).trans (((dats m 0 c).arrAt_in 1 rfl _).trans ((A_eq m c 1).trans (V_main_arg1 m c)))⟩)
    (run_main m ρ)

end Kernel

section Reference
open Cert.Reference3Ideal Cert.Reference3Ideal.Gen

def refArr (a0 : FVec Ideal S8192x2816 .bf16) (a1 : FVec Ideal S8192x1024 .f32) : FVec Ideal S4x704x1024 .f32 :=
  shapeCast S4x704x1024 (transpose S2816x1024 [1, 0] (Host.dotGeneral dot_S8192x1024_S8192x2816_S1024x2816_0_0_1_1_n_n none (mulf (broadcastInDim S8192x1024 ![] bcast_S_S8192x1024 (constant S_ .f32 0x3F000000#32)) a1) (extf .f32 a0 bitsLt_bf16_f32)) transposes_S1024x2816_S2816x1024_1_0) shapeCasts_S2816x1024_S4x704x1024

theorem refArr_at (a0 : FVec Ideal S8192x2816 .bf16) (a1 : FVec Ideal S8192x1024 .f32) (s : Fin 4) (r : Fin 704) (f : Fin 1024) :
    refArr a0 a1 (ix3 s r f) = ∑ x, (Ideal.ofBits .f32 0x3F000000#32 * a1 (ix2 x f)) * a0 (ix2 x ⟨s.val * 704 + r.val, by omega⟩) := by
  pointwise [refArr] <;> rfl

theorem ref_array (a0 : FVec Ideal S8192x2816 .bf16) (a1 : FVec Ideal S8192x1024 .f32) : refArr a0 a1 = grad a0 a1 := by
  funext z
  obtain ⟨s, r, f, rfl⟩ : ∃ (s : Fin 4) (r : Fin 704) (f : Fin 1024), z = ix3 s r f := ⟨z 0, z 1, z 2, eq_ix3 z⟩
  rw [refArr_at]
  have er : (⟨s.val * 704 + r.val, by omega⟩ : Fin 2816) = row s r := Fin.ext (by show s.val * 704 + r.val = 704 * s.val + r.val; omega)
  show _ = (∑ x : Fin 8192, a0 (ix2 x (row s r)) * a1 (ix2 x f)) * Ideal.ofBits .f32 0x3F000000#32
  rw [er, half, mul_comm, mul_sum_of_pos _ _ _ (by norm_num)]
  refine Finset.sum_congr rfl fun x _ => ?_
  rw [mul_assoc, mul_comm (a1 (ix2 x f))]

end Reference

/-! ## The claim -/

theorem algebraic : Cert.algebraic_Kernel3Ideal_Reference3Ideal := fun m g m' g' _ hm => by
  refine ⟨fun c => grad (A m c) (DY m c), kernel_run m g,
    (θ_run Cert.Reference3Ideal.defs _ _).mono (fun r h c => ⟨(h c).1.trans ?_, (h c).2⟩) (Cert.Reference3Ideal.Value.run (F := Ideal) m' g')⟩
  rw [(hm c).1, (hm c).2]
  exact ref_array (A m c) (DY m c)

end Cert.Proof.Ffn.Rows

end
-- ==== Proof.Ffn.ActVal.lean ====
/-
  The gradients of the two halves of a feed-forward's first product are the reference's: where the other numbers are finite, both are the
  incoming gradient through the second weight, times the other half and the derivative of the gate, or times the gate.
-/
module

public import proofs.«01_k».proof.Proof.Ffn.Sum
public import proofs.«01_k».proof.Proof.Value.Finite
public import proofs.«01_k».proof.Defs
public import proofs.«01_k».proof.Proof.Gen.Kernel4Ideal.Value
public import proofs.«01_k».proof.Proof.Gen.Reference4Ideal
public import proofs.«01_k».proof.Proof.Gen.Reference4Ideal.Run
public import proofs.«01_k».proof.Proof.Gen.Pre_finite_act
public import Idealize.ShloMosaic.Lib.Pipeline.ValueKit.Geometry
public import Idealize.ShloMosaic.Lib.Pointwise
public import Idealize.ShloMosaic.Lib.IdealHost
public import Idealize.ShloMosaic.Lib.Tactic.CleanTypes

@[expose] public section

set_option maxRecDepth 16384
set_option maxHeartbeats 1000000

noncomputable section

namespace Cert.Proof.Ffn.Act

open Idealize.ShloMosaic Idealize.ShloMosaic.TcCoe Idealize.SL.Sem

theorem half : Ideal.ofBits .f32 0x3F000000#32 = ((1 / 2 : ℝ) : EReal) := by
  simp [Ideal.ofBits, Ideal.ieee, -EReal.coe_mul]; norm_num
/-! ## The mathematics -/

/-- The sigmoid. -/
def sg (a : EReal) : EReal :=
  Ideal.div 1 (1 + Ideal.exp (-a))

/-- The gradient of the gate's half, of the gradient `d` of the gated product. -/
def gate (d a b : EReal) : EReal :=
  d * b * (sg a * (1 + a * (1 - sg a)))

/-- The gradient of the other half. -/
def other (d a : EReal) : EReal := d * (a * sg a)

theorem sg_real (a : ℝ) : ∃ s : ℝ, sg (a : EReal) = (s : EReal) := by
  have hp : (1 : ℝ) + Real.exp (-a) ≠ 0 := (add_pos one_pos (Real.exp_pos _)).ne'
  refine ⟨1 / (1 + Real.exp (-a)), ?_⟩
  unfold sg
  rw [← EReal.coe_one, ← EReal.coe_neg, Ideal.exp_coe, ← EReal.coe_add, Value.div_real _ hp]

theorem sg_top : sg ⊤ = 1 := by
  unfold sg
  rw [EReal.neg_top, show Ideal.exp ⊥ = ((0 : ℝ) : EReal) from rfl, ← EReal.coe_one, ← EReal.coe_add, Value.div_real _ (by norm_num)]
  norm_num

theorem sg_bot : sg ⊥ = 0 := by
  unfold sg
  rw [EReal.neg_bot, show Ideal.exp ⊤ = ⊤ from rfl, show (1 : EReal) + ⊤ = ⊤ from by rw [← EReal.coe_one, EReal.coe_add_top]]
  simp [Ideal.div]

/-- The derivative of a product, term by term, is the gate's gradient. -/
theorem gate_terms {d a b : EReal} (hd : ∃ r : ℝ, d = (r : EReal)) (hb : ∃ r : ℝ, b = (r : EReal)) :
    d * b * sg a + a * (d * b) * (sg a * (1 - sg a)) = gate d a b := by
  obtain ⟨d, rfl⟩ := hd
  obtain ⟨b, rfl⟩ := hb
  unfold gate
  induction a using EReal.rec with
  | bot => rw [sg_bot]; simp
  | top => rw [sg_top, show (1 : EReal) - 1 = 0 from by rw [← EReal.coe_one, ← EReal.coe_sub, sub_self, EReal.coe_zero]]; simp
  | coe a =>
    obtain ⟨s, hs⟩ := sg_real a
    rw [hs, ← EReal.coe_one]
    simp only [← EReal.coe_mul, ← EReal.coe_add, ← EReal.coe_sub]
    congr 1
    ring

section Arrays
variable (dy : FVec Ideal ⟨2, ![8192, 1024]⟩ .f32) (w : FVec Ideal ⟨2, ![2816, 1024]⟩ .bf16) (a b : FVec Ideal ⟨2, ![8192, 2816]⟩ .bf16)

/-- The gradient of the gated product. -/
def back (x : Fin 8192) (f : Fin 2816) : EReal := Ideal.ofBits .f32 0x3F000000#32 * ∑ k : Fin 1024, dy (ix2 x k) * w (ix2 f k)

def gateArr : FVec Ideal ⟨2, ![8192, 2816]⟩ .bf16 := fun z => gate (back dy w (z 0) (z 1)) (a z) (b z)
def otherArr : FVec Ideal ⟨2, ![8192, 2816]⟩ .bf16 := fun z => other (back dy w (z 0) (z 1)) (a z)
end Arrays

section Kernel
open Cert.Kernel4Ideal Cert.Kernel4Ideal.Gen

section Body
variable (v0 : FVec Ideal S512x1024 .f32) (v2 : FVec Ideal S1408x1024 .bf16) (v6 v15 : FVec Ideal S512x1408 .bf16) (x : Fin 512) (f : Fin 1408)

theorem back_at : k0_pay1 (F := Ideal) v0 v2 (ix2 x f) = Ideal.ofBits .f32 0x3F000000#32 * ∑ k : Fin 1024, v0 (ix2 x k) * v2 (ix2 f k) := by
  pointwise [k0_pay1] <;> rfl

theorem sg_at : k0_pay3 (F := Ideal) v6 (ix2 x f) = sg (v6 (ix2 x f)) := by
  have e : k0_pay3 (F := Ideal) v6 (ix2 x f) = Ideal.div 1
      (1 + Ideal.exp (0 - v6 (ix2 x f))) := by
    pointwise [k0_pay3, k0_pay2] <;> rfl
  rw [e, zero_sub]; rfl

theorem gate_at : k0_pay4 (F := Ideal) v0 v2 v6 v15 (ix2 x f)
    = gate (Ideal.ofBits .f32 0x3F000000#32 * ∑ k : Fin 1024, v0 (ix2 x k) * v2 (ix2 f k)) (v6 (ix2 x f)) (v15 (ix2 x f)) := by
  have e : k0_pay4 (F := Ideal) v0 v2 v6 v15 (ix2 x f) = k0_pay1 (F := Ideal) v0 v2 (ix2 x f) * v15 (ix2 x f)
      * (k0_pay3 (F := Ideal) v6 (ix2 x f) * (1 + v6 (ix2 x f) * (1 - k0_pay3 (F := Ideal) v6 (ix2 x f)))) := by
    unfold k0_pay4 k0_pay2
    generalize k0_pay1 (F := Ideal) v0 v2 = d
    generalize k0_pay3 (F := Ideal) v6 = s
    pointwise [] <;> rfl
  rw [e, back_at, sg_at]; rfl

theorem other_at : k0_pay5 (F := Ideal) v0 v2 v6 (ix2 x f)
    = other (Ideal.ofBits .f32 0x3F000000#32 * ∑ k : Fin 1024, v0 (ix2 x k) * v2 (ix2 f k)) (v6 (ix2 x f)) := by
  have e : k0_pay5 (F := Ideal) v0 v2 v6 (ix2 x f) = k0_pay1 (F := Ideal) v0 v2 (ix2 x f) * (v6 (ix2 x f) * k0_pay3 (F := Ideal) v6 (ix2 x f)) := by
    unfold k0_pay5 k0_pay2
    generalize k0_pay1 (F := Ideal) v0 v2 = d
    generalize k0_pay3 (F := Ideal) v6 = s
    pointwise [] <;> rfl
  rw [e, back_at, sg_at]; rfl

end Body

theorem zero2 : (![0, 0] : Fin 2 → Nat) = fun _ => 0 := funext fun a => by fin_cases a <;> rfl

theorem block4 (x0 : FVec Ideal S512x1024 .f32) (x1 : FVec Ideal S1408x1024 .bf16) (x2 x3 : FVec Ideal S512x1408 .bf16) :
    out0_4 (F := Ideal) x0 x1 x2 x3 = k0_pay4 (F := Ideal) x0 x1 x2 x3 := by
  unfold out0_4
  rw [View.canon_unit_zero (S := S512x1408) zero2]
  simp only [View.ld_unit_zero (S := S512x1024) zero2, View.ld_unit_zero (S := S1408x1024) zero2, View.ld_unit_zero (S := S512x1408) zero2]

theorem block5 (x0 : FVec Ideal S512x1024 .f32) (x1 : FVec Ideal S1408x1024 .bf16) (x2 x3 : FVec Ideal S512x1408 .bf16) :
    out0_5 (F := Ideal) x0 x1 x2 x3 = k0_pay5 (F := Ideal) x0 x1 x2 := by
  unfold out0_5
  rw [View.canon_unit_zero (S := S512x1408) zero2]
  simp only [View.ld_unit_zero (S := S512x1024) zero2, View.ld_unit_zero (S := S1408x1024) zero2, View.ld_unit_zero (S := S512x1408) zero2]

theorem index0 : ∀ t : Fin cfg0.N, win0_0.index t = ![t.val % 16, 0] := (by decide +kernel : ∀ t : Fin grid0.N, _)
theorem index1 : ∀ t : Fin cfg0.N, win0_1.index t = ![t.val / 16, 0] := (by decide +kernel : ∀ t : Fin grid0.N, _)
theorem index2 : ∀ t : Fin cfg0.N, win0_2.index t = ![t.val % 16, t.val / 16] := (by decide +kernel : ∀ t : Fin grid0.N, _)
theorem index3 : ∀ t : Fin cfg0.N, win0_3.index t = ![t.val % 16, t.val / 16] := (by decide +kernel : ∀ t : Fin grid0.N, _)
theorem index4 : ∀ t : Fin cfg0.N, win0_4.index t = ![t.val % 16, t.val / 16] := (by decide +kernel : ∀ t : Fin grid0.N, _)
theorem index5 : ∀ t : Fin cfg0.N, win0_5.index t = ![t.val % 16, t.val / 16] := (by decide +kernel : ∀ t : Fin grid0.N, _)

variable (m : (ℓ : Loc nD τ sig) → Buf (Elt Ideal) ℓ) (c : Dev nD)

abbrev DY : FVec Ideal S8192x1024 .f32 := m ((c.tc : Thread nD τ).loc main_arg0)
abbrev W : FVec Ideal S2816x1024 .bf16 := m ((c.tc : Thread nD τ).loc main_arg1)
abbrev A : FVec Ideal S8192x2816 .bf16 := m ((c.tc : Thread nD τ).loc main_arg2)
abbrev B : FVec Ideal S8192x2816 .bf16 := m ((c.tc : Thread nD τ).loc main_arg3)

/-- Position `x` of a point's block of rows, and column `f` of its block of columns. -/
def pos (t : Fin cfg0.N) (x : Fin 512) : Fin 8192 := ⟨t.val % 16 * 512 + x.val, by omega⟩
def col (t : Fin cfg0.N) (f : Fin 1408) : Fin 2816 :=
  ⟨t.val / 16 * 1408 + f.val, by have h : t.val < 32 := lt_of_lt_of_eq t.isLt N_0; omega⟩

section Point
variable (t : Fin cfg0.N)

theorem incoming (x : Fin 512) (k : Fin 1024) : (iblk m c 0 t : FVec Ideal S512x1024 .f32) (ix2 x k) = DY m c (ix2 (pos t x) k) := by
  show DY m c (((cfg0.win 0).blk t).view.emb (ix2 x k)) = _
  refine congrArg (DY m c) (funext fun a => Fin.ext ?_)
  refine (Pipeline.Window.rect_emb_val (cfg0.win 0) t (ix2 x k) a).trans ?_
  rw [show (cfg0.win 0).index t = _ from index0 t]
  fin_cases a
  · show t.val % 16 * 512 + x.val = _; rfl
  · show 0 * 1024 + k.val = k.val; omega

theorem weight (f : Fin 1408) (k : Fin 1024) : (iblk m c 1 t : FVec Ideal S1408x1024 .bf16) (ix2 f k) = W m c (ix2 (col t f) k) := by
  show W m c (((cfg0.win 1).blk t).view.emb (ix2 f k)) = _
  refine congrArg (W m c) (funext fun a => Fin.ext ?_)
  refine (Pipeline.Window.rect_emb_val (cfg0.win 1) t (ix2 f k) a).trans ?_
  rw [show (cfg0.win 1).index t = _ from index1 t]
  fin_cases a
  · show t.val / 16 * 1408 + f.val = _; rfl
  · show 0 * 1024 + k.val = k.val; omega

theorem left (x : Fin 512) (f : Fin 1408) : (iblk m c 2 t : FVec Ideal S512x1408 .bf16) (ix2 x f) = A m c (ix2 (pos t x) (col t f)) := by
  show A m c (((cfg0.win 2).blk t).view.emb (ix2 x f)) = _
  refine congrArg (A m c) (funext fun a => Fin.ext ?_)
  refine (Pipeline.Window.rect_emb_val (cfg0.win 2) t (ix2 x f) a).trans ?_
  rw [show (cfg0.win 2).index t = _ from index2 t]
  fin_cases a <;> rfl

theorem right (x : Fin 512) (f : Fin 1408) : (iblk m c 3 t : FVec Ideal S512x1408 .bf16) (ix2 x f) = B m c (ix2 (pos t x) (col t f)) := by
  show B m c (((cfg0.win 3).blk t).view.emb (ix2 x f)) = _
  refine congrArg (B m c) (funext fun a => Fin.ext ?_)
  refine (Pipeline.Window.rect_emb_val (cfg0.win 3) t (ix2 x f) a).trans ?_
  rw [show (cfg0.win 3).index t = _ from index3 t]
  fin_cases a <;> rfl

/-- The gradient of the gated product, from a point's blocks. -/
theorem back_blk (x0 : FVec Ideal S512x1024 .f32) (x1 : FVec Ideal S1408x1024 .bf16) (e0 : x0 = iblk m c 0 t) (e1 : x1 = iblk m c 1 t)
    (x : Fin 512) (f : Fin 1408) : Ideal.ofBits .f32 0x3F000000#32 * ∑ k : Fin 1024, x0 (ix2 x k) * x1 (ix2 f k)
      = back (DY m c) (W m c) (pos t x) (col t f) := by
  subst e0 e1
  refine congrArg (Ideal.ofBits .f32 0x3F000000#32 * ·) (Finset.sum_congr rfl fun k _ => ?_)
  exact congrArg₂ (fun u v : EReal => u * v) (incoming m c t x k) (weight m c t f k)

theorem place4 (y : S512x1408.Idx) : ((cfg0.win 4).blk t).view.emb y = ix2 (pos t (y 0)) (col t (y 1)) := by
  funext k
  apply Fin.ext
  refine (Pipeline.Window.rect_emb_val (cfg0.win 4) t y k).trans ?_
  rw [show (cfg0.win 4).index t = _ from index4 t]
  fin_cases k <;> rfl

theorem place5 (y : S512x1408.Idx) : ((cfg0.win 5).blk t).view.emb y = ix2 (pos t (y 0)) (col t (y 1)) := by
  funext k
  apply Fin.ext
  refine (Pipeline.Window.rect_emb_val (cfg0.win 5) t y k).trans ?_
  rw [show (cfg0.win 5).index t = _ from index5 t]
  fin_cases k <;> rfl

theorem gate_blk (x : Fin 512) (f : Fin 1408) :
    k0_pay4 (F := Ideal) (iblk m c 0 t) (iblk m c 1 t) (iblk m c 2 t) (iblk m c 3 t) (ix2 x f)
      = gateArr (DY m c) (W m c) (A m c) (B m c) (ix2 (pos t x) (col t f)) := by
  refine (gate_at _ _ _ _ x f).trans ?_
  rw [back_blk m c t _ _ rfl rfl, left, right]; rfl

theorem other_blk (x : Fin 512) (f : Fin 1408) :
    k0_pay5 (F := Ideal) (iblk m c 0 t) (iblk m c 1 t) (iblk m c 2 t) (ix2 x f)
      = otherArr (DY m c) (W m c) (A m c) (ix2 (pos t x) (col t f)) := by
  refine (other_at _ _ _ x f).trans ?_
  rw [back_blk m c t _ _ rfl rfl, left]; rfl

theorem written4 : (dats m 0 c).flushed 4 t = ((cfg0.win 4).blk t).view.read (Elt Ideal) (gateArr (DY m c) (W m c) (A m c) (B m c)) := by
  rw [Cert.Kernel4Ideal.Value.flushed4, block4]
  funext y
  have hx : (cfg0.win 4).xinj (grid0.coords t) y = ix2 (y 0) (y 1) := by
    funext k
    apply Fin.ext
    fin_cases k <;> rfl
  show k0_pay4 (F := Ideal) (iblk m c 0 t) (iblk m c 1 t) (iblk m c 2 t) (iblk m c 3 t) ((cfg0.win 4).xinj (grid0.coords t) y)
    = gateArr (DY m c) (W m c) (A m c) (B m c) (((cfg0.win 4).blk t).view.emb y)
  exact (congrArg _ hx).trans ((gate_blk m c t (y 0) (y 1)).trans (congrArg _ (place4 t y).symm))

theorem written5 : (dats m 0 c).flushed 5 t = ((cfg0.win 5).blk t).view.read (Elt Ideal) (otherArr (DY m c) (W m c) (A m c)) := by
  rw [Cert.Kernel4Ideal.Value.flushed5, block5]
  funext y
  have hx : (cfg0.win 5).xinj (grid0.coords t) y = ix2 (y 0) (y 1) := by
    funext k
    apply Fin.ext
    fin_cases k <;> rfl
  show k0_pay5 (F := Ideal) (iblk m c 0 t) (iblk m c 1 t) (iblk m c 2 t) ((cfg0.win 5).xinj (grid0.coords t) y)
    = otherArr (DY m c) (W m c) (A m c) (((cfg0.win 5).blk t).view.emb y)
  exact (congrArg _ hx).trans ((other_blk m c t (y 0) (y 1)).trans (congrArg _ (place5 t y).symm))

end Point

/-- Every index is in some point's block. -/
theorem point (i : S8192x2816.Idx) : ∃ (t : Fin cfg0.N) (x : Fin 512) (f : Fin 1408), i = ix2 (pos t x) (col t f) := by
  have h0 : (i 0).val < 8192 := (i 0).isLt
  have h1 : (i 1).val < 2816 := (i 1).isLt
  have hN : cfg0.N = 32 := N_0
  refine ⟨⟨(i 1).val / 1408 * 16 + (i 0).val / 512, by omega⟩, ⟨(i 0).val % 512, by omega⟩, ⟨(i 1).val % 1408, by omega⟩, ?_⟩
  funext k
  apply Fin.ext
  fin_cases k
  · show (i 0).val = ((i 1).val / 1408 * 16 + (i 0).val / 512) % 16 * 512 + (i 0).val % 512; omega
  · show (i 1).val = ((i 1).val / 1408 * 16 + (i 0).val / 512) / 16 * 1408 + (i 1).val % 1408; omega

theorem covered4 (i : S8192x2816.Idx) : ∃ t : Fin cfg0.N, (cfg0.win 4).flush t = true ∧ i ∈ ((cfg0.win 4).blk t).view.set := by
  obtain ⟨t, x, f, hi⟩ := point i
  refine ⟨t, flush0_4 t, ?_⟩
  have := View.emb_mem_set ((cfg0.win 4).blk t).view (ix2 x f)
  rwa [(place4 t (ix2 x f)).trans hi.symm] at this

theorem covered5 (i : S8192x2816.Idx) : ∃ t : Fin cfg0.N, (cfg0.win 5).flush t = true ∧ i ∈ ((cfg0.win 5).blk t).view.set := by
  obtain ⟨t, x, f, hi⟩ := point i
  refine ⟨t, flush0_5 t, ?_⟩
  have := View.emb_mem_set ((cfg0.win 5).blk t).view (ix2 x f)
  rwa [(place5 t (ix2 x f)).trans hi.symm] at this

theorem array4 : (dats m 0 c).arrAt 4 cfg0.N = gateArr (DY m c) (W m c) (A m c) (B m c) :=
  (dats m 0 c).arrAt_eq_of_cover 4 _ (fun t _ => written4 m c t) covered4

theorem array5 : (dats m 0 c).arrAt 5 cfg0.N = otherArr (DY m c) (W m c) (A m c) :=
  (dats m 0 c).arrAt_eq_of_cover 5 _ (fun t _ => written5 m c t) covered5

end Kernel

section Finite
open Cert.Pre_finite_act
variable (a0 : FVec Ideal S8192x1024 .f32) (a1 : FVec Ideal S2816x1024 .bf16) (a2 a3 : FVec Ideal S8192x2816 .bf16)

theorem finite0 (x : Fin 8192) (n : Fin 1024) (h : (fn (F := Ideal) a0 a1 a2 a3).1 = fun _ => 1#1) : ∃ r : ℝ, a0 (ix2 x n) = (r : EReal) := by
  have e : (fn (F := Ideal) a0 a1 a2 a3).1 (ix2 x n)
      = Ideal.cmp .olt (max (a0 (ix2 x n)) (-(a0 (ix2 x n) : EReal))) (Ideal.ofBits .f32 0x7F800000#32) := by pointwise [fn] <;> rfl
  exact ⟨_, (Value.Finite.real_of_lt (e.symm.trans (congrFun h _))).symm⟩
theorem finite1 (x : Fin 2816) (n : Fin 1024) (h : (fn (F := Ideal) a0 a1 a2 a3).2.1 = fun _ => 1#1) : ∃ r : ℝ, a1 (ix2 x n) = (r : EReal) := by
  have e : (fn (F := Ideal) a0 a1 a2 a3).2.1 (ix2 x n)
      = Ideal.cmp .olt (max (a1 (ix2 x n)) (-(a1 (ix2 x n) : EReal))) (Ideal.ofBits .f32 0x7F800000#32) := by pointwise [fn] <;> rfl
  exact ⟨_, (Value.Finite.real_of_lt (e.symm.trans (congrFun h _))).symm⟩
theorem finite3 (x : Fin 8192) (n : Fin 2816) (h : (fn (F := Ideal) a0 a1 a2 a3).2.2 = fun _ => 1#1) : ∃ r : ℝ, a3 (ix2 x n) = (r : EReal) := by
  have e : (fn (F := Ideal) a0 a1 a2 a3).2.2 (ix2 x n)
      = Ideal.cmp .olt (max (a3 (ix2 x n)) (-(a3 (ix2 x n) : EReal))) (Ideal.ofBits .f32 0x7F800000#32) := by pointwise [fn] <;> rfl
  exact ⟨_, (Value.Finite.real_of_lt (e.symm.trans (congrFun h _))).symm⟩

end Finite

section Reference
open Cert.Reference4Ideal Cert.Reference4Ideal.Gen
variable (a0 : FVec Ideal S8192x1024 .f32) (a1 : FVec Ideal S2816x1024 .bf16) (a2 a3 : FVec Ideal S8192x2816 .bf16)

def refBack : FVec Ideal S8192x2816 .f32 :=
  Host.dotGeneral dot_S8192x1024_S2816x1024_S8192x2816_1_1_0_0_n_n none (mulf (broadcastInDim S8192x1024 ![] bcast_S_S8192x1024 (constant S_ .f32 0x3F000000#32)) a0) (extf .f32 a1 bitsLt_bf16_f32)

def refSg : FVec Ideal S8192x2816 .f32 :=
  Host.divf (broadcastInDim S8192x2816 ![] bcast_S_S8192x2816 (constant S_ .f32 0x3F800000#32)) (addf (broadcastInDim S8192x2816 ![] bcast_S_S8192x2816 (constant S_ .f32 0x3F800000#32)) (Host.exp (Host.negf (extf .f32 a2 bitsLt_bf16_f32))))

def refGate (d s : FVec Ideal S8192x2816 .f32) : FVec Ideal S8192x2816 .bf16 :=
  truncf .bf16 (addf (mulf (mulf d (extf .f32 a3 bitsLt_bf16_f32)) s) (mulf (mulf (extf .f32 a2 bitsLt_bf16_f32) (mulf d (extf .f32 a3 bitsLt_bf16_f32))) (mulf s (subf (broadcastInDim S8192x2816 ![] bcast_S_S8192x2816 (constant S_ .f32 0x3F800000#32)) s)))) bitsLt_bf16_f32

def refOther (d s : FVec Ideal S8192x2816 .f32) : FVec Ideal S8192x2816 .bf16 :=
  truncf .bf16 (mulf (mulf (extf .f32 a2 bitsLt_bf16_f32) s) d) bitsLt_bf16_f32

theorem refBack_at (x : Fin 8192) (f : Fin 2816) : refBack a0 a1 (ix2 x f) = back a0 a1 x f := by
  have e : refBack a0 a1 (ix2 x f) = ∑ k : Fin 1024, (Ideal.ofBits .f32 0x3F000000#32 * a0 (ix2 x k)) * a1 (ix2 f k) := by
    pointwise [refBack] <;> rfl
  rw [e]
  unfold back
  rw [half, mul_sum_of_pos _ _ _ (by norm_num)]
  exact Finset.sum_congr rfl fun k _ => mul_assoc _ _ _

theorem refSg_at (x : Fin 8192) (f : Fin 2816) : refSg a2 (ix2 x f) = sg (a2 (ix2 x f)) := by
  pointwise [refSg] <;> rfl

theorem refGate_at (d s : FVec Ideal S8192x2816 .f32) (x : Fin 8192) (f : Fin 2816) : refGate a2 a3 d s (ix2 x f)
    = d (ix2 x f) * a3 (ix2 x f) * s (ix2 x f)
      + a2 (ix2 x f) * (d (ix2 x f) * a3 (ix2 x f)) * (s (ix2 x f) * (1 - s (ix2 x f))) := by
  pointwise [refGate] <;> rfl

theorem refOther_at (d s : FVec Ideal S8192x2816 .f32) (x : Fin 8192) (f : Fin 2816) : refOther a2 d s (ix2 x f)
    = a2 (ix2 x f) * s (ix2 x f) * d (ix2 x f) := by
  pointwise [refOther] <;> rfl

theorem ref_gate (h0 : ∀ x k, ∃ r : ℝ, a0 (ix2 x k) = (r : EReal)) (h1 : ∀ f k, ∃ r : ℝ, a1 (ix2 f k) = (r : EReal))
    (h3 : ∀ x f, ∃ r : ℝ, a3 (ix2 x f) = (r : EReal)) :
    refGate a2 a3 (refBack a0 a1) (refSg a2) = gateArr a0 a1 a2 a3 := by
  funext z
  obtain ⟨x, f, rfl⟩ : ∃ (x : Fin 8192) (f : Fin 2816), z = ix2 x f := ⟨z 0, z 1, eq_ix2 z⟩
  rw [refGate_at, refBack_at, refSg_at]
  refine gate_terms ?_ (h3 x f)
  exact mul_real ⟨_, half⟩ (sum_real _ _ fun k _ => mul_real (h0 x k) (h1 f k))

theorem ref_other : refOther a2 (refBack a0 a1) (refSg a2) = otherArr a0 a1 a2 := by
  funext z
  obtain ⟨x, f, rfl⟩ : ∃ (x : Fin 8192) (f : Fin 2816), z = ix2 x f := ⟨z 0, z 1, eq_ix2 z⟩
  rw [refOther_at, refBack_at, refSg_at, mul_comm]; rfl

end Reference

/-! ## The claim -/

theorem algebraic : Cert.algebraic_Kernel4Ideal_Reference4Ideal_pre_finite_act := fun m g m' g' hp hm => by
  refine ⟨fun c => gateArr (DY m c) (W m c) (A m c) (B m c), fun c => otherArr (DY m c) (W m c) (A m c),
    (θ_run Cert.Kernel4Ideal.defs _ _).mono (fun r h c => ⟨(h c).1.trans (array4 m c), (h c).2.1.trans (array5 m c), (h c).2.2⟩)
      (Cert.Kernel4Ideal.Value.run_blocks (F := Ideal) m g),
    (θ_run Cert.Reference4Ideal.defs _ _).mono (fun r h c => ⟨(h c).1.trans ?_, (h c).2.1.trans ?_, (h c).2.2⟩)
      (Cert.Reference4Ideal.Value.run (F := Ideal) m' g')⟩
  · rw [(hm c).1, (hm c).2.1, (hm c).2.2.1, (hm c).2.2.2]
    obtain ⟨p0, p1, p3⟩ := hp c
    exact ref_gate (DY m c) (W m c) (A m c) (B m c) (fun x k => finite0 _ _ _ _ x k p0) (fun f k => finite1 _ _ _ _ f k p1)
      (fun x f => finite3 _ _ _ _ x f p3)
  · rw [(hm c).1, (hm c).2.1, (hm c).2.2.1]
    exact ref_other (DY m c) (W m c) (A m c)

end Cert.Proof.Ffn.Act

end
-- ==== Proof.Ffn.DhCase.lean ====
/-
  What one grid point leaves behind, for the gradient of a feed-forward's input: the accumulator gains the product of the
  point's gradients and slab of the weight; a block's last point turns it into the block of the result, in four bands of
  256 rows, and adds the bands' sums to the gradient of the norm's scale.
-/
module

public import proofs.«01_k».proof.Proof.Gen.Kernel5Ideal
public import proofs.«01_k».proof.Proof.Gen.Kernel5Ideal.Frame
public import Idealize.ShloMosaic.Lib.Pipeline.Value
public import Idealize.ShloMosaic.Lib.Pipeline.FrameBody
public import Idealize.ShloMosaic.Lib.Pipeline.ValueKit.Tiles
public import Idealize.ShloMosaic.Lib.Pointwise
public import Idealize.ShloMosaic.Lib.IdealHost
public import Idealize.ShloMosaic.Lib.Tactic.CleanTypes
public import Idealize.ShloMosaic.Lib.Tactic

@[expose] public section

set_option maxRecDepth 16384
set_option maxHeartbeats 1000000

noncomputable section

namespace Cert.Proof.Ffn.Dh

open Cert.Kernel5Ideal Cert.Kernel5Ideal.Gen Idealize.ShloMosaic Idealize.ShloMosaic.TcCoe

theorem zero2 : (![0, 0] : Fin 2 → Nat) = fun _ => 0 := funext fun a => by fin_cases a <;> rfl
theorem zero3 : (![0, 0, 0] : Fin 3 → Nat) = fun _ => 0 := funext fun a => by fin_cases a <;> rfl

/-! ## One row -/

/-- The reciprocal root of a row's mean square. -/
def rr (x : Fin 1024 → EReal) : EReal :=
  Ideal.rsqrt (Ideal.div (∑ k, x k * x k) (Ideal.ofBits .f32 0x44800000#32) + Ideal.ofBits .f32 0x358637BD#32)

/-- The gradient of a row of the stream. -/
def dxAt (x h g dy : Fin 1024 → EReal) (f : Fin 1024) : EReal :=
  dy f + (rr x * (h f * g f)
    - x f * (rr x * rr x * rr x) * Ideal.div (∑ k, x k * (h k * g k)) (Ideal.ofBits .f32 0x44800000#32))

section Band
variable (x h : FVec Ideal S256x1024 .f32) (g : FVec Ideal S1x1024 .f32) (dy : FVec Ideal S256x1024 .f32)

theorem rr_at (r : Fin 256) : k0_pay7 (F := Ideal) x (ix2 r (0 : Fin 1)) = rr fun k => x (ix2 r k) := by
  pointwise [k0_pay7] <;> rfl

theorem band_at (r : Fin 256) (f : Fin 1024) : k0_pay8 (F := Ideal) x h g dy (ix2 r f)
    = dxAt (fun k => x (ix2 r k)) (fun k => h (ix2 r k)) (fun k => g (ix2 (0 : Fin 1) k)) (fun k => dy (ix2 r k)) f := by
  have e : k0_pay8 (F := Ideal) x h g dy (ix2 r f) = dy (ix2 r f) + (k0_pay7 (F := Ideal) x (ix2 r (0 : Fin 1)) * (h (ix2 r f) * g (ix2 (0 : Fin 1) f))
      - x (ix2 r f) * (k0_pay7 (F := Ideal) x (ix2 r (0 : Fin 1)) * k0_pay7 (F := Ideal) x (ix2 r (0 : Fin 1)) * k0_pay7 (F := Ideal) x (ix2 r (0 : Fin 1)))
        * Ideal.div (∑ k : Fin 1024, x (ix2 r k) * (h (ix2 r k) * g (ix2 (0 : Fin 1) k))) (Ideal.ofBits .f32 0x44800000#32)) := by
    unfold k0_pay8
    generalize k0_pay7 (F := Ideal) x = q
    pointwise [] <;> rfl
  rw [e, rr_at]; rfl

theorem part_at (f : Fin 1024) : k0_pay9 (F := Ideal) x h (ix2 (0 : Fin 1) f)
    = ∑ r : Fin 256, h (ix2 r f) * x (ix2 r f) * rr fun k => x (ix2 r k) := by
  have e : k0_pay9 (F := Ideal) x h (ix2 (0 : Fin 1) f) = ∑ r : Fin 256, h (ix2 r f) * x (ix2 r f) * k0_pay7 (F := Ideal) x (ix2 r (0 : Fin 1)) := by
    unfold k0_pay9
    generalize k0_pay7 (F := Ideal) x = q
    pointwise [] <;> rfl
  rw [e]
  exact Finset.sum_congr rfl fun r _ => by rw [rr_at]

end Band

section Same
variable {F : FTy → Type} [FloatOps F]
variable (x h : FVec F S256x1024 .f32) (g p : FVec F S1x1024 .f32) (dy : FVec F S256x1024 .f32)

theorem band1 : k0_pay12 x h (k0_pay10 x) g dy = k0_pay8 x h g dy := rfl
theorem band2 : k0_pay16 x h (k0_pay14 x) g dy = k0_pay8 x h g dy := rfl
theorem band3 : k0_pay4 x h (k0_pay18 x) g dy = k0_pay8 x h g dy := rfl
theorem part1 : k0_pay13 p x h (k0_pay10 x) = addf p (k0_pay9 x h) := rfl
theorem part2 : k0_pay17 p x h (k0_pay14 x) = addf p (k0_pay9 x h) := rfl
theorem part3 : k0_pay5 p x h (k0_pay18 x) = addf p (k0_pay9 x h) := rfl
end Same

theorem gain_at (s : FVec Ideal S1024x1024 .f32) (d : FVec Ideal S1024x1408 .bf16) (w : FVec Ideal S1x1024x1408 .bf16) (r f : Fin 1024) :
    k0_pay2 (F := Ideal) s d w (ix2 r f) = s (ix2 r f) + ∑ k : Fin 1408, d (ix2 r k) * w (ix3 (0 : Fin 1) f k) := by
  pointwise [k0_pay2] <;> rfl

theorem gain' (s : FVec Ideal S1024x1024 .f32) (d : FVec Ideal S1024x1408 .bf16) (w : FVec Ideal S1x1024x1408 .bf16) :
    k0_pay3 (F := Ideal) s d w = k0_pay2 s d w := rfl

theorem start_at (r f : Fin 1024) : k0_pay1 (F := Ideal) (ix2 r f) = 0 := by
  pointwise [k0_pay1] <;> rfl

theorem total_at (p v : FVec Ideal S1x1024 .f32) (x h : FVec Ideal S256x1024 .f32) (f : Fin 1024) :
    k0_pay6 (F := Ideal) p x h (k0_pay18 x) v (ix2 (0 : Fin 1) f) = v (ix2 (0 : Fin 1) f) + (p (ix2 (0 : Fin 1) f) + k0_pay9 (F := Ideal) x h (ix2 (0 : Fin 1) f)) := by
  unfold k0_pay6
  rw [part3]
  generalize k0_pay9 (F := Ideal) x h = q
  pointwise [] <;> rfl

end Cert.Proof.Ffn.Dh

end
-- ==== Proof.Ffn.DhOut.lean ====
/-
  The five kinds of grid point of the gradient of a feed-forward's input: what each leaves in the accumulator, and what a block's
  last point leaves in the two results.
-/
module

public import proofs.«01_k».proof.Proof.Ffn.DhCase

@[expose] public section

set_option maxRecDepth 16384
set_option maxHeartbeats 1000000

noncomputable section

namespace Cert.Proof.Ffn.Dh

open Cert.Kernel5Ideal Cert.Kernel5Ideal.Gen Idealize.ShloMosaic Idealize.ShloMosaic.TcCoe

/-! ## A band of a block -/

theorem band_cov {F : FTy → Type} [FloatOps F] {sig : RefSig} {κ : Kind} {sp : Space} (v : View sig κ sp S1024x1024 .f32) (inb0) (w : FVec F S1024x1024 .f32) (o : ℕ) (inb) :
    v.readCov (Val := Elt F) [⟨Rect.unit (s := S1024x1024) ![0, 0] S1024x1024.size inb0, w⟩] (Rect.unit (s := S1024x1024) ![o, 0] S256x1024.size inb).toLoadRect
      = View.ld (Val := Elt F) (e' := .f32) w (Rect.unit (s := S1024x1024) ![o, 0] S256x1024.size inb) := by
  rw [View.readCov_eq_canon', View.canon_unit_zero (S := S1024x1024) zero2]

theorem band_ld (w : FVec Ideal S1024x1024 .f32) (o : ℕ) (inb) (r : Fin 256) (k : Fin 1024) (R : Fin 1024) (hR : R.val = o + r.val) :
    View.ld (Val := Elt Ideal) (e' := .f32) w (Rect.unit (s := S1024x1024) ![o, 0] S256x1024.size inb) (ix2 r k) = w (ix2 R k) := by
  refine View.ld_unit_apply_of (Val := Elt Ideal) (e := .f32) w _ _ inb (ix2 r k) (ix2 R k) fun a => ?_
  fin_cases a
  · exact hR
  · show k.val = 0 + k.val; omega

/-- The block of the stream's gradient. -/
def dxBlk (x h : FVec Ideal S1024x1024 .f32) (g : FVec Ideal S1x1024 .f32) (dy : FVec Ideal S1024x1024 .f32) : FVec Ideal S1024x1024 .f32 :=
  fun y => dxAt (fun k => x (ix2 (y 0) k)) (fun k => h (ix2 (y 0) k)) (fun k => g (ix2 (0 : Fin 1) k)) (fun k => dy (ix2 (y 0) k)) (y 1)

/-- A row's part of the gradient of the norm's scale. -/
def dgRow (x h : FVec Ideal S1024x1024 .f32) (f R : Fin 1024) : EReal := h (ix2 R f) * x (ix2 R f) * rr fun k => x (ix2 R k)

/-- A block's part of the gradient of the norm's scale. -/
def dgBlk (x h : FVec Ideal S1024x1024 .f32) (f : Fin 1024) : EReal := ∑ R, dgRow x h f R

theorem tile (x h : FVec Ideal S1024x1024 .f32) (g : FVec Ideal S1x1024 .f32) (dy : FVec Ideal S1024x1024 .f32) (o : ℕ) (inb) (y : S1024x1024.Idx) :
    View.TileAt (Val := Elt Ideal) (e := .f32) y ![o, 0] S256x1024.size
      (k0_pay8 (F := Ideal) (View.ld (Val := Elt Ideal) (e' := .f32) x (Rect.unit (s := S1024x1024) ![o, 0] S256x1024.size inb))
        (View.ld (Val := Elt Ideal) (e' := .f32) h (Rect.unit (s := S1024x1024) ![o, 0] S256x1024.size inb)) g
        (View.ld (Val := Elt Ideal) (e' := .f32) dy (Rect.unit (s := S1024x1024) ![o, 0] S256x1024.size inb)))
      (dxBlk x h g dy y) := by
  intro z hz
  have h0 : (y 0).val = o + (z 0).val := hz 0
  have h1 : (y 1).val = 0 + (z 1).val := hz 1
  obtain ⟨r, f, rfl⟩ : ∃ (r : Fin 256) (f : Fin 1024), z = ix2 r f := ⟨z 0, z 1, eq_ix2 z⟩
  have e1 : y 1 = f := Fin.ext (by rw [h1]; exact Nat.zero_add _)
  refine (band_at _ _ _ _ r f).trans ?_
  unfold dxBlk
  rw [e1, funext fun k => band_ld x o inb r k (y 0) h0, funext fun k => band_ld h o inb r k (y 0) h0,
    funext fun k => band_ld dy o inb r k (y 0) h0]

theorem part_ld (x h : FVec Ideal S1024x1024 .f32) (o : ℕ) (ho : o + 256 ≤ 1024) (inb) (f : Fin 1024) :
    k0_pay9 (F := Ideal) (View.ld (Val := Elt Ideal) (e' := .f32) x (Rect.unit (s := S1024x1024) ![o, 0] S256x1024.size inb))
        (View.ld (Val := Elt Ideal) (e' := .f32) h (Rect.unit (s := S1024x1024) ![o, 0] S256x1024.size inb)) (ix2 (0 : Fin 1) f)
      = ∑ r : Fin 256, dgRow x h f ⟨o + r.val, by omega⟩ := by
  refine (part_at _ _ f).trans (Finset.sum_congr rfl fun r _ => ?_)
  unfold dgRow
  rw [band_ld h o inb r f ⟨o + r.val, by omega⟩ rfl, band_ld x o inb r f ⟨o + r.val, by omega⟩ rfl,
    funext fun k => band_ld x o inb r k ⟨o + r.val, by omega⟩ rfl]

/-- A band's store, of what the accumulator's one store left. -/
theorem tile_cov {sig : RefSig} {κ : Kind} {sp : Space} (v : View sig κ sp S1024x1024 .f32) (inb0) (x h : FVec Ideal S1024x1024 .f32)
    (g : FVec Ideal S1x1024 .f32) (dy : FVec Ideal S1024x1024 .f32) (o : ℕ) (inb) (y : S1024x1024.Idx) :
    View.TileAt (Val := Elt Ideal) (e := .f32) y ![o, 0] S256x1024.size
      (k0_pay8 (F := Ideal) (View.ld (Val := Elt Ideal) (e' := .f32) x (Rect.unit (s := S1024x1024) ![o, 0] S256x1024.size inb))
        (v.readCov (Val := Elt Ideal) [⟨Rect.unit (s := S1024x1024) ![0, 0] S1024x1024.size inb0, h⟩] (Rect.unit (s := S1024x1024) ![o, 0] S256x1024.size inb).toLoadRect) g
        (View.ld (Val := Elt Ideal) (e' := .f32) dy (Rect.unit (s := S1024x1024) ![o, 0] S256x1024.size inb)))
      (dxBlk x h g dy y) := by
  rw [band_cov v inb0 h o inb]
  exact tile x h g dy o inb y

/-- A band's sum, likewise. -/
theorem part_cov {sig : RefSig} {κ : Kind} {sp : Space} (v : View sig κ sp S1024x1024 .f32) (inb0) (x h : FVec Ideal S1024x1024 .f32)
    (o : ℕ) (ho : o + 256 ≤ 1024) (inb) (f : Fin 1024) :
    k0_pay9 (F := Ideal) (View.ld (Val := Elt Ideal) (e' := .f32) x (Rect.unit (s := S1024x1024) ![o, 0] S256x1024.size inb))
        (v.readCov (Val := Elt Ideal) [⟨Rect.unit (s := S1024x1024) ![0, 0] S1024x1024.size inb0, h⟩] (Rect.unit (s := S1024x1024) ![o, 0] S256x1024.size inb).toLoadRect) (ix2 (0 : Fin 1) f)
      = ∑ r : Fin 256, dgRow x h f ⟨o + r.val, by omega⟩ := by
  rw [band_cov v inb0 h o inb]
  exact part_ld x h o ho inb f

/-- The sum of four bands' sums, the first three kept as one. -/
theorem sums_at (p q r t : FVec Ideal S1x1024 .f32) (f : Fin 1024) :
    addf (addf (addf p q) r) t (ix2 (0 : Fin 1) f)
      = p (ix2 (0 : Fin 1) f) + q (ix2 (0 : Fin 1) f) + r (ix2 (0 : Fin 1) f) + t (ix2 (0 : Fin 1) f) := rfl

theorem sums3_at (p q r : FVec Ideal S1x1024 .f32) (f : Fin 1024) :
    addf (addf p q) r (ix2 (0 : Fin 1) f) = p (ix2 (0 : Fin 1) f) + q (ix2 (0 : Fin 1) f) + r (ix2 (0 : Fin 1) f) := rfl

/-- The four bands' sums are the block's. -/
theorem four_bands {M : Type} [AddCommMonoid M] (t : Fin 1024 → M) :
    (∑ r : Fin 256, t ⟨0 + r.val, by omega⟩) + (∑ r : Fin 256, t ⟨256 + r.val, by omega⟩) + (∑ r : Fin 256, t ⟨512 + r.val, by omega⟩)
      + (∑ r : Fin 256, t ⟨768 + r.val, by omega⟩) = ∑ R, t R := by
  have e : ∑ R, t R = ∑ d : Fin 4, ∑ r : Fin 256, t ⟨d.val * 256 + r.val, by omega⟩ := by
    rw [← Fintype.sum_prod_type' (fun (d : Fin 4) (r : Fin 256) => t ⟨d.val * 256 + r.val, by omega⟩)]
    refine (Fintype.sum_equiv (finProdFinEquiv (m := 4) (n := 256)) _ _ fun ⟨i, x⟩ => congrArg t (Fin.ext ?_)).symm
    show i.val * 256 + x.val = x.val + 256 * i.val
    omega
  rw [e, Fin.sum_univ_four]
  rfl

section Point
variable (c : Dev nD) (i : grid0.Coords)
  (a2 : Memref sig .tc .vmem S1024x1408 .bf16) (h2 : a2.IsWhole)
  (a3 : Memref sig .tc .vmem S1024x1408 .bf16) (h3 : a3.IsWhole)
  (a4 : Memref sig .tc .vmem S1x1024x1408 .bf16) (h4 : a4.IsWhole)
  (a5 : Memref sig .tc .vmem S1024x1024 .f32) (h5 : a5.IsWhole)
  (a6 : Memref sig .tc .vmem S1x1024 .f32) (h6 : a6.IsWhole)
  (a7 : Memref sig .tc .vmem S1024x1024 .f32) (h7 : a7.IsWhole)
  (a8 : Memref sig .tc .vmem S1024x1024 .f32) (h8 : a8.IsWhole)
  (a9 : Memref sig .tc .vmem S1x1024 .f32) (h9 : a9.IsWhole)
  (a10 : Memref sig .tc .vmem S1024x1024 .f32) (h10 : a10.IsWhole)

section Scratch
variable {F : FTy → Type} [FloatOps F]
variable (x0 x1 : Vec F S1024x1408 .bf16) (x2 : Vec F S1x1024x1408 .bf16) (x3 : Vec F S1024x1024 .f32) (x4 : Vec F S1x1024 .f32)
  (x5 : Vec F S1024x1024 .f32) (v : Vec F S1x1024 .f32) (s : Vec F S1024x1024 .f32)

theorem scratch_A (q0 : cond0_0 i) (q1 : cond0_1 i) (q2 : ¬cond0_2 i) (q3 : ¬cond0_3 i) :
    sout0_A_0 c i a2 h2 a3 h3 a4 h4 a5 h5 a6 h6 a7 h7 a8 h8 a9 h9 a10 h10 q0 q1 q2 q3 x0 x1 x2 x3 x4 x5 = k0_pay2 (k0_pay1 (F := F)) x0 x2 := by
  unfold sout0_A_0
  rw [View.read_writes_eq_canon _ _ _ (scover0_A_0 c i a2 h2 a3 h3 a4 h4 a5 h5 a6 h6 a7 h7 a8 h8 a9 h9 a10 h10 q0 q1 q2 q3 x0 x1 x2 x3 x4 x5)]
  unfold kernelRun0_A
  dsimp only
  sl_unfold_words
  rw [View.canon_cons_unit_zero (S := S1024x1024) zero2, View.readCov_unit_zero (S := S1024x1024) _ zero2]
  simp only [View.readAt_eq_ld, h2.read_unread, h3.read_unread, h4.read_unread, h5.read_unread, h6.read_unread, h7.read_unread, h9.read_unread, h10.read_unread,
    View.ld_unit_zero (S := S1024x1024) zero2, View.ld_unit_zero (S := S1024x1408) zero2, View.ld_unit_zero (S := S1x1024x1408) zero3, View.ld_unit_zero (S := S1x1024) zero2]

theorem scratch_B (q0 : ¬cond0_0 i) (q1 : cond0_1 i) (q2 : ¬cond0_2 i) (q3 : ¬cond0_3 i) :
    sout0_B_0 c i a2 h2 a3 h3 a4 h4 a5 h5 a6 h6 a7 h7 a8 h8 a9 h9 a10 h10 q0 q1 q2 q3 x0 x1 x2 x3 x4 x5 s = k0_pay2 s x0 x2 := by
  unfold sout0_B_0
  rw [View.read_writes_eq_canon _ _ _ (scover0_B_0 c i a2 h2 a3 h3 a4 h4 a5 h5 a6 h6 a7 h7 a8 h8 a9 h9 a10 h10 q0 q1 q2 q3 x0 x1 x2 x3 x4 x5 s)]
  unfold kernelRun0_B
  dsimp only
  sl_unfold_words
  rw [View.canon_unit_zero (S := S1024x1024) zero2]
  simp only [View.readAt_eq_ld, h2.read_unread, h3.read_unread, h4.read_unread, h5.read_unread, h6.read_unread, h7.read_unread, h9.read_unread, h10.read_unread,
    View.ld_unit_zero (S := S1024x1024) zero2, View.ld_unit_zero (S := S1024x1408) zero2, View.ld_unit_zero (S := S1x1024x1408) zero3, View.ld_unit_zero (S := S1x1024) zero2]

theorem scratch_C (q0 : ¬cond0_0 i) (q1 : ¬cond0_1 i) (q2 : cond0_2 i) (q3 : ¬cond0_3 i) :
    sout0_C_0 c i a2 h2 a3 h3 a4 h4 a5 h5 a6 h6 a7 h7 a8 h8 a9 h9 a10 h10 q0 q1 q2 q3 x0 x1 x2 x3 x4 x5 s = k0_pay3 s x1 x2 := by
  unfold sout0_C_0
  rw [View.read_writes_eq_canon _ _ _ (scover0_C_0 c i a2 h2 a3 h3 a4 h4 a5 h5 a6 h6 a7 h7 a8 h8 a9 h9 a10 h10 q0 q1 q2 q3 x0 x1 x2 x3 x4 x5 s)]
  unfold kernelRun0_C
  dsimp only
  sl_unfold_words
  rw [View.canon_unit_zero (S := S1024x1024) zero2]
  simp only [View.readAt_eq_ld, h2.read_unread, h3.read_unread, h4.read_unread, h5.read_unread, h6.read_unread, h7.read_unread, h9.read_unread, h10.read_unread,
    View.ld_unit_zero (S := S1024x1024) zero2, View.ld_unit_zero (S := S1024x1408) zero2, View.ld_unit_zero (S := S1x1024x1408) zero3, View.ld_unit_zero (S := S1x1024) zero2]

theorem scratch_D (q0 : ¬cond0_0 i) (q1 : ¬cond0_1 i) (q2 : cond0_2 i) (q3 : cond0_3 i) (q4 : cond0_4 i) (q5 : ¬cond0_5 i) :
    sout0_D_0 c i a2 h2 a3 h3 a4 h4 a5 h5 a6 h6 a7 h7 a8 h8 a9 h9 a10 h10 q0 q1 q2 q3 q4 q5 x0 x1 x2 x3 x4 x5 s = k0_pay3 s x1 x2 := by
  unfold sout0_D_0
  rw [View.read_writes_eq_canon _ _ _ (scover0_D_0 c i a2 h2 a3 h3 a4 h4 a5 h5 a6 h6 a7 h7 a8 h8 a9 h9 a10 h10 q0 q1 q2 q3 q4 q5 x0 x1 x2 x3 x4 x5 s)]
  unfold kernelRun0_D
  dsimp only
  sl_unfold_words
  rw [View.canon_unit_zero (S := S1024x1024) zero2]
  simp only [View.readAt_eq_ld, h2.read_unread, h3.read_unread, h4.read_unread, h5.read_unread, h6.read_unread, h7.read_unread, h9.read_unread, h10.read_unread,
    View.ld_unit_zero (S := S1024x1024) zero2, View.ld_unit_zero (S := S1024x1408) zero2, View.ld_unit_zero (S := S1x1024x1408) zero3, View.ld_unit_zero (S := S1x1024) zero2]

theorem scratch_E (q0 : ¬cond0_0 i) (q1 : ¬cond0_1 i) (q2 : cond0_2 i) (q3 : cond0_3 i) (q4 : ¬cond0_4 i) (q5 : cond0_5 i) :
    sout0_E_0 c i a2 h2 a3 h3 a4 h4 a5 h5 a6 h6 a7 h7 a8 h8 a9 h9 a10 h10 q0 q1 q2 q3 q4 q5 x0 x1 x2 x3 x4 x5 v s = k0_pay3 s x1 x2 := by
  unfold sout0_E_0
  rw [View.read_writes_eq_canon _ _ _ (scover0_E_0 c i a2 h2 a3 h3 a4 h4 a5 h5 a6 h6 a7 h7 a8 h8 a9 h9 a10 h10 q0 q1 q2 q3 q4 q5 x0 x1 x2 x3 x4 x5 v s)]
  unfold kernelRun0_E
  dsimp only
  sl_unfold_words
  rw [View.canon_unit_zero (S := S1024x1024) zero2]
  simp only [View.readAt_eq_ld, h2.read_unread, h3.read_unread, h4.read_unread, h5.read_unread, h6.read_unread, h7.read_unread, h9.read_unread, h10.read_unread,
    View.ld_unit_zero (S := S1024x1024) zero2, View.ld_unit_zero (S := S1024x1408) zero2, View.ld_unit_zero (S := S1x1024x1408) zero3, View.ld_unit_zero (S := S1x1024) zero2]

end Scratch

end Point

end Cert.Proof.Ffn.Dh

end
-- ==== Proof.Ffn.DhLast.lean ====
/-
  What a block's last point leaves in the two results of the gradient of a feed-forward's input.
-/
module

public import proofs.«01_k».proof.Proof.Ffn.DhOut

@[expose] public section

set_option maxRecDepth 16384
set_option maxHeartbeats 1000000

noncomputable section

namespace Cert.Proof.Ffn.Dh

open Cert.Kernel5Ideal Cert.Kernel5Ideal.Gen Idealize.ShloMosaic Idealize.ShloMosaic.TcCoe

section Point
variable (c : Dev nD) (i : grid0.Coords)
  (a2 : Memref sig .tc .vmem S1024x1408 .bf16) (h2 : a2.IsWhole)
  (a3 : Memref sig .tc .vmem S1024x1408 .bf16) (h3 : a3.IsWhole)
  (a4 : Memref sig .tc .vmem S1x1024x1408 .bf16) (h4 : a4.IsWhole)
  (a5 : Memref sig .tc .vmem S1024x1024 .f32) (h5 : a5.IsWhole)
  (a6 : Memref sig .tc .vmem S1x1024 .f32) (h6 : a6.IsWhole)
  (a7 : Memref sig .tc .vmem S1024x1024 .f32) (h7 : a7.IsWhole)
  (a8 : Memref sig .tc .vmem S1024x1024 .f32) (h8 : a8.IsWhole)
  (a9 : Memref sig .tc .vmem S1x1024 .f32) (h9 : a9.IsWhole)
  (a10 : Memref sig .tc .vmem S1024x1024 .f32) (h10 : a10.IsWhole)

section Last
variable (x0 x1 : FVec Ideal S1024x1408 .bf16) (x2 : FVec Ideal S1x1024x1408 .bf16) (x3 : FVec Ideal S1024x1024 .f32) (x4 : FVec Ideal S1x1024 .f32)
  (x5 : FVec Ideal S1024x1024 .f32) (v : FVec Ideal S1x1024 .f32) (s : FVec Ideal S1024x1024 .f32)

theorem block_D (q0 : ¬cond0_0 i) (q1 : ¬cond0_1 i) (q2 : cond0_2 i) (q3 : cond0_3 i) (q4 : cond0_4 i) (q5 : ¬cond0_5 i) :
    out0_D_6 (F := Ideal) c i a2 h2 a3 h3 a4 h4 a5 h5 a6 h6 a7 h7 a8 h8 a9 h9 a10 h10 q0 q1 q2 q3 q4 q5 x0 x1 x2 x3 x4 x5 s = dxBlk x3 (k0_pay3 s x1 x2) x4 x5 := by
  unfold out0_D_6
  rw [View.read_writes_eq_canon _ _ _ (cover0_D_6 (F := Ideal) c i a2 h2 a3 h3 a4 h4 a5 h5 a6 h6 a7 h7 a8 h8 a9 h9 a10 h10 q0 q1 q2 q3 q4 q5 x0 x1 x2 x3 x4 x5 s)]
  funext y
  refine View.canon_eq_of_allAt _ _ _ (cover0_D_6 (F := Ideal) c i a2 h2 a3 h3 a4 h4 a5 h5 a6 h6 a7 h7 a8 h8 a9 h9 a10 h10 q0 q1 q2 q3 q4 q5 x0 x1 x2 x3 x4 x5 s y) ?_
  unfold kernelRun0_D
  dsimp only
  sl_unfold_words
  simp only [View.readAt_eq_ld, h2.read_unread, h3.read_unread, h4.read_unread, h5.read_unread, h6.read_unread, h7.read_unread, h9.read_unread, h10.read_unread,
    View.ld_unit_zero (S := S1024x1024) zero2, View.ld_unit_zero (S := S1024x1408) zero2, View.ld_unit_zero (S := S1x1024x1408) zero3, View.ld_unit_zero (S := S1x1024) zero2, band1, band2, band3]
  refine View.allAt_cons_unit _ _ _ _ _ (tile_cov _ _ _ _ _ _ 768 _ y) ?_
  refine View.allAt_cons_unit _ _ _ _ _ (tile_cov _ _ _ _ _ _ 512 _ y) ?_
  refine View.allAt_cons_unit _ _ _ _ _ (tile_cov _ _ _ _ _ _ 256 _ y) ?_
  exact View.allAt_cons_unit _ _ _ _ _ (tile_cov _ _ _ _ _ _ 0 _ y) (View.allAt_nil _ _)

theorem scale_D (q0 : ¬cond0_0 i) (q1 : ¬cond0_1 i) (q2 : cond0_2 i) (q3 : cond0_3 i) (q4 : cond0_4 i) (q5 : ¬cond0_5 i) (f : Fin 1024) :
    out0_D_7 (F := Ideal) c i a2 h2 a3 h3 a4 h4 a5 h5 a6 h6 a7 h7 a8 h8 a9 h9 a10 h10 q0 q1 q2 q3 q4 q5 x0 x1 x2 x3 x4 x5 s (ix2 (0 : Fin 1) f) = dgBlk x3 (k0_pay3 s x1 x2) f := by
  unfold out0_D_7
  rw [View.read_writes_eq_canon _ _ _ (cover0_D_7 (F := Ideal) c i a2 h2 a3 h3 a4 h4 a5 h5 a6 h6 a7 h7 a8 h8 a9 h9 a10 h10 q0 q1 q2 q3 q4 q5 x0 x1 x2 x3 x4 x5 s)]
  unfold kernelRun0_D
  dsimp only
  sl_unfold_words
  rw [View.canon_unit_zero (S := S1x1024) zero2]
  simp only [View.readAt_eq_ld, h2.read_unread, h3.read_unread, h4.read_unread, h5.read_unread, h6.read_unread, h7.read_unread, h9.read_unread, h10.read_unread,
    View.ld_unit_zero (S := S1024x1024) zero2, View.ld_unit_zero (S := S1024x1408) zero2, View.ld_unit_zero (S := S1x1024x1408) zero3, View.ld_unit_zero (S := S1x1024) zero2, part1, part2, part3]
  rw [sums_at]
  unfold dgBlk
  rw [← four_bands]
  rw [part_cov _ _ _ _ 0 (by decide), part_cov _ _ _ _ 256 (by decide), part_cov _ _ _ _ 512 (by decide), part_cov _ _ _ _ 768 (by decide)]

theorem block_E (q0 : ¬cond0_0 i) (q1 : ¬cond0_1 i) (q2 : cond0_2 i) (q3 : cond0_3 i) (q4 : ¬cond0_4 i) (q5 : cond0_5 i) :
    out0_E_6 (F := Ideal) c i a2 h2 a3 h3 a4 h4 a5 h5 a6 h6 a7 h7 a8 h8 a9 h9 a10 h10 q0 q1 q2 q3 q4 q5 x0 x1 x2 x3 x4 x5 v s = dxBlk x3 (k0_pay3 s x1 x2) x4 x5 := by
  unfold out0_E_6
  rw [View.read_writes_eq_canon _ _ _ (cover0_E_6 (F := Ideal) c i a2 h2 a3 h3 a4 h4 a5 h5 a6 h6 a7 h7 a8 h8 a9 h9 a10 h10 q0 q1 q2 q3 q4 q5 x0 x1 x2 x3 x4 x5 v s)]
  funext y
  refine View.canon_eq_of_allAt _ _ _ (cover0_E_6 (F := Ideal) c i a2 h2 a3 h3 a4 h4 a5 h5 a6 h6 a7 h7 a8 h8 a9 h9 a10 h10 q0 q1 q2 q3 q4 q5 x0 x1 x2 x3 x4 x5 v s y) ?_
  unfold kernelRun0_E
  dsimp only
  sl_unfold_words
  simp only [View.readAt_eq_ld, h2.read_unread, h3.read_unread, h4.read_unread, h5.read_unread, h6.read_unread, h7.read_unread, h9.read_unread, h10.read_unread,
    View.ld_unit_zero (S := S1024x1024) zero2, View.ld_unit_zero (S := S1024x1408) zero2, View.ld_unit_zero (S := S1x1024x1408) zero3, View.ld_unit_zero (S := S1x1024) zero2, band1, band2, band3]
  refine View.allAt_cons_unit _ _ _ _ _ (tile_cov _ _ _ _ _ _ 768 _ y) ?_
  refine View.allAt_cons_unit _ _ _ _ _ (tile_cov _ _ _ _ _ _ 512 _ y) ?_
  refine View.allAt_cons_unit _ _ _ _ _ (tile_cov _ _ _ _ _ _ 256 _ y) ?_
  exact View.allAt_cons_unit _ _ _ _ _ (tile_cov _ _ _ _ _ _ 0 _ y) (View.allAt_nil _ _)

theorem scale_E (q0 : ¬cond0_0 i) (q1 : ¬cond0_1 i) (q2 : cond0_2 i) (q3 : cond0_3 i) (q4 : ¬cond0_4 i) (q5 : cond0_5 i) (f : Fin 1024) :
    out0_E_7 (F := Ideal) c i a2 h2 a3 h3 a4 h4 a5 h5 a6 h6 a7 h7 a8 h8 a9 h9 a10 h10 q0 q1 q2 q3 q4 q5 x0 x1 x2 x3 x4 x5 v s (ix2 (0 : Fin 1) f) = v (ix2 (0 : Fin 1) f) + dgBlk x3 (k0_pay3 s x1 x2) f := by
  unfold out0_E_7
  rw [View.read_writes_eq_canon _ _ _ (cover0_E_7 (F := Ideal) c i a2 h2 a3 h3 a4 h4 a5 h5 a6 h6 a7 h7 a8 h8 a9 h9 a10 h10 q0 q1 q2 q3 q4 q5 x0 x1 x2 x3 x4 x5 v s)]
  unfold kernelRun0_E
  dsimp only
  sl_unfold_words
  rw [View.canon_unit_zero (S := S1x1024) zero2]
  simp only [View.readAt_eq_ld, h2.read_unread, h3.read_unread, h4.read_unread, h5.read_unread, h6.read_unread, h7.read_unread, h9.read_unread, h10.read_unread,
    View.ld_unit_zero (S := S1024x1024) zero2, View.ld_unit_zero (S := S1024x1408) zero2, View.ld_unit_zero (S := S1x1024x1408) zero3, View.ld_unit_zero (S := S1x1024) zero2, part1, part2, part3]
  rw [total_at, sums3_at]
  unfold dgBlk
  rw [← four_bands]
  rw [part_cov _ _ _ _ 0 (by decide), part_cov _ _ _ _ 256 (by decide), part_cov _ _ _ _ 512 (by decide), part_cov _ _ _ _ 768 (by decide)]

end Last
end Point

end Cert.Proof.Ffn.Dh

end
-- ==== Proof.Ffn.DhMath.lean ====
/-
  The mathematics of the gradient of a feed-forward's input: the two halves by which a row's scale gives its gradient back add up to
  the whole, for finite and infinite rows alike, and sums over the rows and over the weight's columns are taken block by block.
-/
module

public import proofs.«01_k».proof.Proof.Ffn.DhCase
public import proofs.«01_k».proof.Proof.Ffn.Sum
public import proofs.«01_k».proof.Proof.Value.Words

@[expose] public section

set_option maxRecDepth 16384
set_option maxHeartbeats 1000000

noncomputable section

namespace Cert.Proof.Ffn.Dh

open Idealize.ShloMosaic

theorem eps : Ideal.ofBits .f32 0x358637BD#32 = ((8796093 / 8796093022208 : ℝ) : EReal) := by
  simp [Ideal.ofBits, Ideal.ieee, -EReal.coe_mul]; norm_num

theorem width : Ideal.ofBits .f32 0x44800000#32 = ((1024 : ℝ) : EReal) := by
  simp [Ideal.ofBits, Ideal.ieee, -EReal.coe_mul]; norm_num

theorem minus_half : Ideal.ofBits .f32 0xBF000000#32 = ((-1 / 2 : ℝ) : EReal) := by
  simp [Ideal.ofBits, Ideal.ieee, -EReal.coe_mul]; norm_num

/-- A row's mean square, kept off zero. -/
def ms (x : Fin 1024 → EReal) : EReal :=
  Ideal.div (∑ k, x k * x k) (Ideal.ofBits .f32 0x44800000#32) + Ideal.ofBits .f32 0x358637BD#32

/-- What the row's scale gives back to each of its entries, by each of the two factors of a square. -/
def back (x u : Fin 1024 → EReal) : EReal :=
  Ideal.div ((∑ k, x k * u k) * (Ideal.ofBits .f32 0xBF000000#32 * Ideal.div (rr x) (ms x))) (Ideal.ofBits .f32 0x44800000#32)

theorem square_nonneg (x : EReal) : 0 ≤ x * x := by
  induction x using EReal.rec with
  | bot => simp
  | top => simp
  | coe r => rw [← EReal.coe_mul]; exact EReal.coe_nonneg.mpr (mul_self_nonneg r)

/-- A row holding an infinity is scaled by zero. -/
theorem ms_infinite (x : Fin 1024 → EReal) (k : Fin 1024) (hk : x k = ⊤ ∨ x k = ⊥) : ms x = ⊤ := by
  have hs : (∑ k, x k * x k) = ⊤ := by
    refine top_le_iff.mp ?_
    have h := Finset.single_le_sum (f := fun k => x k * x k) (fun i _ => square_nonneg (x i)) (Finset.mem_univ k)
    refine le_trans (le_of_eq ?_) h
    rcases hk with e | e <;> simp [e]
  unfold ms
  rw [hs, width, eps, Ideal.div_coe (by norm_num), EReal.top_mul_coe_of_pos (by norm_num), EReal.top_add_coe]

/-- A row of real numbers has a positive mean square. -/
theorem ms_real (y : Fin 1024 → ℝ) : ∃ μ : ℝ, 0 < μ ∧ ms (fun k => (y k : EReal)) = (μ : EReal) := by
  obtain ⟨s, hs⟩ := sum_real Finset.univ (fun k => (y k : EReal) * (y k : EReal)) fun k _ => ⟨y k * y k, (EReal.coe_mul _ _).symm⟩
  have h0 : 0 ≤ s := by
    have h : (0 : EReal) ≤ ∑ k, (y k : EReal) * (y k : EReal) := Finset.sum_nonneg fun k _ => square_nonneg _
    rw [hs] at h
    exact EReal.coe_nonneg.mp h
  refine ⟨s / 1024 + 8796093 / 8796093022208, by positivity, ?_⟩
  unfold ms
  rw [hs, width, eps, Value.div_real _ (by norm_num), ← EReal.coe_add]

theorem halves_real (X c : ℝ) (hc : 0 < c) (S : EReal) :
    (X : EReal) * (S * ((-1 / 2 * c : ℝ) : EReal) * ((1 / 1024 : ℝ) : EReal)) + (S * ((-1 / 2 * c : ℝ) : EReal) * ((1 / 1024 : ℝ) : EReal)) * (X : EReal)
      = -(((X * c : ℝ) : EReal) * (S * ((1 / 1024 : ℝ) : EReal))) := by
  have hn : -1 / 2 * c < 0 := by linarith
  have hp : (0 : ℝ) < 1 / 1024 := by norm_num
  induction S using EReal.rec with
  | coe s =>
    simp only [← EReal.coe_mul, ← EReal.coe_add, ← EReal.coe_neg]
    congr 1
    ring
  | top =>
    rw [EReal.top_mul_coe_of_neg hn, EReal.bot_mul_coe_of_pos hp, EReal.top_mul_coe_of_pos hp]
    rcases lt_trichotomy X 0 with h | h | h
    · rw [EReal.coe_mul_bot_of_neg h, EReal.bot_mul_coe_of_neg h, EReal.coe_mul_top_of_neg (mul_neg_of_neg_of_pos h hc)]; rfl
    · subst h; simp
    · rw [EReal.coe_mul_bot_of_pos h, EReal.bot_mul_coe_of_pos h, EReal.coe_mul_top_of_pos (mul_pos h hc)]; rfl
  | bot =>
    rw [EReal.bot_mul_coe_of_neg hn, EReal.top_mul_coe_of_pos hp, EReal.bot_mul_coe_of_pos hp]
    rcases lt_trichotomy X 0 with h | h | h
    · rw [EReal.coe_mul_top_of_neg h, EReal.top_mul_coe_of_neg h, EReal.coe_mul_bot_of_neg (mul_neg_of_neg_of_pos h hc)]; rfl
    · subst h; simp
    · rw [EReal.coe_mul_top_of_pos h, EReal.top_mul_coe_of_pos h, EReal.coe_mul_bot_of_pos (mul_pos h hc)]; rfl

/-- The gradient of a row, term by term, is the gradient of the row. -/
theorem row_terms (x h g dy : Fin 1024 → EReal) (f : Fin 1024) :
    dy f + h f * g f * rr x + x f * back x (fun k => h k * g k) + back x (fun k => h k * g k) * x f = dxAt x h g dy f := by
  unfold dxAt
  generalize hS : (∑ k, x k * (h k * g k)) = S
  have hb : back x (fun k => h k * g k) = Ideal.div (S * (Ideal.ofBits .f32 0xBF000000#32 * Ideal.div (rr x) (ms x))) (Ideal.ofBits .f32 0x44800000#32) := by
    rw [← hS]; rfl
  have hr : rr x = Ideal.rsqrt (ms x) := rfl
  rw [hb, hr, width, minus_half]
  by_cases hx : ∃ k, x k = ⊤ ∨ x k = ⊥
  · obtain ⟨k, hk⟩ := hx
    rw [ms_infinite x k hk, show Ideal.rsqrt ⊤ = 0 from rfl, show Ideal.div 0 ⊤ = 0 from by simp [Ideal.div]]
    rw [Ideal.div_coe (by norm_num)]
    simp
  · have hy : ∀ k, x k = (((x k).toReal : ℝ) : EReal) := fun k =>
      (EReal.coe_toReal (fun e => hx ⟨k, Or.inl e⟩) (fun e => hx ⟨k, Or.inr e⟩)).symm
    obtain ⟨μ, hμ, eμ⟩ := ms_real fun k => (x k).toReal
    rw [← funext hy] at eμ
    have hq : 0 < (Real.sqrt μ)⁻¹ := inv_pos.mpr (Real.sqrt_pos.mpr hμ)
    have hc : (Real.sqrt μ)⁻¹ * (Real.sqrt μ)⁻¹ * (Real.sqrt μ)⁻¹ = (Real.sqrt μ)⁻¹ / μ := by
      rw [← mul_inv, Real.mul_self_sqrt hμ.le, div_eq_mul_inv, mul_comm]
    rw [eμ, Ideal.rsqrt_coe, if_neg (not_lt.mpr hμ.le), if_neg hμ.ne', Value.div_real _ hμ.ne', Ideal.div_coe (by norm_num), Ideal.div_coe (by norm_num),
      ← EReal.coe_mul, ← EReal.coe_mul, ← EReal.coe_mul, hc, hy f, ← EReal.coe_mul, add_assoc, add_assoc, sub_eq_add_neg,
      halves_real _ _ (div_pos hq hμ), mul_comm (h f * g f)]

/-! ## Sums, block by block -/

/-- The gradient of the first product at column `q` of slab `j` and row `x`: the first two slabs are the gate's half, the other two
    the other half. -/
def side (da db : FVec Ideal ⟨2, ![8192, 2816]⟩ .bf16) (j : Fin 4) (q : Fin 1408) (x : Fin 8192) : EReal :=
  if h : j.val * 1408 + q.val < 2816 then da (ix2 x ⟨j.val * 1408 + q.val, h⟩)
  else db (ix2 x ⟨j.val * 1408 + q.val - 2816, by omega⟩)

section Arrays
variable (da db : FVec Ideal ⟨2, ![8192, 2816]⟩ .bf16) (w : FVec Ideal ⟨3, ![4, 1024, 1408]⟩ .bf16) (x : FVec Ideal ⟨2, ![8192, 1024]⟩ .f32)
  (g : FVec Ideal ⟨1, ![1024]⟩ .f32) (dy : FVec Ideal ⟨2, ![8192, 1024]⟩ .f32)

/-- A slab's part of the gradient of a normalised row. -/
def part (p : Fin 8192) (f : Fin 1024) (j : Fin 4) : EReal := ∑ q : Fin 1408, side da db j q p * w (ix3 j f q)

/-- The gradient of a normalised row. -/
def hid (p : Fin 8192) (f : Fin 1024) : EReal := ∑ j, part da db w p f j

/-- The gradient of the stream. -/
def dxArr : FVec Ideal ⟨2, ![8192, 1024]⟩ .f32 := fun z =>
  dxAt (fun k => x (ix2 (z 0) k)) (fun k => hid da db w (z 0) k) (fun k => g (ix1 k)) (fun k => dy (ix2 (z 0) k)) (z 1)

/-- A row's part of the gradient of the norm's scale. -/
def dgOf (f : Fin 1024) (p : Fin 8192) : EReal := hid da db w p f * x (ix2 p f) * rr fun k => x (ix2 p k)

/-- The gradient of the norm's scale. -/
def dgArr : FVec Ideal ⟨2, ![1, 1024]⟩ .f32 := fun z => ∑ p, dgOf da db w x (z 1) p

end Arrays

theorem sum_slabs {M : Type} [AddCommMonoid M] (t : Fin 5632 → M) :
    ∑ k, t k = ∑ j : Fin 4, ∑ q : Fin 1408, t ⟨j.val * 1408 + q.val, by omega⟩ := by
  rw [← Fintype.sum_prod_type' (fun (j : Fin 4) (q : Fin 1408) => t ⟨j.val * 1408 + q.val, by omega⟩)]
  refine (Fintype.sum_equiv (finProdFinEquiv (m := 4) (n := 1408)) _ _ fun ⟨i, x⟩ => congrArg t (Fin.ext ?_)).symm
  show i.val * 1408 + x.val = x.val + 1408 * i.val
  omega

end Cert.Proof.Ffn.Dh

end
-- ==== Proof.Ffn.DhRef.lean ====
/-
  What the reference of the gradient of a feed-forward's input computes: the gradient of each row, and of the norm's scale.
-/
module

public import proofs.«01_k».proof.Proof.Ffn.DhMath
public import proofs.«01_k».proof.Proof.Gen.Reference5Ideal
public import Idealize.ShloMosaic.Lib.Pointwise
public import Idealize.ShloMosaic.Lib.IdealHost
public import Idealize.ShloMosaic.Lib.Tactic.CleanTypes

@[expose] public section

set_option maxRecDepth 16384
set_option maxHeartbeats 1000000

noncomputable section

namespace Cert.Proof.Ffn.Dh

open Cert.Reference5Ideal Cert.Reference5Ideal.Gen Idealize.ShloMosaic Idealize.ShloMosaic.TcCoe

variable (a0 a1 : FVec Ideal S8192x2816 .bf16) (a2 : FVec Ideal S4x1024x1408 .bf16) (a3 : FVec Ideal S8192x1024 .f32) (a4 : FVec Ideal S1024 .f32)
  (a5 : FVec Ideal S8192x1024 .f32)

/-- The gradients of the two halves of the first product, side by side. -/
def both : FVec Ideal S8192x5632 .f32 :=
  concatenate S8192x5632 1 [⟨S8192x2816, (extf .f32 a0 bitsLt_bf16_f32)⟩, ⟨S8192x2816, (extf .f32 a1 bitsLt_bf16_f32)⟩] concatenates_S8192x2816_S8192x2816_S8192x5632_d1

/-- The weight, its slabs side by side. -/
def wide : FVec Ideal S1024x5632 .f32 :=
  shapeCast S1024x5632 (transpose S1024x4x1408 [1, 0, 2] (extf .f32 a2 bitsLt_bf16_f32) transposes_S4x1024x1408_S1024x4x1408_1_0_2) shapeCasts_S1024x4x1408_S1024x5632

def refH (p : FVec Ideal S8192x5632 .f32) (w : FVec Ideal S1024x5632 .f32) : FVec Ideal S8192x1024 .f32 :=
  Host.dotGeneral dot_S8192x5632_S1024x5632_S8192x1024_1_1_0_0_n_n none p w

def refM : FVec Ideal S8192x1 .f32 :=
  addf (Host.divf (broadcastInDim S8192x1 ![0] bcast_S8192_S8192x1_0 (Host.reduceAdd (mulf a3 a3) (constant S_ .f32 0x00000000#32) reducesTo_S8192x1024_S8192_d1 h_S_)) (broadcastInDim S8192x1 ![] bcast_S_S8192x1 (constant S_ .f32 0x44800000#32))) (broadcastInDim S8192x1 ![] bcast_S_S8192x1 (constant S_ .f32 0x358637BD#32))

def refR (m : FVec Ideal S8192x1 .f32) : FVec Ideal S8192x1 .f32 := Host.rsqrt m

def refU (h : FVec Ideal S8192x1024 .f32) : FVec Ideal S8192x1024 .f32 :=
  mulf h (broadcastInDim S8192x1024 ![0, 1] bcast_S1x1024_S8192x1024_0_1 (broadcastInDim S1x1024 ![1] bcast_S1024_S1x1024_1 a4))

def refS (u : FVec Ideal S8192x1024 .f32) : FVec Ideal S8192x1 .f32 :=
  shapeCast S8192x1 (Host.reduceAdd (mulf a3 u) (constant S_ .f32 0x00000000#32) reducesTo_S8192x1024_S8192_d1 h_S_) shapeCasts_S8192_S8192x1

def refQ (r m : FVec Ideal S8192x1 .f32) : FVec Ideal S8192x1 .f32 :=
  mulf (broadcastInDim S8192x1 ![] bcast_S_S8192x1 (constant S_ .f32 0xBF000000#32)) (Host.divf r m)

def refP (s q : FVec Ideal S8192x1 .f32) : FVec Ideal S8192 .f32 :=
  Host.reduceAdd (Host.divf (mulf s q) (broadcastInDim S8192x1 ![] bcast_S_S8192x1 (constant S_ .f32 0x44800000#32))) (constant S_ .f32 0x00000000#32) reducesTo_S8192x1_S8192_d1 h_S_

def refDx (u : FVec Ideal S8192x1024 .f32) (r : FVec Ideal S8192x1 .f32) (p : FVec Ideal S8192 .f32) : FVec Ideal S8192x1024 .f32 :=
  addf (addf (addf a5 (mulf u (broadcastInDim S8192x1024 ![0, 1] bcast_S8192x1_S8192x1024_0_1 r))) (mulf a3 (broadcastInDim S8192x1024 ![0] bcast_S8192_S8192x1024_0 p))) (mulf (broadcastInDim S8192x1024 ![0] bcast_S8192_S8192x1024_0 p) a3)

def refDg (h : FVec Ideal S8192x1024 .f32) (r : FVec Ideal S8192x1 .f32) : FVec Ideal S1x1024 .f32 :=
  shapeCast S1x1024 (Host.reduceAdd (shapeCast S1x1024 (Host.reduceAdd (mulf (mulf a3 (broadcastInDim S8192x1024 ![0, 1] bcast_S8192x1_S8192x1024_0_1 r)) h) (constant S_ .f32 0x00000000#32) reducesTo_S8192x1024_S1024_d0 h_S_) shapeCasts_S1024_S1x1024) (constant S_ .f32 0x00000000#32) reducesTo_S1x1024_S1024_d0 h_S_) shapeCasts_S1024_S1x1024

theorem both_at (x : Fin 8192) (j : Fin 4) (q : Fin 1408) : both a0 a1 (ix2 x ⟨j.val * 1408 + q.val, by omega⟩) = side a0 a1 j q x := by
  unfold side
  pointwise [both] <;> rfl

theorem wide_at (f : Fin 1024) (j : Fin 4) (q : Fin 1408) : wide a2 (ix2 f ⟨j.val * 1408 + q.val, by omega⟩) = a2 (ix3 j f q) := by
  pointwise [wide] <;> rfl

theorem refH_at (p : FVec Ideal S8192x5632 .f32) (w : FVec Ideal S1024x5632 .f32) (x : Fin 8192) (f : Fin 1024) :
    refH p w (ix2 x f) = ∑ k, p (ix2 x k) * w (ix2 f k) := by
  pointwise [refH] <;> rfl

theorem hid_at (x : Fin 8192) (f : Fin 1024) : refH (both a0 a1) (wide a2) (ix2 x f) = hid a0 a1 a2 x f := by
  rw [refH_at, sum_slabs]
  exact Finset.sum_congr rfl fun j _ => Finset.sum_congr rfl fun q _ => congrArg₂ (fun u v : EReal => u * v) (both_at a0 a1 x j q) (wide_at a2 f j q)

theorem refM_at (x : Fin 8192) : refM a3 (ix2 x (0 : Fin 1)) = ms fun k => a3 (ix2 x k) := by
  pointwise [refM] <;> rfl

theorem refR_at (m : FVec Ideal S8192x1 .f32) (x : Fin 8192) : refR m (ix2 x (0 : Fin 1)) = Ideal.rsqrt (m (ix2 x (0 : Fin 1))) := by
  pointwise [refR] <;> rfl

theorem refU_at (h : FVec Ideal S8192x1024 .f32) (x : Fin 8192) (f : Fin 1024) : refU a4 h (ix2 x f) = h (ix2 x f) * a4 (ix1 f) := by
  pointwise [refU] <;> rfl

theorem refS_at (u : FVec Ideal S8192x1024 .f32) (x : Fin 8192) : refS a3 u (ix2 x (0 : Fin 1)) = ∑ k : Fin 1024, a3 (ix2 x k) * u (ix2 x k) := by
  pointwise [refS] <;> rfl

theorem refQ_at (r m : FVec Ideal S8192x1 .f32) (x : Fin 8192) : refQ r m (ix2 x (0 : Fin 1))
    = Ideal.ofBits .f32 0xBF000000#32 * Ideal.div (r (ix2 x (0 : Fin 1))) (m (ix2 x (0 : Fin 1))) := by
  pointwise [refQ] <;> rfl

theorem refP_at (s q : FVec Ideal S8192x1 .f32) (x : Fin 8192) : refP s q (ix1 x)
    = Ideal.div (s (ix2 x (0 : Fin 1)) * q (ix2 x (0 : Fin 1))) (Ideal.ofBits .f32 0x44800000#32) := by
  have e : refP s q (ix1 x) = ∑ k : Fin 1, Ideal.div (s (ix2 x k) * q (ix2 x k)) (Ideal.ofBits .f32 0x44800000#32) := by
    pointwise [refP] <;> rfl
  rw [e, Fin.sum_univ_one]

theorem refDx_at (u : FVec Ideal S8192x1024 .f32) (r : FVec Ideal S8192x1 .f32) (p : FVec Ideal S8192 .f32) (x : Fin 8192) (f : Fin 1024) :
    refDx a3 a5 u r p (ix2 x f) = a5 (ix2 x f) + u (ix2 x f) * r (ix2 x (0 : Fin 1)) + a3 (ix2 x f) * p (ix1 x) + p (ix1 x) * a3 (ix2 x f) := by
  pointwise [refDx] <;> rfl

theorem refDg_at (h : FVec Ideal S8192x1024 .f32) (r : FVec Ideal S8192x1 .f32) (f : Fin 1024) :
    refDg a3 h r (ix2 (0 : Fin 1) f) = ∑ x : Fin 8192, a3 (ix2 x f) * r (ix2 x (0 : Fin 1)) * h (ix2 x f) := by
  have e : refDg a3 h r (ix2 (0 : Fin 1) f) = ∑ k : Fin 1, ∑ x : Fin 8192, a3 (ix2 x f) * r (ix2 x (0 : Fin 1)) * h (ix2 x f) := by
    pointwise [refDg] <;> rfl
  rw [e, Fin.sum_univ_one]

/-- The reference's gradient of the stream. -/
theorem ref_dx : refDx a3 a5 (refU a4 (refH (both a0 a1) (wide a2))) (refR (refM a3))
      (refP (refS a3 (refU a4 (refH (both a0 a1) (wide a2)))) (refQ (refR (refM a3)) (refM a3)))
    = dxArr a0 a1 a2 a3 a4 a5 := by
  funext z
  obtain ⟨x, f, rfl⟩ : ∃ (x : Fin 8192) (f : Fin 1024), z = ix2 x f := ⟨z 0, z 1, eq_ix2 z⟩
  have eu : ∀ k, refU a4 (refH (both a0 a1) (wide a2)) (ix2 x k) = hid a0 a1 a2 x k * a4 (ix1 k) := fun k => by rw [refU_at, hid_at]
  rw [refDx_at, refP_at, refS_at, refQ_at, refR_at, refM_at, eu f, Finset.sum_congr rfl fun k _ => congrArg (a3 (ix2 x k) * ·) (eu k)]
  exact row_terms (fun k => a3 (ix2 x k)) (fun k => hid a0 a1 a2 x k) (fun k => a4 (ix1 k)) (fun k => a5 (ix2 x k)) f

/-- The reference's gradient of the norm's scale. -/
theorem ref_dg : refDg a3 (refH (both a0 a1) (wide a2)) (refR (refM a3)) = dgArr a0 a1 a2 a3 := by
  funext z
  obtain ⟨i, f, rfl⟩ : ∃ (i : Fin 1) (f : Fin 1024), z = ix2 i f := ⟨z 0, z 1, eq_ix2 z⟩
  obtain rfl : i = 0 := Subsingleton.elim _ _
  rw [refDg_at]
  refine Finset.sum_congr rfl fun x _ => ?_
  rw [hid_at, refR_at, refM_at, mul_comm, ← mul_assoc]
  rfl

end Cert.Proof.Ffn.Dh

end
-- ==== Proof.Ffn.DhVal.lean ====
/-
  The gradients of a feed-forward's input and of its norm's scale are the reference's, of any arguments: both take back the gradients
  of the two halves of the first product through its weight, and then through the norm of a row.
-/
module

public import proofs.«01_k».proof.Proof.Ffn.DhLast
public import proofs.«01_k».proof.Proof.Ffn.DhMath
public import proofs.«01_k».proof.Proof.Ffn.DhRef
public import proofs.«01_k».proof.Defs
public import proofs.«01_k».proof.Proof.Gen.Kernel5Ideal.Value
public import proofs.«01_k».proof.Proof.Gen.Reference5Ideal
public import proofs.«01_k».proof.Proof.Gen.Reference5Ideal.Run
public import Idealize.ShloMosaic.Lib.Pipeline.ValueKit.Geometry
public import Idealize.ShloMosaic.Lib.Pointwise
public import Idealize.ShloMosaic.Lib.IdealHost
public import Idealize.ShloMosaic.Lib.Tactic.CleanTypes

@[expose] public section

set_option maxRecDepth 16384
set_option maxHeartbeats 1000000

noncomputable section

namespace Cert.Proof.Ffn.Dh

open Idealize.ShloMosaic Idealize.ShloMosaic.TcCoe Idealize.SL.Sem

section Kernel
open Cert.Kernel5Ideal Cert.Kernel5Ideal.Gen

theorem index0 : ∀ t : Fin cfg0.N, win0_0.index t = ![t.val / 4, min (t.val % 4) 1] := (by decide +kernel : ∀ t : Fin grid0.N, _)
theorem index1 : ∀ t : Fin cfg0.N, win0_1.index t = ![t.val / 4, t.val % 4 - 2] := (by decide +kernel : ∀ t : Fin grid0.N, _)
theorem index2 : ∀ t : Fin cfg0.N, win0_2.index t = ![t.val % 4, 0, 0] := (by decide +kernel : ∀ t : Fin grid0.N, _)
theorem index3 : ∀ t : Fin cfg0.N, win0_3.index t = ![t.val / 4, 0] := (by decide +kernel : ∀ t : Fin grid0.N, _)
theorem index4 : ∀ t : Fin cfg0.N, win0_4.index t = ![0, 0] := (by decide +kernel : ∀ t : Fin grid0.N, _)
theorem index5 : ∀ t : Fin cfg0.N, win0_5.index t = ![t.val / 4, 0] := (by decide +kernel : ∀ t : Fin grid0.N, _)
theorem index6 : ∀ t : Fin cfg0.N, win0_6.index t = ![t.val / 4, 0] := (by decide +kernel : ∀ t : Fin grid0.N, _)
theorem index7 : ∀ t : Fin cfg0.N, win0_7.index t = ![0, 0] := (by decide +kernel : ∀ t : Fin grid0.N, _)

variable (m : (ℓ : Loc nD τ sig) → Buf (Elt Ideal) ℓ) (c : Dev nD)

abbrev DA : FVec Ideal S8192x2816 .bf16 := m ((c.tc : Thread nD τ).loc main_arg0)
abbrev DB : FVec Ideal S8192x2816 .bf16 := m ((c.tc : Thread nD τ).loc main_arg1)
abbrev W : FVec Ideal S4x1024x1408 .bf16 := m ((c.tc : Thread nD τ).loc main_arg2)
abbrev X : FVec Ideal S8192x1024 .f32 := m ((c.tc : Thread nD τ).loc main_arg3)
abbrev G : FVec Ideal S1024 .f32 := m ((c.tc : Thread nD τ).loc main_arg4)
abbrev DY : FVec Ideal S8192x1024 .f32 := m ((c.tc : Thread nD τ).loc main_arg5)

/-- The scale, as the one row that the pipeline reads. -/
theorem scale_row : (V m c main_v0 : FVec Ideal S1x1024 .f32) = shapeCast S1x1024 (G m c) shapeCasts_S1024_S1x1024 := by
  show StableHlo.after hostOps0 _ _ = _
  after_results
  rfl

theorem row_at (g : FVec Ideal S1024 .f32) (f : Fin 1024) : shapeCast S1x1024 g shapeCasts_S1024_S1x1024 (ix2 (0 : Fin 1) f) = g (ix1 f) := by
  pointwise [] <;> rfl

section Point
variable (i : Fin 8) (k : ℕ) (hk : k < 4) (t : Fin cfg0.N) (ht : t.val = i.val * 4 + k)
include hk ht

theorem left (h2 : k < 2) (r : Fin 1024) (q : Fin 1408) : (iblk m c 0 t : FVec Ideal S1024x1408 .bf16) (ix2 r q) = side (DA m c) (DB m c) ⟨k, hk⟩ q (R i r) := by
  unfold side
  rw [dif_pos (by show k * 1408 + q.val < 2816; omega)]
  show DA m c (((cfg0.win 0).blk t).view.emb (ix2 r q)) = _
  refine congrArg (DA m c) (funext fun a => Fin.ext ?_)
  refine (Pipeline.Window.rect_emb_val (cfg0.win 0) t (ix2 r q) a).trans ?_
  rw [show (cfg0.win 0).index t = _ from index0 t]
  fin_cases a
  · show t.val / 4 * 1024 + r.val = i.val * 1024 + r.val; omega
  · show min (t.val % 4) 1 * 1408 + q.val = k * 1408 + q.val
    rw [show min (t.val % 4) 1 = k from by omega]

theorem right (h2 : 2 ≤ k) (r : Fin 1024) (q : Fin 1408) : (iblk m c 1 t : FVec Ideal S1024x1408 .bf16) (ix2 r q) = side (DA m c) (DB m c) ⟨k, hk⟩ q (R i r) := by
  unfold side
  rw [dif_neg (by show ¬k * 1408 + q.val < 2816; omega)]
  show DB m c (((cfg0.win 1).blk t).view.emb (ix2 r q)) = _
  refine congrArg (DB m c) (funext fun a => Fin.ext ?_)
  refine (Pipeline.Window.rect_emb_val (cfg0.win 1) t (ix2 r q) a).trans ?_
  rw [show (cfg0.win 1).index t = _ from index1 t]
  fin_cases a
  · show t.val / 4 * 1024 + r.val = i.val * 1024 + r.val; omega
  · show (t.val % 4 - 2) * 1408 + q.val = k * 1408 + q.val - 2816
    rw [show t.val % 4 - 2 = k - 2 from by omega]; omega

theorem weight (f : Fin 1024) (q : Fin 1408) : (iblk m c 2 t : FVec Ideal S1x1024x1408 .bf16) (ix3 (0 : Fin 1) f q) = W m c (ix3 ⟨k, hk⟩ f q) := by
  show W m c (((cfg0.win 2).blk t).view.emb (ix3 (0 : Fin 1) f q)) = _
  refine congrArg (W m c) (funext fun a => Fin.ext ?_)
  refine (Pipeline.Window.rect_emb_val (cfg0.win 2) t (ix3 (0 : Fin 1) f q) a).trans ?_
  rw [show (cfg0.win 2).index t = _ from index2 t]
  fin_cases a
  · show t.val % 4 * 1 + 0 = k; omega
  · show 0 * 1024 + f.val = f.val; omega
  · show 0 * 1408 + q.val = q.val; omega

theorem stream (r f : Fin 1024) : (iblk m c 3 t : FVec Ideal S1024x1024 .f32) (ix2 r f) = X m c (ix2 (R i r) f) := by
  show X m c (((cfg0.win 3).blk t).view.emb (ix2 r f)) = _
  refine congrArg (X m c) (funext fun a => Fin.ext ?_)
  refine (Pipeline.Window.rect_emb_val (cfg0.win 3) t (ix2 r f) a).trans ?_
  rw [show (cfg0.win 3).index t = _ from index3 t]
  fin_cases a
  · show t.val / 4 * 1024 + r.val = i.val * 1024 + r.val; omega
  · show 0 * 1024 + f.val = f.val; omega

theorem incoming (r f : Fin 1024) : (iblk m c 5 t : FVec Ideal S1024x1024 .f32) (ix2 r f) = DY m c (ix2 (R i r) f) := by
  show DY m c (((cfg0.win 5).blk t).view.emb (ix2 r f)) = _
  refine congrArg (DY m c) (funext fun a => Fin.ext ?_)
  refine (Pipeline.Window.rect_emb_val (cfg0.win 5) t (ix2 r f) a).trans ?_
  rw [show (cfg0.win 5).index t = _ from index5 t]
  fin_cases a
  · show t.val / 4 * 1024 + r.val = i.val * 1024 + r.val; omega
  · show 0 * 1024 + f.val = f.val; omega

omit hk ht in
theorem scale (f : Fin 1024) : (iblk m c 4 t : FVec Ideal S1x1024 .f32) (ix2 (0 : Fin 1) f) = G m c (ix1 f) := by
  have e : (iblk m c 4 t : FVec Ideal S1x1024 .f32) (ix2 (0 : Fin 1) f) = (V m c main_v0 : FVec Ideal S1x1024 .f32) (ix2 (0 : Fin 1) f) := by
    show (V m c main_v0 : FVec Ideal S1x1024 .f32) (((cfg0.win 4).blk t).view.emb (ix2 (0 : Fin 1) f)) = _
    refine congrArg (V m c main_v0 : FVec Ideal S1x1024 .f32) (funext fun a => Fin.ext ?_)
    refine (Pipeline.Window.rect_emb_val (cfg0.win 4) t (ix2 (0 : Fin 1) f) a).trans ?_
    rw [show (cfg0.win 4).index t = _ from index4 t]
    fin_cases a
    · rfl
    · show 0 * 1024 + f.val = f.val; omega
  rw [e, scale_row]
  exact row_at (G m c) f

theorem gain_left (h2 : k < 2) (s : FVec Ideal S1024x1024 .f32) (r f : Fin 1024) :
    k0_pay2 (F := Ideal) s (iblk m c 0 t) (iblk m c 2 t) (ix2 r f) = s (ix2 r f) + part (DA m c) (DB m c) (W m c) (R i r) f ⟨k, hk⟩ := by
  refine (gain_at s _ _ r f).trans (congrArg (s (ix2 r f) + ·) (Finset.sum_congr rfl fun q _ => ?_))
  exact congrArg₂ (fun u v : EReal => u * v) (left m c i k hk t ht h2 r q) (weight m c i k hk t ht f q)

theorem gain_right (h2 : 2 ≤ k) (s : FVec Ideal S1024x1024 .f32) (r f : Fin 1024) :
    k0_pay3 (F := Ideal) s (iblk m c 1 t) (iblk m c 2 t) (ix2 r f) = s (ix2 r f) + part (DA m c) (DB m c) (W m c) (R i r) f ⟨k, hk⟩ := by
  rw [gain']
  refine (gain_at s _ _ r f).trans (congrArg (s (ix2 r f) + ·) (Finset.sum_congr rfl fun q _ => ?_))
  exact congrArg₂ (fun u v : EReal => u * v) (right m c i k hk t ht h2 r q) (weight m c i k hk t ht f q)

/-- A block of the stream's gradient, from the blocks of the last point. -/
theorem dx_blk (x3 h x5 : FVec Ideal S1024x1024 .f32) (x4 : FVec Ideal S1x1024 .f32) (e3 : x3 = iblk m c 3 t) (e4 : x4 = iblk m c 4 t) (e5 : x5 = iblk m c 5 t)
    (eh : ∀ r f, h (ix2 r f) = hid (DA m c) (DB m c) (W m c) (R i r) f) (r f : Fin 1024) :
    dxBlk x3 h x4 x5 (ix2 r f) = dxArr (DA m c) (DB m c) (W m c) (X m c) (G m c) (DY m c) (ix2 (R i r) f) := by
  subst e3 e4 e5
  show dxAt (fun k => (iblk m c 3 t : FVec Ideal S1024x1024 .f32) (ix2 r k)) (fun k => h (ix2 r k)) (fun k => (iblk m c 4 t : FVec Ideal S1x1024 .f32) (ix2 (0 : Fin 1) k))
    (fun k => (iblk m c 5 t : FVec Ideal S1024x1024 .f32) (ix2 r k)) f = _
  rw [funext fun j => stream m c i k hk t ht r j, funext fun j => incoming m c i k hk t ht r j, funext fun k => scale m c t k, funext fun k => eh r k]
  rfl

/-- A block's part of the gradient of the norm's scale, likewise. -/
theorem dg_blk (x3 h : FVec Ideal S1024x1024 .f32) (e3 : x3 = iblk m c 3 t) (eh : ∀ r f, h (ix2 r f) = hid (DA m c) (DB m c) (W m c) (R i r) f) (f : Fin 1024) :
    dgBlk x3 h f = ∑ r, dgOf (DA m c) (DB m c) (W m c) (X m c) f (R i r) := by
  subst e3
  refine Finset.sum_congr rfl fun r _ => ?_
  show h (ix2 r f) * (iblk m c 3 t : FVec Ideal S1024x1024 .f32) (ix2 r f) * rr (fun k => (iblk m c 3 t : FVec Ideal S1024x1024 .f32) (ix2 r k)) = _
  rw [funext fun j => stream m c i k hk t ht r j, stream m c i k hk t ht r f, eh r f]
  rfl

end Point

theorem first (i : Fin 8) (t : Fin cfg0.N) (ht : t.val = i.val * 4) (r f : Fin 1024) :
    (outsAt0 m c t.val t.isLt).2.2 (ix2 r f) = upto (part (DA m c) (DB m c) (W m c) (R i r) f) 1 := by
  have e : ∀ s : EReal, s = 0 → s + part (DA m c) (DB m c) (W m c) (R i r) f ⟨0, by decide⟩ = upto (part (DA m c) (DB m c) (W m c) (R i r) f) 1 := fun s hs => by
    rw [hs, zero_add, upto_one]
  rw [outsAt0_A m c t (by omega) (by omega) (by omega) (by omega)]
  dsimp only
  rw [scratch_A, gain_left m c i 0 (by decide) t ht (by decide)]
  exact e _ (start_at r f)

theorem later (i : Fin 8) (k : ℕ) (hk : k + 1 < 4) (t : Fin cfg0.N) (ht : t.val = i.val * 4 + (k + 1)) (r f : Fin 1024) :
    (outsAt0 m c t.val t.isLt).2.2 (ix2 r f)
      = (outsAt0 m c (t.val - 1) (Nat.lt_of_le_of_lt (Nat.sub_le _ _) t.isLt)).2.2 (ix2 r f) + part (DA m c) (DB m c) (W m c) (R i r) f ⟨k + 1, hk⟩ := by
  by_cases h1 : k + 1 < 2
  · rw [outsAt0_B m c t (by omega) (by omega) (by omega) (by omega)]
    dsimp only
    rw [scratch_B, gain_left m c i (k + 1) hk t ht h1]
  by_cases h3 : k + 1 = 3
  · by_cases h4 : t.val < 4
    · rw [outsAt0_D m c t (by omega) (by omega) (by omega) (by omega) h4 (by omega)]
      dsimp only
      rw [scratch_D, gain_right m c i (k + 1) hk t ht (by omega)]
    · rw [outsAt0_E m c t (by omega) (by omega) (by omega) (by omega) h4 (by omega)]
      dsimp only
      rw [scratch_E, gain_right m c i (k + 1) hk t ht (by omega)]
  · rw [outsAt0_C m c t (by omega) (by omega) (by omega) (by omega)]
    dsimp only
    rw [scratch_C, gain_right m c i (k + 1) hk t ht (by omega)]

theorem acc (i : Fin 8) : ∀ (k : ℕ) (hk : k < 4) (n : ℕ) (hn : n < cfg0.N) (_ : n = i.val * 4 + k) (r f : Fin 1024),
    (outsAt0 m c n hn).2.2 (ix2 r f) = upto (part (DA m c) (DB m c) (W m c) (R i r) f) (k + 1)
  | 0, _, n, hn, e, r, f => first m c i ⟨n, hn⟩ e r f
  | k + 1, hk, n, hn, e, r, f => by
    rw [upto_succ _ (k + 1) hk, ← acc i k (by omega) (n - 1) (by omega) (by omega) r f]
    exact later m c i k hk ⟨n, hn⟩ e r f

/-- At a block's last point the accumulator holds the gradient of the normalised rows. -/
theorem whole (i : Fin 8) (t : Fin cfg0.N) (ht : t.val = i.val * 4 + 3) (r f : Fin 1024) :
    (outsAt0 m c t.val t.isLt).2.2 (ix2 r f) = hid (DA m c) (DB m c) (W m c) (R i r) f := by
  rw [acc m c i 3 (by decide) t.val t.isLt ht r f, upto_all]; rfl

theorem held (t : Fin cfg0.N) (ht : t.val % 4 = 3) :
    (outsAt0 m c t.val t.isLt).2.2 = k0_pay3 (F := Ideal) (outsAt0 m c (t.val - 1) (Nat.lt_of_le_of_lt (Nat.sub_le _ _) t.isLt)).2.2 (iblk m c 1 t) (iblk m c 2 t) := by
  by_cases h4 : t.val < 4
  · rw [outsAt0_D m c t (by omega) (by omega) (by omega) (by omega) h4 (by omega)]
    dsimp only
    rw [scratch_D]
  · rw [outsAt0_E m c t (by omega) (by omega) (by omega) (by omega) h4 (by omega)]
    dsimp only
    rw [scratch_E]

/-- What a block's last point leaves of the stream's gradient. -/
theorem out6 (i : Fin 8) (t : Fin cfg0.N) (ht : t.val = i.val * 4 + 3) (r f : Fin 1024) :
    (outsAt0 m c t.val t.isLt).1 (ix2 r f) = dxArr (DA m c) (DB m c) (W m c) (X m c) (G m c) (DY m c) (ix2 (R i r) f) := by
  have eh := whole m c i t ht
  rw [held m c t (by omega)] at eh
  by_cases h4 : t.val < 4
  · rw [outsAt0_D m c t (by omega) (by omega) (by omega) (by omega) h4 (by omega)]
    dsimp only
    rw [block_D]
    exact dx_blk m c i 3 (by decide) t ht _ _ _ _ rfl rfl rfl eh r f
  · rw [outsAt0_E m c t (by omega) (by omega) (by omega) (by omega) h4 (by omega)]
    dsimp only
    rw [block_E]
    exact dx_blk m c i 3 (by decide) t ht _ _ _ _ rfl rfl rfl eh r f

/-- A block's part of the gradient of the norm's scale. -/
def dgPart (f : Fin 1024) (i : Fin 8) : EReal := ∑ r, dgOf (DA m c) (DB m c) (W m c) (X m c) f (R i r)

/-- The points between two blocks' last points leave the gradient of the norm's scale alone. -/
theorem kept (t : Fin cfg0.N) (ht : t.val % 4 ≠ 3) :
    (outsAt0 m c t.val t.isLt).2.1 = (outsAt0 m c (t.val - 1) (Nat.lt_of_le_of_lt (Nat.sub_le _ _) t.isLt)).2.1 := by
  by_cases h0 : t.val % 4 = 0
  · rw [outsAt0_A m c t h0 (by omega) (by omega) ht]; rfl
  by_cases h1 : t.val % 4 ≤ 1
  · rw [outsAt0_B m c t h0 h1 (by omega) ht]; rfl
  · rw [outsAt0_C m c t h0 h1 (by omega) ht]; rfl

theorem scale_first (t : Fin cfg0.N) (ht : t.val = 3) (f : Fin 1024) :
    (outsAt0 m c t.val t.isLt).2.1 (ix2 (0 : Fin 1) f) = dgPart m c f 0 := by
  have eh := whole m c 0 t (by show t.val = 0 * 4 + 3; omega)
  rw [held m c t (by omega)] at eh
  rw [outsAt0_D m c t (by omega) (by omega) (by omega) (by omega) (by omega) (by omega)]
  dsimp only
  rw [scale_D]
  exact dg_blk m c 0 3 (by decide) t (by show t.val = 0 * 4 + 3; omega) _ _ rfl eh f

theorem scale_later (i : ℕ) (hi : i + 1 < 8) (t : Fin cfg0.N) (ht : t.val = (i + 1) * 4 + 3) (f : Fin 1024) :
    (outsAt0 m c t.val t.isLt).2.1 (ix2 (0 : Fin 1) f)
      = (outsAt0 m c (t.val - 1) (Nat.lt_of_le_of_lt (Nat.sub_le _ _) t.isLt)).2.1 (ix2 (0 : Fin 1) f) + dgPart m c f ⟨i + 1, hi⟩ := by
  have eh := whole m c ⟨i + 1, hi⟩ t ht
  rw [held m c t (by omega)] at eh
  rw [outsAt0_E m c t (by omega) (by omega) (by omega) (by omega) (by omega) (by omega)]
  dsimp only
  rw [scale_E]
  exact congrArg (_ + ·) (dg_blk m c ⟨i + 1, hi⟩ 3 (by decide) t ht _ _ rfl eh f)

/-- The gradient of the norm's scale after a block's last point. -/
theorem scale_acc : ∀ (i : ℕ) (hi : i < 8) (n : ℕ) (hn : n < cfg0.N) (_ : n = i * 4 + 3) (f : Fin 1024),
    (outsAt0 m c n hn).2.1 (ix2 (0 : Fin 1) f) = upto (dgPart m c f) (i + 1)
  | 0, _, n, hn, e, f => by
    rw [upto_one _ (by decide)]
    exact scale_first m c ⟨n, hn⟩ (by show n = 3; omega) f
  | i + 1, hi, n, hn, e, f => by
    subst e
    have e1 := scale_later m c i hi ⟨(i + 1) * 4 + 3, hn⟩ rfl f
    have e2 : (outsAt0 m c ((i + 1) * 4 + 2) (by omega)).2.1 = (outsAt0 m c (i * 4 + 3) (by omega)).2.1 :=
      (kept m c ⟨(i + 1) * 4 + 2, by omega⟩ (by show ((i + 1) * 4 + 2) % 4 ≠ 3; omega)).trans
        ((kept m c ⟨(i + 1) * 4 + 1, by omega⟩ (by show ((i + 1) * 4 + 1) % 4 ≠ 3; omega)).trans
          ((kept m c ⟨(i + 1) * 4, by omega⟩ (by show ((i + 1) * 4) % 4 ≠ 3; omega)).trans (by
            have same : ∀ (a b : ℕ) (ha : a < cfg0.N) (hb : b < cfg0.N), a = b → (outsAt0 m c a ha).2.1 = (outsAt0 m c b hb).2.1 := by
              intro a b ha hb e
              subst e
              rfl
            exact same _ _ _ _ (by show (i + 1) * 4 - 1 = i * 4 + 3; omega))))
    have e3 := scale_acc i (by omega) (i * 4 + 3) (by omega) rfl f
    rw [upto_succ _ (i + 1) hi, ← e3, ← e2]
    exact e1

theorem place6 (i : Fin 8) (t : Fin cfg0.N) (ht : t.val = i.val * 4 + 3) (y : S1024x1024.Idx) :
    ((cfg0.win 6).blk t).view.emb y = ix2 (R i (y 0)) (y 1) := by
  funext k
  apply Fin.ext
  refine (Pipeline.Window.rect_emb_val (cfg0.win 6) t y k).trans ?_
  rw [show (cfg0.win 6).index t = _ from index6 t]
  fin_cases k
  · show t.val / 4 * 1024 + (y 0).val = i.val * 1024 + (y 0).val; omega
  · show 0 * 1024 + (y 1).val = (y 1).val; omega

theorem written6 (t : Fin cfg0.N) (hf : (cfg0.win 6).flush t = true) :
    (dats m 0 c).flushed 6 t = ((cfg0.win 6).blk t).view.read (Elt Ideal) (dxArr (DA m c) (DB m c) (W m c) (X m c) (G m c) (DY m c)) := by
  rw [Cert.Kernel5Ideal.Value.flushed6]
  have h3 : t.val % 4 = 3 := (flush0_6 t).mp hf
  have hN : t.val < 32 := lt_of_lt_of_eq t.isLt N_0
  obtain ⟨i, hi⟩ : ∃ i : Fin 8, t.val = i.val * 4 + 3 := ⟨⟨t.val / 4, by omega⟩, by show t.val = t.val / 4 * 4 + 3; omega⟩
  funext y
  have hx : (cfg0.win 6).xinj (grid0.coords t) y = ix2 (y 0) (y 1) := by
    funext k
    apply Fin.ext
    fin_cases k <;> rfl
  show (outsAt0 m c t.val t.isLt).1 ((cfg0.win 6).xinj (grid0.coords t) y)
    = dxArr (DA m c) (DB m c) (W m c) (X m c) (G m c) (DY m c) (((cfg0.win 6).blk t).view.emb y)
  exact (congrArg _ hx).trans ((out6 m c i t hi (y 0) (y 1)).trans (congrArg _ (place6 i t hi y).symm))

theorem covered6 (j : S8192x1024.Idx) : ∃ t : Fin cfg0.N, (cfg0.win 6).flush t = true ∧ j ∈ ((cfg0.win 6).blk t).view.set := by
  have h0 : (j 0).val < 8192 := (j 0).isLt
  have hN : cfg0.N = 32 := N_0
  obtain ⟨i, r, hir⟩ : ∃ (i : Fin 8) (r : Fin 1024), (j 0).val = i.val * 1024 + r.val :=
    ⟨⟨(j 0).val / 1024, by omega⟩, ⟨(j 0).val % 1024, by omega⟩, by show (j 0).val = (j 0).val / 1024 * 1024 + (j 0).val % 1024; omega⟩
  have ht : i.val * 4 + 3 < cfg0.N := by omega
  refine ⟨⟨i.val * 4 + 3, ht⟩, (flush0_6 _).mpr (by show (i.val * 4 + 3) % 4 = 3; omega), ?_⟩
  have e := place6 i ⟨i.val * 4 + 3, ht⟩ rfl (ix2 r (j 1))
  have ei : j = ix2 (R i r) (j 1) := (eq_ix2 j).trans (congrArg (fun z : Fin 8192 => (ix2 z (j 1) : S8192x1024.Idx)) (Fin.ext hir))
  have := View.emb_mem_set ((cfg0.win 6).blk ⟨i.val * 4 + 3, ht⟩).view (ix2 r (j 1))
  rwa [e.trans ei.symm] at this

theorem array6 : (dats m 0 c).arrAt 6 cfg0.N = dxArr (DA m c) (DB m c) (W m c) (X m c) (G m c) (DY m c) :=
  (dats m 0 c).arrAt_eq_of_cover 6 _ (written6 m c) covered6

theorem place7 (t : Fin cfg0.N) (y : S1x1024.Idx) : ((cfg0.win 7).blk t).view.emb y = ix2 (y 0) (y 1) := by
  funext k
  apply Fin.ext
  refine (Pipeline.Window.rect_emb_val (cfg0.win 7) t y k).trans ?_
  rw [show (cfg0.win 7).index t = _ from index7 t]
  fin_cases k
  · show 0 * 1 + (y 0).val = (y 0).val; omega
  · show 0 * 1024 + (y 1).val = (y 1).val; omega

/-- What the last point leaves of the gradient of the norm's scale. -/
theorem out7 (t : Fin cfg0.N) (ht : t.val = 31) (a : Fin 1) (f : Fin 1024) :
    (outsAt0 m c t.val t.isLt).2.1 (ix2 a f) = dgArr (DA m c) (DB m c) (W m c) (X m c) (ix2 a f) := by
  obtain rfl : a = 0 := Subsingleton.elim _ _
  rw [scale_acc m c 7 (by decide) t.val t.isLt ht f, upto_all]
  exact (sum_blocks (dgOf (DA m c) (DB m c) (W m c) (X m c) f)).symm

theorem written7 (t : Fin cfg0.N) (hf : (cfg0.win 7).flush t = true) :
    (dats m 0 c).flushed 7 t = ((cfg0.win 7).blk t).view.read (Elt Ideal) (dgArr (DA m c) (DB m c) (W m c) (X m c)) := by
  rw [Cert.Kernel5Ideal.Value.flushed7]
  have h3 : t.val % 32 = 31 := (flush0_7 t).mp hf
  have hN : t.val < 32 := lt_of_lt_of_eq t.isLt N_0
  funext y
  have hx : (cfg0.win 7).xinj (grid0.coords t) y = ix2 (y 0) (y 1) := by
    funext k
    apply Fin.ext
    fin_cases k <;> rfl
  show (outsAt0 m c t.val t.isLt).2.1 ((cfg0.win 7).xinj (grid0.coords t) y)
    = dgArr (DA m c) (DB m c) (W m c) (X m c) (((cfg0.win 7).blk t).view.emb y)
  exact (congrArg _ hx).trans ((out7 m c t (by omega) (y 0) (y 1)).trans (congrArg _ (place7 t y).symm))

theorem covered7 (j : S1x1024.Idx) : ∃ t : Fin cfg0.N, (cfg0.win 7).flush t = true ∧ j ∈ ((cfg0.win 7).blk t).view.set := by
  have ht : 31 < cfg0.N := lt_of_lt_of_eq (by decide) N_0.symm
  refine ⟨⟨31, ht⟩, (flush0_7 _).mpr (by show 31 % 32 = 31; rfl), ?_⟩
  have := View.emb_mem_set ((cfg0.win 7).blk ⟨31, ht⟩).view j
  rwa [(place7 ⟨31, ht⟩ j).trans (eq_ix2 j).symm] at this

theorem array7 : (dats m 0 c).arrAt 7 cfg0.N = dgArr (DA m c) (DB m c) (W m c) (X m c) :=
  (dats m 0 c).arrAt_eq_of_cover 7 _ (written7 m c) covered7

end Kernel

/-! ## The claim -/

theorem algebraic : Cert.algebraic_Kernel5Ideal_Reference5Ideal := fun m g m' g' _ hm => by
  refine ⟨fun c => dxArr (DA m c) (DB m c) (W m c) (X m c) (G m c) (DY m c), fun c => dgArr (DA m c) (DB m c) (W m c) (X m c),
    (θ_run Cert.Kernel5Ideal.defs _ _).mono (fun r h c => ⟨(h c).1.trans (array6 m c), (h c).2.1.trans (array7 m c), (h c).2.2⟩)
      (Cert.Kernel5Ideal.Value.run_blocks (F := Ideal) m g),
    (θ_run Cert.Reference5Ideal.defs _ _).mono (fun r h c => ⟨(h c).1.trans ?_, (h c).2.1.trans ?_, (h c).2.2⟩)
      (Cert.Reference5Ideal.Value.run (F := Ideal) m' g')⟩
  · unfold Cert.Reference5Ideal.Value.res_main_v46
    rw [(hm c).1, (hm c).2.1, (hm c).2.2.1, (hm c).2.2.2.1, (hm c).2.2.2.2.1, (hm c).2.2.2.2.2]
    exact ref_dx (DA m c) (DB m c) (W m c) (X m c) (G m c) (DY m c)
  · rw [(hm c).1, (hm c).2.1, (hm c).2.2.1, (hm c).2.2.2.1]
    exact ref_dg (DA m c) (DB m c) (W m c) (X m c)

end Cert.Proof.Ffn.Dh

end
-- ==== Proof.Ffn.FwdVal.lean ====
/-
  The two halves of a feed-forward's first product, and their gated product, are the reference's, of any arguments.
-/
module

public import proofs.«01_k».proof.Proof.Ffn.ActVal
public import proofs.«01_k».proof.Defs
public import proofs.«01_k».proof.Proof.Gen.Kernel6
public import proofs.«01_k».proof.Proof.Gen.Kernel6.Frame
public import proofs.«01_k».proof.Proof.Gen.Kernel6Ideal.Value
public import proofs.«01_k».proof.Proof.Gen.Reference6Ideal
public import proofs.«01_k».proof.Proof.Gen.Reference6Ideal.Run

@[expose] public section

set_option maxRecDepth 16384
set_option maxHeartbeats 1000000

noncomputable section

namespace Cert.Proof.Ffn.Fwd

open Idealize.ShloMosaic Idealize.ShloMosaic.TcCoe Idealize.SL.Sem

/-! ## The mathematics -/

section Arrays
variable (h : FVec Ideal ⟨2, ![8192, 1024]⟩ .bf16) (w : FVec Ideal ⟨3, ![4, 1024, 1408]⟩ .bf16)

/-- The first product at column `q` of slab `j` of the weight. -/
def prod (x : Fin 8192) (j : Fin 4) (q : Fin 1408) : EReal := ∑ k : Fin 1024, h (ix2 x k) * w (ix3 j k q)

/-- The gate's half: the first two slabs. -/
def gateIn (x : Fin 8192) (f : Fin 2816) : EReal := prod h w x ⟨f.val / 1408, by omega⟩ ⟨f.val % 1408, by omega⟩

/-- The other half: the other two. -/
def otherIn (x : Fin 8192) (f : Fin 2816) : EReal := prod h w x ⟨f.val / 1408 + 2, by omega⟩ ⟨f.val % 1408, by omega⟩

def gateArr : FVec Ideal ⟨2, ![8192, 2816]⟩ .bf16 := fun z => gateIn h w (z 0) (z 1)

def otherArr : FVec Ideal ⟨2, ![8192, 2816]⟩ .bf16 := fun z => otherIn h w (z 0) (z 1)

/-- The gated product. -/
def actArr : FVec Ideal ⟨2, ![8192, 2816]⟩ .bf16 := fun z =>
  gateIn h w (z 0) (z 1) * Act.sg (gateIn h w (z 0) (z 1)) * otherIn h w (z 0) (z 1)

end Arrays

section Kernel
open Cert.Kernel6Ideal Cert.Kernel6Ideal.Gen

section Body
variable (v0 : FVec Ideal S1024x1024 .bf16) (v1 v4 : FVec Ideal S1x1024x1408 .bf16) (x : Fin 1024) (q : Fin 1408)

theorem left_at : k0_pay1 (F := Ideal) v0 v1 (ix2 x q) = ∑ k : Fin 1024, v0 (ix2 x k) * v1 (ix3 (0 : Fin 1) k q) := by
  pointwise [k0_pay1] <;> rfl

theorem right_at : k0_pay2 (F := Ideal) v0 v4 (ix2 x q) = ∑ k : Fin 1024, v0 (ix2 x k) * v4 (ix3 (0 : Fin 1) k q) := by
  pointwise [k0_pay2] <;> rfl

theorem act_at : k0_pay5 (F := Ideal) v0 v1 v4 (ix2 x q) = k0_pay1 (F := Ideal) v0 v1 (ix2 x q) * Act.sg (k0_pay1 (F := Ideal) v0 v1 (ix2 x q))
    * k0_pay2 (F := Ideal) v0 v4 (ix2 x q) := by
  have e : k0_pay5 (F := Ideal) v0 v1 v4 (ix2 x q) = k0_pay1 (F := Ideal) v0 v1 (ix2 x q) * Ideal.div 1 (1 + Ideal.exp (0 - k0_pay1 (F := Ideal) v0 v1 (ix2 x q)))
      * k0_pay2 (F := Ideal) v0 v4 (ix2 x q) := by
    unfold k0_pay5
    generalize k0_pay1 (F := Ideal) v0 v1 = a
    generalize k0_pay2 (F := Ideal) v0 v4 = b
    pointwise [] <;> rfl
  rw [e, zero_sub]; rfl

end Body

theorem zero2 : (![0, 0] : Fin 2 → Nat) = fun _ => 0 := funext fun a => by fin_cases a <;> rfl
theorem zero3 : (![0, 0, 0] : Fin 3 → Nat) = fun _ => 0 := funext fun a => by fin_cases a <;> rfl

section Block
variable (x0 : FVec Ideal S1024x1024 .bf16) (x1 x2 : FVec Ideal S1x1024x1408 .bf16)

theorem block3 : out0_3 (F := Ideal) x0 x1 x2 = k0_pay1 (F := Ideal) x0 x1 := by
  unfold out0_3
  rw [View.canon_unit_zero (S := S1024x1408) zero2]
  simp only [View.ld_unit_zero (S := S1024x1024) zero2, View.ld_unit_zero (S := S1x1024x1408) zero3]
  rfl

theorem block4 : out0_4 (F := Ideal) x0 x1 x2 = k0_pay2 (F := Ideal) x0 x2 := by
  unfold out0_4
  rw [View.canon_unit_zero (S := S1024x1408) zero2]
  simp only [View.ld_unit_zero (S := S1024x1024) zero2, View.ld_unit_zero (S := S1x1024x1408) zero3]
  rfl

theorem block5 : out0_5 (F := Ideal) x0 x1 x2 = k0_pay5 (F := Ideal) x0 x1 x2 := by
  unfold out0_5
  rw [View.canon_unit_zero (S := S1024x1408) zero2]
  simp only [View.ld_unit_zero (S := S1024x1024) zero2, View.ld_unit_zero (S := S1x1024x1408) zero3]

end Block

theorem index0 : ∀ t : Fin cfg0.N, win0_0.index t = ![t.val % 8, 0] := (by decide +kernel : ∀ t : Fin grid0.N, _)
theorem index1 : ∀ t : Fin cfg0.N, win0_1.index t = ![t.val / 8, 0, 0] := (by decide +kernel : ∀ t : Fin grid0.N, _)
theorem index2 : ∀ t : Fin cfg0.N, win0_2.index t = ![t.val / 8 + 2, 0, 0] := (by decide +kernel : ∀ t : Fin grid0.N, _)
theorem index3 : ∀ t : Fin cfg0.N, win0_3.index t = ![t.val % 8, t.val / 8] := (by decide +kernel : ∀ t : Fin grid0.N, _)
theorem index4 : ∀ t : Fin cfg0.N, win0_4.index t = ![t.val % 8, t.val / 8] := (by decide +kernel : ∀ t : Fin grid0.N, _)
theorem index5 : ∀ t : Fin cfg0.N, win0_5.index t = ![t.val % 8, t.val / 8] := (by decide +kernel : ∀ t : Fin grid0.N, _)

variable (m : (ℓ : Loc nD τ sig) → Buf (Elt Ideal) ℓ) (c : Dev nD)

abbrev H : FVec Ideal S8192x1024 .bf16 := m ((c.tc : Thread nD τ).loc main_arg0)
abbrev W : FVec Ideal S4x1024x1408 .bf16 := m ((c.tc : Thread nD τ).loc main_arg1)

/-- Position `x` of a point's block of rows, and column `q` of its block of columns. -/
def pos (t : Fin cfg0.N) (x : Fin 1024) : Fin 8192 := ⟨t.val % 8 * 1024 + x.val, by omega⟩
def col (t : Fin cfg0.N) (q : Fin 1408) : Fin 2816 :=
  ⟨t.val / 8 * 1408 + q.val, by have h : t.val < 16 := lt_of_lt_of_eq t.isLt N_0; omega⟩

/-- The slab that a point multiplies by for the gate's half, and for the other. -/
def slab (t : Fin cfg0.N) : Fin 4 := ⟨t.val / 8, by have h : t.val < 16 := lt_of_lt_of_eq t.isLt N_0; omega⟩
def slab' (t : Fin cfg0.N) : Fin 4 := ⟨t.val / 8 + 2, by have h : t.val < 16 := lt_of_lt_of_eq t.isLt N_0; omega⟩

section Point
variable (t : Fin cfg0.N)

theorem rows (x k : Fin 1024) : (iblk m c 0 t : FVec Ideal S1024x1024 .bf16) (ix2 x k) = H m c (ix2 (pos t x) k) := by
  show H m c (((cfg0.win 0).blk t).view.emb (ix2 x k)) = _
  refine congrArg (H m c) (funext fun a => Fin.ext ?_)
  refine (Pipeline.Window.rect_emb_val (cfg0.win 0) t (ix2 x k) a).trans ?_
  rw [show (cfg0.win 0).index t = _ from index0 t]
  fin_cases a
  · show t.val % 8 * 1024 + x.val = _; rfl
  · show 0 * 1024 + k.val = k.val; omega

theorem weight (k : Fin 1024) (q : Fin 1408) : (iblk m c 1 t : FVec Ideal S1x1024x1408 .bf16) (ix3 (0 : Fin 1) k q) = W m c (ix3 (slab t) k q) := by
  show W m c (((cfg0.win 1).blk t).view.emb (ix3 (0 : Fin 1) k q)) = _
  refine congrArg (W m c) (funext fun a => Fin.ext ?_)
  refine (Pipeline.Window.rect_emb_val (cfg0.win 1) t (ix3 (0 : Fin 1) k q) a).trans ?_
  rw [show (cfg0.win 1).index t = _ from index1 t]
  fin_cases a
  · show t.val / 8 * 1 + 0 = t.val / 8; omega
  · show 0 * 1024 + k.val = k.val; omega
  · show 0 * 1408 + q.val = q.val; omega

theorem weight' (k : Fin 1024) (q : Fin 1408) : (iblk m c 2 t : FVec Ideal S1x1024x1408 .bf16) (ix3 (0 : Fin 1) k q) = W m c (ix3 (slab' t) k q) := by
  show W m c (((cfg0.win 2).blk t).view.emb (ix3 (0 : Fin 1) k q)) = _
  refine congrArg (W m c) (funext fun a => Fin.ext ?_)
  refine (Pipeline.Window.rect_emb_val (cfg0.win 2) t (ix3 (0 : Fin 1) k q) a).trans ?_
  rw [show (cfg0.win 2).index t = _ from index2 t]
  fin_cases a
  · show (t.val / 8 + 2) * 1 + 0 = t.val / 8 + 2; omega
  · show 0 * 1024 + k.val = k.val; omega
  · show 0 * 1408 + q.val = q.val; omega

theorem gate_blk (x : Fin 1024) (q : Fin 1408) :
    k0_pay1 (F := Ideal) (iblk m c 0 t) (iblk m c 1 t) (ix2 x q) = gateIn (H m c) (W m c) (pos t x) (col t q) := by
  refine (left_at _ _ x q).trans ?_
  have ej : (⟨(col t q).val / 1408, by omega⟩ : Fin 4) = slab t := Fin.ext (by show (t.val / 8 * 1408 + q.val) / 1408 = t.val / 8; omega)
  have eq : (⟨(col t q).val % 1408, by omega⟩ : Fin 1408) = q := Fin.ext (by show (t.val / 8 * 1408 + q.val) % 1408 = q.val; omega)
  unfold gateIn
  rw [ej, eq]
  exact Finset.sum_congr rfl fun k _ => congrArg₂ (fun u v : EReal => u * v) (rows m c t x k) (weight m c t k q)

theorem other_blk (x : Fin 1024) (q : Fin 1408) :
    k0_pay2 (F := Ideal) (iblk m c 0 t) (iblk m c 2 t) (ix2 x q) = otherIn (H m c) (W m c) (pos t x) (col t q) := by
  refine (right_at _ _ x q).trans ?_
  have ej : (⟨(col t q).val / 1408 + 2, by omega⟩ : Fin 4) = slab' t := Fin.ext (by show (t.val / 8 * 1408 + q.val) / 1408 + 2 = t.val / 8 + 2; omega)
  have eq : (⟨(col t q).val % 1408, by omega⟩ : Fin 1408) = q := Fin.ext (by show (t.val / 8 * 1408 + q.val) % 1408 = q.val; omega)
  unfold otherIn
  rw [ej, eq]
  exact Finset.sum_congr rfl fun k _ => congrArg₂ (fun u v : EReal => u * v) (rows m c t x k) (weight' m c t k q)

theorem act_blk (x : Fin 1024) (q : Fin 1408) :
    k0_pay5 (F := Ideal) (iblk m c 0 t) (iblk m c 1 t) (iblk m c 2 t) (ix2 x q) = actArr (H m c) (W m c) (ix2 (pos t x) (col t q)) := by
  refine (act_at _ _ _ x q).trans ?_
  rw [gate_blk, other_blk]; rfl

theorem place3 (y : S1024x1408.Idx) : ((cfg0.win 3).blk t).view.emb y = ix2 (pos t (y 0)) (col t (y 1)) := by
  funext k
  apply Fin.ext
  refine (Pipeline.Window.rect_emb_val (cfg0.win 3) t y k).trans ?_
  rw [show (cfg0.win 3).index t = _ from index3 t]
  fin_cases k <;> rfl

theorem place4 (y : S1024x1408.Idx) : ((cfg0.win 4).blk t).view.emb y = ix2 (pos t (y 0)) (col t (y 1)) := by
  funext k
  apply Fin.ext
  refine (Pipeline.Window.rect_emb_val (cfg0.win 4) t y k).trans ?_
  rw [show (cfg0.win 4).index t = _ from index4 t]
  fin_cases k <;> rfl

theorem place5 (y : S1024x1408.Idx) : ((cfg0.win 5).blk t).view.emb y = ix2 (pos t (y 0)) (col t (y 1)) := by
  funext k
  apply Fin.ext
  refine (Pipeline.Window.rect_emb_val (cfg0.win 5) t y k).trans ?_
  rw [show (cfg0.win 5).index t = _ from index5 t]
  fin_cases k <;> rfl

theorem written3 : (dats m 0 c).flushed 3 t = ((cfg0.win 3).blk t).view.read (Elt Ideal) (gateArr (H m c) (W m c)) := by
  rw [Cert.Kernel6Ideal.Value.flushed3, block3]
  funext y
  have hx : (cfg0.win 3).xinj (grid0.coords t) y = ix2 (y 0) (y 1) := by
    funext k
    apply Fin.ext
    fin_cases k <;> rfl
  show k0_pay1 (F := Ideal) (iblk m c 0 t) (iblk m c 1 t) ((cfg0.win 3).xinj (grid0.coords t) y)
    = gateArr (H m c) (W m c) (((cfg0.win 3).blk t).view.emb y)
  exact (congrArg _ hx).trans ((gate_blk m c t (y 0) (y 1)).trans (congrArg (gateArr (H m c) (W m c)) (place3 t y).symm))

theorem written4 : (dats m 0 c).flushed 4 t = ((cfg0.win 4).blk t).view.read (Elt Ideal) (otherArr (H m c) (W m c)) := by
  rw [Cert.Kernel6Ideal.Value.flushed4, block4]
  funext y
  have hx : (cfg0.win 4).xinj (grid0.coords t) y = ix2 (y 0) (y 1) := by
    funext k
    apply Fin.ext
    fin_cases k <;> rfl
  show k0_pay2 (F := Ideal) (iblk m c 0 t) (iblk m c 2 t) ((cfg0.win 4).xinj (grid0.coords t) y)
    = otherArr (H m c) (W m c) (((cfg0.win 4).blk t).view.emb y)
  exact (congrArg _ hx).trans ((other_blk m c t (y 0) (y 1)).trans (congrArg (otherArr (H m c) (W m c)) (place4 t y).symm))

theorem written5 : (dats m 0 c).flushed 5 t = ((cfg0.win 5).blk t).view.read (Elt Ideal) (actArr (H m c) (W m c)) := by
  rw [Cert.Kernel6Ideal.Value.flushed5, block5]
  funext y
  have hx : (cfg0.win 5).xinj (grid0.coords t) y = ix2 (y 0) (y 1) := by
    funext k
    apply Fin.ext
    fin_cases k <;> rfl
  show k0_pay5 (F := Ideal) (iblk m c 0 t) (iblk m c 1 t) (iblk m c 2 t) ((cfg0.win 5).xinj (grid0.coords t) y)
    = actArr (H m c) (W m c) (((cfg0.win 5).blk t).view.emb y)
  exact (congrArg _ hx).trans ((act_blk m c t (y 0) (y 1)).trans (congrArg _ (place5 t y).symm))

end Point

/-- Every index is in some point's block. -/
theorem point (i : S8192x2816.Idx) : ∃ (t : Fin cfg0.N) (x : Fin 1024) (q : Fin 1408), i = ix2 (pos t x) (col t q) := by
  have h0 : (i 0).val < 8192 := (i 0).isLt
  have h1 : (i 1).val < 2816 := (i 1).isLt
  have hN : cfg0.N = 16 := N_0
  refine ⟨⟨(i 1).val / 1408 * 8 + (i 0).val / 1024, by omega⟩, ⟨(i 0).val % 1024, by omega⟩, ⟨(i 1).val % 1408, by omega⟩, ?_⟩
  funext k
  apply Fin.ext
  fin_cases k
  · show (i 0).val = ((i 1).val / 1408 * 8 + (i 0).val / 1024) % 8 * 1024 + (i 0).val % 1024; omega
  · show (i 1).val = ((i 1).val / 1408 * 8 + (i 0).val / 1024) / 8 * 1408 + (i 1).val % 1408; omega

theorem covered3 (i : S8192x2816.Idx) : ∃ t : Fin cfg0.N, (cfg0.win 3).flush t = true ∧ i ∈ ((cfg0.win 3).blk t).view.set := by
  obtain ⟨t, x, q, hi⟩ := point i
  refine ⟨t, flush0_3 t, ?_⟩
  have := View.emb_mem_set ((cfg0.win 3).blk t).view (ix2 x q)
  rwa [(place3 t (ix2 x q)).trans hi.symm] at this

theorem covered4 (i : S8192x2816.Idx) : ∃ t : Fin cfg0.N, (cfg0.win 4).flush t = true ∧ i ∈ ((cfg0.win 4).blk t).view.set := by
  obtain ⟨t, x, q, hi⟩ := point i
  refine ⟨t, flush0_4 t, ?_⟩
  have := View.emb_mem_set ((cfg0.win 4).blk t).view (ix2 x q)
  rwa [(place4 t (ix2 x q)).trans hi.symm] at this

theorem covered5 (i : S8192x2816.Idx) : ∃ t : Fin cfg0.N, (cfg0.win 5).flush t = true ∧ i ∈ ((cfg0.win 5).blk t).view.set := by
  obtain ⟨t, x, q, hi⟩ := point i
  refine ⟨t, flush0_5 t, ?_⟩
  have := View.emb_mem_set ((cfg0.win 5).blk t).view (ix2 x q)
  rwa [(place5 t (ix2 x q)).trans hi.symm] at this

theorem array3 : (dats m 0 c).arrAt 3 cfg0.N = gateArr (H m c) (W m c) :=
  (dats m 0 c).arrAt_eq_of_cover 3 _ (fun t _ => written3 m c t) covered3

theorem array4 : (dats m 0 c).arrAt 4 cfg0.N = otherArr (H m c) (W m c) :=
  (dats m 0 c).arrAt_eq_of_cover 4 _ (fun t _ => written4 m c t) covered4

theorem array5 : (dats m 0 c).arrAt 5 cfg0.N = actArr (H m c) (W m c) :=
  (dats m 0 c).arrAt_eq_of_cover 5 _ (fun t _ => written5 m c t) covered5

end Kernel

section Reference
open Cert.Reference6Ideal Cert.Reference6Ideal.Gen

variable (a0 : FVec Ideal S8192x1024 .bf16) (a1 : FVec Ideal S4x1024x1408 .bf16)

/-- The weight, its slabs side by side. -/
def wide : FVec Ideal S1024x5632 .f32 :=
  shapeCast S1024x5632 (transpose S1024x4x1408 [1, 0, 2] (extf .f32 a1 bitsLt_bf16_f32) transposes_S4x1024x1408_S1024x4x1408_1_0_2) shapeCasts_S1024x4x1408_S1024x5632

def refProd (w : FVec Ideal S1024x5632 .f32) : FVec Ideal S8192x5632 .f32 :=
  Host.dotGeneral dot_S8192x1024_S1024x5632_S8192x5632_1_0_0_1_n_n none (extf .f32 a0 bitsLt_bf16_f32) w

def refA (p : FVec Ideal S8192x5632 .f32) : FVec Ideal S8192x2816 .f32 := extractStridedSlice S8192x2816 ![0, 0] p slices_S8192x5632_S8192x2816_0_0

def refB (p : FVec Ideal S8192x5632 .f32) : FVec Ideal S8192x2816 .f32 := extractStridedSlice S8192x2816 ![0, 2816] p slices_S8192x5632_S8192x2816_0_2816

def refAct (a b : FVec Ideal S8192x2816 .f32) : FVec Ideal S8192x2816 .bf16 :=
  truncf .bf16 (mulf (mulf a (Host.divf (broadcastInDim S8192x2816 ![] bcast_S_S8192x2816 (constant S_ .f32 0x3F800000#32)) (addf (broadcastInDim S8192x2816 ![] bcast_S_S8192x2816 (constant S_ .f32 0x3F800000#32)) (Host.exp (Host.negf a))))) b) bitsLt_bf16_f32

theorem wide_at (k : Fin 1024) (j : Fin 4) (q : Fin 1408) : wide a1 (ix2 k ⟨j.val * 1408 + q.val, by omega⟩) = a1 (ix3 j k q) := by
  pointwise [wide] <;> rfl

theorem refProd_at (w : FVec Ideal S1024x5632 .f32) (x : Fin 8192) (n : Fin 5632) :
    refProd a0 w (ix2 x n) = ∑ k : Fin 1024, a0 (ix2 x k) * w (ix2 k n) := by
  pointwise [refProd] <;> rfl

theorem prod_at (x : Fin 8192) (n : Fin 5632) (j : Fin 4) (q : Fin 1408) (e : n.val = j.val * 1408 + q.val) :
    refProd a0 (wide a1) (ix2 x n) = prod a0 a1 x j q := by
  rw [show n = ⟨j.val * 1408 + q.val, by have h1 := j.isLt; have h2 := q.isLt; omega⟩ from Fin.ext e, refProd_at]
  exact Finset.sum_congr rfl fun k _ => congrArg (a0 (ix2 x k) * ·) (wide_at a1 k j q)

theorem refA_at (p : FVec Ideal S8192x5632 .f32) (x : Fin 8192) (f : Fin 2816) : refA p (ix2 x f) = p (ix2 x ⟨f.val, by omega⟩) :=
  congrArg p (funext fun a => Fin.ext (by fin_cases a <;> exact Nat.zero_add _))

theorem refB_at (p : FVec Ideal S8192x5632 .f32) (x : Fin 8192) (f : Fin 2816) : refB p (ix2 x f) = p (ix2 x ⟨2816 + f.val, by omega⟩) :=
  congrArg p (funext fun a => Fin.ext (by
    fin_cases a
    · exact Nat.zero_add _
    · rfl))

theorem refAct_at (a b : FVec Ideal S8192x2816 .f32) (x : Fin 8192) (f : Fin 2816) :
    refAct a b (ix2 x f) = a (ix2 x f) * Act.sg (a (ix2 x f)) * b (ix2 x f) := by
  pointwise [refAct] <;> rfl

theorem gate_ref (x : Fin 8192) (f : Fin 2816) : refA (refProd a0 (wide a1)) (ix2 x f) = gateIn a0 a1 x f := by
  rw [refA_at]
  exact prod_at a0 a1 x _ _ _ (by show f.val = f.val / 1408 * 1408 + f.val % 1408; omega)

theorem other_ref (x : Fin 8192) (f : Fin 2816) : refB (refProd a0 (wide a1)) (ix2 x f) = otherIn a0 a1 x f := by
  rw [refB_at]
  exact prod_at a0 a1 x _ _ _ (by show 2816 + f.val = (f.val / 1408 + 2) * 1408 + f.val % 1408; omega)

theorem ref_gate : (truncf .bf16 (refA (refProd a0 (wide a1))) bitsLt_bf16_f32 : FVec Ideal S8192x2816 .bf16) = gateArr a0 a1 := by
  funext z
  obtain ⟨x, f, rfl⟩ : ∃ (x : Fin 8192) (f : Fin 2816), z = ix2 x f := ⟨z 0, z 1, eq_ix2 z⟩
  exact gate_ref a0 a1 x f

theorem ref_other : (truncf .bf16 (refB (refProd a0 (wide a1))) bitsLt_bf16_f32 : FVec Ideal S8192x2816 .bf16) = otherArr a0 a1 := by
  funext z
  obtain ⟨x, f, rfl⟩ : ∃ (x : Fin 8192) (f : Fin 2816), z = ix2 x f := ⟨z 0, z 1, eq_ix2 z⟩
  exact other_ref a0 a1 x f

theorem ref_act : refAct (refA (refProd a0 (wide a1))) (refB (refProd a0 (wide a1))) = actArr a0 a1 := by
  funext z
  obtain ⟨x, f, rfl⟩ : ∃ (x : Fin 8192) (f : Fin 2816), z = ix2 x f := ⟨z 0, z 1, eq_ix2 z⟩
  rw [refAct_at, gate_ref, other_ref]; rfl

end Reference

/-! ## The claim -/

theorem algebraic : Cert.algebraic_Kernel6Ideal_Reference6Ideal := fun m g m' g' _ hm => by
  refine ⟨fun c => gateArr (H m c) (W m c), fun c => otherArr (H m c) (W m c), fun c => actArr (H m c) (W m c),
    (θ_run Cert.Kernel6Ideal.defs _ _).mono (fun r h c => ⟨(h c).1.trans (array3 m c), (h c).2.1.trans (array4 m c), (h c).2.2.1.trans (array5 m c), (h c).2.2.2⟩)
      (Cert.Kernel6Ideal.Value.run_blocks (F := Ideal) m g),
    (θ_run Cert.Reference6Ideal.defs _ _).mono (fun r h c => ⟨(h c).1.trans ?_, (h c).2.1.trans ?_, (h c).2.2.1.trans ?_, (h c).2.2.2⟩)
      (Cert.Reference6Ideal.Value.run (F := Ideal) m' g')⟩
  · rw [(hm c).1, (hm c).2]
    exact ref_gate (H m c) (W m c)
  · rw [(hm c).1, (hm c).2]
    exact ref_other (H m c) (W m c)
  · rw [(hm c).1, (hm c).2]
    exact ref_act (H m c) (W m c)

end Cert.Proof.Ffn.Fwd

end
-- ==== Proof.lean ====
/-
  The claims, of each of the six kernels: its frames over bit patterns and over the reals, its reference's frame, that the
  idealized kernel is the kernel, and that it computes the reference's results.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Pre_finite
public import proofs.«01_k».proof.Proof.Frames
public import proofs.«01_k».proof.Proof.RefRun
public import proofs.«01_k».proof.Proof.Value.Final
public import proofs.«01_k».proof.Proof.Ffn.Frames
public import proofs.«01_k».proof.Proof.Ffn.ColsVal
public import proofs.«01_k».proof.Proof.Ffn.RowsVal
public import proofs.«01_k».proof.Proof.Ffn.ActVal
public import proofs.«01_k».proof.Proof.Ffn.DhVal
public import proofs.«01_k».proof.Proof.Ffn.FwdVal

@[expose] public section

noncomputable section

namespace Cert.Proof

open Idealize.ShloMosaic Idealize.SL.Sem

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Pre_finite.Gen.facts, Cert.Pre_finite_act.Gen.facts,
  Attn.frame_kernel, Attn.frame_ideal, Attn.frame_ideal_finite, Attn.frame_reference, Attn.frame_reference_finite,
  Ffn.frame_kernel2, Ffn.frame_ideal2, Ffn.frame_reference2, Ffn.frame_kernel3, Ffn.frame_ideal3, Ffn.frame_reference3,
  Ffn.frame_kernel4, Ffn.frame_ideal4, Ffn.frame_ideal4_finite, Ffn.frame_reference4, Ffn.frame_reference4_finite,
  Ffn.frame_kernel5, Ffn.frame_ideal5, Ffn.frame_reference5, Ffn.frame_kernel6, Ffn.frame_ideal6, Ffn.frame_reference6,
  trivial, Value.algebraic, trivial, Ffn.Cols.algebraic, trivial, Ffn.Rows.algebraic, trivial, Ffn.Act.algebraic,
  trivial, Ffn.Dh.algebraic, trivial, Ffn.Fwd.algebraic⟩

end Cert.Proof

end
